-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_experts_exist : Cert.Pre_experts_exist.Facts] (m : (ℓ : Loc Cert.Kernel2.nD Cert.Kernel2.τ Cert.Kernel2.sig) → Buf (Elt Bits) ℓ) : Prop :=
  ∀ c : Dev Cert.Kernel2.nD,
    (Cert.Pre_experts_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_exist : Cert.Pre_experts_exist.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_exist [hPre_experts_exist : Cert.Pre_experts_exist.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_exist.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_pairs [hPre_finite_pairs : Cert.Pre_finite_pairs.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_pairs.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_pairs [hPre_finite_pairs : Cert.Pre_finite_pairs.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_pairs.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_experts_exist : Cert.Pre_experts_exist.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_exist [hReference2Ideal : Cert.Reference2Ideal.Facts] [hPre_experts_exist : Cert.Pre_experts_exist.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_exist m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite_pairs [hKernel4Ideal : Cert.Kernel4Ideal.Facts] [hPre_finite_pairs : Cert.Pre_finite_pairs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_pairs m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite_pairs [hReference4Ideal : Cert.Reference4Ideal.Facts] [hPre_finite_pairs : Cert.Pre_finite_pairs.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_pairs m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_v34) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite_pairs [hKernel4Ideal : Cert.Kernel4Ideal.Facts] [hReference4Ideal : Cert.Reference4Ideal.Facts] [hPre_finite_pairs : Cert.Pre_finite_pairs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_pairs m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v60_0)) (v1 : (c : Dev Cert.Kernel5Ideal.nD) → Buf (Elt Ideal) ((c.tc : Thread Cert.Kernel5Ideal.nD Cert.Kernel5Ideal.τ).loc Cert.Kernel5Ideal.main_v60_1)) (v2 : (c : Dev Cert.Kernel5Ideal.nD) → Buf (Elt Ideal) ((c.tc : Thread Cert.Kernel5Ideal.nD Cert.Kernel5Ideal.τ).loc Cert.Kernel5Ideal.main_v60_2)) (v3 : (c : Dev Cert.Kernel5Ideal.nD) → Buf (Elt Ideal) ((c.tc : Thread Cert.Kernel5Ideal.nD Cert.Kernel5Ideal.τ).loc Cert.Kernel5Ideal.main_v60_3)) (v4 : (c : Dev Cert.Kernel5Ideal.nD) → Buf (Elt Ideal) ((c.tc : Thread Cert.Kernel5Ideal.nD Cert.Kernel5Ideal.τ).loc Cert.Kernel5Ideal.main_v60_4)) (v5 : (c : Dev Cert.Kernel5Ideal.nD) → Buf (Elt Ideal) ((c.tc : Thread Cert.Kernel5Ideal.nD Cert.Kernel5Ideal.τ).loc Cert.Kernel5Ideal.main_v60_5)) (v6 : (c : Dev Cert.Kernel5Ideal.nD) → Buf (Elt Ideal) ((c.tc : Thread Cert.Kernel5Ideal.nD Cert.Kernel5Ideal.τ).loc Cert.Kernel5Ideal.main_v60_6)) (v7 : (c : Dev Cert.Kernel5Ideal.nD) → Buf (Elt Ideal) ((c.tc : Thread Cert.Kernel5Ideal.nD Cert.Kernel5Ideal.τ).loc Cert.Kernel5Ideal.main_v60_7)) (v8 : (c : Dev Cert.Kernel5Ideal.nD) → Buf (Elt Ideal) ((c.tc : Thread Cert.Kernel5Ideal.nD Cert.Kernel5Ideal.τ).loc Cert.Kernel5Ideal.main_v60_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v60_0) = v0 c
          ∧ r.2.mem ((c.tc : Thread Cert.Kernel5Ideal.nD Cert.Kernel5Ideal.τ).loc Cert.Kernel5Ideal.main_v60_1) = v1 c
          ∧ r.2.mem ((c.tc : Thread Cert.Kernel5Ideal.nD Cert.Kernel5Ideal.τ).loc Cert.Kernel5Ideal.main_v60_2) = v2 c
          ∧ r.2.mem ((c.tc : Thread Cert.Kernel5Ideal.nD Cert.Kernel5Ideal.τ).loc Cert.Kernel5Ideal.main_v60_3) = v3 c
          ∧ r.2.mem ((c.tc : Thread Cert.Kernel5Ideal.nD Cert.Kernel5Ideal.τ).loc Cert.Kernel5Ideal.main_v60_4) = v4 c
          ∧ r.2.mem ((c.tc : Thread Cert.Kernel5Ideal.nD Cert.Kernel5Ideal.τ).loc Cert.Kernel5Ideal.main_v60_5) = v5 c
          ∧ r.2.mem ((c.tc : Thread Cert.Kernel5Ideal.nD Cert.Kernel5Ideal.τ).loc Cert.Kernel5Ideal.main_v60_6) = v6 c
          ∧ r.2.mem ((c.tc : Thread Cert.Kernel5Ideal.nD Cert.Kernel5Ideal.τ).loc Cert.Kernel5Ideal.main_v60_7) = v7 c
          ∧ r.2.mem ((c.tc : Thread Cert.Kernel5Ideal.nD Cert.Kernel5Ideal.τ).loc Cert.Kernel5Ideal.main_v60_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v179) = v0 c
          ∧ r.2.mem ((c.tc : Thread Cert.Reference5Ideal.nD Cert.Reference5Ideal.τ).loc Cert.Reference5Ideal.main_v181) = v1 c
          ∧ r.2.mem ((c.tc : Thread Cert.Reference5Ideal.nD Cert.Reference5Ideal.τ).loc Cert.Reference5Ideal.main_v182) = v2 c
          ∧ r.2.mem ((c.tc : Thread Cert.Reference5Ideal.nD Cert.Reference5Ideal.τ).loc Cert.Reference5Ideal.main_v185) = v3 c
          ∧ r.2.mem ((c.tc : Thread Cert.Reference5Ideal.nD Cert.Reference5Ideal.τ).loc Cert.Reference5Ideal.main_v188) = v4 c
          ∧ r.2.mem ((c.tc : Thread Cert.Reference5Ideal.nD Cert.Reference5Ideal.τ).loc Cert.Reference5Ideal.main_v190) = v5 c
          ∧ r.2.mem ((c.tc : Thread Cert.Reference5Ideal.nD Cert.Reference5Ideal.τ).loc Cert.Reference5Ideal.main_v192) = v6 c
          ∧ r.2.mem ((c.tc : Thread Cert.Reference5Ideal.nD Cert.Reference5Ideal.τ).loc Cert.Reference5Ideal.main_v194) = v7 c
          ∧ r.2.mem ((c.tc : Thread Cert.Reference5Ideal.nD Cert.Reference5Ideal.τ).loc Cert.Reference5Ideal.main_v196) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_experts_exist : Cert.Pre_experts_exist.Facts) (hPre_finite_pairs : Cert.Pre_finite_pairs.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_experts_exist := hPre_experts_exist)
    ∧ quiescent_Kernel2Ideal (hKernel2Ideal := hKernel2Ideal) (hPre_experts_exist := hPre_experts_exist)
    ∧ quiescent_Reference2Ideal (hReference2Ideal := hReference2Ideal)
    ∧ quiescent_Reference2Ideal_pre_experts_exist (hReference2Ideal := hReference2Ideal) (hPre_experts_exist := hPre_experts_exist)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_pairs (hKernel4Ideal := hKernel4Ideal) (hPre_finite_pairs := hPre_finite_pairs)
    ∧ quiescent_Reference4Ideal (hReference4Ideal := hReference4Ideal)
    ∧ quiescent_Reference4Ideal_pre_finite_pairs (hReference4Ideal := hReference4Ideal) (hPre_finite_pairs := hPre_finite_pairs)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_experts_exist := hPre_experts_exist)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_pairs (hKernel4Ideal := hKernel4Ideal) (hReference4Ideal := hReference4Ideal) (hPre_finite_pairs := hPre_finite_pairs)
    ∧ preserves_Kernel5_Kernel5Ideal
    ∧ algebraic_Kernel5Ideal_Reference5Ideal (hKernel5Ideal := hKernel5Ideal) (hReference5Ideal := hReference5Ideal)
-- ==== Pre_experts_exist.lean ====
abbrev S278528x1024 : Shape := ⟨2, ![278528, 1024]⟩
abbrev S1088 : Shape := ⟨1, ![1088]⟩
abbrev S1 : Shape := ⟨1, ![1]⟩
abbrev S64x1024x256 : Shape := ⟨3, ![64, 1024, 256]⟩
abbrev S64x256x1024 : Shape := ⟨3, ![64, 256, 1024]⟩
abbrev S_ : Shape := ⟨0, ![]⟩

class Facts : Prop where
  bcast_S_S1088 : S_.BroadcastsInDim S1088 (![] : Fin 0 → Fin S1088.rank)
  reducesTo_S1088_S_d0 : S1088.ReducesTo [0] S_
  h_S_ : 0 < S_.numel

variable [Facts]

def fn {F : FTy → Type} [FloatOps F] (main_arg0 : FVec F S278528x1024 .bf16) (main_arg1 : IVec S1088 32) (main_arg2 : IVec S1 32) (main_arg3 : FVec F S64x1024x256 .f32) (main_arg4 : FVec F S64x1024x256 .f32) (main_arg5 : FVec F S64x256x1024 .f32) : IVec S_ 1 :=
  let main_c : IVec S_ 32 := constantI S_ 32 0#32
  let main_v0 : IVec S1088 32 := broadcastInDim S1088 ![] bcast_S_S1088 main_c
  let main_v1 : IVec S1088 1 := cmpi .sge main_arg1 main_v0
  let main_c_0 : IVec S_ 32 := constantI S_ 32 64#32
  let main_v2 : IVec S1088 32 := broadcastInDim S1088 ![] bcast_S_S1088 main_c_0
  let main_v3 : IVec S1088 1 := cmpi .slt main_arg1 main_v2
  let main_v4 : IVec S1088 1 := andi main_v1 main_v3
  let main_c_1 : IVec S_ 1 := constantI S_ 1 1#1
  let main_v5 : IVec S_ 1 := (fun x v => Host.reduce IntOp.andi x v reducesTo_S1088_S_d0 h_S_) main_v4 main_c_1
  main_v5
-- ==== Pre_finite_pairs.lean ====
abbrev S8x4096x4x2x64 : Shape := ⟨5, ![8, 4096, 4, 2, 64]⟩
abbrev S8x4096x4x128 : Shape := ⟨4, ![8, 4096, 4, 128]⟩
abbrev S8x512x4x128 : Shape := ⟨4, ![8, 512, 4, 128]⟩
abbrev S64 : Shape := ⟨1, ![64]⟩
abbrev S128 : Shape := ⟨1, ![128]⟩
abbrev S_ : Shape := ⟨0, ![]⟩

class Facts : Prop where
  bcast_S_S8x4096x4x2x64 : S_.BroadcastsInDim S8x4096x4x2x64 (![] : Fin 0 → Fin S8x4096x4x2x64.rank)
  reducesTo_S8x4096x4x2x64_S_d0_1_2_3_4 : S8x4096x4x2x64.ReducesTo [0, 1, 2, 3, 4] S_
  h_S_ : 0 < S_.numel
  bcast_S_S8x4096x4x128 : S_.BroadcastsInDim S8x4096x4x128 (![] : Fin 0 → Fin S8x4096x4x128.rank)
  reducesTo_S8x4096x4x128_S_d0_1_2_3 : S8x4096x4x128.ReducesTo [0, 1, 2, 3] S_
  bcast_S_S8x512x4x128 : S_.BroadcastsInDim S8x512x4x128 (![] : Fin 0 → Fin S8x512x4x128.rank)
  reducesTo_S8x512x4x128_S_d0_1_2_3 : S8x512x4x128.ReducesTo [0, 1, 2, 3] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S8x512x4x128 .f32) (main_arg5 : FVec F S64 .f32) (main_arg6 : FVec F S64 .f32) (main_arg7 : FVec F S64 .f32) (main_arg8 : FVec F S64 .f32) (main_v13 : IVec S_ 1) (main_v16 : IVec S8x512x4x128 1) : IVec S_ 1 :=
  let main_c_5 : IVec S_ 1 := constantI S_ 1 1#1
  let main_v17 : IVec S_ 1 := (fun x v => Host.reduce IntOp.andi x v reducesTo_S8x512x4x128_S_d0_1_2_3 h_S_) main_v16 main_c_5
  let main_v18 : IVec S_ 1 := andi main_v13 main_v17
  let main_v19 : FVec F S8x512x4x128 .f32 := Host.absf main_arg4
  let main_cst_6 : FVec F S_ .f32 := constant S_ .f32 0x7F800000#32
  let main_v20 : FVec F S8x512x4x128 .f32 := broadcastInDim S8x512x4x128 ![] bcast_S_S8x512x4x128 main_cst_6
  let main_v21 : IVec S8x512x4x128 1 := cmpf .olt main_v19 main_v20
  let main_c_7 : IVec S_ 1 := constantI S_ 1 1#1
  let main_v22 : IVec S_ 1 := (fun x v => Host.reduce IntOp.andi x v reducesTo_S8x512x4x128_S_d0_1_2_3 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S8x4096x4x2x64 .f32) (main_arg1 : FVec F S8x4096x4x2x64 .f32) (main_arg2 : FVec F S8x4096x4x128 .f32) (main_arg3 : FVec F S8x512x4x128 .f32) (main_arg4 : FVec F S8x512x4x128 .f32) (main_arg5 : FVec F S64 .f32) (main_arg6 : FVec F S64 .f32) (main_arg7 : FVec F S64 .f32) (main_arg8 : FVec F S64 .f32) (main_arg9 : FVec F S128 .f32) : IVec S_ 1 :=
  let main_v0 : FVec F S8x4096x4x2x64 .f32 := Host.absf main_arg0
  let main_cst : FVec F S_ .f32 := constant S_ .f32 0x7F800000#32
  let main_v1 : FVec F S8x4096x4x2x64 .f32 := broadcastInDim S8x4096x4x2x64 ![] bcast_S_S8x4096x4x2x64 main_cst
  let main_v2 : IVec S8x4096x4x2x64 1 := cmpf .olt main_v0 main_v1
  let main_c : IVec S_ 1 := constantI S_ 1 1#1
  let main_v3 : IVec S_ 1 := (fun x v => Host.reduce IntOp.andi x v reducesTo_S8x4096x4x2x64_S_d0_1_2_3_4 h_S_) main_v2 main_c
  let main_v4 : FVec F S8x4096x4x2x64 .f32 := Host.absf main_arg1
  let main_cst_0 : FVec F S_ .f32 := constant S_ .f32 0x7F800000#32
  let main_v5 : FVec F S8x4096x4x2x64 .f32 := broadcastInDim S8x4096x4x2x64 ![] bcast_S_S8x4096x4x2x64 main_cst_0
  let main_v6 : IVec S8x4096x4x2x64 1 := cmpf .olt main_v4 main_v5
  let main_c_1 : IVec S_ 1 := constantI S_ 1 1#1
  let main_v7 : IVec S_ 1 := (fun x v => Host.reduce IntOp.andi x v reducesTo_S8x4096x4x2x64_S_d0_1_2_3_4 h_S_) main_v6 main_c_1
  let main_v8 : IVec S_ 1 := andi main_v3 main_v7
  let main_v9 : FVec F S8x4096x4x128 .f32 := Host.absf main_arg2
  let main_cst_2 : FVec F S_ .f32 := constant S_ .f32 0x7F800000#32
  let main_v10 : FVec F S8x4096x4x128 .f32 := broadcastInDim S8x4096x4x128 ![] bcast_S_S8x4096x4x128 main_cst_2
  let main_v11 : IVec S8x4096x4x128 1 := cmpf .olt main_v9 main_v10
  let main_c_3 : IVec S_ 1 := constantI S_ 1 1#1
  let main_v12 : IVec S_ 1 := (fun x v => Host.reduce IntOp.andi x v reducesTo_S8x4096x4x128_S_d0_1_2_3 h_S_) main_v11 main_c_3
  let main_v13 : IVec S_ 1 := andi main_v8 main_v12
  let main_v14 : FVec F S8x512x4x128 .f32 := Host.absf main_arg3
  let main_cst_4 : FVec F S_ .f32 := constant S_ .f32 0x7F800000#32
  let main_v15 : FVec F S8x512x4x128 .f32 := broadcastInDim S8x512x4x128 ![] bcast_S_S8x512x4x128 main_cst_4
  let main_v16 : IVec S8x512x4x128 1 := cmpf .olt main_v14 main_v15
  fn_part1 (F := F) main_arg4 main_arg5 main_arg6 main_arg7 main_arg8 main_v13 main_v16
-- ==== Pre_finite_scores.lean ====
abbrev S8x4096x8x96 : Shape := ⟨4, ![8, 4096, 8, 96]⟩
abbrev S8x4096x8x64 : Shape := ⟨4, ![8, 4096, 8, 64]⟩
abbrev S8x512x8x96 : Shape := ⟨4, ![8, 512, 8, 96]⟩
abbrev S8x512x8x64 : Shape := ⟨4, ![8, 512, 8, 64]⟩
abbrev S_ : Shape := ⟨0, ![]⟩

class Facts : Prop where
  bcast_S_S8x4096x8x96 : S_.BroadcastsInDim S8x4096x8x96 (![] : Fin 0 → Fin S8x4096x8x96.rank)
  reducesTo_S8x4096x8x96_S_d0_1_2_3 : S8x4096x8x96.ReducesTo [0, 1, 2, 3] S_
  h_S_ : 0 < S_.numel
  bcast_S_S8x512x8x96 : S_.BroadcastsInDim S8x512x8x96 (![] : Fin 0 → Fin S8x512x8x96.rank)
  reducesTo_S8x512x8x96_S_d0_1_2_3 : S8x512x8x96.ReducesTo [0, 1, 2, 3] S_

variable [Facts]

def fn {F : FTy → Type} [FloatOps F] (main_arg0 : FVec F S8x4096x8x96 .f32) (main_arg1 : FVec F S8x4096x8x96 .f32) (main_arg2 : FVec F S8x4096x8x64 .f32) (main_arg3 : FVec F S8x512x8x96 .f32) (main_arg4 : FVec F S8x512x8x64 .f32) : IVec S_ 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_c : IVec S_ 1 := constantI S_ 1 1#1
  let main_v3 : IVec S_ 1 := (fun x v => Host.reduce IntOp.andi x v reducesTo_S8x4096x8x96_S_d0_1_2_3 h_S_) main_v2 main_c
  let main_v4 : FVec F S8x4096x8x96 .f32 := Host.absf main_arg1
  let main_cst_0 : FVec F S_ .f32 := constant S_ .f32 0x7F800000#32
  let main_v5 : FVec F S8x4096x8x96 .f32 := broadcastInDim S8x4096x8x96 ![] bcast_S_S8x4096x8x96 main_cst_0
  let main_v6 : IVec S8x4096x8x96 1 := cmpf .olt main_v4 main_v5
  let main_c_1 : IVec S_ 1 := constantI S_ 1 1#1
  let main_v7 : IVec S_ 1 := (fun x v => Host.reduce IntOp.andi x v reducesTo_S8x4096x8x96_S_d0_1_2_3 h_S_) main_v6 main_c_1
  let main_v8 : IVec S_ 1 := andi main_v3 main_v7
  let main_v9 : FVec F S8x512x8x96 .f32 := Host.absf main_arg3
  let main_cst_2 : FVec F S_ .f32 := constant S_ .f32 0x7F800000#32
  let main_v10 : FVec F S8x512x8x96 .f32 := broadcastInDim S8x512x8x96 ![] bcast_S_S8x512x8x96 main_cst_2
  let main_v11 : IVec S8x512x8x96 1 := cmpf .olt main_v9 main_v10
  let main_c_3 : IVec S_ 1 := constantI S_ 1 1#1
  let main_v12 : IVec S_ 1 := (fun x v => Host.reduce IntOp.andi x v reducesTo_S8x512x8x96_S_d0_1_2_3 h_S_) main_v11 main_c_3
  let main_v13 : IVec S_ 1 := andi main_v8 main_v12
  main_v13
-- ==== Kernel.lean ====
abbrev S8x4096x8x96 : Shape := ⟨4, ![8, 4096, 8, 96]⟩
abbrev S8x4096x8x64 : Shape := ⟨4, ![8, 4096, 8, 64]⟩
abbrev S8x512x8x96 : Shape := ⟨4, ![8, 512, 8, 96]⟩
abbrev S8x512x8x64 : Shape := ⟨4, ![8, 512, 8, 64]⟩
abbrev S_ : Shape := ⟨0, ![]⟩
abbrev S8x4096x8x128 : Shape := ⟨4, ![8, 4096, 8, 128]⟩
abbrev S32768x1024 : Shape := ⟨2, ![32768, 1024]⟩
abbrev S8 : Shape := ⟨1, ![8]⟩
abbrev S1x1x8x1 : Shape := ⟨4, ![1, 1, 8, 1]⟩
abbrev S8x512x8x128 : Shape := ⟨4, ![8, 512, 8, 128]⟩
abbrev S4096x1024 : Shape := ⟨2, ![4096, 1024]⟩
abbrev S32768x512 : Shape := ⟨2, ![32768, 512]⟩
abbrev S512x1024 : Shape := ⟨2, ![512, 1024]⟩
abbrev S512x512 : Shape := ⟨2, ![512, 512]⟩
abbrev S8x512x128 : Shape := ⟨3, ![8, 512, 128]⟩
abbrev S4x512x128 : Shape := ⟨3, ![4, 512, 128]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩

abbrev nBuf : Space → Nat
  | .hbm => 58
  | .vmem => 15
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S8x512x8x96, .f32⟩
  | .hbm, ⟨4, _⟩ => ⟨S8x512x8x64, .f32⟩
  | .hbm, ⟨5, _⟩ => ⟨S_, .f32⟩
  | .hbm, ⟨6, _⟩ => ⟨S8x4096x8x96, .f32⟩
  | .hbm, ⟨7, _⟩ => ⟨S8x4096x8x96, .f32⟩
  | .hbm, ⟨8, _⟩ => ⟨S_, .i32⟩
  | .hbm, ⟨9, _⟩ => ⟨S_, .f32⟩
  | .hbm, ⟨10, _⟩ => ⟨S8x4096x8x128, .f32⟩
  | .hbm, ⟨11, _⟩ => ⟨S32768x1024, .f32⟩
  | .hbm, ⟨12, _⟩ => ⟨S32768x1024, .bf16⟩
  | .hbm, ⟨13, _⟩ => ⟨S_, .i32⟩
  | .hbm, ⟨14, _⟩ => ⟨S_, .f32⟩
  | .hbm, ⟨15, _⟩ => ⟨S8x4096x8x128, .f32⟩
  | .hbm, ⟨16, _⟩ => ⟨S32768x1024, .f32⟩
  | .hbm, ⟨17, _⟩ => ⟨S32768x1024, .bf16⟩
  | .hbm, ⟨18, _⟩ => ⟨S_, .f32⟩
  | .hbm, ⟨19, _⟩ => ⟨S8x4096x8x64, .f32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i1⟩
  | .hbm, ⟨27, _⟩ => ⟨S1x1x8x1, .i1⟩
  | .hbm, ⟨28, _⟩ => ⟨S8x4096x8x64, .i1⟩
  | .hbm, ⟨29, _⟩ => ⟨S8x4096x8x64, .f32⟩
  | .hbm, ⟨30, _⟩ => ⟨S8x4096x8x64, .i1⟩
  | .hbm, ⟨31, _⟩ => ⟨S8x4096x8x64, .f32⟩
  | .hbm, ⟨32, _⟩ => ⟨S8x4096x8x128, .f32⟩
  | .hbm, ⟨33, _⟩ => ⟨S32768x1024, .f32⟩
  | .hbm, ⟨34, _⟩ => ⟨S32768x1024, .bf16⟩
  | .hbm, ⟨35, _⟩ => ⟨S_, .i32⟩
  | .hbm, ⟨36, _⟩ => ⟨S_, .f32⟩
  | .hbm, ⟨37, _⟩ => ⟨S8x512x8x128, .f32⟩
  | .hbm, ⟨38, _⟩ => ⟨S4096x1024, .f32⟩
  | .hbm, ⟨39, _⟩ => ⟨S4096x1024, .bf16⟩
  | .hbm, ⟨40, _⟩ => ⟨S_, .f32⟩
  | .hbm, ⟨41, _⟩ => ⟨S8x512x8x64, .f32⟩
  | .hbm, ⟨42, _⟩ => ⟨S8, .i32⟩
  | .hbm, ⟨43, _⟩ => ⟨S_, .i32⟩
  | .hbm, ⟨44, _⟩ => ⟨S8, .i32⟩
  | .hbm, ⟨45, _⟩ => ⟨S8, .i32⟩
  | .hbm, ⟨46, _⟩ => ⟨S_, .i32⟩
  | .hbm, ⟨47, _⟩ => ⟨S8, .i32⟩
  | .hbm, ⟨48, _⟩ => ⟨S8, .i1⟩
  | .hbm, ⟨49, _⟩ => ⟨S1x1x8x1, .i1⟩
  | .hbm, ⟨50, _⟩ => ⟨S8x512x8x64, .i1⟩
  | .hbm, ⟨51, _⟩ => ⟨S8x512x8x64, .f32⟩
  | .hbm, ⟨52, _⟩ => ⟨S8x512x8x64, .i1⟩
  | .hbm, ⟨53, _⟩ => ⟨S8x512x8x64, .f32⟩
  | .hbm, ⟨54, _⟩ => ⟨S8x512x8x128, .f32⟩
  | .hbm, ⟨55, _⟩ => ⟨S4096x1024, .f32⟩
  | .hbm, ⟨56, _⟩ => ⟨S4096x1024, .bf16⟩
  | .hbm, ⟨57, _⟩ => ⟨S32768x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x512, .bf16⟩
  | .local _ .vmem, ⟨11, _⟩ => ⟨S512x512, .bf16⟩
  | .local _ .vmem, ⟨12, _⟩ => ⟨S8x512x128, .f32⟩
  | .local _ .vmem, ⟨13, _⟩ => ⟨S8x512x128, .f32⟩
  | .local _ .vmem, ⟨14, _⟩ => ⟨S4x512x128, .f32⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call2_v0 : Ref sig .tc := ⟨.hbm, 28, rfl⟩
abbrev main_v15 : Ref sig .tc := ⟨.hbm, 29, rfl⟩
abbrev main_call3_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_call4_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call5_v0 : Ref sig .tc := ⟨.hbm, 50, rfl⟩
abbrev main_v30 : Ref sig .tc := ⟨.hbm, 51, rfl⟩
abbrev main_call6_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 9], ![false, false, false]⟩

def k0_cond4 (i : grid0.Coords) : BitVec 1 :=
  let arg2 : BitVec 32 := BitVec.ofNat 32 (i 2).val
  let c8_i32_4 : BitVec 32 := 8#32
  let v12 : BitVec 1 := Scalar.cmpi .eq arg2 c8_i32_4
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.minsi arg2 c7_i32
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.minsi arg2 c7_i32
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c8_i32 : BitVec 32 := 8#32
  let v1 : BitVec 32 := Scalar.subi arg2 c8_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c8_i32 : BitVec 32 := 8#32
  let v1 : BitVec 32 := Scalar.subi arg2 c8_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S8x4096x8x96 : Shape := ⟨4, ![8, 4096, 8, 96]⟩
abbrev S8x4096x8x64 : Shape := ⟨4, ![8, 4096, 8, 64]⟩
abbrev S8x512x8x96 : Shape := ⟨4, ![8, 512, 8, 96]⟩
abbrev S8x512x8x64 : Shape := ⟨4, ![8, 512, 8, 64]⟩
abbrev S8x4608x8x96 : Shape := ⟨4, ![8, 4608, 8, 96]⟩
abbrev S8x4608x8x64 : Shape := ⟨4, ![8, 4608, 8, 64]⟩
abbrev S8x8x4096x4608 : Shape := ⟨4, ![8, 8, 4096, 4608]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S32768x512 : Shape := ⟨2, ![32768, 512]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S8x512x8x96, .f32⟩
  | .hbm, ⟨4, _⟩ => ⟨S8x512x8x64, .f32⟩
  | .hbm, ⟨5, _⟩ => ⟨S8x4608x8x96, .f32⟩
  | .hbm, ⟨6, _⟩ => ⟨S8x4608x8x64, .f32⟩
  | .hbm, ⟨7, _⟩ => ⟨S8x8x4096x4608, .f32⟩
  | .hbm, ⟨8, _⟩ => ⟨S_, .f32⟩
  | .hbm, ⟨9, _⟩ => ⟨S8x8x4096x4608, .f32⟩
  | .hbm, ⟨10, _⟩ => ⟨S8x8x4096x4608, .f32⟩
  | .hbm, ⟨11, _⟩ => ⟨S_, .f32⟩
  | .hbm, ⟨12, _⟩ => ⟨S8x8x4096, .f32⟩
  | .hbm, ⟨13, _⟩ => ⟨S_, .f32⟩
  | .hbm, ⟨14, _⟩ => ⟨S8x8x4096, .f32⟩
  | .hbm, ⟨15, _⟩ => ⟨S8x8x4096, .f32⟩
  | .hbm, ⟨16, _⟩ => ⟨S8x8x4096x1, .f32⟩
  | .hbm, ⟨17, _⟩ => ⟨S8x8x4096x4608, .f32⟩
  | .hbm, ⟨18, _⟩ => ⟨S8x8x4096x4608, .f32⟩
  | .hbm, ⟨19, _⟩ => ⟨S8x8x4096x4608, .f32⟩
  | .hbm, ⟨20, _⟩ => ⟨S_, .f32⟩
  | .hbm, ⟨21, _⟩ => ⟨S8x8x4096, .f32⟩
  | .hbm, ⟨22, _⟩ => ⟨S8x8x4096x1, .f32⟩
  | .hbm, ⟨23, _⟩ => ⟨S8x8x4096x4608, .f32⟩
  | .hbm, ⟨24, _⟩ => ⟨S8x8x4096x4608, .f32⟩
  | .hbm, ⟨25, _⟩ => ⟨S8x8x64x4096, .f32⟩
  | .hbm, ⟨26, _⟩ => ⟨S8x4096x8x64, .f32⟩
  | .hbm, ⟨27, _⟩ => ⟨S32768x512, .f32⟩
  | .hbm, ⟨28, _⟩ => ⟨S32768x512, .bf16⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S278528x1024 : Shape := ⟨2, ![278528, 1024]⟩
abbrev S1088 : Shape := ⟨1, ![1088]⟩
abbrev S1 : Shape := ⟨1, ![1]⟩
abbrev S64x1024x256 : Shape := ⟨3, ![64, 1024, 256]⟩
abbrev S64x256x1024 : Shape := ⟨3, ![64, 256, 1024]⟩
abbrev S256x1024 : Shape := ⟨2, ![256, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x256 : Shape := ⟨2, ![256, 256]⟩

abbrev nBuf : Space → Nat
  | .hbm => 5
  | .vmem => 10
  | .smem => 2
  | _ => 0

abbrev bufTy : (tb : Table) → Fin (tcTables nBuf tb) → BufTy
  | .hbm, ⟨0, _⟩ => ⟨S278528x1024, .bf16⟩
  | .hbm, ⟨1, _⟩ => ⟨S64x1024x256, .f32⟩
  | .hbm, ⟨2, _⟩ => ⟨S64x1024x256, .f32⟩
  | .hbm, ⟨3, _⟩ => ⟨S64x256x1024, .f32⟩
  | .hbm, ⟨4, _⟩ => ⟨S278528x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S256x1024, .bf16⟩
  | .local _ .vmem, ⟨9, _⟩ => ⟨S256x1024, .bf16⟩
  | .local _ .smem, ⟨0, _⟩ => ⟨S1088, .i32⟩
  | .local _ .smem, ⟨1, _⟩ => ⟨S1, .i32⟩
  | _, _ => ⟨S278528x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![1088], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S1088.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1088) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S1088.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1088) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1088.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1088) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S278528x1024 : Shape := ⟨2, ![278528, 1024]⟩
abbrev S1088 : Shape := ⟨1, ![1088]⟩
abbrev S1 : Shape := ⟨1, ![1]⟩
abbrev S64x1024x256 : Shape := ⟨3, ![64, 1024, 256]⟩
abbrev S64x256x1024 : Shape := ⟨3, ![64, 256, 1024]⟩
abbrev S1088x256x1024 : Shape := ⟨3, ![1088, 256, 1024]⟩
abbrev S_ : Shape := ⟨0, ![]⟩
abbrev S1088x1 : Shape := ⟨2, ![1088, 1]⟩
abbrev S1088x1024x256 : Shape := ⟨3, ![1088, 1024, 256]⟩
abbrev S1088x256x256 : Shape := ⟨3, ![1088, 256, 256]⟩
abbrev S1088x1x1 : Shape := ⟨3, ![1088, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S278528x1024, .bf16⟩
  | .hbm, ⟨1, _⟩ => ⟨S1088, .i32⟩
  | .hbm, ⟨2, _⟩ => ⟨S1, .i32⟩
  | .hbm, ⟨3, _⟩ => ⟨S64x1024x256, .f32⟩
  | .hbm, ⟨4, _⟩ => ⟨S64x1024x256, .f32⟩
  | .hbm, ⟨5, _⟩ => ⟨S64x256x1024, .f32⟩
  | .hbm, ⟨6, _⟩ => ⟨S278528x1024, .f32⟩
  | .hbm, ⟨7, _⟩ => ⟨S1088x256x1024, .f32⟩
  | .hbm, ⟨8, _⟩ => ⟨S_, .i32⟩
  | .hbm, ⟨9, _⟩ => ⟨S1088, .i32⟩
  | .hbm, ⟨10, _⟩ => ⟨S1088, .i1⟩
  | .hbm, ⟨11, _⟩ => ⟨S_, .i32⟩
  | .hbm, ⟨12, _⟩ => ⟨S1088, .i32⟩
  | .hbm, ⟨13, _⟩ => ⟨S1088, .i32⟩
  | .hbm, ⟨14, _⟩ => ⟨S1088, .i32⟩
  | .hbm, ⟨15, _⟩ => ⟨S1088x1, .i32⟩
  | .hbm, ⟨16, _⟩ => ⟨S1088x1024x256, .f32⟩
  | .hbm, ⟨17, _⟩ => ⟨S1088x256x256, .f32⟩
  | .hbm, ⟨18, _⟩ => ⟨S_, .i32⟩
  | .hbm, ⟨19, _⟩ => ⟨S1088, .i32⟩
  | .hbm, ⟨20, _⟩ => ⟨S1088, .i1⟩
  | .hbm, ⟨21, _⟩ => ⟨S_, .i32⟩
  | .hbm, ⟨22, _⟩ => ⟨S1088, .i32⟩
  | .hbm, ⟨23, _⟩ => ⟨S1088, .i32⟩
  | .hbm, ⟨24, _⟩ => ⟨S1088, .i32⟩
  | .hbm, ⟨25, _⟩ => ⟨S1088x1, .i32⟩
  | .hbm, ⟨26, _⟩ => ⟨S1088x1024x256, .f32⟩
  | .hbm, ⟨27, _⟩ => ⟨S1088x256x256, .f32⟩
  | .hbm, ⟨28, _⟩ => ⟨S1088x256x256, .f32⟩
  | .hbm, ⟨29, _⟩ => ⟨S1088x256x256, .f32⟩
  | .hbm, ⟨30, _⟩ => ⟨S_, .f32⟩
  | .hbm, ⟨31, _⟩ => ⟨S1088x256x256, .f32⟩
  | .hbm, ⟨32, _⟩ => ⟨S1088x256x256, .f32⟩
  | .hbm, ⟨33, _⟩ => ⟨S_, .f32⟩
  | .hbm, ⟨34, _⟩ => ⟨S1088x256x256, .f32⟩
  | .hbm, ⟨35, _⟩ => ⟨S1088x256x256, .f32⟩
  | .hbm, ⟨36, _⟩ => ⟨S1088x256x256, .f32⟩
  | .hbm, ⟨37, _⟩ => ⟨S1088x256x256, .f32⟩
  | .hbm, ⟨38, _⟩ => ⟨S_, .i32⟩
  | .hbm, ⟨39, _⟩ => ⟨S1088, .i32⟩
  | .hbm, ⟨40, _⟩ => ⟨S1088, .i1⟩
  | .hbm, ⟨41, _⟩ => ⟨S_, .i32⟩
  | .hbm, ⟨42, _⟩ => ⟨S1088, .i32⟩
  | .hbm, ⟨43, _⟩ => ⟨S1088, .i32⟩
  | .hbm, ⟨44, _⟩ => ⟨S1088, .i32⟩
  | .hbm, ⟨45, _⟩ => ⟨S1088x1, .i32⟩
  | .hbm, ⟨46, _⟩ => ⟨S1088x256x1024, .f32⟩
  | .hbm, ⟨47, _⟩ => ⟨S1088x256x1024, .f32⟩
  | .hbm, ⟨48, _⟩ => ⟨S1088, .i32⟩
  | .hbm, ⟨49, _⟩ => ⟨S_, .i32⟩
  | .hbm, ⟨50, _⟩ => ⟨S1088, .i32⟩
  | .hbm, ⟨51, _⟩ => ⟨S1088, .i1⟩
  | .hbm, ⟨52, _⟩ => ⟨S1088x1x1, .i1⟩
  | .hbm, ⟨53, _⟩ => ⟨S_, .f32⟩
  | .hbm, ⟨54, _⟩ => ⟨S_, .f32⟩
  | .hbm, ⟨55, _⟩ => ⟨S1088x256x1024, .i1⟩
  | .hbm, ⟨56, _⟩ => ⟨S1088x256x1024, .f32⟩
  | .hbm, ⟨57, _⟩ => ⟨S1088x256x1024, .f32⟩
  | .hbm, ⟨58, _⟩ => ⟨S278528x1024, .f32⟩
  | .hbm, ⟨59, _⟩ => ⟨S278528x1024, .bf16⟩
  | _, _ => ⟨S278528x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Kernel3.lean ====
abbrev S32768x512 : Shape := ⟨2, ![32768, 512]⟩
abbrev S8x4096x1024 : Shape := ⟨3, ![8, 4096, 1024]⟩
abbrev S1536x1024 : Shape := ⟨2, ![1536, 1024]⟩
abbrev S8x1x1024 : Shape := ⟨3, ![8, 1, 1024]⟩
abbrev S1024 : Shape := ⟨1, ![1024]⟩
abbrev S1024x64 : Shape := ⟨2, ![1024, 64]⟩
abbrev S1x1024 : Shape := ⟨2, ![1, 1024]⟩
abbrev S_ : Shape := ⟨0, ![]⟩
abbrev S1024x128 : Shape := ⟨2, ![1024, 128]⟩
abbrev S32768x1024 : Shape := ⟨2, ![32768, 1024]⟩
abbrev S32768x128 : Shape := ⟨2, ![32768, 128]⟩
abbrev S512x512 : Shape := ⟨2, ![512, 512]⟩
abbrev S512x1024 : Shape := ⟨2, ![512, 1024]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩

abbrev nBuf : Space → Nat
  | .hbm => 20
  | .vmem => 23
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S8x4096x1024, .f32⟩
  | .hbm, ⟨4, _⟩ => ⟨S1536x1024, .f32⟩
  | .hbm, ⟨5, _⟩ => ⟨S8x1x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S1024x64, .f32⟩
  | .hbm, ⟨10, _⟩ => ⟨S1536x1024, .bf16⟩
  | .hbm, ⟨11, _⟩ => ⟨S1x1024, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S32768x1024, .f32⟩
  | .hbm, ⟨17, _⟩ => ⟨S32768x1024, .f32⟩
  | .hbm, ⟨18, _⟩ => ⟨S32768x1024, .bf16⟩
  | .hbm, ⟨19, _⟩ => ⟨S32768x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1536x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x128, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x128, .f32⟩
  | .local _ .vmem, ⟨22, _⟩ => ⟨S512x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S32768x512 : Shape := ⟨2, ![32768, 512]⟩
abbrev S8x4096x1024 : Shape := ⟨3, ![8, 4096, 1024]⟩
abbrev S1536x1024 : Shape := ⟨2, ![1536, 1024]⟩
abbrev S8x1x1024 : Shape := ⟨3, ![8, 1, 1024]⟩
abbrev S1024 : Shape := ⟨1, ![1024]⟩
abbrev S1024x64 : Shape := ⟨2, ![1024, 64]⟩
abbrev S32768x1536 : Shape := ⟨2, ![32768, 1536]⟩
abbrev S8x4096x1536 : Shape := ⟨3, ![8, 4096, 1536]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩
abbrev S32768x64 : Shape := ⟨2, ![32768, 64]⟩
abbrev S32768x128 : Shape := ⟨2, ![32768, 128]⟩

abbrev nBuf : Space → Nat
  | .hbm => 56
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S8x4096x1024, .f32⟩
  | .hbm, ⟨4, _⟩ => ⟨S1536x1024, .f32⟩
  | .hbm, ⟨5, _⟩ => ⟨S8x1x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S1024x64, .f32⟩
  | .hbm, ⟨10, _⟩ => ⟨S32768x1536, .bf16⟩
  | .hbm, ⟨11, _⟩ => ⟨S32768x1536, .f32⟩
  | .hbm, ⟨12, _⟩ => ⟨S8x4096x1536, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S32768x1024, .f32⟩
  | .hbm, ⟨41, _⟩ => ⟨S32768x64, .f32⟩
  | .hbm, ⟨42, _⟩ => ⟨S_, .i32⟩
  | .hbm, ⟨43, _⟩ => ⟨S_, .f32⟩
  | .hbm, ⟨44, _⟩ => ⟨S32768x128, .f32⟩
  | .hbm, ⟨45, _⟩ => ⟨S32768x128, .f32⟩
  | .hbm, ⟨46, _⟩ => ⟨S32768x128, .f32⟩
  | .hbm, ⟨47, _⟩ => ⟨S_, .f32⟩
  | .hbm, ⟨48, _⟩ => ⟨S32768x128, .f32⟩
  | .hbm, ⟨49, _⟩ => ⟨S32768x128, .f32⟩
  | .hbm, ⟨50, _⟩ => ⟨S_, .f32⟩
  | .hbm, ⟨51, _⟩ => ⟨S32768x128, .f32⟩
  | .hbm, ⟨52, _⟩ => ⟨S32768x128, .f32⟩
  | .hbm, ⟨53, _⟩ => ⟨S32768x1024, .f32⟩
  | .hbm, ⟨54, _⟩ => ⟨S32768x1024, .f32⟩
  | .hbm, ⟨55, _⟩ => ⟨S32768x1024, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== Kernel4.lean ====
abbrev S8x4096x4x2x64 : Shape := ⟨5, ![8, 4096, 4, 2, 64]⟩
abbrev S8x4096x4x128 : Shape := ⟨4, ![8, 4096, 4, 128]⟩
abbrev S8x512x4x128 : Shape := ⟨4, ![8, 512, 4, 128]⟩
abbrev S64 : Shape := ⟨1, ![64]⟩
abbrev S128 : Shape := ⟨1, ![128]⟩
abbrev S1x64 : Shape := ⟨2, ![1, 64]⟩
abbrev S4x64 : Shape := ⟨2, ![4, 64]⟩
abbrev S_ : Shape := ⟨0, ![]⟩
abbrev S32768x512 : Shape := ⟨2, ![32768, 512]⟩
abbrev S4096x512 : Shape := ⟨2, ![4096, 512]⟩
abbrev S4x128 : Shape := ⟨2, ![4, 128]⟩
abbrev S1x128 : Shape := ⟨2, ![1, 128]⟩
abbrev S512x512 : Shape := ⟨2, ![512, 512]⟩
abbrev S8x512x128 : Shape := ⟨3, ![8, 512, 128]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 33
  | .vmem => 17
  | .smem => 0
  | _ => 0

abbrev bufTy : (tb : Table) → Fin (tcTables nBuf tb) → BufTy
  | .hbm, ⟨0, _⟩ => ⟨S8x4096x4x2x64, .f32⟩
  | .hbm, ⟨1, _⟩ => ⟨S8x4096x4x2x64, .f32⟩
  | .hbm, ⟨2, _⟩ => ⟨S8x4096x4x128, .f32⟩
  | .hbm, ⟨3, _⟩ => ⟨S8x512x4x128, .f32⟩
  | .hbm, ⟨4, _⟩ => ⟨S8x512x4x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x64, .f32⟩
  | .hbm, ⟨15, _⟩ => ⟨S_, .f32⟩
  | .hbm, ⟨16, _⟩ => ⟨S8x4096x4x2x64, .f32⟩
  | .hbm, ⟨17, _⟩ => ⟨S8x4096x4x2x64, .f32⟩
  | .hbm, ⟨18, _⟩ => ⟨S32768x512, .f32⟩
  | .hbm, ⟨19, _⟩ => ⟨S32768x512, .bf16⟩
  | .hbm, ⟨20, _⟩ => ⟨S32768x512, .f32⟩
  | .hbm, ⟨21, _⟩ => ⟨S32768x512, .bf16⟩
  | .hbm, ⟨22, _⟩ => ⟨S32768x512, .f32⟩
  | .hbm, ⟨23, _⟩ => ⟨S32768x512, .bf16⟩
  | .hbm, ⟨24, _⟩ => ⟨S4096x512, .f32⟩
  | .hbm, ⟨25, _⟩ => ⟨S4096x512, .bf16⟩
  | .hbm, ⟨26, _⟩ => ⟨S4096x512, .f32⟩
  | .hbm, ⟨27, _⟩ => ⟨S4096x512, .bf16⟩
  | .hbm, ⟨28, _⟩ => ⟨S_, .i32⟩
  | .hbm, ⟨29, _⟩ => ⟨S_, .f32⟩
  | .hbm, ⟨30, _⟩ => ⟨S4x128, .f32⟩
  | .hbm, ⟨31, _⟩ => ⟨S1x128, .f32⟩
  | .hbm, ⟨32, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x128, .f32⟩
  | .local _ .vmem, ⟨11, _⟩ => ⟨S1x128, .f32⟩
  | .local _ .vmem, ⟨12, _⟩ => ⟨S512x512, .bf16⟩
  | .local _ .vmem, ⟨13, _⟩ => ⟨S512x512, .bf16⟩
  | .local _ .vmem, ⟨14, _⟩ => ⟨S8x512x128, .f32⟩
  | .local _ .vmem, ⟨15, _⟩ => ⟨S8x512x128, .f32⟩
  | .local _ .vmem, ⟨16, _⟩ => ⟨S8x512x128, .f32⟩
  | _, _ => ⟨S8x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 8, 9], ![false, false, false]⟩

def k0_cond4 (i : grid0.Coords) : BitVec 1 :=
  let arg2 : BitVec 32 := BitVec.ofNat 32 (i 2).val
  let c8_i32_4 : BitVec 32 := 8#32
  let v12 : BitVec 1 := Scalar.cmpi .eq arg2 c8_i32_4
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.minsi arg2 c7_i32
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.minsi arg2 c7_i32
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c8_i32 : BitVec 32 := 8#32
  let v1 : BitVec 32 := Scalar.subi arg2 c8_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c8_i32 : BitVec 32 := 8#32
  let v1 : BitVec 32 := Scalar.subi arg2 c8_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference4Ideal.lean ====
abbrev S8x4096x4x2x64 : Shape := ⟨5, ![8, 4096, 4, 2, 64]⟩
abbrev S8x4096x4x128 : Shape := ⟨4, ![8, 4096, 4, 128]⟩
abbrev S8x512x4x128 : Shape := ⟨4, ![8, 512, 4, 128]⟩
abbrev S64 : Shape := ⟨1, ![64]⟩
abbrev S128 : Shape := ⟨1, ![128]⟩
abbrev S8x512x4x2x64 : Shape := ⟨5, ![8, 512, 4, 2, 64]⟩
abbrev S8x4608x4x2x64 : Shape := ⟨5, ![8, 4608, 4, 2, 64]⟩
abbrev S8x4608x4x128 : Shape := ⟨4, ![8, 4608, 4, 128]⟩
abbrev S_ : Shape := ⟨0, ![]⟩
abbrev S8x4x2x4096x4608 : Shape := ⟨5, ![8, 4, 2, 4096, 4608]⟩
abbrev S8x4x2x4096 : Shape := ⟨4, ![8, 4, 2, 4096]⟩
abbrev S8x4x2x4096x1 : Shape := ⟨5, ![8, 4, 2, 4096, 1]⟩
abbrev S8x4x1x4096x4608 : Shape := ⟨5, ![8, 4, 1, 4096, 4608]⟩
abbrev S8x4x4096x4608 : Shape := ⟨4, ![8, 4, 4096, 4608]⟩
abbrev S8x4x128x4096 : Shape := ⟨4, ![8, 4, 128, 4096]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S32768x512 : Shape := ⟨2, ![32768, 512]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x4x2x64, .f32⟩
  | .hbm, ⟨1, _⟩ => ⟨S8x4096x4x2x64, .f32⟩
  | .hbm, ⟨2, _⟩ => ⟨S8x4096x4x128, .f32⟩
  | .hbm, ⟨3, _⟩ => ⟨S8x512x4x128, .f32⟩
  | .hbm, ⟨4, _⟩ => ⟨S8x512x4x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S8x512x4x2x64, .f32⟩
  | .hbm, ⟨11, _⟩ => ⟨S8x4608x4x2x64, .f32⟩
  | .hbm, ⟨12, _⟩ => ⟨S8x4608x4x128, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x4x2x4096x4608, .f32⟩
  | .hbm, ⟨25, _⟩ => ⟨S_, .f32⟩
  | .hbm, ⟨26, _⟩ => ⟨S8x4x2x4096x4608, .f32⟩
  | .hbm, ⟨27, _⟩ => ⟨S8x4x2x4096x4608, .f32⟩
  | .hbm, ⟨28, _⟩ => ⟨S_, .f32⟩
  | .hbm, ⟨29, _⟩ => ⟨S8x4x2x4096, .f32⟩
  | .hbm, ⟨30, _⟩ => ⟨S_, .f32⟩
  | .hbm, ⟨31, _⟩ => ⟨S8x4x2x4096, .f32⟩
  | .hbm, ⟨32, _⟩ => ⟨S8x4x2x4096, .f32⟩
  | .hbm, ⟨33, _⟩ => ⟨S8x4x2x4096x1, .f32⟩
  | .hbm, ⟨34, _⟩ => ⟨S8x4x2x4096x4608, .f32⟩
  | .hbm, ⟨35, _⟩ => ⟨S8x4x2x4096x4608, .f32⟩
  | .hbm, ⟨36, _⟩ => ⟨S8x4x2x4096x4608, .f32⟩
  | .hbm, ⟨37, _⟩ => ⟨S_, .f32⟩
  | .hbm, ⟨38, _⟩ => ⟨S8x4x2x4096, .f32⟩
  | .hbm, ⟨39, _⟩ => ⟨S8x4x2x4096x1, .f32⟩
  | .hbm, ⟨40, _⟩ => ⟨S8x4x2x4096x4608, .f32⟩
  | .hbm, ⟨41, _⟩ => ⟨S8x4x2x4096x4608, .f32⟩
  | .hbm, ⟨42, _⟩ => ⟨S8x4x1x4096x4608, .f32⟩
  | .hbm, ⟨43, _⟩ => ⟨S8x4x4096x4608, .f32⟩
  | .hbm, ⟨44, _⟩ => ⟨S8x4x1x4096x4608, .f32⟩
  | .hbm, ⟨45, _⟩ => ⟨S8x4x4096x4608, .f32⟩
  | .hbm, ⟨46, _⟩ => ⟨S8x4x4096x4608, .f32⟩
  | .hbm, ⟨47, _⟩ => ⟨S8x4x4096x4608, .f32⟩
  | .hbm, ⟨48, _⟩ => ⟨S8x4x4096x4608, .f32⟩
  | .hbm, ⟨49, _⟩ => ⟨S8x4x128x4096, .f32⟩
  | .hbm, ⟨50, _⟩ => ⟨S8x4096x4x128, .f32⟩
  | .hbm, ⟨51, _⟩ => ⟨S8x4096x4x128, .f32⟩
  | .hbm, ⟨52, _⟩ => ⟨S_, .f32⟩
  | .hbm, ⟨53, _⟩ => ⟨S8x4096x4, .f32⟩
  | .hbm, ⟨54, _⟩ => ⟨S8x4096x4x1, .f32⟩
  | .hbm, ⟨55, _⟩ => ⟨S_, .f32⟩
  | .hbm, ⟨56, _⟩ => ⟨S8x4096x4x1, .f32⟩
  | .hbm, ⟨57, _⟩ => ⟨S8x4096x4x1, .f32⟩
  | .hbm, ⟨58, _⟩ => ⟨S_, .f32⟩
  | .hbm, ⟨59, _⟩ => ⟨S8x4096x4x1, .f32⟩
  | .hbm, ⟨60, _⟩ => ⟨S8x4096x4x1, .f32⟩
  | .hbm, ⟨61, _⟩ => ⟨S8x4096x4x1, .f32⟩
  | .hbm, ⟨62, _⟩ => ⟨S8x4096x4x128, .f32⟩
  | .hbm, ⟨63, _⟩ => ⟨S8x4096x4x128, .f32⟩
  | .hbm, ⟨64, _⟩ => ⟨S1x1x1x128, .f32⟩
  | .hbm, ⟨65, _⟩ => ⟨S8x4096x4x128, .f32⟩
  | .hbm, ⟨66, _⟩ => ⟨S8x4096x4x128, .f32⟩
  | .hbm, ⟨67, _⟩ => ⟨S_, .f32⟩
  | .hbm, ⟨68, _⟩ => ⟨S8x4096x4x128, .f32⟩
  | .hbm, ⟨69, _⟩ => ⟨S8x4096x4x128, .f32⟩
  | .hbm, ⟨70, _⟩ => ⟨S32768x512, .f32⟩
  | .hbm, ⟨71, _⟩ => ⟨S32768x512, .bf16⟩
  | _, _ => ⟨S8x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x1x1024 : Shape := ⟨3, ![8, 1, 1024]⟩
abbrev S1024 : Shape := ⟨1, ![1024]⟩
abbrev S1024x3504 : Shape := ⟨2, ![1024, 3504]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S4096x2x8 : Shape := ⟨3, ![4096, 2, 8]⟩
abbrev S4096x2x16 : Shape := ⟨3, ![4096, 2, 16]⟩
abbrev S1024x1552 : Shape := ⟨2, ![1024, 1552]⟩
abbrev S_ : Shape := ⟨0, ![]⟩
abbrev S1024x48 : Shape := ⟨2, ![1024, 48]⟩
abbrev S1024x32 : Shape := ⟨2, ![1024, 32]⟩
abbrev S1024x384 : Shape := ⟨2, ![1024, 384]⟩
abbrev S1024x1536 : Shape := ⟨2, ![1024, 1536]⟩
abbrev S1024x3584 : Shape := ⟨2, ![1024, 3584]⟩
abbrev S256x8x96 : Shape := ⟨3, ![256, 8, 96]⟩
abbrev S256x8x128 : Shape := ⟨3, ![256, 8, 128]⟩
abbrev S128x8x128 : Shape := ⟨3, ![128, 8, 128]⟩
abbrev S128x8x64 : Shape := ⟨3, ![128, 8, 64]⟩
abbrev S8 : Shape := ⟨1, ![8]⟩
abbrev S1x8x1 : Shape := ⟨3, ![1, 8, 1]⟩
abbrev S256x1024 : Shape := ⟨2, ![256, 1024]⟩
abbrev S1x256 : Shape := ⟨2, ![1, 256]⟩
abbrev S1x128 : Shape := ⟨2, ![1, 128]⟩
abbrev S32768x1024 : Shape := ⟨2, ![32768, 1024]⟩
abbrev S1x1024 : Shape := ⟨2, ![1, 1024]⟩
abbrev S4096x2x1x8 : Shape := ⟨4, ![4096, 2, 1, 8]⟩
abbrev S4096x2x2x8 : Shape := ⟨4, ![4096, 2, 2, 8]⟩
abbrev S4096x32 : Shape := ⟨2, ![4096, 32]⟩
abbrev S4096x128 : Shape := ⟨2, ![4096, 128]⟩
abbrev S4096x2x1x16 : Shape := ⟨4, ![4096, 2, 1, 16]⟩
abbrev S4096x2x2x16 : Shape := ⟨4, ![4096, 2, 2, 16]⟩
abbrev S4096x64 : Shape := ⟨2, ![4096, 64]⟩
abbrev S32768x512 : Shape := ⟨2, ![32768, 512]⟩
abbrev S32768x128 : Shape := ⟨2, ![32768, 128]⟩
abbrev S512x1024 : Shape := ⟨2, ![512, 1024]⟩
abbrev S1x1x1024 : Shape := ⟨3, ![1, 1, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩
abbrev S1024x128 : Shape := ⟨2, ![1024, 128]⟩
abbrev S1024x256 : Shape := ⟨2, ![1024, 256]⟩
abbrev S512x256 : Shape := ⟨2, ![512, 256]⟩

abbrev nBuf : Space → Nat
  | .hbm => 95
  | .vmem => 39
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x3504, .f32⟩
  | .hbm, ⟨5, _⟩ => ⟨S256, .f32⟩
  | .hbm, ⟨6, _⟩ => ⟨S256x768, .f32⟩
  | .hbm, ⟨7, _⟩ => ⟨S128, .f32⟩
  | .hbm, ⟨8, _⟩ => ⟨S128x1024, .f32⟩
  | .hbm, ⟨9, _⟩ => ⟨S4096x2x8, .f32⟩
  | .hbm, ⟨10, _⟩ => ⟨S4096x2x16, .f32⟩
  | .hbm, ⟨11, _⟩ => ⟨S1024x1552, .f32⟩
  | .hbm, ⟨12, _⟩ => ⟨S_, .f32⟩
  | .hbm, ⟨13, _⟩ => ⟨S1024x48, .f32⟩
  | .hbm, ⟨14, _⟩ => ⟨S1024x32, .f32⟩
  | .hbm, ⟨15, _⟩ => ⟨S_, .f32⟩
  | .hbm, ⟨16, _⟩ => ⟨S1024x32, .f32⟩
  | .hbm, ⟨17, _⟩ => ⟨S1024x384, .f32⟩
  | .hbm, ⟨18, _⟩ => ⟨S1024x1536, .f32⟩
  | .hbm, ⟨19, _⟩ => ⟨S1024x3584, .f32⟩
  | .hbm, ⟨20, _⟩ => ⟨S1024x3584, .bf16⟩
  | .hbm, ⟨21, _⟩ => ⟨S256x8x96, .f32⟩
  | .hbm, ⟨22, _⟩ => ⟨S_, .i32⟩
  | .hbm, ⟨23, _⟩ => ⟨S_, .f32⟩
  | .hbm, ⟨24, _⟩ => ⟨S256x8x128, .f32⟩
  | .hbm, ⟨25, _⟩ => ⟨S128x8x128, .f32⟩
  | .hbm, ⟨26, _⟩ => ⟨S128x8x64, .f32⟩
  | .hbm, ⟨27, _⟩ => ⟨S_, .i32⟩
  | .hbm, ⟨28, _⟩ => ⟨S_, .f32⟩
  | .hbm, ⟨29, _⟩ => ⟨S128x8x128, .f32⟩
  | .hbm, ⟨30, _⟩ => ⟨S128x8x64, .f32⟩
  | .hbm, ⟨31, _⟩ => ⟨S_, .f32⟩
  | .hbm, ⟨32, _⟩ => ⟨S128x8x64, .f32⟩
  | .hbm, ⟨33, _⟩ => ⟨S8, .i32⟩
  | .hbm, ⟨34, _⟩ => ⟨S_, .i32⟩
  | .hbm, ⟨35, _⟩ => ⟨S8, .i32⟩
  | .hbm, ⟨36, _⟩ => ⟨S8, .i32⟩
  | .hbm, ⟨37, _⟩ => ⟨S_, .i32⟩
  | .hbm, ⟨38, _⟩ => ⟨S8, .i32⟩
  | .hbm, ⟨39, _⟩ => ⟨S8, .i1⟩
  | .hbm, ⟨40, _⟩ => ⟨S1x8x1, .i1⟩
  | .hbm, ⟨41, _⟩ => ⟨S128x8x64, .i1⟩
  | .hbm, ⟨42, _⟩ => ⟨S128x8x64, .f32⟩
  | .hbm, ⟨43, _⟩ => ⟨S128x8x64, .i1⟩
  | .hbm, ⟨44, _⟩ => ⟨S128x8x64, .f32⟩
  | .hbm, ⟨45, _⟩ => ⟨S128x8x128, .f32⟩
  | .hbm, ⟨46, _⟩ => ⟨S256x1024, .f32⟩
  | .hbm, ⟨47, _⟩ => ⟨S256x1024, .bf16⟩
  | .hbm, ⟨48, _⟩ => ⟨S128x1024, .f32⟩
  | .hbm, ⟨49, _⟩ => ⟨S128x1024, .bf16⟩
  | .hbm, ⟨50, _⟩ => ⟨S128x1024, .f32⟩
  | .hbm, ⟨51, _⟩ => ⟨S128x1024, .bf16⟩
  | .hbm, ⟨52, _⟩ => ⟨S1x256, .f32⟩
  | .hbm, ⟨53, _⟩ => ⟨S1x128, .f32⟩
  | .hbm, ⟨54, _⟩ => ⟨S32768x1024, .f32⟩
  | .hbm, ⟨55, _⟩ => ⟨S1x1024, .f32⟩
  | .hbm, ⟨56, _⟩ => ⟨S4096x2x8, .f32⟩
  | .hbm, ⟨57, _⟩ => ⟨S4096x2x8, .f32⟩
  | .hbm, ⟨58, _⟩ => ⟨S4096x2x16, .f32⟩
  | .hbm, ⟨59, _⟩ => ⟨S4096x2x16, .f32⟩
  | .hbm, ⟨60, _⟩ => ⟨S4096x2x1x8, .f32⟩
  | .hbm, ⟨61, _⟩ => ⟨S4096x2x1x8, .f32⟩
  | .hbm, ⟨62, _⟩ => ⟨S4096x2x2x8, .f32⟩
  | .hbm, ⟨63, _⟩ => ⟨S4096x32, .f32⟩
  | .hbm, ⟨64, _⟩ => ⟨S_, .f32⟩
  | .hbm, ⟨65, _⟩ => ⟨S_, .f32⟩
  | .hbm, ⟨66, _⟩ => ⟨S4096x128, .f32⟩
  | .hbm, ⟨67, _⟩ => ⟨S4096x2x8, .f32⟩
  | .hbm, ⟨68, _⟩ => ⟨S4096x2x1x8, .f32⟩
  | .hbm, ⟨69, _⟩ => ⟨S4096x2x1x8, .f32⟩
  | .hbm, ⟨70, _⟩ => ⟨S4096x2x2x8, .f32⟩
  | .hbm, ⟨71, _⟩ => ⟨S4096x32, .f32⟩
  | .hbm, ⟨72, _⟩ => ⟨S_, .f32⟩
  | .hbm, ⟨73, _⟩ => ⟨S_, .f32⟩
  | .hbm, ⟨74, _⟩ => ⟨S4096x128, .f32⟩
  | .hbm, ⟨75, _⟩ => ⟨S4096x2x1x16, .f32⟩
  | .hbm, ⟨76, _⟩ => ⟨S4096x2x1x16, .f32⟩
  | .hbm, ⟨77, _⟩ => ⟨S4096x2x2x16, .f32⟩
  | .hbm, ⟨78, _⟩ => ⟨S4096x64, .f32⟩
  | .hbm, ⟨79, _⟩ => ⟨S4096x128, .f32⟩
  | .hbm, ⟨80, _⟩ => ⟨S4096x2x16, .f32⟩
  | .hbm, ⟨81, _⟩ => ⟨S4096x2x1x16, .f32⟩
  | .hbm, ⟨82, _⟩ => ⟨S4096x2x1x16, .f32⟩
  | .hbm, ⟨83, _⟩ => ⟨S4096x2x2x16, .f32⟩
  | .hbm, ⟨84, _⟩ => ⟨S4096x64, .f32⟩
  | .hbm, ⟨85, _⟩ => ⟨S4096x128, .f32⟩
  | .hbm, ⟨86, _⟩ => ⟨S32768x512, .bf16⟩
  | .hbm, ⟨87, _⟩ => ⟨S32768x1024, .bf16⟩
  | .hbm, ⟨88, _⟩ => ⟨S32768x128, .f32⟩
  | .hbm, ⟨89, _⟩ => ⟨S32768x1024, .bf16⟩
  | .hbm, ⟨90, _⟩ => ⟨S32768x1024, .bf16⟩
  | .hbm, ⟨91, _⟩ => ⟨S32768x1024, .bf16⟩
  | .hbm, ⟨92, _⟩ => ⟨S32768x512, .bf16⟩
  | .hbm, ⟨93, _⟩ => ⟨S32768x512, .bf16⟩
  | .hbm, ⟨94, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3584, .bf16⟩
  | .local _ .vmem, ⟨8, _⟩ => ⟨S1x256, .f32⟩
  | .local _ .vmem, ⟨9, _⟩ => ⟨S1x128, .f32⟩
  | .local _ .vmem, ⟨10, _⟩ => ⟨S256x1024, .bf16⟩
  | .local _ .vmem, ⟨11, _⟩ => ⟨S128x1024, .bf16⟩
  | .local _ .vmem, ⟨12, _⟩ => ⟨S128x1024, .bf16⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x512, .bf16⟩
  | .local _ .vmem, ⟨22, _⟩ => ⟨S512x512, .bf16⟩
  | .local _ .vmem, ⟨23, _⟩ => ⟨S512x1024, .bf16⟩
  | .local _ .vmem, ⟨24, _⟩ => ⟨S512x1024, .bf16⟩
  | .local _ .vmem, ⟨25, _⟩ => ⟨S512x128, .f32⟩
  | .local _ .vmem, ⟨26, _⟩ => ⟨S512x128, .f32⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_call0_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_call1_v0 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_v0 : Ref sig .tc := ⟨.hbm, 41, rfl⟩
abbrev main_v21 : Ref sig .tc := ⟨.hbm, 42, rfl⟩
abbrev main_call3_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_call4_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_call5_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60_0 : Ref sig .tc := ⟨.hbm, 86, rfl⟩
abbrev main_v60_1 : Ref sig .tc := ⟨.hbm, 87, rfl⟩
abbrev main_v60_2 : Ref sig .tc := ⟨.hbm, 88, rfl⟩
abbrev main_v60_3 : Ref sig .tc := ⟨.hbm, 89, rfl⟩
abbrev main_v60_4 : Ref sig .tc := ⟨.hbm, 90, rfl⟩
abbrev main_v60_5 : Ref sig .tc := ⟨.hbm, 91, rfl⟩
abbrev main_v60_6 : Ref sig .tc := ⟨.hbm, 92, rfl⟩
abbrev main_v60_7 : Ref sig .tc := ⟨.hbm, 93, rfl⟩
abbrev main_v60_8 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference5Ideal.lean ====
abbrev S8x4096x1024 : Shape := ⟨3, ![8, 4096, 1024]⟩
abbrev S8x1x1024 : Shape := ⟨3, ![8, 1, 1024]⟩
abbrev S1024 : Shape := ⟨1, ![1024]⟩
abbrev S1024x3504 : Shape := ⟨2, ![1024, 3504]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S4096x2x8 : Shape := ⟨3, ![4096, 2, 8]⟩
abbrev S4096x2x16 : Shape := ⟨3, ![4096, 2, 16]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3504 : Shape := ⟨3, ![8, 4096, 3504]⟩
abbrev S8x4096x512 : Shape := ⟨3, ![8, 4096, 512]⟩
abbrev S8x4096x16 : Shape := ⟨3, ![8, 4096, 16]⟩
abbrev S8x4096x256 : Shape := ⟨3, ![8, 4096, 256]⟩
abbrev S8x4096x128 : Shape := ⟨3, ![8, 4096, 128]⟩
abbrev S8x4096x32 : Shape := ⟨3, ![8, 4096, 32]⟩
abbrev S1x1x256 : Shape := ⟨3, ![1, 1, 256]⟩
abbrev S8x4096x768 : Shape := ⟨3, ![8, 4096, 768]⟩
abbrev S8x4096x8x96 : Shape := ⟨4, ![8, 4096, 8, 96]⟩
abbrev S8x4096x8x64 : Shape := ⟨4, ![8, 4096, 8, 64]⟩
abbrev S8x4096x8x32 : Shape := ⟨4, ![8, 4096, 8, 32]⟩
abbrev S8x4096x8x2x2x8 : Shape := ⟨6, ![8, 4096, 8, 2, 2, 8]⟩
abbrev S8x4096x8x2x1x8 : Shape := ⟨6, ![8, 4096, 8, 2, 1, 8]⟩
abbrev S8x4096x8x2x8 : Shape := ⟨5, ![8, 4096, 8, 2, 8]⟩
abbrev S1x4096x1x2x8 : Shape := ⟨5, ![1, 4096, 1, 2, 8]⟩
abbrev S1x1x128 : Shape := ⟨3, ![1, 1, 128]⟩
abbrev S8x4096x8x128 : Shape := ⟨4, ![8, 4096, 8, 128]⟩
abbrev S8x4096x1x32 : Shape := ⟨4, ![8, 4096, 1, 32]⟩
abbrev S8x4096x1x2x2x8 : Shape := ⟨6, ![8, 4096, 1, 2, 2, 8]⟩
abbrev S8x4096x1x2x1x8 : Shape := ⟨6, ![8, 4096, 1, 2, 1, 8]⟩
abbrev S8x4096x1x2x8 : Shape := ⟨5, ![8, 4096, 1, 2, 8]⟩
abbrev S8x4096x4x2x64 : Shape := ⟨5, ![8, 4096, 4, 2, 64]⟩
abbrev S8x4096x4x2x2x2x16 : Shape := ⟨7, ![8, 4096, 4, 2, 2, 2, 16]⟩
abbrev S8x4096x4x2x2x1x16 : Shape := ⟨7, ![8, 4096, 4, 2, 2, 1, 16]⟩
abbrev S8x4096x4x2x2x16 : Shape := ⟨6, ![8, 4096, 4, 2, 2, 16]⟩
abbrev S1x4096x1x1x2x16 : Shape := ⟨6, ![1, 4096, 1, 1, 2, 16]⟩
abbrev S8 : Shape := ⟨1, ![8]⟩
abbrev S1x1x8x1 : Shape := ⟨4, ![1, 1, 8, 1]⟩
abbrev S8x4096x48 : Shape := ⟨3, ![8, 4096, 48]⟩
abbrev S32768x512 : Shape := ⟨2, ![32768, 512]⟩
abbrev S32768x1024 : Shape := ⟨2, ![32768, 1024]⟩
abbrev S32768x128 : Shape := ⟨2, ![32768, 128]⟩

abbrev nBuf : Space → Nat
  | .hbm => 231
  | .vmem => 0
  | .smem => 0
  | _ => 0

abbrev hbmTy0_0 (i : Nat) : BufTy := match i % 128 with
  | 0 => ⟨S8x4096x1024, .f32⟩
  | 1 => ⟨S8x1x1024, .f32⟩
  | 2 => ⟨S8x1x1024, .f32⟩
  | 3 => ⟨S1024, .f32⟩
  | 4 => ⟨S1024x3504, .f32⟩
  | 5 => ⟨S256, .f32⟩
  | 6 => ⟨S256x768, .f32⟩
  | 7 => ⟨S128, .f32⟩
  | 8 => ⟨S128x1024, .f32⟩
  | 9 => ⟨S4096x2x8, .f32⟩
  | 10 => ⟨S4096x2x16, .f32⟩
  | 11 => ⟨S8x4096x1024, .f32⟩
  | 12 => ⟨S_, .f32⟩
  | 13 => ⟨S8x4096, .f32⟩
  | 14 => ⟨S8x4096x1, .f32⟩
  | 15 => ⟨S_, .f32⟩
  | 16 => ⟨S8x4096x1, .f32⟩
  | 17 => ⟨S8x4096x1, .f32⟩
  | 18 => ⟨S_, .f32⟩
  | 19 => ⟨S8x4096x1, .f32⟩
  | 20 => ⟨S8x4096x1, .f32⟩
  | 21 => ⟨S8x4096x1, .f32⟩
  | 22 => ⟨S8x4096x1024, .f32⟩
  | 23 => ⟨S8x4096x1024, .f32⟩
  | 24 => ⟨S1x1x1024, .f32⟩
  | 25 => ⟨S8x4096x1024, .f32⟩
  | 26 => ⟨S8x4096x1024, .f32⟩
  | 27 => ⟨S_, .f32⟩
  | 28 => ⟨S8x1x1024, .f32⟩
  | 29 => ⟨S8x1x1024, .f32⟩
  | 30 => ⟨S8x4096x1024, .f32⟩
  | 31 => ⟨S8x4096x1024, .f32⟩
  | 32 => ⟨S8x4096x1024, .f32⟩
  | 33 => ⟨S8x4096x1024, .f32⟩
  | 34 => ⟨S8x4096x3504, .f32⟩
  | 35 => ⟨S8x4096x512, .f32⟩
  | 36 => ⟨S8x4096x1024, .f32⟩
  | 37 => ⟨S8x4096x16, .f32⟩
  | 38 => ⟨S8x4096x256, .f32⟩
  | 39 => ⟨S8x4096x128, .f32⟩
  | 40 => ⟨S8x4096x32, .f32⟩
  | 41 => ⟨S8x4096x512, .f32⟩
  | 42 => ⟨S8x4096x512, .f32⟩
  | 43 => ⟨S8x4096x512, .f32⟩
  | 44 => ⟨S8x4096x256, .f32⟩
  | 45 => ⟨S_, .f32⟩
  | 46 => ⟨S8x4096, .f32⟩
  | 47 => ⟨S8x4096x1, .f32⟩
  | 48 => ⟨S_, .f32⟩
  | 49 => ⟨S8x4096x1, .f32⟩
  | 50 => ⟨S8x4096x1, .f32⟩
  | 51 => ⟨S_, .f32⟩
  | 52 => ⟨S8x4096x1, .f32⟩
  | 53 => ⟨S8x4096x1, .f32⟩
  | 54 => ⟨S8x4096x1, .f32⟩
  | 55 => ⟨S8x4096x256, .f32⟩
  | 56 => ⟨S8x4096x256, .f32⟩
  | 57 => ⟨S1x1x256, .f32⟩
  | 58 => ⟨S8x4096x256, .f32⟩
  | 59 => ⟨S8x4096x256, .f32⟩
  | 60 => ⟨S8x4096x768, .f32⟩
  | 61 => ⟨S8x4096x8x96, .f32⟩
  | 62 => ⟨S8x4096x8x64, .f32⟩
  | 63 => ⟨S8x4096x8x32, .f32⟩
  | 64 => ⟨S8x4096x8x2x2x8, .f32⟩
  | 65 => ⟨S8x4096x8x2x1x8, .f32⟩
  | 66 => ⟨S8x4096x8x2x8, .f32⟩
  | 67 => ⟨S8x4096x8x2x1x8, .f32⟩
  | 68 => ⟨S8x4096x8x2x8, .f32⟩
  | 69 => ⟨S4096x2x8, .f32⟩
  | 70 => ⟨S1x4096x1x2x8, .f32⟩
  | 71 => ⟨S4096x2x8, .f32⟩
  | 72 => ⟨S1x4096x1x2x8, .f32⟩
  | 73 => ⟨S8x4096x8x2x8, .f32⟩
  | 74 => ⟨S8x4096x8x2x8, .f32⟩
  | 75 => ⟨S8x4096x8x2x8, .f32⟩
  | 76 => ⟨S8x4096x8x2x8, .f32⟩
  | 77 => ⟨S8x4096x8x2x8, .f32⟩
  | 78 => ⟨S8x4096x8x2x8, .f32⟩
  | 79 => ⟨S8x4096x8x2x8, .f32⟩
  | 80 => ⟨S8x4096x8x2x8, .f32⟩
  | 81 => ⟨S8x4096x8x2x8, .f32⟩
  | 82 => ⟨S8x4096x8x2x8, .f32⟩
  | 83 => ⟨S8x4096x8x2x1x8, .f32⟩
  | 84 => ⟨S8x4096x8x2x1x8, .f32⟩
  | 85 => ⟨S8x4096x8x2x2x8, .f32⟩
  | 86 => ⟨S8x4096x8x32, .f32⟩
  | 87 => ⟨S8x4096x8x96, .f32⟩
  | 88 => ⟨S_, .f32⟩
  | 89 => ⟨S8x4096x8x96, .f32⟩
  | 90 => ⟨S8x4096x8x96, .f32⟩
  | 91 => ⟨S8x4096x128, .f32⟩
  | 92 => ⟨S_, .f32⟩
  | 93 => ⟨S8x4096, .f32⟩
  | 94 => ⟨S8x4096x1, .f32⟩
  | 95 => ⟨S_, .f32⟩
  | 96 => ⟨S8x4096x1, .f32⟩
  | 97 => ⟨S8x4096x1, .f32⟩
  | 98 => ⟨S_, .f32⟩
  | 99 => ⟨S8x4096x1, .f32⟩
  | 100 => ⟨S8x4096x1, .f32⟩
  | 101 => ⟨S8x4096x1, .f32⟩
  | 102 => ⟨S8x4096x128, .f32⟩
  | 103 => ⟨S8x4096x128, .f32⟩
  | 104 => ⟨S1x1x128, .f32⟩
  | 105 => ⟨S8x4096x128, .f32⟩
  | 106 => ⟨S8x4096x128, .f32⟩
  | 107 => ⟨S8x4096x1024, .f32⟩
  | 108 => ⟨S8x4096x8x128, .f32⟩
  | 109 => ⟨S8x4096x8x64, .f32⟩
  | 110 => ⟨S8x4096x8x64, .f32⟩
  | 111 => ⟨S8x4096x1x32, .f32⟩
  | 112 => ⟨S8x4096x1x2x2x8, .f32⟩
  | 113 => ⟨S8x4096x1x2x1x8, .f32⟩
  | 114 => ⟨S8x4096x1x2x8, .f32⟩
  | 115 => ⟨S8x4096x1x2x1x8, .f32⟩
  | 116 => ⟨S8x4096x1x2x8, .f32⟩
  | 117 => ⟨S4096x2x8, .f32⟩
  | 118 => ⟨S1x4096x1x2x8, .f32⟩
  | 119 => ⟨S4096x2x8, .f32⟩
  | 120 => ⟨S1x4096x1x2x8, .f32⟩
  | 121 => ⟨S8x4096x1x2x8, .f32⟩
  | 122 => ⟨S8x4096x1x2x8, .f32⟩
  | 123 => ⟨S8x4096x1x2x8, .f32⟩
  | 124 => ⟨S8x4096x1x2x8, .f32⟩
  | 125 => ⟨S8x4096x1x2x8, .f32⟩
  | 126 => ⟨S8x4096x1x2x8, .f32⟩
  | 127 => ⟨S8x4096x1x2x8, .f32⟩
  | _ => ⟨S8x4096x1024, .f32⟩

abbrev hbmTy0_1 (i : Nat) : BufTy := match i % 128 with
  | 0 => ⟨S8x4096x1x2x8, .f32⟩
  | 1 => ⟨S8x4096x1x2x8, .f32⟩
  | 2 => ⟨S8x4096x1x2x8, .f32⟩
  | 3 => ⟨S8x4096x1x2x1x8, .f32⟩
  | 4 => ⟨S8x4096x1x2x1x8, .f32⟩
  | 5 => ⟨S8x4096x1x2x2x8, .f32⟩
  | 6 => ⟨S8x4096x1x32, .f32⟩
  | 7 => ⟨S8x4096x8x32, .f32⟩
  | 8 => ⟨S8x4096x8x96, .f32⟩
  | 9 => ⟨S8x4096x4x2x64, .f32⟩
  | 10 => ⟨S8x4096x4x2x2x2x16, .f32⟩
  | 11 => ⟨S8x4096x4x2x2x1x16, .f32⟩
  | 12 => ⟨S8x4096x4x2x2x16, .f32⟩
  | 13 => ⟨S8x4096x4x2x2x1x16, .f32⟩
  | 14 => ⟨S8x4096x4x2x2x16, .f32⟩
  | 15 => ⟨S4096x2x16, .f32⟩
  | 16 => ⟨S1x4096x1x1x2x16, .f32⟩
  | 17 => ⟨S4096x2x16, .f32⟩
  | 18 => ⟨S1x4096x1x1x2x16, .f32⟩
  | 19 => ⟨S8x4096x4x2x2x16, .f32⟩
  | 20 => ⟨S8x4096x4x2x2x16, .f32⟩
  | 21 => ⟨S8x4096x4x2x2x16, .f32⟩
  | 22 => ⟨S8x4096x4x2x2x16, .f32⟩
  | 23 => ⟨S8x4096x4x2x2x16, .f32⟩
  | 24 => ⟨S8x4096x4x2x2x16, .f32⟩
  | 25 => ⟨S8x4096x4x2x2x16, .f32⟩
  | 26 => ⟨S8x4096x4x2x2x16, .f32⟩
  | 27 => ⟨S8x4096x4x2x2x16, .f32⟩
  | 28 => ⟨S8x4096x4x2x2x16, .f32⟩
  | 29 => ⟨S8x4096x4x2x2x1x16, .f32⟩
  | 30 => ⟨S8x4096x4x2x2x1x16, .f32⟩
  | 31 => ⟨S8x4096x4x2x2x2x16, .f32⟩
  | 32 => ⟨S8x4096x4x2x64, .f32⟩
  | 33 => ⟨S_, .f32⟩
  | 34 => ⟨S8x4096x4x2x64, .f32⟩
  | 35 => ⟨S8x4096x4x2x64, .f32⟩
  | 36 => ⟨S8x4096x4x2x64, .f32⟩
  | 37 => ⟨S8x4096x4x2x2x2x16, .f32⟩
  | 38 => ⟨S8x4096x4x2x2x1x16, .f32⟩
  | 39 => ⟨S8x4096x4x2x2x16, .f32⟩
  | 40 => ⟨S8x4096x4x2x2x1x16, .f32⟩
  | 41 => ⟨S8x4096x4x2x2x16, .f32⟩
  | 42 => ⟨S4096x2x16, .f32⟩
  | 43 => ⟨S1x4096x1x1x2x16, .f32⟩
  | 44 => ⟨S4096x2x16, .f32⟩
  | 45 => ⟨S1x4096x1x1x2x16, .f32⟩
  | 46 => ⟨S8x4096x4x2x2x16, .f32⟩
  | 47 => ⟨S8x4096x4x2x2x16, .f32⟩
  | 48 => ⟨S8x4096x4x2x2x16, .f32⟩
  | 49 => ⟨S8x4096x4x2x2x16, .f32⟩
  | 50 => ⟨S8x4096x4x2x2x16, .f32⟩
  | 51 => ⟨S8x4096x4x2x2x16, .f32⟩
  | 52 => ⟨S8x4096x4x2x2x16, .f32⟩
  | 53 => ⟨S8x4096x4x2x2x16, .f32⟩
  | 54 => ⟨S8x4096x4x2x2x16, .f32⟩
  | 55 => ⟨S8x4096x4x2x2x16, .f32⟩
  | 56 => ⟨S8x4096x4x2x2x1x16, .f32⟩
  | 57 => ⟨S8x4096x4x2x2x1x16, .f32⟩
  | 58 => ⟨S8x4096x4x2x2x2x16, .f32⟩
  | 59 => ⟨S8x4096x4x2x64, .f32⟩
  | 60 => ⟨S8, .i32⟩
  | 61 => ⟨S_, .i32⟩
  | 62 => ⟨S8, .i32⟩
  | 63 => ⟨S8, .i32⟩
  | 64 => ⟨S_, .i32⟩
  | 65 => ⟨S8, .i32⟩
  | 66 => ⟨S8, .i1⟩
  | 67 => ⟨S1x1x8x1, .i1⟩
  | 68 => ⟨S_, .f32⟩
  | 69 => ⟨S8x4096x8x64, .f32⟩
  | 70 => ⟨S8x4096x8x64, .i1⟩
  | 71 => ⟨S8x4096x8x64, .f32⟩
  | 72 => ⟨S8x4096x8x64, .i1⟩
  | 73 => ⟨S8x4096x8x64, .f32⟩
  | 74 => ⟨S8x4096x8x128, .f32⟩
  | 75 => ⟨S_, .f32⟩
  | 76 => ⟨S8x4096x48, .f32⟩
  | 77 => ⟨S_, .f32⟩
  | 78 => ⟨S8x4096x32, .f32⟩
  | 79 => ⟨S8x4096x128, .f32⟩
  | 80 => ⟨S32768x512, .f32⟩
  | 81 => ⟨S32768x512, .bf16⟩
  | 82 => ⟨S32768x1024, .f32⟩
  | 83 => ⟨S32768x1024, .bf16⟩
  | 84 => ⟨S32768x128, .f32⟩
  | 85 => ⟨S_, .i32⟩
  | 86 => ⟨S_, .f32⟩
  | 87 => ⟨S8x4096x8x128, .f32⟩
  | 88 => ⟨S32768x1024, .f32⟩
  | 89 => ⟨S32768x1024, .bf16⟩
  | 90 => ⟨S_, .i32⟩
  | 91 => ⟨S_, .f32⟩
  | 92 => ⟨S8x4096x8x128, .f32⟩
  | 93 => ⟨S32768x1024, .f32⟩
  | 94 => ⟨S32768x1024, .bf16⟩
  | 95 => ⟨S32768x1024, .f32⟩
  | 96 => ⟨S32768x1024, .bf16⟩
  | 97 => ⟨S32768x512, .f32⟩
  | 98 => ⟨S32768x512, .bf16⟩
  | 99 => ⟨S32768x512, .f32⟩
  | 100 => ⟨S32768x512, .bf16⟩
  | 101 => ⟨S32768x512, .f32⟩
  | 102 => ⟨S32768x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_6 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_7 : Ref sig .tc := ⟨.hbm, 92, rfl⟩
abbrev main_v73 : Ref sig .tc := ⟨.hbm, 93, rfl⟩
abbrev main_v74 : Ref sig .tc := ⟨.hbm, 94, rfl⟩
abbrev main_cst_8 : Ref sig .tc := ⟨.hbm, 95, rfl⟩
abbrev main_v75 : Ref sig .tc := ⟨.hbm, 96, rfl⟩
abbrev main_v76 : Ref sig .tc := ⟨.hbm, 97, rfl⟩
abbrev main_cst_9 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_10 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_c : Ref sig .tc := ⟨.hbm, 189, rfl⟩
abbrev main_v166 : Ref sig .tc := ⟨.hbm, 190, rfl⟩
abbrev main_v167 : Ref sig .tc := ⟨.hbm, 191, rfl⟩
abbrev main_c_11 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_cst_12 : Ref sig .tc := ⟨.hbm, 196, rfl⟩
abbrev main_v171 : Ref sig .tc := ⟨.hbm, 197, rfl⟩
abbrev main_call0_v0 : Ref sig .tc := ⟨.hbm, 198, rfl⟩
abbrev main_v172 : Ref sig .tc := ⟨.hbm, 199, rfl⟩
abbrev main_call1_v0 : Ref sig .tc := ⟨.hbm, 200, rfl⟩
abbrev main_v173 : Ref sig .tc := ⟨.hbm, 201, rfl⟩
abbrev main_v174 : Ref sig .tc := ⟨.hbm, 202, rfl⟩
abbrev main_cst_13 : Ref sig .tc := ⟨.hbm, 203, rfl⟩
abbrev main_v175 : Ref sig .tc := ⟨.hbm, 204, rfl⟩
abbrev main_cst_14 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_c_15 : Ref sig .tc := ⟨.hbm, 213, rfl⟩
abbrev main_call2_v0 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_c_16 : Ref sig .tc := ⟨.hbm, 218, rfl⟩
abbrev main_call3_v0 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩

abbrev nD : Nat := 1
abbrev τ : Topo := Topo.v7x

variable {F : FTy → Type} [FloatOps F]
-- ==== Proof.Layout.lean ====
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

open Idealize.ShloMosaic

noncomputable section

namespace Cert.KernelIdeal.Attn

open Cert.KernelIdeal Cert.KernelIdeal.Gen Idealize.ShloMosaic.TcCoe Idealize.SL.Sem

variable (m : (ℓ : Loc nD τ sig) → Buf (Elt Ideal) ℓ)

/-- the block each window takes at each point of the grid -/
theorem idx : ∀ t : Fin cfg0.N,
    win0_0.index t = ![t.val / 9, 0]
    ∧ win0_1.index t = ![8 * (t.val / 72) + min (t.val % 9) 7, 0]
    ∧ win0_2.index t = ![8 * (t.val / 72) + min (t.val % 9) 7, 0]
    ∧ win0_3.index t = ![t.val / 72, 0]
    ∧ win0_4.index t = ![t.val / 72, 0]
    ∧ win0_5.index t = ![t.val / 9, 0] :=
  (by decide +kernel : ∀ t : Fin grid0.N, _)

/-- the integer zero the lanes are filled with is the number zero -/
theorem zero_word : (FloatOps.sitofp .f32 (0#32 : BitVec 32) : Ideal .f32) = (0 : EReal) := by
  show (((0#32 : BitVec 32).toInt : ℝ) : EReal) = 0
  simp

/-- the last bit of a head's number -/
theorem parity : ∀ h : Fin 8, IntOp.cmpi .eq (IntOp.andi (BitVec.ofNat 32 h) 1#32) 0#32 = BitVec.ofBool (decide ((h : ℕ) % 2 = 0)) := by
  decide

/-- a head's 96 numbers set to 128 lanes, zeros after them, the heads side by side -/
def headsL (X : FVec Ideal S8x4096x8x96 .f32) : FVec Ideal S32768x1024 .bf16 :=
  truncf .bf16 (shapeCast S32768x1024 (pad S8x4096x8x128 ![0, 0, 0, 0] ![0, 0, 0, 32] ![0, 0, 0, 0] X (sitofp .f32 (constantI S_ 32 0#32))
    pads_S8x4096x8x96_S8x4096x8x128_000_000_000_0320 h_S_) shapeCasts_S8x4096x8x128_S32768x1024) bitsLt_bf16_f32

/-- where the heads with an even number are -/
def evenL : IVec S8x4096x8x64 1 :=
  broadcastInDim S8x4096x8x64 ![0, 1, 2, 3] bcast_S1x1x8x1_S8x4096x8x64_0_1_2_3 (broadcastInDim S1x1x8x1 ![2] bcast_S8_S1x1x8x1_2
    (cmpi .eq (andi (iotaInDim S8 32 0) (broadcastInDim S8 ![] bcast_S_S8 (constantI S_ 32 1#32))) (broadcastInDim S8 ![] bcast_S_S8 (constantI S_ 32 0#32))))

/-- a head's 64 values in the low lanes of its 128 (an even head) or in the high ones (an odd head), zeros in the others -/
def valsL (X : FVec Ideal S8x4096x8x64 .f32) : FVec Ideal S32768x1024 .bf16 :=
  truncf .bf16 (shapeCast S32768x1024 (concatenate S8x4096x8x128 3
    [⟨S8x4096x8x64, select evenL X (broadcastInDim S8x4096x8x64 ![] bcast_S_S8x4096x8x64 (constant S_ .f32 0x00000000#32))⟩,
     ⟨S8x4096x8x64, select evenL (broadcastInDim S8x4096x8x64 ![] bcast_S_S8x4096x8x64 (constant S_ .f32 0x00000000#32)) X⟩]
    concatenates_S8x4096x8x64_S8x4096x8x64_S8x4096x8x128_d3) shapeCasts_S8x4096x8x128_S32768x1024) bitsLt_bf16_f32

/-- the heads' lanes, read -/
theorem headsL_at (X : FVec Ideal S8x4096x8x96 .f32) (b : Fin 8) (i : Fin 4096) (h : Fin 8) (d : Fin 128) :
    headsL X (ix2 (⟨4096 * b + i, by omega⟩ : Fin 32768) (⟨128 * h + d, by omega⟩ : Fin 1024))
      = if hd : (d : ℕ) < 96 then X (ix4 b i h (⟨d, hd⟩ : Fin 96)) else (0 : EReal) := by
  pointwise [headsL]
  rw [zero_word]

/-- the values' lanes, read -/
theorem valsL_at (X : FVec Ideal S8x4096x8x64 .f32) (b : Fin 8) (i : Fin 4096) (h : Fin 8) (l : Fin 128) :
    valsL X (ix2 (⟨4096 * b + i, by omega⟩ : Fin 32768) (⟨128 * h + l, by omega⟩ : Fin 1024))
      = if (l : ℕ) / 64 = (h : ℕ) % 2 then X (ix4 b i h (⟨l % 64, by omega⟩ : Fin 64)) else (0 : EReal) := by
  pointwise [valsL, evenL]
  rw [parity]
  simp only [Scalar.select_ofBool]
  by_cases hl : (l : ℕ) < 64
  · rw [dif_pos hl]
    by_cases hh : (h : ℕ) % 2 = 0
    · simp only [hh, decide_true, if_true]
      rw [if_pos (by omega)]
      blk_ext []
    · simp only [hh, decide_false]
      rw [if_neg (by simp), if_neg (by omega)]
  · rw [dif_neg hl]
    by_cases hh : (h : ℕ) % 2 = 0
    · simp only [hh, decide_true, if_true]
      rw [if_neg (by omega)]
    · simp only [hh, decide_false]
      rw [if_neg (by simp)]
      refine Eq.trans ?_ (if_pos (by omega)).symm
      blk_ext []

/-- a head's 96 numbers set to 128 lanes, zeros after them, the heads side by side (of the cached tokens) -/
def headsC (X : FVec Ideal S8x512x8x96 .f32) : FVec Ideal S4096x1024 .bf16 :=
  truncf .bf16 (shapeCast S4096x1024 (pad S8x512x8x128 ![0, 0, 0, 0] ![0, 0, 0, 32] ![0, 0, 0, 0] X (sitofp .f32 (constantI S_ 32 0#32))
    pads_S8x512x8x96_S8x512x8x128_000_000_000_0320 h_S_) shapeCasts_S8x512x8x128_S4096x1024) bitsLt_bf16_f32

/-- where the heads with an even number are -/
def evenC : IVec S8x512x8x64 1 :=
  broadcastInDim S8x512x8x64 ![0, 1, 2, 3] bcast_S1x1x8x1_S8x512x8x64_0_1_2_3 (broadcastInDim S1x1x8x1 ![2] bcast_S8_S1x1x8x1_2
    (cmpi .eq (andi (iotaInDim S8 32 0) (broadcastInDim S8 ![] bcast_S_S8 (constantI S_ 32 1#32))) (broadcastInDim S8 ![] bcast_S_S8 (constantI S_ 32 0#32))))

/-- a head's 64 values in the low lanes of its 128 (an even head) or in the high ones (an odd head), zeros in the others (of the cached tokens) -/
def valsC (X : FVec Ideal S8x512x8x64 .f32) : FVec Ideal S4096x1024 .bf16 :=
  truncf .bf16 (shapeCast S4096x1024 (concatenate S8x512x8x128 3
    [⟨S8x512x8x64, select evenC X (broadcastInDim S8x512x8x64 ![] bcast_S_S8x512x8x64 (constant S_ .f32 0x00000000#32))⟩,
     ⟨S8x512x8x64, select evenC (broadcastInDim S8x512x8x64 ![] bcast_S_S8x512x8x64 (constant S_ .f32 0x00000000#32)) X⟩]
    concatenates_S8x512x8x64_S8x512x8x64_S8x512x8x128_d3) shapeCasts_S8x512x8x128_S4096x1024) bitsLt_bf16_f32

/-- the heads' lanes, read -/
theorem headsC_at (X : FVec Ideal S8x512x8x96 .f32) (b : Fin 8) (i : Fin 512) (h : Fin 8) (d : Fin 128) :
    headsC X (ix2 (⟨512 * b + i, by omega⟩ : Fin 4096) (⟨128 * h + d, by omega⟩ : Fin 1024))
      = if hd : (d : ℕ) < 96 then X (ix4 b i h (⟨d, hd⟩ : Fin 96)) else (0 : EReal) := by
  pointwise [headsC]
  rw [zero_word]

/-- the values' lanes, read -/
theorem valsC_at (X : FVec Ideal S8x512x8x64 .f32) (b : Fin 8) (i : Fin 512) (h : Fin 8) (l : Fin 128) :
    valsC X (ix2 (⟨512 * b + i, by omega⟩ : Fin 4096) (⟨128 * h + l, by omega⟩ : Fin 1024))
      = if (l : ℕ) / 64 = (h : ℕ) % 2 then X (ix4 b i h (⟨l % 64, by omega⟩ : Fin 64)) else (0 : EReal) := by
  pointwise [valsC, evenC]
  rw [parity]
  simp only [Scalar.select_ofBool]
  by_cases hl : (l : ℕ) < 64
  · rw [dif_pos hl]
    by_cases hh : (h : ℕ) % 2 = 0
    · simp only [hh, decide_true, if_true]
      rw [if_pos (by omega)]
      blk_ext []
    · simp only [hh, decide_false]
      rw [if_neg (by simp), if_neg (by omega)]
  · rw [dif_neg hl]
    by_cases hh : (h : ℕ) % 2 = 0
    · simp only [hh, decide_true, if_true]
      rw [if_neg (by omega)]
    · simp only [hh, decide_false]
      rw [if_neg (by simp)]
      refine Eq.trans ?_ (if_pos (by omega)).symm
      blk_ext []

/-- the queries' array at the kernel's launch -/
theorem V_v4 (c : Dev nD) : V m c main_v4 = headsL (mulf (m ((c : Thread nD τ).loc main_arg0)) (broadcastInDim S8x4096x8x96 ![] bcast_S_S8x4096x8x96 (constant S_ .f32 0x3DD105EC#32))) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11, hostOps0_12]
  entry_read
  rfl

/-- the keys' array at the kernel's launch -/
theorem V_v7 (c : Dev nD) : V m c main_v7 = headsL (m ((c : Thread nD τ).loc main_arg1)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11, hostOps0_12]
  entry_read
  rfl

/-- the values' array at the kernel's launch -/
theorem V_v19 (c : Dev nD) : V m c main_v19 = valsL (m ((c : Thread nD τ).loc main_arg2)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11, hostOps0_12]
  entry_read
  rfl

/-- the cached keys' array at the kernel's launch -/
theorem V_v22 (c : Dev nD) : V m c main_v22 = headsC (m ((c : Thread nD τ).loc main_arg3)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11, hostOps0_12]
  entry_read
  rfl

/-- the cached values' array at the kernel's launch -/
theorem V_v34 (c : Dev nD) : V m c main_v34 = valsC (m ((c : Thread nD τ).loc main_arg4)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11, hostOps0_12]
  entry_read
  rfl

/-- the queries a point reads -/
theorem blk0 (c : Dev nD) (t : Fin cfg0.N) (r : Fin 512) (l : Fin 1024) :
    (iblk m c 0 t : FVec Ideal S512x1024 .bf16) (ix2 r l) = (V m c main_v4 : FVec Ideal S32768x1024 .bf16)
      (ix2 (⟨4096 * (t.val / 72) + (512 * (t.val / 9 % 8) + r), by have : t.val < 576 := lt_of_lt_of_eq t.isLt N_0; omega⟩ : Fin 32768) l) := by
  have hN : t.val < 576 := lt_of_lt_of_eq t.isLt N_0
  blk_simp [iblk]
  blk_ext [idx t]

/-- the keys a point reads -/
theorem blk1 (c : Dev nD) (t : Fin cfg0.N) (r : Fin 512) (l : Fin 1024) :
    (iblk m c 1 t : FVec Ideal S512x1024 .bf16) (ix2 r l) = (V m c main_v7 : FVec Ideal S32768x1024 .bf16)
      (ix2 (⟨4096 * (t.val / 72) + (512 * min (t.val % 9) 7 + r), by have : t.val < 576 := lt_of_lt_of_eq t.isLt N_0; omega⟩ : Fin 32768) l) := by
  have hN : t.val < 576 := lt_of_lt_of_eq t.isLt N_0
  blk_simp [iblk]
  blk_ext [idx t]

/-- the values a point reads -/
theorem blk2 (c : Dev nD) (t : Fin cfg0.N) (r : Fin 512) (l : Fin 1024) :
    (iblk m c 2 t : FVec Ideal S512x1024 .bf16) (ix2 r l) = (V m c main_v19 : FVec Ideal S32768x1024 .bf16)
      (ix2 (⟨4096 * (t.val / 72) + (512 * min (t.val % 9) 7 + r), by have : t.val < 576 := lt_of_lt_of_eq t.isLt N_0; omega⟩ : Fin 32768) l) := by
  have hN : t.val < 576 := lt_of_lt_of_eq t.isLt N_0
  blk_simp [iblk]
  blk_ext [idx t]

/-- the cached keys a point reads -/
theorem blk3 (c : Dev nD) (t : Fin cfg0.N) (r : Fin 512) (l : Fin 1024) :
    (iblk m c 3 t : FVec Ideal S512x1024 .bf16) (ix2 r l) = (V m c main_v22 : FVec Ideal S4096x1024 .bf16)
      (ix2 (⟨512 * (t.val / 72) + r, by have : t.val < 576 := lt_of_lt_of_eq t.isLt N_0; omega⟩ : Fin 4096) l) := by
  have hN : t.val < 576 := lt_of_lt_of_eq t.isLt N_0
  blk_simp [iblk]
  blk_ext [idx t]

/-- the cached values a point reads -/
theorem blk4 (c : Dev nD) (t : Fin cfg0.N) (r : Fin 512) (l : Fin 1024) :
    (iblk m c 4 t : FVec Ideal S512x1024 .bf16) (ix2 r l) = (V m c main_v34 : FVec Ideal S4096x1024 .bf16)
      (ix2 (⟨512 * (t.val / 72) + r, by have : t.val < 576 := lt_of_lt_of_eq t.isLt N_0; omega⟩ : Fin 4096) l) := by
  have hN : t.val < 576 := lt_of_lt_of_eq t.isLt N_0
  blk_simp [iblk]
  blk_ext [idx t]

end Cert.KernelIdeal.Attn

end
-- ==== Proof.BlockSpec.lean ====
module

public import proofs.«01_k».proof.Proof.Gen.KernelIdeal.Frame
public import Idealize.ShloMosaic.Lib.Pipeline.ValueKit
public import Idealize.ShloMosaic.Lib.Pointwise
public import Idealize.ShloMosaic.Lib.Pipeline.ReadBack

@[expose] public section

set_option maxRecDepth 16384

noncomputable section

namespace Cert.KernelIdeal.Attn

open Idealize.ShloMosaic Idealize.ShloMosaic.TcCoe Idealize.SL.Sem
open Cert.KernelIdeal Cert.KernelIdeal.Gen

/-- the score of query row `r` against key row `k` of a block, for head `h`: the product over the head's 128 lanes -/
def sc (Q K : FVec Ideal S512x1024 .bf16) (h : Fin 8) (r k : Fin 512) : EReal :=
  ∑ d : Fin 128, (Q (ix2 r (⟨128 * h + d, by omega⟩ : Fin 1024)) : EReal) * K (ix2 k (⟨128 * h + d, by omega⟩ : Fin 1024))

/-- the running maximum after a block of keys, from the one before it -/
def mNew (Q K : FVec Ideal S512x1024 .bf16) (mp : FVec Ideal S8x512x128 .f32) (h : Fin 8) (r : Fin 512) (l : Fin 128) : EReal :=
  max (mp (ix3 h r l)) (Finset.univ.fold max (Ideal.ofBits .f32 0xFF800000#32) fun k : Fin 512 => sc Q K h r k)

/-- what the earlier sums are scaled by when the running maximum moves -/
def alpha (Q K : FVec Ideal S512x1024 .bf16) (mp : FVec Ideal S8x512x128 .f32) (h : Fin 8) (r : Fin 512) (l : Fin 128) : EReal :=
  Ideal.exp (mp (ix3 h r l) - mNew Q K mp h r l)

/-- the weight of key `k` of the block, relative to the new running maximum -/
def wt (Q K : FVec Ideal S512x1024 .bf16) (mp : FVec Ideal S8x512x128 .f32) (h : Fin 8) (r k : Fin 512) : EReal :=
  Ideal.exp (sc Q K h r k - mNew Q K mp h r 0)

/-- the running sum of weights after a block -/
def lNew (Q K : FVec Ideal S512x1024 .bf16) (mp lp : FVec Ideal S8x512x128 .f32) (h : Fin 8) (r : Fin 512) (l : Fin 128) : EReal :=
  alpha Q K mp h r l * lp (ix3 h r l) + ∑ k : Fin 512, wt Q K mp h r k

/-- the block's weighted values of head `h`, at lane `l` of the head's own 128 value lanes -/
def pv (Q K V : FVec Ideal S512x1024 .bf16) (mp : FVec Ideal S8x512x128 .f32) (h : Fin 8) (r : Fin 512) (l : Fin 128) : EReal :=
  ∑ k : Fin 512, wt Q K mp h r k * (V (ix2 k (⟨128 * h + l, by omega⟩ : Fin 1024)) : EReal)

/-- whether lane `l` belongs to the even head of a pair -/
def low (l : Fin 128) : BitVec 1 := Scalar.cmpi .slt (BitVec.ofNat 32 l) 64#32

/-- the even head of pair `p` -/
abbrev evn (p : Fin 4) : Fin 8 := ⟨2 * p, by omega⟩
/-- the odd head of pair `p` -/
abbrev odd (p : Fin 4) : Fin 8 := ⟨2 * p + 1, by omega⟩

/-- the running weighted values of a pair of heads after a block -/
def accNew (Q K V : FVec Ideal S512x1024 .bf16) (mp : FVec Ideal S8x512x128 .f32) (ap : FVec Ideal S4x512x128 .f32) (p : Fin 4) (r : Fin 512) (l : Fin 128) : EReal :=
  ap (ix3 p r l) * Scalar.select (low l) (alpha Q K mp (evn p) r l) (alpha Q K mp (odd p) r l)
    + pv Q K V mp (evn p) r l + pv Q K V mp (odd p) r l

/-- stores that cover an index decide what it reads, whatever was stored before them -/
theorem canon_drop {s : Shape} {e : EltTy} (L L' : List (View.Piece (Elt Ideal) s e)) (y : s.Idx) (hc : ∃ p ∈ L, y ∈ p.1.set) :
    View.canon (L ++ L') y = View.canon L y := by
  induction L with
  | nil => obtain ⟨p, hp, _⟩ := hc; exact absurd hp List.not_mem_nil
  | cons p L ih =>
    by_cases h : y ∈ p.1.set
    · obtain ⟨x, rfl⟩ := p.1.exists_idx_of_mem h
      rw [List.cons_append, show p.1.idx x = p.1.emb x from rfl, View.canon_cons_emb, View.canon_cons_emb]
    · rw [List.cons_append, View.canon_cons_of_not_mem p _ h, View.canon_cons_of_not_mem p _ h]
      refine ih ?_
      obtain ⟨q, hq, hy⟩ := hc
      rcases List.mem_cons.mp hq with rfl | hq
      · exact absurd hy h
      · exact ⟨q, hq, hy⟩

end Cert.KernelIdeal.Attn

end
-- ==== Proof.BlockA0.lean ====
module

public import proofs.«01_k».proof.Proof.BlockSpec

@[expose] public section

set_option maxRecDepth 16384

noncomputable section

namespace Cert.KernelIdeal.Attn

open Idealize.ShloMosaic Idealize.ShloMosaic.TcCoe Idealize.SL.Sem
open Cert.KernelIdeal Cert.KernelIdeal.Gen

set_option maxHeartbeats 4000000

/-- the first block leaves the maxima it starts -/
theorem A0 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : cond0_1 i) (hc2 : ¬cond0_2 i) (hc3 : ¬cond0_3 i)
    (x0 x1 x2 x3 x4 : FVec Ideal S512x1024 .bf16) (h : Fin 8) (r : Fin 512) (l : Fin 128) :
    sout0_A_0 (F := Ideal) c i arg3 harg3 arg4 harg4 arg5 harg5 arg6 harg6 arg7 harg7 arg8 harg8 arg9 harg9 arg10 harg10 arg11 harg11 hc0 hc1 hc2 hc3 x0 x1 x2 x3 x4 (ix3 h r l) = mNew x0 x1 (fun _ => Ideal.ofBits .f32 0xFF800000#32) h r l := by
  frame_out
  simp (disch := first | rfl | decide) only [↓View.readCov_skip, View.readCov_fill]
  refine (canon_drop [_, _, _, _, _, _, _, _] [_] _ (by refine View.cover_of_tiledL (s := S8x512x128) _ S1x512x128.size ?_ _; sl_kernel_rfl)).trans ?_
  canon_tiles z e
  all_goals
    idx_vars z
    obtain rfl : r = z1 := Fin.ext e1
    obtain rfl : l = z2 := Fin.ext e2
    open_payloads
    pointwise [evn, odd, accNew, pv, lNew, wt, alpha, mNew, sc, low, k0_pay4]
    blk_point []

end Cert.KernelIdeal.Attn

end
-- ==== Proof.BlockA1.lean ====
module

public import proofs.«01_k».proof.Proof.BlockSpec

@[expose] public section

set_option maxRecDepth 16384

noncomputable section

namespace Cert.KernelIdeal.Attn

open Idealize.ShloMosaic Idealize.ShloMosaic.TcCoe Idealize.SL.Sem
open Cert.KernelIdeal Cert.KernelIdeal.Gen

set_option maxHeartbeats 4000000

/-- the first block leaves the sums it starts -/
theorem A1 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : cond0_1 i) (hc2 : ¬cond0_2 i) (hc3 : ¬cond0_3 i)
    (x0 x1 x2 x3 x4 : FVec Ideal S512x1024 .bf16) (h : Fin 8) (r : Fin 512) (l : Fin 128) :
    sout0_A_1 (F := Ideal) c i arg3 harg3 arg4 harg4 arg5 harg5 arg6 harg6 arg7 harg7 arg8 harg8 arg9 harg9 arg10 harg10 arg11 harg11 hc0 hc1 hc2 hc3 x0 x1 x2 x3 x4 (ix3 h r l) = lNew x0 x1 (fun _ => Ideal.ofBits .f32 0xFF800000#32) (fun _ => 0) h r l := by
  frame_out
  simp (disch := first | rfl | decide) only [↓View.readCov_skip, View.readCov_fill]
  refine (canon_drop [_, _, _, _, _, _, _, _] [_] _ (by refine View.cover_of_tiledL (s := S8x512x128) _ S1x512x128.size ?_ _; sl_kernel_rfl)).trans ?_
  canon_tiles z e
  all_goals
    idx_vars z
    obtain rfl : r = z1 := Fin.ext e1
    obtain rfl : l = z2 := Fin.ext e2
    open_payloads
    pointwise [evn, odd, accNew, pv, lNew, wt, alpha, mNew, sc, low, k0_pay4]
    blk_point []

end Cert.KernelIdeal.Attn

end
-- ==== Proof.BlockA2.lean ====
module

public import proofs.«01_k».proof.Proof.BlockSpec

@[expose] public section

set_option maxRecDepth 16384

noncomputable section

namespace Cert.KernelIdeal.Attn

open Idealize.ShloMosaic Idealize.ShloMosaic.TcCoe Idealize.SL.Sem
open Cert.KernelIdeal Cert.KernelIdeal.Gen

set_option maxHeartbeats 4000000

/-- the first block leaves the weighted values it starts -/
theorem A2 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : cond0_0 i) (hc1 : cond0_1 i) (hc2 : ¬cond0_2 i) (hc3 : ¬cond0_3 i)
    (x0 x1 x2 x3 x4 : FVec Ideal S512x1024 .bf16) (p : Fin 4) (r : Fin 512) (l : Fin 128) :
    sout0_A_2 (F := Ideal) c i arg3 harg3 arg4 harg4 arg5 harg5 arg6 harg6 arg7 harg7 arg8 harg8 arg9 harg9 arg10 harg10 arg11 harg11 hc0 hc1 hc2 hc3 x0 x1 x2 x3 x4 (ix3 p r l) = accNew x0 x1 x2 (fun _ => Ideal.ofBits .f32 0xFF800000#32) (fun _ => 0) p r l := by
  frame_out
  simp (disch := first | rfl | decide) only [↓View.readCov_skip, View.readCov_fill]
  refine (canon_drop [_, _, _, _] [_] _ (by refine View.cover_of_tiledL (s := S4x512x128) _ S1x512x128.size ?_ _; sl_kernel_rfl)).trans ?_
  canon_tiles z e
  all_goals
    idx_vars z
    obtain rfl : r = z1 := Fin.ext e1
    obtain rfl : l = z2 := Fin.ext e2
    have e0' : (p : ℕ) = _ := e0
    open_payloads
    pointwise [evn, odd, accNew, pv, lNew, wt, alpha, mNew, sc, low, k0_pay4]
    simp only [Scalar.select]
    blk_point []
    all_goals rfl

end Cert.KernelIdeal.Attn

end
-- ==== Proof.BlockB0.lean ====
module

public import proofs.«01_k».proof.Proof.BlockSpec

@[expose] public section

set_option maxRecDepth 16384

noncomputable section

namespace Cert.KernelIdeal.Attn

open Idealize.ShloMosaic Idealize.ShloMosaic.TcCoe Idealize.SL.Sem
open Cert.KernelIdeal Cert.KernelIdeal.Gen

set_option maxHeartbeats 4000000

/-- a middle block leaves the new running maxima -/
theorem B0 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : cond0_1 i) (hc2 : ¬cond0_2 i) (hc3 : ¬cond0_3 i)
    (x0 x1 x2 x3 x4 : FVec Ideal S512x1024 .bf16) (xs0 xs1 : FVec Ideal S8x512x128 .f32) (xs2 : FVec Ideal S4x512x128 .f32) (h : Fin 8) (r : Fin 512) (l : Fin 128) :
    sout0_B_0 (F := Ideal) c i arg3 harg3 arg4 harg4 arg5 harg5 arg6 harg6 arg7 harg7 arg8 harg8 arg9 harg9 arg10 harg10 arg11 harg11 hc0 hc1 hc2 hc3 x0 x1 x2 x3 x4 xs0 xs1 xs2 (ix3 h r l) = mNew x0 x1 xs0 h r l := by
  frame_out
  canon_tiles z e
  all_goals
    idx_vars z
    obtain rfl : r = z1 := Fin.ext e1
    obtain rfl : l = z2 := Fin.ext e2
    open_payloads
    pointwise [evn, odd, accNew, pv, lNew, wt, alpha, mNew, sc, low, k0_pay4]
    blk_point []

end Cert.KernelIdeal.Attn

end
-- ==== Proof.BlockB1.lean ====
module

public import proofs.«01_k».proof.Proof.BlockSpec

@[expose] public section

set_option maxRecDepth 16384

noncomputable section

namespace Cert.KernelIdeal.Attn

open Idealize.ShloMosaic Idealize.ShloMosaic.TcCoe Idealize.SL.Sem
open Cert.KernelIdeal Cert.KernelIdeal.Gen

set_option maxHeartbeats 4000000

/-- a middle block leaves the new running sums -/
theorem B1 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : cond0_1 i) (hc2 : ¬cond0_2 i) (hc3 : ¬cond0_3 i)
    (x0 x1 x2 x3 x4 : FVec Ideal S512x1024 .bf16) (xs0 xs1 : FVec Ideal S8x512x128 .f32) (xs2 : FVec Ideal S4x512x128 .f32) (h : Fin 8) (r : Fin 512) (l : Fin 128) :
    sout0_B_1 (F := Ideal) c i arg3 harg3 arg4 harg4 arg5 harg5 arg6 harg6 arg7 harg7 arg8 harg8 arg9 harg9 arg10 harg10 arg11 harg11 hc0 hc1 hc2 hc3 x0 x1 x2 x3 x4 xs0 xs1 xs2 (ix3 h r l) = lNew x0 x1 xs0 xs1 h r l := by
  frame_out
  canon_tiles z e
  all_goals
    idx_vars z
    obtain rfl : r = z1 := Fin.ext e1
    obtain rfl : l = z2 := Fin.ext e2
    open_payloads
    pointwise [evn, odd, accNew, pv, lNew, wt, alpha, mNew, sc, low, k0_pay4]
    blk_point []

end Cert.KernelIdeal.Attn

end
-- ==== Proof.BlockB2.lean ====
module

public import proofs.«01_k».proof.Proof.BlockSpec

@[expose] public section

set_option maxRecDepth 16384

noncomputable section

namespace Cert.KernelIdeal.Attn

open Idealize.ShloMosaic Idealize.ShloMosaic.TcCoe Idealize.SL.Sem
open Cert.KernelIdeal Cert.KernelIdeal.Gen

set_option maxHeartbeats 4000000

/-- a middle block leaves the new weighted values -/
theorem B2 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : cond0_1 i) (hc2 : ¬cond0_2 i) (hc3 : ¬cond0_3 i)
    (x0 x1 x2 x3 x4 : FVec Ideal S512x1024 .bf16) (xs0 xs1 : FVec Ideal S8x512x128 .f32) (xs2 : FVec Ideal S4x512x128 .f32) (p : Fin 4) (r : Fin 512) (l : Fin 128) :
    sout0_B_2 (F := Ideal) c i arg3 harg3 arg4 harg4 arg5 harg5 arg6 harg6 arg7 harg7 arg8 harg8 arg9 harg9 arg10 harg10 arg11 harg11 hc0 hc1 hc2 hc3 x0 x1 x2 x3 x4 xs0 xs1 xs2 (ix3 p r l) = accNew x0 x1 x2 xs0 xs2 p r l := by
  frame_out
  canon_tiles z e
  all_goals
    idx_vars z
    obtain rfl : r = z1 := Fin.ext e1
    obtain rfl : l = z2 := Fin.ext e2
    have e0' : (p : ℕ) = _ := e0
    open_payloads
    pointwise [evn, odd, accNew, pv, lNew, wt, alpha, mNew, sc, low, k0_pay4]
    simp only [Scalar.select]
    blk_point []
    all_goals rfl

end Cert.KernelIdeal.Attn

end
-- ==== Proof.BlockC.lean ====
module

public import proofs.«01_k».proof.Proof.BlockSpec

@[expose] public section

set_option maxRecDepth 16384

noncomputable section

namespace Cert.KernelIdeal.Attn

open Idealize.ShloMosaic Idealize.ShloMosaic.TcCoe Idealize.SL.Sem
open Cert.KernelIdeal Cert.KernelIdeal.Gen

set_option maxHeartbeats 4000000

/-- the last block stores the weighted values over the sum of weights -/
theorem C5 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x512 .bf16) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S4x512x128 .f32) (harg11 : arg11.IsWhole) (hc0 : ¬cond0_0 i) (hc1 : ¬cond0_1 i) (hc2 : cond0_2 i) (hc3 : cond0_3 i)
    (x0 x1 x2 x3 x4 : FVec Ideal S512x1024 .bf16) (xs0 xs1 : FVec Ideal S8x512x128 .f32) (xs2 : FVec Ideal S4x512x128 .f32) (p : Fin 4) (r : Fin 512) (l : Fin 128) :
    out0_C_5 (F := Ideal) c i arg3 harg3 arg4 harg4 arg5 harg5 arg6 harg6 arg7 harg7 arg8 harg8 arg9 harg9 arg10 harg10 arg11 harg11 hc0 hc1 hc2 hc3 x0 x1 x2 x3 x4 xs0 xs1 xs2 (ix2 r (⟨128 * p + l, by omega⟩ : Fin 512)) = Ideal.div (accNew x0 x3 x4 xs0 xs2 p r l) (Scalar.select (low l) (lNew x0 x3 xs0 xs1 (evn p) r l) (lNew x0 x3 xs0 xs1 (odd p) r l)) := by
  frame_out
  simp (disch := first | rfl | decide) only [↓View.readCov_skip, View.readCov_cons_toLoadRect]
  canon_tiles z e
  case piece0 =>
    idx_vars z
    obtain rfl : r = z0 := Fin.ext e0
    have e1' : 128 * (p : ℕ) + l = _ := e1
    obtain rfl : l = z1 := Fin.ext (by omega)
    obtain rfl : p = 3 := Fin.ext (by show (p : ℕ) = _; omega)
    clear e1 e1'
    open_payloads
    pointwise [evn, odd, accNew, pv, lNew, wt, alpha, mNew, sc, low, k0_pay4]
    simp only [Scalar.select]
    blk_point []
    all_goals rfl
  case piece1 =>
    idx_vars z
    obtain rfl : r = z0 := Fin.ext e0
    have e1' : 128 * (p : ℕ) + l = _ := e1
    obtain rfl : l = z1 := Fin.ext (by omega)
    obtain rfl : p = 2 := Fin.ext (by show (p : ℕ) = _; omega)
    clear e1 e1'
    open_payloads
    pointwise [evn, odd, accNew, pv, lNew, wt, alpha, mNew, sc, low, k0_pay4]
    simp only [Scalar.select]
    blk_point []
    all_goals rfl
  case piece2 =>
    idx_vars z
    obtain rfl : r = z0 := Fin.ext e0
    have e1' : 128 * (p : ℕ) + l = _ := e1
    obtain rfl : l = z1 := Fin.ext (by omega)
    obtain rfl : p = 1 := Fin.ext (by show (p : ℕ) = _; omega)
    clear e1 e1'
    open_payloads
    pointwise [evn, odd, accNew, pv, lNew, wt, alpha, mNew, sc, low, k0_pay4]
    simp only [Scalar.select]
    blk_point []
    all_goals rfl
  case piece3 =>
    idx_vars z
    obtain rfl : r = z0 := Fin.ext e0
    have e1' : 128 * (p : ℕ) + l = _ := e1
    obtain rfl : l = z1 := Fin.ext (by omega)
    obtain rfl : p = 0 := Fin.ext (by show (p : ℕ) = _; omega)
    clear e1 e1'
    open_payloads
    pointwise [evn, odd, accNew, pv, lNew, wt, alpha, mNew, sc, low, k0_pay4]
    simp only [Scalar.select]
    blk_point []
    all_goals rfl

end Cert.KernelIdeal.Attn

end
-- ==== Proof.OnlineSoftmax.lean ====
module

public import Idealize.ShloMosaic.Lib.Pointwise

@[expose] public section

open Idealize.ShloMosaic

noncomputable section

namespace Attention

variable {w : ℕ}

/-- the largest score of the first `j` blocks -/
def mx (S : ℕ → Fin w → EReal) (j : ℕ) : EReal := (Finset.range j).sup fun i => Finset.univ.sup fun k => S i k

/-- the sum of the weights of the first `j` blocks, each weight against their largest score -/
def lx (S : ℕ → Fin w → EReal) (j : ℕ) : EReal := ∑ i ∈ Finset.range j, ∑ k, Ideal.exp (S i k - mx S j)

/-- the weighted values of the first `j` blocks -/
def ax (S V : ℕ → Fin w → EReal) (j : ℕ) : EReal := ∑ i ∈ Finset.range j, ∑ k, Ideal.exp (S i k - mx S j) * V i k

/-- a fold of maxima from minus infinity is a supremum -/
theorem fold_max_bot {ι : Type*} (s : Finset ι) (f : ι → EReal) : s.fold max ⊥ f = s.sup f := rfl

theorem mx_zero (S : ℕ → Fin w → EReal) : mx S 0 = ⊥ := rfl
theorem lx_zero (S : ℕ → Fin w → EReal) : lx S 0 = 0 := rfl
theorem ax_zero (S V : ℕ → Fin w → EReal) : ax S V 0 = 0 := rfl

/-- one more block: the running maximum -/
theorem mx_succ (S : ℕ → Fin w → EReal) (j : ℕ) : mx S (j + 1) = max (mx S j) (Finset.univ.sup fun k => S j k) := by
  unfold mx
  rw [Finset.range_add_one, Finset.sup_insert, max_comm]

/-- a supremum of real numbers over a nonempty set is one of them -/
theorem sup_real {ι : Type*} (s : Finset ι) (hs : s.Nonempty) (f : ι → EReal) (hf : ∀ i ∈ s, ∃ r : ℝ, f i = r) : ∃ r : ℝ, s.sup f = r := by
  obtain ⟨i, hi, he⟩ := Finset.exists_mem_eq_sup s hs f
  rw [he]
  exact hf i hi

/-- after one block at least the running maximum is a real number -/
theorem mx_real [NeZero w] (S : ℕ → Fin w → EReal) (n j : ℕ) (hj : 0 < j) (hn : j ≤ n) (hS : ∀ i < n, ∀ k, ∃ r : ℝ, S i k = r) :
    ∃ r : ℝ, mx S j = r := by
  refine sup_real _ ⟨0, Finset.mem_range.mpr hj⟩ _ fun i hi => ?_
  exact sup_real _ ⟨0, Finset.mem_univ _⟩ _ fun k _ => hS i (lt_of_lt_of_le (Finset.mem_range.mp hi) hn) k

/-- a nonnegative real factor goes under a sum, whatever its terms are -/
theorem mul_sum_real {ι : Type*} (s : Finset ι) (f : ι → EReal) (c : ℝ) (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- the same with the factor on the right -/
theorem sum_mul_real {ι : Type*} (s : Finset ι) (f : ι → EReal) (c : ℝ) (hc : 0 ≤ c) : (∑ i ∈ s, f i) * (c : EReal) = ∑ i ∈ s, f i * (c : EReal) := by
  rw [mul_comm, mul_sum_real s f c hc]
  exact Finset.sum_congr rfl fun i _ => mul_comm _ _

/-- changing the maximum a weight is taken against -/
theorem exp_shift (a b s : ℝ) : Ideal.exp ((a : EReal) - b) * Ideal.exp ((s : EReal) - a) = Ideal.exp ((s : EReal) - b) := by
  rw [← EReal.coe_sub, ← EReal.coe_sub, ← EReal.coe_sub, Ideal.exp_coe, Ideal.exp_coe, Ideal.exp_coe, ← EReal.coe_mul, ← Real.exp_add]
  congr 2
  ring

/-- one more block: the running sum of weights -/
theorem lx_succ [NeZero w] (S : ℕ → Fin w → EReal) (n j : ℕ) (hn : j < n) (hS : ∀ i < n, ∀ k, ∃ r : ℝ, S i k = r) :
    lx S (j + 1) = Ideal.exp (mx S j - mx S (j + 1)) * lx S j + ∑ k, Ideal.exp (S j k - mx S (j + 1)) := by
  rcases Nat.eq_zero_or_pos j with rfl | hj
  · rw [lx_zero, mul_zero, zero_add, zero_add]
    unfold lx
    rw [Finset.sum_range_one]
  · obtain ⟨a, ha⟩ := mx_real S n j hj hn.le hS
    obtain ⟨b, hb⟩ := mx_real S n (j + 1) (Nat.succ_pos j) hn hS
    unfold lx
    rw [Finset.sum_range_succ, ha, hb, ← EReal.coe_sub, Ideal.exp_coe, mul_sum_real _ _ _ (Real.exp_pos _).le]
    congr 1
    refine Finset.sum_congr rfl fun i hi => ?_
    rw [mul_sum_real _ _ _ (Real.exp_pos _).le]
    refine Finset.sum_congr rfl fun k _ => ?_
    obtain ⟨s, hs⟩ := hS i ((Finset.mem_range.mp hi).trans hn) k
    rw [hs, ← exp_shift a b s, ← EReal.coe_sub a b, Ideal.exp_coe]

/-- one more block: the running weighted values -/
theorem ax_succ [NeZero w] (S V : ℕ → Fin w → EReal) (n j : ℕ) (hn : j < n) (hS : ∀ i < n, ∀ k, ∃ r : ℝ, S i k = r) :
    ax S V (j + 1) = ax S V j * Ideal.exp (mx S j - mx S (j + 1)) + ∑ k, Ideal.exp (S j k - mx S (j + 1)) * V j k := by
  rcases Nat.eq_zero_or_pos j with rfl | hj
  · rw [ax_zero, zero_mul, zero_add, zero_add]
    unfold ax
    rw [Finset.sum_range_one]
  · obtain ⟨a, ha⟩ := mx_real S n j hj hn.le hS
    obtain ⟨b, hb⟩ := mx_real S n (j + 1) (Nat.succ_pos j) hn hS
    unfold ax
    rw [Finset.sum_range_succ, ha, hb, ← EReal.coe_sub, Ideal.exp_coe, sum_mul_real _ _ _ (Real.exp_pos _).le]
    congr 1
    refine Finset.sum_congr rfl fun i hi => ?_
    rw [sum_mul_real _ _ _ (Real.exp_pos _).le]
    refine Finset.sum_congr rfl fun k _ => ?_
    obtain ⟨s, hs⟩ := hS i ((Finset.mem_range.mp hi).trans hn) k
    rw [hs, ← exp_shift a b s, ← EReal.coe_sub a b, Ideal.exp_coe]
    ac_rfl

/-- a sum of real numbers is a real number -/
theorem sum_real {ι : Type*} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    obtain ⟨x, hx⟩ := hf a (Finset.mem_insert_self _ _)
    obtain ⟨y, hy⟩ := ih fun i hi => hf i (Finset.mem_insert_of_mem hi)
    exact ⟨x + y, by rw [Finset.sum_insert ha, hx, hy, EReal.coe_add]⟩

/-- a sum of positive real numbers over a nonempty set is a positive real number -/
theorem sum_pos_real {ι : Type*} (s : Finset ι) (hs : s.Nonempty) (f : ι → EReal) (hf : ∀ i ∈ s, ∃ r : ℝ, 0 < r ∧ f i = r) :
    ∃ r : ℝ, 0 < r ∧ ∑ i ∈ s, f i = r := by
  classical
  induction hs using Finset.Nonempty.cons_induction with
  | singleton a => rw [Finset.sum_singleton]; exact hf a (Finset.mem_singleton_self a)
  | cons a s ha _ ih =>
    obtain ⟨x, px, hx⟩ := hf a (Finset.mem_cons_self a s)
    obtain ⟨y, py, hy⟩ := ih fun i hi => hf i (Finset.mem_cons_of_mem hi)
    exact ⟨x + y, add_pos px py, by rw [Finset.sum_cons, hx, hy, EReal.coe_add]⟩

/-- the sum of weights is a positive real number -/
theorem lx_pos [NeZero w] (S : ℕ → Fin w → EReal) (j : ℕ) (hj : 0 < j) (hS : ∀ i < j, ∀ k, ∃ r : ℝ, S i k = r) :
    ∃ r : ℝ, 0 < r ∧ lx S j = r := by
  obtain ⟨a, ha⟩ := mx_real S j j hj le_rfl hS
  refine sum_pos_real _ ⟨0, Finset.mem_range.mpr hj⟩ _ fun i hi => ?_
  refine sum_pos_real _ ⟨0, Finset.mem_univ _⟩ _ fun k _ => ?_
  obtain ⟨s, hs⟩ := hS i (Finset.mem_range.mp hi) k
  exact ⟨Real.exp (s - a), Real.exp_pos _, by rw [hs, ha, ← EReal.coe_sub, Ideal.exp_coe]⟩

/-- dividing the weighted values by the sum of weights weighs with the divided weights -/
theorem ax_div [NeZero w] (S V : ℕ → Fin w → EReal) (j : ℕ) (hj : 0 < j) (hS : ∀ i < j, ∀ k, ∃ r : ℝ, S i k = r) :
    Ideal.div (ax S V j) (lx S j) = ∑ i ∈ Finset.range j, ∑ k, Ideal.div (Ideal.exp (S i k - mx S j)) (lx S j) * V i k := by
  obtain ⟨r, hr, h⟩ := lx_pos S j hj hS
  rw [h, Ideal.div_coe hr.ne']
  unfold ax
  rw [sum_mul_real _ _ _ (one_div_pos.mpr hr).le]
  refine Finset.sum_congr rfl fun i _ => ?_
  rw [sum_mul_real _ _ _ (one_div_pos.mpr hr).le]
  refine Finset.sum_congr rfl fun k _ => ?_
  rw [Ideal.div_coe hr.ne', mul_assoc, mul_comm (V i k), mul_assoc]

/-- a row of `N` blocks of `w` numbers, by block and place in the block -/
def cut {M : ℕ} (N : ℕ) (hM : M = N * w) (f : Fin M → EReal) (i : ℕ) (k : Fin w) : EReal :=
  if hi : i < N then f ⟨w * i + k, by
    have := k.isLt
    calc w * i + k < w * i + w := by omega
      _ = w * (i + 1) := by ring
      _ ≤ w * N := Nat.mul_le_mul_left _ hi
      _ = M := by rw [hM, mul_comm]⟩ else 0

/-- the index of a place in a block -/
theorem cut_eq {M : ℕ} (N : ℕ) (hM : M = N * w) (f : Fin M → EReal) (i : ℕ) (hi : i < N) (k : Fin w) (J : Fin M) (hJ : (J : ℕ) = w * i + k) :
    cut N hM f i k = f J := by
  unfold cut
  rw [dif_pos hi]
  exact congrArg f (Fin.ext hJ.symm)

/-- a sum over a row is the sum over its blocks -/
theorem sum_cut {M : ℕ} (N : ℕ) (hM : M = N * w) (f : Fin M → EReal) : ∑ J, f J = ∑ i ∈ Finset.range N, ∑ k, cut N hM f i k := by
  subst hM
  rw [Finset.sum_range, ← Fintype.sum_prod_type', ← finProdFinEquiv.sum_comp]
  refine Finset.sum_congr rfl fun x _ => ?_
  exact (cut_eq N rfl f x.1 x.1.isLt x.2 _ (by simp [finProdFinEquiv, add_comm])).symm

/-- the largest number of a row is the largest of its blocks -/
theorem sup_cut {M : ℕ} (N : ℕ) (hM : M = N * w) (f : Fin M → EReal) : (Finset.univ.sup fun J => f J) = mx (cut N hM f) N := by
  unfold mx
  apply le_antisymm
  · refine Finset.sup_le fun J _ => ?_
    have hw : 0 < w := by
      rcases Nat.eq_zero_or_pos w with h | h
      · exact absurd (lt_of_lt_of_eq J.isLt (by rw [hM, h, mul_zero])) (Nat.not_lt_zero _)
      · exact h
    have hJ : (J : ℕ) / w < N := Nat.div_lt_of_lt_mul (lt_of_lt_of_eq J.isLt (by rw [hM, mul_comm]))
    rw [← cut_eq N hM f (J / w) hJ ⟨J % w, Nat.mod_lt _ hw⟩ J (Nat.div_add_mod _ _).symm]
    exact (Finset.le_sup (f := fun k => cut N hM f (J / w) k) (Finset.mem_univ _)).trans
      (Finset.le_sup (f := fun i => Finset.univ.sup fun k => cut N hM f i k) (Finset.mem_range.mpr hJ))
  · refine Finset.sup_le fun i hi => Finset.sup_le fun k _ => ?_
    unfold cut
    rw [dif_pos (Finset.mem_range.mp hi)]
    exact Finset.le_sup (f := fun J => f J) (Finset.mem_univ _)

/-- the softmax of a row of real scores, weighing values, computed block after block -/
theorem softmax_cut [NeZero w] {M : ℕ} (N : ℕ) (hN : 0 < N) (hM : M = N * w) (s v : Fin M → EReal) (hs : ∀ J, ∃ r : ℝ, s J = r) :
    ∑ J, Ideal.div (Ideal.exp (s J - Finset.univ.sup fun J => s J)) (∑ J, Ideal.exp (s J - Finset.univ.sup fun J => s J)) * v J
      = Ideal.div (ax (cut N hM s) (cut N hM v) N) (lx (cut N hM s) N) := by
  have hS : ∀ i < N, ∀ k, ∃ r : ℝ, cut N hM s i k = r := fun i hi k => by
    unfold cut
    rw [dif_pos hi]
    exact hs _
  have hl : ∑ J, Ideal.exp (s J - Finset.univ.sup fun J => s J) = lx (cut N hM s) N := by
    rw [sum_cut N hM]
    unfold lx
    refine Finset.sum_congr rfl fun i hi => Finset.sum_congr rfl fun k _ => ?_
    rw [sup_cut N hM]
    unfold cut
    simp only [dif_pos (Finset.mem_range.mp hi)]
  rw [ax_div _ _ N hN hS, hl, sum_cut N hM]
  refine Finset.sum_congr rfl fun i hi => Finset.sum_congr rfl fun k _ => ?_
  rw [sup_cut N hM]
  unfold cut
  simp only [dif_pos (Finset.mem_range.mp hi)]

end Attention

end
-- ==== Proof.Sweep.lean ====
module

public import proofs.«01_k».proof.Proof.BlockA0
public import proofs.«01_k».proof.Proof.BlockA1
public import proofs.«01_k».proof.Proof.BlockA2
public import proofs.«01_k».proof.Proof.BlockB0
public import proofs.«01_k».proof.Proof.BlockB1
public import proofs.«01_k».proof.Proof.BlockB2
public import proofs.«01_k».proof.Proof.BlockC
public import proofs.«01_k».proof.Proof.OnlineSoftmax

@[expose] public section

set_option maxRecDepth 16384

noncomputable section

namespace Cert.KernelIdeal.Attn

open Cert.KernelIdeal Cert.KernelIdeal.Gen Idealize.ShloMosaic Idealize.ShloMosaic.TcCoe Idealize.SL.Sem
open Attention

/-- the word the maxima start from is minus infinity -/
theorem bot_word : Ideal.ofBits .f32 0xFF800000#32 = ⊥ := by simp [Ideal.ofBits, Ideal.ieee]

/-- the head whose values lie in a lane of a pair of heads -/
def laneHead (p : Fin 4) (l : Fin 128) : Fin 8 := if (l : ℕ) < 64 then evn p else odd p

/-- the test for the low lanes, as a comparison of numbers -/
theorem low_eq : ∀ l : Fin 128, low l = BitVec.ofBool (decide ((l : ℕ) < 64)) := by
  unfold low
  decide

section Step

variable (Q K W : FVec Ideal S512x1024 .bf16) (mp lp : FVec Ideal S8x512x128 .f32) (ap : FVec Ideal S4x512x128 .f32)
variable (S : Fin 8 → Fin 512 → ℕ → Fin 512 → EReal) (V : Fin 8 → Fin 128 → ℕ → Fin 512 → EReal) (n j : ℕ)

/-- one block takes the maxima of `j` blocks to those of `j + 1` -/
theorem step_m (hs : ∀ h r k, sc Q K h r k = S h r j k) (hm : ∀ h r l, mp (ix3 h r l) = mx (S h r) j) (h : Fin 8) (r : Fin 512) (l : Fin 128) :
    mNew Q K mp h r l = mx (S h r) (j + 1) := by
  unfold mNew
  rw [mx_succ, hm, bot_word, fold_max_bot]
  simp only [hs]

/-- one block takes the sums of weights of `j` blocks to those of `j + 1` -/
theorem step_l (hn : j < n) (hS : ∀ h r, ∀ i < n, ∀ k, ∃ x : ℝ, S h r i k = x) (hs : ∀ h r k, sc Q K h r k = S h r j k)
    (hm : ∀ h r l, mp (ix3 h r l) = mx (S h r) j) (hl : ∀ h r l, lp (ix3 h r l) = lx (S h r) j) (h : Fin 8) (r : Fin 512) (l : Fin 128) :
    lNew Q K mp lp h r l = lx (S h r) (j + 1) := by
  unfold lNew alpha wt
  simp only [step_m Q K mp S j hs hm]
  rw [lx_succ (S h r) n j hn (hS h r), hm, hl]
  simp only [hs]

/-- the weighted values one block adds for a head -/
theorem step_pv (hs : ∀ h r k, sc Q K h r k = S h r j k) (hv : ∀ (h : Fin 8) (l : Fin 128) k, W (ix2 k (⟨128 * h + l, by omega⟩ : Fin 1024)) = V h l j k)
    (hm : ∀ h r l, mp (ix3 h r l) = mx (S h r) j) (h : Fin 8) (r : Fin 512) (l : Fin 128) :
    pv Q K W mp h r l = ∑ k, Ideal.exp (S h r j k - mx (S h r) (j + 1)) * V h l j k := by
  unfold pv wt
  simp only [step_m Q K mp S j hs hm, hv, hs]

/-- one block takes the weighted values of `j` blocks to those of `j + 1` -/
theorem step_a (hn : j < n) (hS : ∀ h r, ∀ i < n, ∀ k, ∃ x : ℝ, S h r i k = x) (hs : ∀ h r k, sc Q K h r k = S h r j k)
    (hv : ∀ (h : Fin 8) (l : Fin 128) k, W (ix2 k (⟨128 * h + l, by omega⟩ : Fin 1024)) = V h l j k)
    (h0 : ∀ (h : Fin 8) (l : Fin 128) k, ¬(l : ℕ) / 64 = (h : ℕ) % 2 → V h l j k = 0)
    (hm : ∀ h r l, mp (ix3 h r l) = mx (S h r) j) (ha : ∀ p r l, ap (ix3 p r l) = ax (S (laneHead p l) r) (V (laneHead p l) l) j)
    (p : Fin 4) (r : Fin 512) (l : Fin 128) :
    accNew Q K W mp ap p r l = ax (S (laneHead p l) r) (V (laneHead p l) l) (j + 1) := by
  unfold accNew
  rw [step_pv Q K W mp S V j hs hv hm, step_pv Q K W mp S V j hs hv hm, ha, low_eq, Scalar.select_ofBool]
  rw [ax_succ (S (laneHead p l) r) (V (laneHead p l) l) n j hn (hS _ _)]
  unfold alpha laneHead
  simp only [step_m Q K mp S j hs hm, hm]
  by_cases hl : (l : ℕ) < 64
  · simp only [hl, decide_true, if_true]
    simp only [h0 (odd p) l _ (by show ¬(l : ℕ) / 64 = (2 * (p : ℕ) + 1) % 2; omega), mul_zero, Finset.sum_const_zero, add_zero]
  · simp only [hl, decide_false, if_false, Bool.false_eq_true]
    simp only [h0 (evn p) l _ (by show ¬(l : ℕ) / 64 = (2 * (p : ℕ)) % 2; omega), mul_zero, Finset.sum_const_zero, add_zero]

end Step

/-- what the three scratch arrays hold after `j` blocks -/
def Inv (s0 s1 : FVec Ideal S8x512x128 .f32) (s2 : FVec Ideal S4x512x128 .f32)
    (S : Fin 8 → Fin 512 → ℕ → Fin 512 → EReal) (V : Fin 8 → Fin 128 → ℕ → Fin 512 → EReal) (j : ℕ) : Prop :=
  (∀ h r l, s0 (ix3 h r l) = mx (S h r) j) ∧ (∀ h r l, s1 (ix3 h r l) = lx (S h r) j)
    ∧ ∀ p r l, s2 (ix3 p r l) = ax (S (laneHead p l) r) (V (laneHead p l) l) j

variable (m : (ℓ : Loc nD τ sig) → Buf (Elt Ideal) ℓ)

/-- the scores a point computes, from the blocks it reads -/
def ptScore (c : Dev nD) (t : Fin cfg0.N) (h : Fin 8) (r k : Fin 512) : EReal :=
  if t.val % 9 ≤ 7 then sc (iblk m c 0 t) (iblk m c 1 t) h r k else sc (iblk m c 0 t) (iblk m c 3 t) h r k

/-- the values a point weighs -/
def ptVal (c : Dev nD) (t : Fin cfg0.N) (h : Fin 8) (l : Fin 128) (k : Fin 512) : EReal :=
  if t.val % 9 ≤ 7 then (iblk m c 2 t : FVec Ideal S512x1024 .bf16) (ix2 k (⟨128 * h + l, by omega⟩ : Fin 1024))
  else (iblk m c 4 t : FVec Ideal S512x1024 .bf16) (ix2 k (⟨128 * h + l, by omega⟩ : Fin 1024))

section Run

variable (c : Dev nD) (n : ℕ) (S : Fin 8 → Fin 512 → ℕ → Fin 512 → EReal) (V : Fin 8 → Fin 128 → ℕ → Fin 512 → EReal)

/-- after each point of a run but the last the scratch holds the running maxima, sums and weighted values -/
theorem sweep (hS : ∀ h r, ∀ i < 9, ∀ k, ∃ x : ℝ, S h r i k = x)
    (hs : ∀ j (hj : 9 * n + j < cfg0.N), j < 9 → ∀ h r k, ptScore m c ⟨9 * n + j, hj⟩ h r k = S h r j k)
    (hv : ∀ j (hj : 9 * n + j < cfg0.N), j < 9 → ∀ h l k, ptVal m c ⟨9 * n + j, hj⟩ h l k = V h l j k)
    (h0 : ∀ (h : Fin 8) (l : Fin 128) j, j < 9 → ∀ k, ¬(l : ℕ) / 64 = (h : ℕ) % 2 → V h l j k = 0) :
    ∀ j (hj : 9 * n + j < cfg0.N), j < 8 →
      Inv (outsAt0 m c (9 * n + j) hj).2.1 (outsAt0 m c (9 * n + j) hj).2.2.1 (outsAt0 m c (9 * n + j) hj).2.2.2 S V (j + 1) := by
  intro j
  induction j with
  | zero =>
    intro hj _
    have hs' : ∀ h r k, sc (iblk m c 0 ⟨9 * n + 0, hj⟩) (iblk m c 1 ⟨9 * n + 0, hj⟩) h r k = S h r 0 k := fun h r k =>
      (if_pos (by show (9 * n + 0) % 9 ≤ 7; omega)).symm.trans (hs 0 hj (by omega) h r k)
    have hv' : ∀ (h : Fin 8) (l : Fin 128) k, (iblk m c 2 ⟨9 * n + 0, hj⟩ : FVec Ideal S512x1024 .bf16) (ix2 k (⟨128 * h + l, by omega⟩ : Fin 1024)) = V h l 0 k := fun h l k =>
      (if_pos (by show (9 * n + 0) % 9 ≤ 7; omega)).symm.trans (hv 0 hj (by omega) h l k)
    have hb : ∀ (h : Fin 8) (r : Fin 512) (l : Fin 128), (fun _ => Ideal.ofBits .f32 0xFF800000#32 : FVec Ideal S8x512x128 .f32) (ix3 h r l) = mx (S h r) 0 := fun h r l => bot_word
    have e := outsAt0_A m c ⟨9 * n + 0, hj⟩ (by show (9 * n + 0) % 9 = 0; omega) (by show (9 * n + 0) % 9 ≤ 7; omega)
      (by show ¬(9 * n + 0) % 9 = 8; omega) (by show ¬(9 * n + 0) % 9 = 8; omega)
    dsimp only at e
    rw [e]
    refine ⟨fun h r l => ?_, fun h r l => ?_, fun p r l => ?_⟩
    · dsimp only
      rw [A0]
      exact step_m _ _ _ S 0 hs' hb h r l
    · dsimp only
      rw [A1]
      exact step_l _ _ _ _ S 9 0 (by omega) hS hs' hb (fun _ _ _ => rfl) h r l
    · dsimp only
      rw [A2]
      exact step_a _ _ _ _ _ S V 9 0 (by omega) hS hs' hv' (fun h l k => h0 h l 0 (by omega) k) hb (fun _ _ _ => rfl) p r l
  | succ j ih =>
    intro hj hj8
    obtain ⟨i0, i1, i2⟩ := ih (by omega) (by omega)
    have hs' : ∀ h r k, sc (iblk m c 0 ⟨9 * n + (j + 1), hj⟩) (iblk m c 1 ⟨9 * n + (j + 1), hj⟩) h r k = S h r (j + 1) k := fun h r k =>
      (if_pos (by show (9 * n + (j + 1)) % 9 ≤ 7; omega)).symm.trans (hs (j + 1) hj (by omega) h r k)
    have hv' : ∀ (h : Fin 8) (l : Fin 128) k, (iblk m c 2 ⟨9 * n + (j + 1), hj⟩ : FVec Ideal S512x1024 .bf16) (ix2 k (⟨128 * h + l, by omega⟩ : Fin 1024)) = V h l (j + 1) k := fun h l k =>
      (if_pos (by show (9 * n + (j + 1)) % 9 ≤ 7; omega)).symm.trans (hv (j + 1) hj (by omega) h l k)
    have e := outsAt0_B m c ⟨9 * n + (j + 1), hj⟩ (by show ¬(9 * n + (j + 1)) % 9 = 0; omega) (by show (9 * n + (j + 1)) % 9 ≤ 7; omega)
      (by show ¬(9 * n + (j + 1)) % 9 = 8; omega) (by show ¬(9 * n + (j + 1)) % 9 = 8; omega)
    dsimp only at e
    rw [e]
    refine ⟨fun h r l => ?_, fun h r l => ?_, fun p r l => ?_⟩
    · dsimp only
      rw [B0]
      exact step_m _ _ _ S (j + 1) hs' i0 h r l
    · dsimp only
      rw [B1]
      exact step_l _ _ _ _ S 9 (j + 1) (by omega) hS hs' i0 i1 h r l
    · dsimp only
      rw [B2]
      exact step_a _ _ _ _ _ S V 9 (j + 1) (by omega) hS hs' hv' (fun h l k => h0 h l (j + 1) (by omega) k) i0 i2 p r l

/-- the last point of a run stores the weighted values over the sums of weights -/
theorem stored (hS : ∀ h r, ∀ i < 9, ∀ k, ∃ x : ℝ, S h r i k = x)
    (hs : ∀ j (hj : 9 * n + j < cfg0.N), j < 9 → ∀ h r k, ptScore m c ⟨9 * n + j, hj⟩ h r k = S h r j k)
    (hv : ∀ j (hj : 9 * n + j < cfg0.N), j < 9 → ∀ h l k, ptVal m c ⟨9 * n + j, hj⟩ h l k = V h l j k)
    (h0 : ∀ (h : Fin 8) (l : Fin 128) j, j < 9 → ∀ k, ¬(l : ℕ) / 64 = (h : ℕ) % 2 → V h l j k = 0)
    (hj : 9 * n + 8 < cfg0.N) (p : Fin 4) (r : Fin 512) (l : Fin 128) :
    ((outsAt0 m c (9 * n + 8) hj).1 : FVec Ideal S512x512 .bf16) (ix2 r (⟨128 * p + l, by omega⟩ : Fin 512))
      = Ideal.div (ax (S (laneHead p l) r) (V (laneHead p l) l) 9) (lx (S (laneHead p l) r) 9) := by
  obtain ⟨i0, i1, i2⟩ := sweep m c n S V hS hs hv h0 7 (by omega) (by omega)
  have hs' : ∀ h r k, sc (iblk m c 0 ⟨9 * n + 8, hj⟩) (iblk m c 3 ⟨9 * n + 8, hj⟩) h r k = S h r 8 k := fun h r k =>
    (if_neg (by show ¬(9 * n + 8) % 9 ≤ 7; omega)).symm.trans (hs 8 hj (by omega) h r k)
  have hv' : ∀ (h : Fin 8) (l : Fin 128) k, (iblk m c 4 ⟨9 * n + 8, hj⟩ : FVec Ideal S512x1024 .bf16) (ix2 k (⟨128 * h + l, by omega⟩ : Fin 1024)) = V h l 8 k := fun h l k =>
    (if_neg (by show ¬(9 * n + 8) % 9 ≤ 7; omega)).symm.trans (hv 8 hj (by omega) h l k)
  have e := outsAt0_C m c ⟨9 * n + 8, hj⟩ (by show ¬(9 * n + 8) % 9 = 0; omega) (by show ¬(9 * n + 8) % 9 ≤ 7; omega)
    (by show (9 * n + 8) % 9 = 8; omega) (by show (9 * n + 8) % 9 = 8; omega)
  dsimp only at e
  rw [e]
  dsimp only
  rw [C5]
  have e1 := step_l _ _ _ _ S 9 8 (by omega) hS hs' i0 i1
  have e2 := step_a _ _ _ _ _ S V 9 8 (by omega) hS hs' hv' (fun h l k => h0 h l 8 (by omega) k) i0 i2
  rw [low_eq, Scalar.select_ofBool]
  refine congrArg₂ Ideal.div (e2 p r l) ?_
  unfold laneHead
  by_cases hl : (l : ℕ) < 64
  · simp only [hl, decide_true, if_true]
    exact e1 _ _ _
  · simp only [hl, decide_false, if_false, Bool.false_eq_true]
    exact e1 _ _ _

end Run

end Cert.KernelIdeal.Attn

end
-- ==== Proof.Ref.lean ====
module

public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen Cert.ReferenceIdeal.Facts Idealize.ShloMosaic

/-- the scaled scores of every query against every key, new and cached -/
def scores (q k : FVec Ideal S8x4096x8x96 .f32) (kc : FVec Ideal S8x512x8x96 .f32) : FVec Ideal S8x8x4096x4608 .f32 :=
  mulf (Host.dotGeneral dot_S8x4096x8x96_S8x4608x8x96_S8x8x4096x4608_3_3_1_1_02_02 none q (concatenate S8x4608x8x96 1 [⟨S8x4096x8x96, k⟩, ⟨S8x512x8x96, kc⟩] concatenates_S8x4096x8x96_S8x512x8x96_S8x4608x8x96_d1)) (broadcastInDim S8x8x4096x4608 ![] bcast_S_S8x8x4096x4608 (constant S_ .f32 0x3DD105EC#32))

/-- the largest score of a query -/
def largest (q k : FVec Ideal S8x4096x8x96 .f32) (kc : FVec Ideal S8x512x8x96 .f32) : FVec Ideal S8x8x4096 .f32 :=
  maximumf (broadcastInDim S8x8x4096 ![] bcast_S_S8x8x4096 (constant S_ .f32 0xFF800000#32)) (Host.reduce FloatOps.maximumf (scores q k kc) (constant S_ .f32 0xFF800000#32) reducesTo_S8x8x4096x4608_S8x8x4096_d3 h_S_)

/-- the exponentials of the scores less the largest one -/
def weights (q k : FVec Ideal S8x4096x8x96 .f32) (kc : FVec Ideal S8x512x8x96 .f32) : FVec Ideal S8x8x4096x4608 .f32 :=
  Host.exp (subf (scores q k kc) (broadcastInDim S8x8x4096x4608 ![0, 1, 2, 3] bcast_S8x8x4096x1_S8x8x4096x4608_0_1_2_3 (broadcastInDim S8x8x4096x1 ![0, 1, 2] bcast_S8x8x4096_S8x8x4096x1_0_1_2 (largest q k kc))))

/-- the sum of a query's exponentials -/
def total (q k : FVec Ideal S8x4096x8x96 .f32) (kc : FVec Ideal S8x512x8x96 .f32) : FVec Ideal S8x8x4096 .f32 :=
  Host.reduceAdd (weights q k kc) (constant S_ .f32 0x00000000#32) reducesTo_S8x8x4096x4608_S8x8x4096_d3 h_S_

/-- the softmax of the scores -/
def shares (q k : FVec Ideal S8x4096x8x96 .f32) (kc : FVec Ideal S8x512x8x96 .f32) : FVec Ideal S8x8x4096x4608 .f32 :=
  Host.divf (weights q k kc) (broadcastInDim S8x8x4096x4608 ![0, 1, 2, 3] bcast_S8x8x4096x1_S8x8x4096x4608_0_1_2_3 (broadcastInDim S8x8x4096x1 ![0, 1, 2] bcast_S8x8x4096_S8x8x4096x1_0_1_2 (total q k kc)))

/-- the reference's result -/
def REF (q k : FVec Ideal S8x4096x8x96 .f32) (kc : FVec Ideal S8x512x8x96 .f32) (v : FVec Ideal S8x4096x8x64 .f32) (vc : FVec Ideal S8x512x8x64 .f32) : FVec Ideal S32768x512 .bf16 :=
  truncf .bf16 (shapeCast S32768x512 (transpose S8x4096x8x64 [0, 3, 1, 2] (Host.dotGeneral dot_S8x4608x8x64_S8x8x4096x4608_S8x8x64x4096_1_3_3_2_02_01 none (concatenate S8x4608x8x64 1 [⟨S8x4096x8x64, v⟩, ⟨S8x512x8x64, vc⟩] concatenates_S8x4096x8x64_S8x512x8x64_S8x4608x8x64_d1) (shares q k kc)) transposes_S8x8x64x4096_S8x4096x8x64_0_3_1_2) shapeCasts_S8x4096x8x64_S32768x512) bitsLt_bf16_f32

section At

variable (q k : FVec Ideal S8x4096x8x96 .f32) (kc : FVec Ideal S8x512x8x96 .f32) (v : FVec Ideal S8x4096x8x64 .f32) (vc : FVec Ideal S8x512x8x64 .f32)

/-- a key read in the new tokens or the cached ones -/
def keyAt (k : FVec Ideal S8x4096x8x96 .f32) (kc : FVec Ideal S8x512x8x96 .f32) (b h : Fin 8) (j : Fin 4608) (d : Fin 96) : EReal :=
  if hj : (j : ℕ) < 4096 then k (ix4 b (⟨j, hj⟩ : Fin 4096) h d) else kc (ix4 b (⟨j - 4096, by omega⟩ : Fin 512) h d)

/-- a value read in the new tokens or the cached ones -/
def valAt (v : FVec Ideal S8x4096x8x64 .f32) (vc : FVec Ideal S8x512x8x64 .f32) (b h : Fin 8) (j : Fin 4608) (d : Fin 64) : EReal :=
  if hj : (j : ℕ) < 4096 then v (ix4 b (⟨j, hj⟩ : Fin 4096) h d) else vc (ix4 b (⟨j - 4096, by omega⟩ : Fin 512) h d)

/-- a score is the sum of the products of a query's and a key's numbers, scaled -/
theorem scores_at (b h : Fin 8) (i : Fin 4096) (j : Fin 4608) :
    scores q k kc (ix4 b h i j) = (∑ d : Fin 96, q (ix4 b i h d) * keyAt k kc b h j d) * Ideal.ofBits .f32 0x3DD105EC#32 := by
  pointwise [scores, keyAt]

/-- the word the maxima start from is minus infinity -/
theorem bot_word : Ideal.ofBits .f32 0xFF800000#32 = ⊥ := by simp [Ideal.ofBits, Ideal.ieee]

/-- the maximum with an array full of minus infinity is the other operand -/
theorem max_bot_at (R : FVec Ideal S8x8x4096 .f32) (b h : Fin 8) (i : Fin 4096) :
    maximumf (broadcastInDim S8x8x4096 ![] bcast_S_S8x8x4096 (constant S_ .f32 0xFF800000#32)) R (ix3 b h i) = R (ix3 b h i) := by
  pointwise []
  rw [bot_word]
  exact bot_sup_eq _

/-- the reduction over the keys drops the last axis -/
theorem reduces_last : S8x8x4096x4608.Reduces [3] S8x8x4096 := by decide

/-- the index a reduction over the keys reads -/
theorem lift_last (b h : Fin 8) (i : Fin 4096) (j : Fin 4608) : reduces_last.lift (ix3 b h i) j = ix4 b h i j := by
  funext a
  apply Fin.ext
  match a with
  | ⟨0, _⟩ => rfl
  | ⟨1, _⟩ => rfl
  | ⟨2, _⟩ => rfl
  | ⟨3, _⟩ => rfl

/-- the maximum over the keys of any array of scores -/
theorem reduce_max_at (X : FVec Ideal S8x8x4096x4608 .f32) (b h : Fin 8) (i : Fin 4096) :
    Host.reduce (FloatOps.maximumf (F := Ideal) (φ := .f32)) X (constant S_ .f32 0xFF800000#32) reducesTo_S8x8x4096x4608_S8x8x4096_d3 h_S_ (ix3 b h i)
      = Finset.univ.sup fun j : Fin 4608 => X (ix4 b h i j) := by
  rw [Host.reduce_eq_fold_single (FloatOps.maximumf (F := Ideal) (φ := .f32)) X (constant S_ .f32 0xFF800000#32) reducesTo_S8x8x4096x4608_S8x8x4096_d3 reduces_last h_S_ (ix3 b h i)]
  have e : (constant S_ .f32 0xFF800000#32 : FVec Ideal S_ .f32) (Shape.Idx.first h_S_) = ⊥ := bot_word
  rw [e]
  exact Finset.sup_congr rfl fun j _ => congrArg X (lift_last b h i j)

/-- the largest score of a query is the supremum of its scores -/
theorem largest_at (b h : Fin 8) (i : Fin 4096) : largest q k kc (ix3 b h i) = Finset.univ.sup fun j : Fin 4608 => scores q k kc (ix4 b h i j) := by
  unfold largest
  exact (max_bot_at _ b h i).trans (reduce_max_at _ b h i)

/-- a weight is the exponential of the score less the largest -/
theorem weights_at (b h : Fin 8) (i : Fin 4096) (j : Fin 4608) :
    weights q k kc (ix4 b h i j) = Ideal.exp (scores q k kc (ix4 b h i j) - largest q k kc (ix3 b h i)) := by
  pointwise [weights]

/-- the total of a query is the sum of its weights -/
theorem total_at (b h : Fin 8) (i : Fin 4096) : total q k kc (ix3 b h i) = ∑ j : Fin 4608, weights q k kc (ix4 b h i j) := by
  pointwise [total]

/-- a result is the sum of the values, weighed by their shares -/
theorem REF_at (b h : Fin 8) (i : Fin 4096) (d : Fin 64) :
    REF q k kc v vc (ix2 (⟨4096 * b + i, by omega⟩ : Fin 32768) (⟨64 * h + d, by omega⟩ : Fin 512))
      = ∑ j : Fin 4608, Ideal.div (weights q k kc (ix4 b h i j)) (total q k kc (ix3 b h i)) * valAt v vc b h j d := by
  pointwise [REF, shares, valAt]
  exact congrArg₂ (· + ·) (Finset.sum_congr rfl fun _ _ => mul_comm _ _) (Finset.sum_congr rfl fun _ _ => mul_comm _ _)

end At

end Cert.ReferenceIdeal.Attn

end
-- ==== Proof.Final.lean ====
module

public import proofs.«01_k».proof.Proof.Layout
public import proofs.«01_k».proof.Proof.Sweep
public import proofs.«01_k».proof.Proof.Ref

@[expose] public section

set_option maxRecDepth 16384

noncomputable section

namespace Cert.KernelIdeal.Attn

open Cert.KernelIdeal Cert.KernelIdeal.Gen Idealize.ShloMosaic Idealize.ShloMosaic.TcCoe Idealize.SL.Sem
open Attention
open Cert.ReferenceIdeal.Attn (scores largest weights total REF keyAt valAt scores_at largest_at weights_at total_at REF_at)

/-- an array of real numbers -/
def AllReal {s : Shape} (X : FVec Ideal s .f32) : Prop := ∀ i, ∃ r : ℝ, X i = r

/-- the scale is a real number, not a negative one -/
theorem scale_word : ∃ x : ℝ, 0 ≤ x ∧ Ideal.ofBits .f32 0x3DD105EC#32 = x := by
  refine ⟨_, ?_, by simp [Ideal.ofBits, Ideal.ieee]; rfl⟩
  positivity

/-- a sum over a head's 128 lanes of which the last 32 hold zeros -/
theorem sum_lanes (g : Fin 96 → EReal) : (∑ d : Fin 128, if hd : (d : ℕ) < 96 then g ⟨d, hd⟩ else 0) = ∑ d : Fin 96, g d := by
  rw [show (∑ d : Fin 128, if hd : (d : ℕ) < 96 then g ⟨d, hd⟩ else 0) = ∑ d : Fin (96 + 32), if hd : (d : ℕ) < 96 then g ⟨d, hd⟩ else 0 from rfl, Fin.sum_univ_add]
  have e1 : ∀ d : Fin 96, (if hd : ((Fin.castAdd 32 d : Fin (96 + 32)) : ℕ) < 96 then g ⟨_, hd⟩ else 0) = g d := fun d => by
    rw [dif_pos (show ((Fin.castAdd 32 d : Fin (96 + 32)) : ℕ) < 96 from d.isLt)]
    rfl
  have e2 : ∀ d : Fin 32, (if hd : ((Fin.natAdd 96 d : Fin (96 + 32)) : ℕ) < 96 then g ⟨_, hd⟩ else 0) = 0 := fun d => by
    rw [dif_neg (show ¬((Fin.natAdd 96 d : Fin (96 + 32)) : ℕ) < 96 by simp)]
  simp only [e1, e2, Finset.sum_const_zero, add_zero]

/-- a score from scaled queries in padded lanes is the scaled score -/
theorem score_lanes (x y : Fin 96 → EReal) :
    (∑ d : Fin 128, (if hd : (d : ℕ) < 96 then x ⟨d, hd⟩ * Ideal.ofBits .f32 0x3DD105EC#32 else (0 : EReal)) * (if hd : (d : ℕ) < 96 then y ⟨d, hd⟩ else (0 : EReal)))
      = (∑ d : Fin 96, x d * y d) * Ideal.ofBits .f32 0x3DD105EC#32 := by
  obtain ⟨s, hs, e⟩ := scale_word
  rw [e, sum_mul_real _ _ _ hs, ← sum_lanes]
  refine Finset.sum_congr rfl fun d _ => ?_
  split
  · rw [mul_right_comm]
  · rw [zero_mul]

section Read

/-- a key of the new tokens -/
theorem keyAt_new (k : FVec Ideal S8x4096x8x96 .f32) (kc : FVec Ideal S8x512x8x96 .f32) (b h : Fin 8) (j : Fin 4608) (hj : (j : ℕ) < 4096) (d : Fin 96) :
    keyAt k kc b h j d = k (ix4 b (⟨j, hj⟩ : Fin 4096) h d) := dif_pos hj

/-- a cached key -/
theorem keyAt_old (k : FVec Ideal S8x4096x8x96 .f32) (kc : FVec Ideal S8x512x8x96 .f32) (b h : Fin 8) (j : Fin 4608) (i : Fin 512) (hj : (j : ℕ) = 512 * 8 + i) (d : Fin 96) :
    keyAt k kc b h j d = kc (ix4 b i h d) :=
  (dif_neg (by omega)).trans (congrArg (fun x => kc (ix4 b x h d)) (Fin.ext (by dsimp only; omega)))

variable (q k : FVec Ideal S8x4096x8x96 .f32) (kc : FVec Ideal S8x512x8x96 .f32) (v : FVec Ideal S8x4096x8x64 .f32) (vc : FVec Ideal S8x512x8x64 .f32)

/-- the scores of real queries and keys are real -/
theorem scores_real (hq : AllReal q) (hk : AllReal k) (hkc : AllReal kc)
    (b h : Fin 8) (i : Fin 4096) (j : Fin 4608) : ∃ r : ℝ, scores q k kc (ix4 b h i j) = r := by
  rw [scores_at]
  obtain ⟨s, _, e⟩ := scale_word
  have hkey : ∀ d, ∃ r : ℝ, keyAt k kc b h j d = r := fun d => by
    unfold keyAt
    split
    · exact hk _
    · exact hkc _
  choose f hf using hkey
  choose g hg using hq
  obtain ⟨x, hx⟩ := sum_real Finset.univ (fun d : Fin 96 => q (ix4 b i h d) * keyAt k kc b h j d) fun d _ => ⟨g (ix4 b i h d) * f d, by rw [hf, hg, EReal.coe_mul]⟩
  exact ⟨x * s, by rw [hx, e, EReal.coe_mul]⟩

/-- the reference's result as a quotient computed over nine blocks of 512 keys -/
theorem REF_blocks (hq : AllReal q) (hk : AllReal k) (hkc : AllReal kc)
    (b h : Fin 8) (i : Fin 4096) (d : Fin 64) :
    REF q k kc v vc (ix2 (⟨4096 * b + i, by omega⟩ : Fin 32768) (⟨64 * h + d, by omega⟩ : Fin 512))
      = Ideal.div (ax (w := 512) (cut 9 rfl fun J : Fin 4608 => scores q k kc (ix4 b h i J)) (cut 9 rfl fun J => valAt v vc b h J d) 9)
          (lx (w := 512) (cut 9 rfl fun J : Fin 4608 => scores q k kc (ix4 b h i J)) 9) := by
  rw [REF_at, total_at]
  simp only [weights_at, largest_at]
  exact softmax_cut (w := 512) (M := 4608) 9 (by omega) rfl (fun J => scores q k kc (ix4 b h i J)) (fun J => valAt v vc b h J d) fun J => scores_real q k kc hq hk hkc b h i J

end Read

section Points

variable (m : (ℓ : Loc nD τ sig) → Buf (Elt Ideal) ℓ) (c : Dev nD)

/-- the scores a point computes are the reference's -/
theorem score_point (n j : ℕ) (hn : n < 64) (hj : 9 * n + j < cfg0.N) (h9 : j < 9) (h : Fin 8) (r k : Fin 512) :
    ptScore m c ⟨9 * n + j, hj⟩ h r k
      = cut (w := 512) 9 rfl (fun J : Fin 4608 => scores (m ((c : Thread nD τ).loc main_arg0)) (m ((c : Thread nD τ).loc main_arg1)) (m ((c : Thread nD τ).loc main_arg3))
          (ix4 (⟨n / 8, by omega⟩ : Fin 8) h (⟨512 * (n % 8) + r, by omega⟩ : Fin 4096) J)) j k := by
  rw [cut_eq 9 rfl _ j h9 k (⟨512 * j + k, by omega⟩ : Fin 4608) rfl, scores_at, ← score_lanes]
  unfold ptScore
  split
  · rename_i h7
    have h7' : j ≤ 7 := by dsimp only at h7; omega
    unfold sc
    refine Finset.sum_congr rfl fun d _ => ?_
    rw [blk0, blk1, V_v4, V_v7]
    have e0 := headsL_at (mulf (m ((c : Thread nD τ).loc main_arg0)) (broadcastInDim S8x4096x8x96 ![] bcast_S_S8x4096x8x96 (constant S_ .f32 0x3DD105EC#32)))
      (⟨n / 8, by omega⟩ : Fin 8) (⟨512 * (n % 8) + r, by omega⟩ : Fin 4096) h d
    have e1 := headsL_at (m ((c : Thread nD τ).loc main_arg1)) (⟨n / 8, by omega⟩ : Fin 8) (⟨512 * j + k, by omega⟩ : Fin 4096) h d
    refine congrArg₂ (· * ·) (Eq.trans ?_ e0) (Eq.trans ?_ (e1.trans ?_))
    · exact congrArg _ (congrArg₂ ix2 (Fin.ext (by dsimp only; omega)) rfl)
    · exact congrArg _ (congrArg₂ ix2 (Fin.ext (by dsimp only; omega)) rfl)
    · simp only [keyAt_new _ _ _ _ (⟨512 * j + k, by omega⟩ : Fin 4608) (show 512 * j + (k : ℕ) < 4096 by omega)]
  · rename_i h7
    have h8 : j = 8 := by dsimp only at h7; omega
    subst h8
    unfold sc
    refine Finset.sum_congr rfl fun d _ => ?_
    rw [blk0, blk3, V_v4, V_v22]
    have e0 := headsL_at (mulf (m ((c : Thread nD τ).loc main_arg0)) (broadcastInDim S8x4096x8x96 ![] bcast_S_S8x4096x8x96 (constant S_ .f32 0x3DD105EC#32)))
      (⟨n / 8, by omega⟩ : Fin 8) (⟨512 * (n % 8) + r, by omega⟩ : Fin 4096) h d
    have e1 := headsC_at (m ((c : Thread nD τ).loc main_arg3)) (⟨n / 8, by omega⟩ : Fin 8) k h d
    refine congrArg₂ (· * ·) (Eq.trans ?_ e0) (Eq.trans ?_ (e1.trans ?_))
    · exact congrArg _ (congrArg₂ ix2 (Fin.ext (by dsimp only; omega)) rfl)
    · exact congrArg _ (congrArg₂ ix2 (Fin.ext (by dsimp only; omega)) rfl)
    · simp only [keyAt_old _ _ _ _ (⟨512 * 8 + k, by omega⟩ : Fin 4608) k rfl]

/-- the values a lane of a head weighs: the head's own lanes hold the reference's values, the others zeros -/
def laneVal (n : ℕ) (hn : n < 64) (h : Fin 8) (l : Fin 128) (j : ℕ) (k : Fin 512) : EReal :=
  if (l : ℕ) / 64 = (h : ℕ) % 2 then
    cut (w := 512) 9 rfl (fun J : Fin 4608 => valAt (m ((c : Thread nD τ).loc main_arg2)) (m ((c : Thread nD τ).loc main_arg4)) (⟨n / 8, by omega⟩ : Fin 8) h J (⟨l % 64, by omega⟩ : Fin 64)) j k
  else 0

/-- the values a point weighs are the reference's -/
theorem val_point (n j : ℕ) (hn : n < 64) (hj : 9 * n + j < cfg0.N) (h9 : j < 9) (h : Fin 8) (l : Fin 128) (k : Fin 512) :
    ptVal m c ⟨9 * n + j, hj⟩ h l k = laneVal m c n hn h l j k := by
  unfold ptVal laneVal
  rw [cut_eq 9 rfl _ j h9 k (⟨512 * j + k, by omega⟩ : Fin 4608) rfl]
  split
  · rename_i h7
    have h7' : j ≤ 7 := by dsimp only at h7; omega
    rw [blk2, V_v19]
    have e1 := valsL_at (m ((c : Thread nD τ).loc main_arg2)) (⟨n / 8, by omega⟩ : Fin 8) (⟨512 * j + k, by omega⟩ : Fin 4096) h l
    refine Eq.trans ?_ (e1.trans ?_)
    · exact congrArg _ (congrArg₂ ix2 (Fin.ext (by dsimp only; omega)) rfl)
    · unfold valAt
      rw [dif_pos (show 512 * j + (k : ℕ) < 4096 by omega)]
  · rename_i h7
    have h8 : j = 8 := by dsimp only at h7; omega
    subst h8
    rw [blk4, V_v34]
    have e1 := valsC_at (m ((c : Thread nD τ).loc main_arg4)) (⟨n / 8, by omega⟩ : Fin 8) k h l
    refine Eq.trans ?_ (e1.trans ?_)
    · exact congrArg _ (congrArg₂ ix2 (Fin.ext (by dsimp only; omega)) rfl)
    · unfold valAt
      rw [dif_neg (show ¬512 * 8 + (k : ℕ) < 4096 by omega)]
      have e : (⟨512 * 8 + (k : ℕ) - 4096, by omega⟩ : Fin 512) = k := Fin.ext (by dsimp only; omega)
      simp only [e]

/-- what the last point of a run stores -/
theorem stored_ref (hq : AllReal (m ((c : Thread nD τ).loc main_arg0)))
    (hk : AllReal (m ((c : Thread nD τ).loc main_arg1)))
    (hkc : AllReal (m ((c : Thread nD τ).loc main_arg3)))
    (n : ℕ) (hn : n < 64) (hj : 9 * n + 8 < cfg0.N) (p : Fin 4) (r : Fin 512) (l : Fin 128) :
    ((outsAt0 m c (9 * n + 8) hj).1 : FVec Ideal S512x512 .bf16) (ix2 r (⟨128 * p + l, by omega⟩ : Fin 512))
      = REF (m ((c : Thread nD τ).loc main_arg0)) (m ((c : Thread nD τ).loc main_arg1)) (m ((c : Thread nD τ).loc main_arg3)) (m ((c : Thread nD τ).loc main_arg2)) (m ((c : Thread nD τ).loc main_arg4))
          (ix2 (⟨512 * n + r, by omega⟩ : Fin 32768) (⟨128 * p + l, by omega⟩ : Fin 512)) := by
  have hS : ∀ (h : Fin 8) (r : Fin 512), ∀ i < 9, ∀ k : Fin 512, ∃ x : ℝ, cut (w := 512) 9 rfl (fun J : Fin 4608 => scores (m ((c : Thread nD τ).loc main_arg0)) (m ((c : Thread nD τ).loc main_arg1)) (m ((c : Thread nD τ).loc main_arg3))
          (ix4 (⟨n / 8, by omega⟩ : Fin 8) h (⟨512 * (n % 8) + r, by omega⟩ : Fin 4096) J)) i k = x := fun h r i hi k => by
    unfold cut
    rw [dif_pos hi]
    exact scores_real _ _ _ hq hk hkc _ _ _ _
  rw [stored m c n _ (laneVal m c n hn) hS (fun j hj h9 h r k => score_point m c n j hn hj h9 h r k) (fun j hj h9 h l k => val_point m c n j hn hj h9 h l k)
    (fun h l j h9 k hne => if_neg hne) hj p r l]
  have hl : (l : ℕ) / 64 = (laneHead p l : ℕ) % 2 ∧ 128 * (p : ℕ) + l = 64 * (laneHead p l : ℕ) + l % 64 := by
    unfold laneHead evn odd
    split <;> dsimp only <;> omega
  have e := REF_blocks (m ((c : Thread nD τ).loc main_arg0)) (m ((c : Thread nD τ).loc main_arg1)) (m ((c : Thread nD τ).loc main_arg3)) (m ((c : Thread nD τ).loc main_arg2)) (m ((c : Thread nD τ).loc main_arg4))
    hq hk hkc (⟨n / 8, by omega⟩ : Fin 8) (laneHead p l) (⟨512 * (n % 8) + r, by omega⟩ : Fin 4096) (⟨l % 64, by omega⟩ : Fin 64)
  have eV : laneVal m c n hn (laneHead p l) l = cut (w := 512) 9 rfl (fun J : Fin 4608 => valAt (m ((c : Thread nD τ).loc main_arg2)) (m ((c : Thread nD τ).loc main_arg4)) (⟨n / 8, by omega⟩ : Fin 8) (laneHead p l) J (⟨l % 64, by omega⟩ : Fin 64)) := by
    funext j k
    exact if_pos hl.1
  rw [eV]
  refine e.symm.trans (congrArg _ (congrArg₂ ix2 (Fin.ext ?_) (Fin.ext hl.2.symm)))
  dsimp only
  omega

/-- the array the kernel leaves is the reference's -/
theorem final (hq : AllReal (m ((c : Thread nD τ).loc main_arg0)))
    (hk : AllReal (m ((c : Thread nD τ).loc main_arg1)))
    (hkc : AllReal (m ((c : Thread nD τ).loc main_arg3))) :
    (dats m 0 c).arrAt 5 cfg0.N
      = REF (m ((c : Thread nD τ).loc main_arg0)) (m ((c : Thread nD τ).loc main_arg1)) (m ((c : Thread nD τ).loc main_arg3)) (m ((c : Thread nD τ).loc main_arg2)) (m ((c : Thread nD τ).loc main_arg4)) := by
  refine (dats m 0 c).arrAt_eq_of_covers 5 _ (by decide +kernel) fun t hf y => ?_
  blk_simp
  rw [after0_5]
  have h8 : t.val % 9 = 8 := (flush0_5 t).mp hf
  have hN : t.val < 576 := lt_of_lt_of_eq t.isLt N_0
  obtain ⟨n, hn⟩ : ∃ n, t.val = 9 * n + 8 := ⟨t.val / 9, by omega⟩
  have hy1 : (y 1).val < 512 := (y 1).isLt
  have hy0 : (y 0).val < 512 := (y 0).isLt
  have e := stored_ref m c hq hk hkc n (by omega) (by rw [← hn]; exact t.isLt) (⟨(y 1).val / 128, by omega⟩ : Fin 4) (⟨(y 0).val, hy0⟩ : Fin 512) (⟨(y 1).val % 128, by omega⟩ : Fin 128)
  obtain ⟨t, ht⟩ := t
  dsimp only at hn
  subst hn
  have ey : y = ix2 (⟨(y 0).val, hy0⟩ : Fin 512) (⟨128 * ((y 1).val / 128) + (y 1).val % 128, by omega⟩ : Fin 512) := by
    funext a
    apply Fin.ext
    match a with
    | ⟨0, _⟩ => rfl
    | ⟨1, _⟩ => exact (Nat.div_add_mod (y 1).val 128).symm
  refine Eq.trans (congrArg _ ey) (e.trans ?_)
  clear e ey
  blk_ext [idx ⟨9 * n + 8, ht⟩]

end Points

end Cert.KernelIdeal.Attn

end
-- ==== Proof.Finite.lean ====
module

public import proofs.«01_k».proof.Defs
public import proofs.«01_k».proof.Proof.Gen.Pre_finite_scores
public import Idealize.ShloMosaic.Lib.Pointwise
public import Idealize.ShloMosaic.Lib.ReduceAll

@[expose] public section

set_option maxRecDepth 16384

noncomputable section

namespace Cert.Finite

open Idealize.ShloMosaic Idealize.SL.Sem

/-- the word the absolute values are compared with is plus infinity -/
theorem top_word : Ideal.ofBits .f32 0x7F800000#32 = ⊤ := by simp [Ideal.ofBits, Ideal.ieee]

/-- an extended real whose absolute value is below infinity is a real number -/
theorem real_of_abs_lt (x : EReal) (h : max x (-x) < ⊤) : ∃ r : ℝ, x = r := by
  induction x with
  | bot => simp at h
  | coe r => exact ⟨r, rfl⟩
  | top => simp at h

/-- a comparison that came out true -/
theorem lt_of_cmp (x y : EReal) (h : Ideal.cmp .olt x y = 1#1) : x < y := by
  unfold Ideal.cmp at h
  by_contra hn
  simp [hn] at h

/-- an array all of whose absolute values are below infinity holds real numbers only -/
theorem real_of_all {s t : Shape} [Subsingleton t.Idx] {axes : List (Fin s.rank)} (X : FVec Ideal s .f32) (T : FVec Ideal s .f32)
    (hT : ∀ i, T i = Ideal.ofBits .f32 0x7F800000#32) {u : Shape} (init : u.Idx → BitVec 1) (h : s.ReducesTo axes t) (hu : 0 < u.numel) (j : t.Idx)
    (e : Host.reduce IntOp.andi (cmpf .olt (Host.absf X) T) init h hu j = 1#1) (i : s.Idx) : ∃ r : ℝ, X i = r := by
  have := Host.reduce_andi_all _ _ h hu j e i
  have h2 := lt_of_cmp _ _ this
  rw [hT, top_word] at h2
  exact real_of_abs_lt _ h2

instance : Subsingleton Cert.Pre_finite_scores.S_.Idx := ⟨fun a b => funext fun x => x.elim0⟩

open Cert.Pre_finite_scores in
/-- the precondition says that queries and keys, new and cached, are real numbers -/
theorem decode (q k : FVec Ideal S8x4096x8x96 .f32) (v : FVec Ideal S8x4096x8x64 .f32) (kc : FVec Ideal S8x512x8x96 .f32) (vc : FVec Ideal S8x512x8x64 .f32)
    (i0 : S_.Idx) (h : Cert.Pre_finite_scores.fn q k v kc vc i0 = 1#1) :
    (∀ i, ∃ r : ℝ, q i = r) ∧ (∀ i, ∃ r : ℝ, k i = r) ∧ ∀ i, ∃ r : ℝ, kc i = r := by
  unfold Cert.Pre_finite_scores.fn at h
  dsimp only at h
  obtain ⟨h1, h3⟩ := IntOp.andi_eq_one.1 h
  obtain ⟨h1, h2⟩ := IntOp.andi_eq_one.1 h1
  exact ⟨fun i => real_of_all q _ (fun _ => rfl) _ _ _ _ h1 i, fun i => real_of_all k _ (fun _ => rfl) _ _ _ _ h2 i, fun i => real_of_all kc _ (fun _ => rfl) _ _ _ _ h3 i⟩

end Cert.Finite

end
-- ==== Proof.ExpertsRunIdeal.lean ====
/-
  The launch of the experts' kernel, for EVERY contents of its two prefetched tables that keeps each expert's block of
  weights inside its array (`Ok`): the body's two paths (a used block, and a block past the used ones), what they leave
  in the output's staging buffer, the pipeline's proof data, and the run of the whole program.  The set-up follows the
  form the generated certificates of the other calls have.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Kit
public import Idealize.ShloMosaic.Lib.Ring
public import Idealize.ShloMosaic.Lib.Exec
public import Idealize.ShloMosaic.Lib.Tactic
public import Idealize.ShloMosaic.Lib.WordCmp
public import Idealize.ShloMosaic.Lib.Claim

@[expose] public section

set_option maxRecDepth 16384

noncomputable section

namespace Cert.Kernel2Ideal.Experts

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the assertions of this file speak of. -/
abbrev Res (F : FTy → Type) [FloatOps F] := MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S1088 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (Res F) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (Res F)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-! ## The kernel body on any staging memrefs: a subtype the run finds -/

/-- One staging buffer of output window 4, through which its contents are stated (`View.read_writes_of_cover`: the
    choice does not matter). -/
abbrev VO0_4 : View sig .tc .vmem S256x1024 .bf16 := (Memref.whole cc0_stg4_0 : Memref sig .tc .vmem S256x1024 .bf16).view
/-- Each window's current staging memref at point `t`, spelled as the pipeline passes it (`bodyAt0`), and its wholeness. -/
abbrev ms0_0 (hO : Ok m) (t : Fin (cfgM m hO).N) : Memref sig .tc .vmem S256x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x1024 .bf16 := spec0_4.stage ((cfgM m hO).slots t 4)
abbrev hs0_4 (hO : Ok m) (t : Fin (cfgM m hO).N) : (ms0_4 m hO t).IsWhole := hstage0_4 (((cfgM m hO).slots t 4).cast nbuf0_4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-! ## The two paths of the body -/

/-- The count of used blocks, as the body reads it off the second table. -/
abbrev word (c : Dev nD) (xt1 : TbBuf0 (F := F) c tbM0_1) : BitVec 32 :=
  View.readAt (Elt F) (tbM0_1).view (Rect.unit (s := S1) ![0] S1.size inb_S1_S1_0).toLoadRect xt1 (Shape.Idx.first (numel1_S1.symm ▸ Nat.one_pos))

/-- The body's second branch is taken exactly where its first is not: `i ≥ n` is the negation of `i < n`. -/
theorem cond2_iff (i : grid0.Coords) (n : BitVec 32) : k0_cond2 i n = 1#1 ↔ ¬ k0_cond1 i n = 1#1 := by
  unfold k0_cond1 k0_cond2
  simp only [Scalar.cmpi, IntOp.cmpi, Scalar.extui, Bool.false_eq_true]
  cases h : (BitVec.ofNat 32 (i 0).val).slt n <;> simp [BitVec.sle_eq_not_slt, h]

-- (the run's proof term is large: the definition's epilogue — `abstractNestedProofs` — walks it past the default budget)
set_option maxHeartbeats 1000000 in
/-- The body at a used block: on whole staging buffers it runs to its end, leaving the inputs as they were and
    in the output's buffer the pieces of `L4` written. -/
noncomputable def runA (c : Dev nD) (i : grid0.Coords) (arg3 : Memref sig .tc .vmem S256x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S256x1024 .bf16) (harg7 : arg7.IsWhole)
    (x0 : Vec F S256x1024 .bf16) (x1 : Vec F S1x1024x256 .f32) (x2 : Vec F S1x1024x256 .f32) (x3 : Vec F S1x256x1024 .f32) (xt0 : TbBuf0 (F := F) c tbM0_0) (xt1 : TbBuf0 (F := F) c tbM0_1) (h1 : k0_cond1 i (word c xt1) = 1#1) (h2 : ¬ k0_cond2 i (word c xt1) = 1#1) :
    { L4 : List (View.Piece (Elt F) S256x1024 .bf16) //
      ∀ (E : Set ℕ) (K : PUnit → sProp (Res F)),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_experts i tbM0_0 htbM0_0 tbM0_1 htbM0_1 arg3 harg3 arg4 harg4 arg5 harg5 arg6 harg6 arg7 harg7) K } := by
  refine ⟨?_, fun E K => ?run⟩
  case run =>
    simp only [cc0_experts_eq_skeleton]; unfold cc0_experts_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    have hT0 : tbM0_0.IsWhole := Memref.isWhole_whole _
    have hT1 : tbM0_1.IsWhole := Memref.isWhole_whole _
    sl_exec! (disch := first | (guard_target = k0_cond1 _ _ = _; exact h1) | (guard_target = ¬(k0_cond2 _ _ = _); exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

/-- The pieces of `runA` cover the output's block. -/
theorem coverA (c : Dev nD) (i : grid0.Coords) (arg3 : Memref sig .tc .vmem S256x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S256x1024 .bf16) (harg7 : arg7.IsWhole)
    (x0 : Vec F S256x1024 .bf16) (x1 : Vec F S1x1024x256 .f32) (x2 : Vec F S1x1024x256 .f32) (x3 : Vec F S1x256x1024 .f32) (xt0 : TbBuf0 (F := F) c tbM0_0) (xt1 : TbBuf0 (F := F) c tbM0_1) (h1 : k0_cond1 i (word c xt1) = 1#1) (h2 : ¬ k0_cond2 i (word c xt1) = 1#1) (y : S256x1024.Idx) :
    ∃ pc ∈ (runA c i arg3 harg3 arg4 harg4 arg5 harg5 arg6 harg6 arg7 harg7 x0 x1 x2 x3 xt0 xt1 h1 h2).1, y ∈ pc.1.set :=
  View.cover_of_tiledL (runA c i arg3 harg3 arg4 harg4 arg5 harg5 arg6 harg6 arg7 harg7 x0 x1 x2 x3 xt0 xt1 h1 h2).1 S256x1024.size (by sl_kernel_rfl) y

/-- What `runA` leaves in the output's buffer. -/
def outA (c : Dev nD) (i : grid0.Coords) (arg3 : Memref sig .tc .vmem S256x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S256x1024 .bf16) (harg7 : arg7.IsWhole)
    (x0 : Vec F S256x1024 .bf16) (x1 : Vec F S1x1024x256 .f32) (x2 : Vec F S1x1024x256 .f32) (x3 : Vec F S1x256x1024 .f32) (xt0 : TbBuf0 (F := F) c tbM0_0) (xt1 : TbBuf0 (F := F) c tbM0_1) (h1 : k0_cond1 i (word c xt1) = 1#1) (h2 : ¬ k0_cond2 i (word c xt1) = 1#1) : Vec F S256x1024 .bf16 :=
  VO0_4.read (Elt F) (VO0_4.writes (Elt F) VO0_4.junk (runA c i arg3 harg3 arg4 harg4 arg5 harg5 arg6 harg6 arg7 harg7 x0 x1 x2 x3 xt0 xt1 h1 h2).1)

-- (the run's proof term is large: the definition's epilogue — `abstractNestedProofs` — walks it past the default budget)
set_option maxHeartbeats 1000000 in
/-- The body past the used blocks: it runs to its end, leaving the inputs as they were and in the output's buffer
    the pieces of `L4` written. -/
noncomputable def runB (c : Dev nD) (i : grid0.Coords) (arg3 : Memref sig .tc .vmem S256x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S256x1024 .bf16) (harg7 : arg7.IsWhole)
    (x0 : Vec F S256x1024 .bf16) (x1 : Vec F S1x1024x256 .f32) (x2 : Vec F S1x1024x256 .f32) (x3 : Vec F S1x256x1024 .f32) (xt0 : TbBuf0 (F := F) c tbM0_0) (xt1 : TbBuf0 (F := F) c tbM0_1) (h1 : ¬ k0_cond1 i (word c xt1) = 1#1) (h2 : k0_cond2 i (word c xt1) = 1#1) :
    { L4 : List (View.Piece (Elt F) S256x1024 .bf16) //
      ∀ (E : Set ℕ) (K : PUnit → sProp (Res F)),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_experts i tbM0_0 htbM0_0 tbM0_1 htbM0_1 arg3 harg3 arg4 harg4 arg5 harg5 arg6 harg6 arg7 harg7) K } := by
  refine ⟨?_, fun E K => ?run⟩
  case run =>
    simp only [cc0_experts_eq_skeleton]; unfold cc0_experts_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    have hT0 : tbM0_0.IsWhole := Memref.isWhole_whole _
    have hT1 : tbM0_1.IsWhole := Memref.isWhole_whole _
    sl_exec! (disch := first | (guard_target = ¬(k0_cond1 _ _ = _); exact h1) | (guard_target = k0_cond2 _ _ = _; exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

/-- The pieces of `runB` cover the output's block. -/
theorem coverB (c : Dev nD) (i : grid0.Coords) (arg3 : Memref sig .tc .vmem S256x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S256x1024 .bf16) (harg7 : arg7.IsWhole)
    (x0 : Vec F S256x1024 .bf16) (x1 : Vec F S1x1024x256 .f32) (x2 : Vec F S1x1024x256 .f32) (x3 : Vec F S1x256x1024 .f32) (xt0 : TbBuf0 (F := F) c tbM0_0) (xt1 : TbBuf0 (F := F) c tbM0_1) (h1 : ¬ k0_cond1 i (word c xt1) = 1#1) (h2 : k0_cond2 i (word c xt1) = 1#1) (y : S256x1024.Idx) :
    ∃ pc ∈ (runB c i arg3 harg3 arg4 harg4 arg5 harg5 arg6 harg6 arg7 harg7 x0 x1 x2 x3 xt0 xt1 h1 h2).1, y ∈ pc.1.set :=
  View.cover_of_tiledL (runB c i arg3 harg3 arg4 harg4 arg5 harg5 arg6 harg6 arg7 harg7 x0 x1 x2 x3 xt0 xt1 h1 h2).1 S256x1024.size (by sl_kernel_rfl) y

/-- What `runB` leaves in the output's buffer. -/
def outB (c : Dev nD) (i : grid0.Coords) (arg3 : Memref sig .tc .vmem S256x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S256x1024 .bf16) (harg7 : arg7.IsWhole)
    (x0 : Vec F S256x1024 .bf16) (x1 : Vec F S1x1024x256 .f32) (x2 : Vec F S1x1024x256 .f32) (x3 : Vec F S1x256x1024 .f32) (xt0 : TbBuf0 (F := F) c tbM0_0) (xt1 : TbBuf0 (F := F) c tbM0_1) (h1 : ¬ k0_cond1 i (word c xt1) = 1#1) (h2 : k0_cond2 i (word c xt1) = 1#1) : Vec F S256x1024 .bf16 :=
  VO0_4.read (Elt F) (VO0_4.writes (Elt F) VO0_4.junk (runB c i arg3 harg3 arg4 harg4 arg5 harg5 arg6 harg6 arg7 harg7 x0 x1 x2 x3 xt0 xt1 h1 h2).1)

/-! ## What the outputs hold after each point -/

/-- What the output's staging buffer holds after the body at point `t`: at a used block what `runA` leaves, past the
    used blocks what `runB` leaves. -/
def outsAt0 (hO : Ok m) (c : Dev nD) (t : Fin (cfgM m hO).N) : Vec F S256x1024 .bf16 :=
  if h1 : k0_cond1 (grid0.coords t) (word c (tbl m 1)) = 1#1 then
    outA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h1 (fun h2 => (cond2_iff _ _).1 h2 h1)
  else outB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h1 ((cond2_iff _ _).2 h1)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Each input's current staging buffer holds its block at every point, fetched there or not (`before0_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (Res F) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp (Res F) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  unfold outsAt0
  by_cases h1 : k0_cond1 (grid0.coords t) (word c (tbl m 1)) = 1#1
  · rw [dif_pos h1]
    unfold outA
    iintro ⟨⟨HΦ, ⟨HT0, HT1⟩⟩, Ho, ⟨%d0, H0⟩, ⟨%d1, H1⟩, ⟨%d2, H2⟩, ⟨%d3, H3⟩, ⟨%d4, H4⟩⟩
    iapply ((runA c (grid0.coords t) _ _ _ _ _ _ _ _ _ _ (iblk m hO c 0 t) (iblk m hO c 1 t) (iblk m hO c 2 t) (iblk m hO c 3 t) (tbl m 0) (tbl m 1) h1 (fun h2 => (cond2_iff _ _).1 h2 h1)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c _ _ _ _ _ _ _ _ _ _ _ _ _ _ _ _ _ _ _)
  · rw [dif_neg h1]
    unfold outB
    iintro ⟨⟨HΦ, ⟨HT0, HT1⟩⟩, Ho, ⟨%d0, H0⟩, ⟨%d1, H1⟩, ⟨%d2, H2⟩, ⟨%d3, H3⟩, ⟨%d4, H4⟩⟩
    iapply ((runB c (grid0.coords t) _ _ _ _ _ _ _ _ _ _ (iblk m hO c 0 t) (iblk m hO c 1 t) (iblk m hO c 2 t) (iblk m hO c 3 t) (tbl m 0) (tbl m 1) h1 ((cond2_iff _ _).2 h1)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB c _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output is stored at every point, so its window is never idle. -/
theorem idle4 (pf : pre0.Contents (Elt F)) (i : grid0.Coords) : idle0 pf 4 i = false := by
  by_cases h1 : k0_cond1 i (pf.atD 1 ![0]) = 1#1
  · simp [idle0, h1]
  · simp [idle0, h1, (cond2_iff i _).2 h1]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  rewrite [show (cfgM m hO).idle (4 : Fin 5) ((cfgM m hO).grid.coords t) = false from idle4 _ _]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- From any memory with zero counters and admissible tables, every fair execution ends with the argument arrays
    unchanged and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel2Ideal.Experts

end
-- ==== Proof.ExpertsBlock.lean ====
module

public import proofs.«01_k».proof.Proof.ExpertsRunIdeal
public import Idealize.ShloMosaic.Lib.Pointwise
public import Idealize.ShloMosaic.Lib.Pipeline.ValueKit

@[expose] public section

set_option maxRecDepth 16384

noncomputable section

namespace Cert.Kernel2Ideal.Experts

open Cert.Kernel2Ideal Cert.Kernel2Ideal.Gen Cert.Kernel2Ideal.Facts Idealize.ShloMosaic Idealize.ShloMosaic.TcCoe Idealize.ShloMosaic.Tactic

/-- a used block's numbers: the tokens times the first weights, gated, times the last weights -/
theorem pay1_at (x : FVec Ideal S256x1024 .bf16) (wg wu : FVec Ideal S1x1024x256 .f32) (wd : FVec Ideal S1x256x1024 .f32) (r : Fin 256) (d : Fin 1024) :
    k0_pay1 x wg wu wd (ix2 r d)
      = ∑ f : Fin 256, ((∑ k : Fin 1024, x (ix2 r k) * wg (ix3 (0 : Fin 1) k f))
          * Ideal.div 1 (1 + Ideal.exp (0 - ∑ k : Fin 1024, x (ix2 r k) * wg (ix3 (0 : Fin 1) k f)))
          * ∑ k : Fin 1024, x (ix2 r k) * wu (ix3 (0 : Fin 1) k f)) * wd (ix3 (0 : Fin 1) f d) := by
  pointwise [k0_pay1]

/-- past the used blocks the numbers are zeros -/
theorem pay2_at (r : Fin 256) (d : Fin 1024) : (k0_pay2 (F := Ideal)) (ix2 r d) = 0 := by
  pointwise [k0_pay2]

section Out

variable (c : Dev nD) (i : grid0.Coords) (arg3 : Memref sig .tc .vmem S256x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S256x1024 .bf16) (harg7 : arg7.IsWhole)
  (x0 : Vec Ideal S256x1024 .bf16) (x1 : Vec Ideal S1x1024x256 .f32) (x2 : Vec Ideal S1x1024x256 .f32) (x3 : Vec Ideal S1x256x1024 .f32) (xt0 : TbBuf0 (F := Ideal) c tbM0_0) (xt1 : TbBuf0 (F := Ideal) c tbM0_1)

/-- what a used block's run leaves -/
theorem outA_eq (h1 : k0_cond1 i (word c xt1) = 1#1) (h2 : ¬ k0_cond2 i (word c xt1) = 1#1) :
    outA c i arg3 harg3 arg4 harg4 arg5 harg5 arg6 harg6 arg7 harg7 x0 x1 x2 x3 xt0 xt1 h1 h2 = k0_pay1 x0 x1 x2 x3 := by
  frame_out

/-- what an unused block's run leaves -/
theorem outB_eq (h1 : ¬ k0_cond1 i (word c xt1) = 1#1) (h2 : k0_cond2 i (word c xt1) = 1#1) :
    outB c i arg3 harg3 arg4 harg4 arg5 harg5 arg6 harg6 arg7 harg7 x0 x1 x2 x3 xt0 xt1 h1 h2 = k0_pay2 (F := Ideal) := by
  frame_out

end Out

end Cert.Kernel2Ideal.Experts

end
-- ==== Proof.ExpertsTables.lean ====
module

public import proofs.«01_k».proof.Defs
public import proofs.«01_k».proof.Proof.Gen.Pre_experts_exist
public import proofs.«01_k».proof.Proof.ExpertsRun
public import proofs.«01_k».proof.Proof.ExpertsRunIdeal
public import Idealize.ShloMosaic.Lib.Pointwise
public import Idealize.ShloMosaic.Lib.ReduceAll

@[expose] public section

set_option maxRecDepth 16384

noncomputable section

namespace Cert.Tables

open Idealize.ShloMosaic Idealize.SL.Sem

/-- a word between zero and sixty-four, compared as signed integers, is one of the first sixty-four numbers -/
theorem small_of_cmp (a : BitVec 32) (h0 : IntOp.cmpi .sge a 0#32 = 1#1) (h1 : IntOp.cmpi .slt a 64#32 = 1#1) : a.toNat < 64 ∧ a.toInt = a.toNat := by
  have e0 : (0#32).sle a = true := by
    by_contra hn
    rw [Bool.not_eq_true] at hn
    have h : BitVec.ofBool ((0#32).sle a) = 1#1 := h0
    rw [hn] at h
    exact absurd h (by decide)
  have e1 : a.slt 64#32 = true := by
    by_contra hn
    rw [Bool.not_eq_true] at hn
    have h : BitVec.ofBool (a.slt 64#32) = 1#1 := h1
    rw [hn] at h
    exact absurd h (by decide)
  have f0 := BitVec.sle_iff_toInt_le.1 e0
  have f1 := BitVec.slt_iff_toInt_lt.1 e1
  have z0 : (0#32).toInt = 0 := by decide
  have z1 : (64#32).toInt = 64 := by decide
  rw [z0] at f0
  rw [z1] at f1
  rw [BitVec.toInt_eq_toNat_cond] at *
  have := a.isLt
  split at f0 <;> split <;> omega

instance : Subsingleton Cert.Pre_experts_exist.S_.Idx := ⟨fun a b => funext fun x => x.elim0⟩

open Cert.Pre_experts_exist in
/-- the precondition says that every block's expert is one of the sixty-four -/
theorem decode {F : FTy → Type} [FloatOps F] (a0 : FVec F S278528x1024 .bf16) (a1 : IVec S1088 32) (a2 : IVec S1 32) (a3 a4 : FVec F S64x1024x256 .f32) (a5 : FVec F S64x256x1024 .f32)
    (i0 : S_.Idx) (h : Cert.Pre_experts_exist.fn a0 a1 a2 a3 a4 a5 i0 = 1#1) (x : S1088.Idx) : (a1 x).toNat < 64 ∧ (a1 x).toInt = (a1 x).toNat := by
  unfold Cert.Pre_experts_exist.fn at h
  dsimp only at h
  have e := Host.reduce_andi_all _ _ _ _ _ h x
  obtain ⟨h1, h2⟩ := IntOp.andi_eq_one.1 e
  exact small_of_cmp _ h1 h2

end Cert.Tables

namespace Cert.Kernel2.Experts

open Cert.Kernel2 Cert.Kernel2.Gen Cert.Kernel2.Facts Idealize.ShloMosaic Idealize.ShloMosaic.TcCoe

/-- under the precondition the weights' blocks are inside their arrays -/
theorem ok_of_pre (m : (ℓ : Loc nD τ sig) → Buf (Elt Bits) ℓ) (h : Cert.Pre_Kernel2 m) : Ok m := by
  have hd := fun x => (Cert.Tables.decode _ _ _ _ _ _ _ (congrFun (h 0) fun x => x.elim0) x).1
  refine ⟨fun i => ⟨fun a => ?_, .inl rfl⟩, fun i => ⟨fun a => ?_, .inl rfl⟩, fun i => ⟨fun a => ?_, .inl rfl⟩⟩
  all_goals
    match a with
    | ⟨0, _⟩ => exact Nat.le_trans (Nat.le_of_eq (Nat.mul_one _)) (hd _)
    | ⟨1, _⟩ => exact Nat.le_refl _
    | ⟨2, _⟩ => exact Nat.le_refl _

end Cert.Kernel2.Experts

namespace Cert.Kernel2Ideal.Experts

open Cert.Kernel2Ideal Cert.Kernel2Ideal.Gen Cert.Kernel2Ideal.Facts Idealize.ShloMosaic Idealize.ShloMosaic.TcCoe

/-- under the precondition the weights' blocks are inside their arrays -/
theorem ok_of_pre (m : (ℓ : Loc nD τ sig) → Buf (Elt Ideal) ℓ) (h : Cert.Pre_Kernel2Ideal m) : Ok m := by
  have hd := fun x => (Cert.Tables.decode _ _ _ _ _ _ _ (congrFun (h 0) fun x => x.elim0) x).1
  refine ⟨fun i => ⟨fun a => ?_, .inl rfl⟩, fun i => ⟨fun a => ?_, .inl rfl⟩, fun i => ⟨fun a => ?_, .inl rfl⟩⟩
  all_goals
    match a with
    | ⟨0, _⟩ => exact Nat.le_trans (Nat.le_of_eq (Nat.mul_one _)) (hd _)
    | ⟨1, _⟩ => exact Nat.le_refl _
    | ⟨2, _⟩ => exact Nat.le_refl _

end Cert.Kernel2Ideal.Experts

end
-- ==== Proof.ExpertsRef.lean ====
module

public import proofs.«01_k».proof.Proof.Gen.Reference2Ideal.Run
public import Idealize.ShloMosaic.Lib.Pointwise
public import Idealize.ShloMosaic.Lib.ValueIdxCore

@[expose] public section

set_option maxRecDepth 16384

noncomputable section

namespace Cert.Reference2Ideal.Experts

open Cert.Reference2Ideal Cert.Reference2Ideal.Gen Cert.Reference2Ideal.Facts Idealize.ShloMosaic

/-- every block's expert, counted from the end where it is negative -/
def expert (e : IVec S1088 32) : IVec S1088x1 32 :=
  broadcastInDim S1088x1 ![0] bcast_S1088_S1088x1_0 (select (cmpi .slt e (broadcastInDim S1088 ![] bcast_S_S1088 (constantI S_ 32 0#32))) (addi e (broadcastInDim S1088 ![] bcast_S_S1088 (constantI S_ 32 64#32))) e)

/-- a non-negative word is its own expert -/
theorem expert_at (e : IVec S1088 32) (t : Fin 1088) (z : Fin 1) (h : (e (ix1 t)).toInt = (e (ix1 t)).toNat) : expert e (ix2 t z) = e (ix1 t) := by
  pointwise [expert]
  have hn : (e (ix1 t)).slt 0#32 = false := by
    rw [Bool.eq_false_iff]
    intro hs
    have h1 := BitVec.slt_iff_toInt_lt.1 hs
    have z0 : (0#32).toInt = 0 := by decide
    rw [z0, h] at h1
    omega
  have hc : IntOp.cmpi .slt (e (ix1 t)) 0#32 = 0#1 := by
    show BitVec.ofBool ((e (ix1 t)).slt 0#32) = 0#1
    rw [hn]
    rfl
  rw [hc]
  rfl

/-- the first two of the experts' weights, block by block -/
theorem pick_at (x : FVec Ideal S64x1024x256 .f32) (idx : IVec S1088x1 32) (t : Fin 1088) (i : Fin 1024) (j : Fin 256) (n : Fin 64) (hn : (idx (ix2 t (0 : Fin 1))).toInt.toNat = n) :
    Host.gather gather_S64x1024x256_S1088x1_S1088x1024x256_12_0_n_n_0_1_11024256 x idx (ix3 t i j) = x (ix3 n i j) := by
  unfold Host.gather
  congr 1
  funext a
  refine Fin.ext ?_
  match a with
  | ⟨0, _⟩ =>
    show min (idx _).toInt.toNat 63 + 0 + 0 = n.val
    have e : ∀ q, q = ix2 t (0 : Fin 1) → (idx q).toInt.toNat = n := fun q hq => hq ▸ hn
    rw [e _ (by
      funext b; apply Fin.ext
      match b with
      | ⟨0, _⟩ => rfl
      | ⟨1, _⟩ => rfl)]
    omega
  | ⟨1, _⟩ => exact Nat.zero_add _
  | ⟨2, _⟩ => exact Nat.zero_add _

/-- the last of the experts' weights, block by block -/
theorem pickDown_at (x : FVec Ideal S64x256x1024 .f32) (idx : IVec S1088x1 32) (t : Fin 1088) (i : Fin 256) (j : Fin 1024) (n : Fin 64) (hn : (idx (ix2 t (0 : Fin 1))).toInt.toNat = n) :
    Host.gather gather_S64x256x1024_S1088x1_S1088x256x1024_12_0_n_n_0_1_12561024 x idx (ix3 t i j) = x (ix3 n i j) := by
  unfold Host.gather
  congr 1
  funext a
  refine Fin.ext ?_
  match a with
  | ⟨0, _⟩ =>
    show min (idx _).toInt.toNat 63 + 0 + 0 = n.val
    have e : ∀ q, q = ix2 t (0 : Fin 1) → (idx q).toInt.toNat = n := fun q hq => hq ▸ hn
    rw [e _ (by
      funext b; apply Fin.ext
      match b with
      | ⟨0, _⟩ => rfl
      | ⟨1, _⟩ => rfl)]
    omega
  | ⟨1, _⟩ => exact Nat.zero_add _
  | ⟨2, _⟩ => exact Nat.zero_add _

/-- the tokens, a block of 256 after another -/
def blocks (x : FVec Ideal S278528x1024 .bf16) : FVec Ideal S1088x256x1024 .f32 :=
  shapeCast S1088x256x1024 (extf .f32 x bitsLt_bf16_f32) shapeCasts_S278528x1024_S1088x256x1024

/-- every token times its expert's first weights -/
def first (x : FVec Ideal S278528x1024 .bf16) (e : IVec S1088 32) (w : FVec Ideal S64x1024x256 .f32) : FVec Ideal S1088x256x256 .f32 :=
  Host.dotGeneral dot_S1088x256x1024_S1088x1024x256_S1088x256x256_2_1_1_2_0_0 none (blocks x) (Host.gather gather_S64x1024x256_S1088x1_S1088x1024x256_12_0_n_n_0_1_11024256 w (expert e))

/-- x times the sigmoid of x -/
def silu (g : FVec Ideal S1088x256x256 .f32) : FVec Ideal S1088x256x256 .f32 :=
  mulf g (Host.divf (broadcastInDim S1088x256x256 ![] bcast_S_S1088x256x256 (constant S_ .f32 0x3F800000#32)) (addf (broadcastInDim S1088x256x256 ![] bcast_S_S1088x256x256 (constant S_ .f32 0x3F800000#32)) (Host.exp (Host.negf g))))

/-- the gated products times the expert's last weights -/
def second (x : FVec Ideal S278528x1024 .bf16) (e : IVec S1088 32) (wg wu : FVec Ideal S64x1024x256 .f32) (wd : FVec Ideal S64x256x1024 .f32) : FVec Ideal S1088x256x1024 .f32 :=
  Host.dotGeneral dot_S1088x256x256_S1088x256x1024_S1088x256x1024_2_1_1_2_0_0 none (mulf (silu (first x e wg)) (first x e wu)) (Host.gather gather_S64x256x1024_S1088x1_S1088x256x1024_12_0_n_n_0_1_12561024 wd (expert e))

/-- which blocks are in use -/
def used (u : IVec S1 32) : IVec S1088x1x1 1 :=
  broadcastInDim S1088x1x1 ![0] bcast_S1088_S1088x1x1_0 (cmpi .slt (iotaInDim S1088 32 0) (broadcastInDim S1088 ![] bcast_S_S1088 (shapeCast S_ u shapeCasts_S1_S_)))

/-- the reference's result -/
def REF (x : FVec Ideal S278528x1024 .bf16) (e : IVec S1088 32) (u : IVec S1 32) (wg wu : FVec Ideal S64x1024x256 .f32) (wd : FVec Ideal S64x256x1024 .f32) : FVec Ideal S278528x1024 .bf16 :=
  truncf .bf16 (shapeCast S278528x1024 (select (broadcastInDim S1088x256x1024 ![0, 1, 2] bcast_S1088x1x1_S1088x256x1024_0_1_2 (used u)) (second x e wg wu wd)
    (broadcastInDim S1088x256x1024 ![] bcast_S_S1088x256x1024 (constant S_ .f32 0x00000000#32))) shapeCasts_S1088x256x1024_S278528x1024) bitsLt_bf16_f32

section At

variable (x : FVec Ideal S278528x1024 .bf16) (e : IVec S1088 32) (u : IVec S1 32) (wg wu w : FVec Ideal S64x1024x256 .f32) (wd : FVec Ideal S64x256x1024 .f32)

/-- a token's products with its expert's first weights -/
theorem first_at (t : Fin 1088) (r : Fin 256) (f : Fin 256) (n : Fin 64) (hn : (expert e (ix2 t (0 : Fin 1))).toInt.toNat = n) :
    first x e w (ix3 t r f) = ∑ k : Fin 1024, x (ix2 (⟨256 * t + r, by omega⟩ : Fin 278528) k) * w (ix3 n k f) := by
  have hp := fun k : Fin 1024 => pick_at w (expert e) t k f n hn
  pointwise [first, blocks]
  refine Finset.sum_congr rfl fun k _ => congrArg₂ (· * ·) (congrArg x (congrArg₂ ix2 (Fin.ext ?_) rfl)) (hp k)
  dsimp only
  omega

/-- x times the sigmoid of x, number by number -/
theorem silu_at (g : FVec Ideal S1088x256x256 .f32) (t : Fin 1088) (r : Fin 256) (f : Fin 256) :
    silu g (ix3 t r f) = g (ix3 t r f) * Ideal.div 1 (1 + Ideal.exp (-g (ix3 t r f))) := by
  pointwise [silu]

/-- the products with the last weights -/
theorem second_at (t : Fin 1088) (r : Fin 256) (d : Fin 1024) (n : Fin 64) (hn : (expert e (ix2 t (0 : Fin 1))).toInt.toNat = n) :
    second x e wg wu wd (ix3 t r d) = ∑ f : Fin 256, silu (first x e wg) (ix3 t r f) * first x e wu (ix3 t r f) * wd (ix3 n f d) := by
  have hp := fun k : Fin 256 => pickDown_at wd (expert e) t k d n hn
  pointwise [second]
  exact Finset.sum_congr rfl fun k _ => congrArg _ (hp k)

/-- a result of the reference -/
theorem REF_at (t : Fin 1088) (r : Fin 256) (d : Fin 1024) :
    REF x e u wg wu wd (ix2 (⟨256 * t + r, by omega⟩ : Fin 278528) d)
      = if IntOp.cmpi .slt (BitVec.ofNat 32 t) (u (ix1 (0 : Fin 1))) = 1#1 then second x e wg wu wd (ix3 t r d) else 0 := by
  pointwise [REF, used]
  rfl

end At

end Cert.Reference2Ideal.Experts

end
-- ==== Proof.ExpertsValue.lean ====
module

public import proofs.«01_k».proof.Proof.ExpertsBlock
public import proofs.«01_k».proof.Proof.ExpertsTables
public import proofs.«01_k».proof.Proof.ExpertsRef
public import Idealize.ShloMosaic.Lib.Pipeline.Covers

@[expose] public section

set_option maxRecDepth 16384

noncomputable section

namespace Cert.Kernel2Ideal.Experts

open Cert.Kernel2Ideal Cert.Kernel2Ideal.Gen Cert.Kernel2Ideal.Facts Idealize.ShloMosaic Idealize.ShloMosaic.TcCoe Idealize.ShloMosaic.Tactic
open Cert.Reference2Ideal.Experts (REF expert first silu second REF_at expert_at first_at silu_at second_at)

variable (m : (ℓ : Loc nD τ sig) → Buf (Elt Ideal) ℓ) (hO : Ok m)

/-- the expert of a block, as the table holds it -/
abbrev block (t : Fin 1088) : BitVec 32 := (m ((((0 : Dev nD)) : Thread nD τ).loc main_arg1) : IVec S1088 32) (ix1 t)

/-- a point's coordinate is its number -/
theorem coords_at (t : Fin grid0.N) : ((grid0.coords t) 0).val = t.val := by
  have h : ∀ t : Fin grid0.N, ((grid0.coords t) 0).val = t.val := by decide +kernel
  exact h t

/-- the tokens and the results a point works on -/
theorem idx (t : Fin (cfgM m hO).N) : ((cfgM m hO).win 0).index t = ![t.val, 0] ∧ ((cfgM m hO).win 4).index t = ![t.val, 0] := by
  have h : ∀ t : Fin grid0.N, cc0_transform_0 (grid0.coords t) = ![t.val, 0] ∧ cc0_transform_4 (grid0.coords t) = ![t.val, 0] := by decide +kernel
  exact h t

/-- the word the table holds for a point -/
theorem word_at (i : grid0.Coords) (t : Fin 1088) (h : (i 0).val = t.val) :
    (tbl m).at 0 (Rect.unit (s := S1088) ![(Scalar.indexCast (BitVec.ofNat 32 (i 0).val)).toNat] S1.size (k0_off1_inb i)) numel1_S1 = block m t := by
  refine congrArg (m ((((0 : Dev nD)) : Thread nD τ).loc main_arg1) : IVec S1088 32) ?_
  funext a
  apply Fin.ext
  match a with
  | ⟨0, _⟩ =>
    have := t.isLt
    show (Scalar.indexCast (BitVec.ofNat 32 (i 0).val)).toNat + 1 * 0 = t.val
    rw [h]
    have e : (BitVec.ofNat 32 t.val).toNat = t.val := by rw [BitVec.toNat_ofNat]; omega
    exact e

/-- the weights a point works with -/
theorem idxW (t : Fin (cfgM m hO).N) (n : ℕ) (hn : (block m (⟨t.val, lt_of_lt_of_eq t.isLt N_0⟩ : Fin 1088)).toNat = n) :
    ((cfgM m hO).win 1).index t = ![n, 0, 0] ∧ ((cfgM m hO).win 2).index t = ![n, 0, 0] ∧ ((cfgM m hO).win 3).index t = ![n, 0, 0] := by
  have h := congrArg BitVec.toNat (word_at m (grid0.coords t) (⟨t.val, lt_of_lt_of_eq t.isLt N_0⟩ : Fin 1088) (coords_at t))
  rw [hn] at h
  refine ⟨?_, ?_, ?_⟩
  all_goals exact congrArg (fun n : ℕ => ![n, 0, 0]) h

variable (c : Dev nD)

/-- the tokens a point reads -/
theorem blk0 (t : Fin (cfgM m hO).N) (r : Fin 256) (k : Fin 1024) :
    (iblk m hO c 0 t : FVec Ideal S256x1024 .bf16) (ix2 r k) = (m ((c : Thread nD τ).loc main_arg0) : FVec Ideal S278528x1024 .bf16)
      (ix2 (⟨256 * t.val + r, by have : t.val < 1088 := lt_of_lt_of_eq t.isLt N_0; omega⟩ : Fin 278528) k) := by
  have hN : t.val < 1088 := lt_of_lt_of_eq t.isLt N_0
  blk_simp [iblk]
  blk_ext [idx m hO t]

/-- the first weights a point reads -/
theorem blk1 (t : Fin (cfgM m hO).N) (n : Fin 64) (hn : (block m (⟨t.val, lt_of_lt_of_eq t.isLt N_0⟩ : Fin 1088)).toNat = n) (k : Fin 1024) (f : Fin 256) :
    (iblk m hO c 1 t : FVec Ideal S1x1024x256 .f32) (ix3 (0 : Fin 1) k f) = (m ((c : Thread nD τ).loc main_arg3) : FVec Ideal S64x1024x256 .f32) (ix3 n k f) := by
  blk_simp [iblk]
  blk_ext [idxW m hO t n hn]

/-- the second weights a point reads -/
theorem blk2 (t : Fin (cfgM m hO).N) (n : Fin 64) (hn : (block m (⟨t.val, lt_of_lt_of_eq t.isLt N_0⟩ : Fin 1088)).toNat = n) (k : Fin 1024) (f : Fin 256) :
    (iblk m hO c 2 t : FVec Ideal S1x1024x256 .f32) (ix3 (0 : Fin 1) k f) = (m ((c : Thread nD τ).loc main_arg4) : FVec Ideal S64x1024x256 .f32) (ix3 n k f) := by
  blk_simp [iblk]
  blk_ext [idxW m hO t n hn]

/-- the last weights a point reads -/
theorem blk3 (t : Fin (cfgM m hO).N) (n : Fin 64) (hn : (block m (⟨t.val, lt_of_lt_of_eq t.isLt N_0⟩ : Fin 1088)).toNat = n) (f : Fin 256) (d : Fin 1024) :
    (iblk m hO c 3 t : FVec Ideal S1x256x1024 .f32) (ix3 (0 : Fin 1) f d) = (m ((c : Thread nD τ).loc main_arg5) : FVec Ideal S64x256x1024 .f32) (ix3 n f d) := by
  blk_simp [iblk]
  blk_ext [idxW m hO t n hn]

/-- the results' blocks cover the array -/
theorem covers : ((cfgM m hO).win 4).Covers := by
  have h4 : ∀ t : Fin grid0.N, cc0_transform_4 (grid0.coords t) = ![t.val, 0] := by decide +kernel
  refine Pipeline.Window.covers_of_index_surj _ rfl (fun a => ?_) fun β => ?_
  · match a with
    | ⟨0, _⟩ => exact (by decide : 0 < 256)
    | ⟨1, _⟩ => exact (by decide : 0 < 1024)
  · have h0 : (β ⟨0, Nat.zero_lt_two⟩).val < 1088 := lt_of_lt_of_eq (β ⟨0, Nat.zero_lt_two⟩).isLt (by show (278528 + 256 - 1) / 256 = 1088; rfl)
    have h1 : (β ⟨1, Nat.one_lt_two⟩).val < 1 := lt_of_lt_of_eq (β ⟨1, Nat.one_lt_two⟩).isLt (by show (1024 + 1024 - 1) / 1024 = 1; rfl)
    refine ⟨⟨(β ⟨0, Nat.zero_lt_two⟩).val, lt_of_lt_of_eq h0 N_0.symm⟩, fun a => ?_⟩
    refine (congrFun (h4 _) a).trans ?_
    match a with
    | ⟨0, _⟩ => rfl
    | ⟨1, _⟩ => exact (Nat.lt_one_iff.1 h1).symm

/-- the count of used blocks, as the body reads it -/
theorem word_eq : word (F := Ideal) c (tbl m 1) = (m ((((0 : Dev nD)) : Thread nD τ).loc main_arg2) : IVec S1 32) (ix1 (0 : Fin 1)) := by
  refine congrArg (m ((((0 : Dev nD)) : Thread nD τ).loc main_arg2) : IVec S1 32) ?_
  funext a
  apply Fin.ext
  match a with
  | ⟨0, _⟩ => rfl

/-- the branch the body takes is the reference's comparison -/
theorem cond_iff (t : Fin (cfgM m hO).N) (w : BitVec 32) : k0_cond1 (grid0.coords t) w = 1#1 ↔ IntOp.cmpi .slt (BitVec.ofNat 32 t.val) w = 1#1 := by
  unfold k0_cond1
  rw [coords_at t]
  simp only [Scalar.cmpi, IntOp.cmpi, Scalar.extui]
  cases h : (BitVec.ofNat 32 t.val).slt w <;> simp

/-- what a used block's point stores -/
theorem stored_used (t : Fin (cfgM m hO).N) (h1 : k0_cond1 (grid0.coords t) (word (F := Ideal) c (tbl m 1)) = 1#1) :
    outsAt0 m hO c t = k0_pay1 (F := Ideal) (iblk m hO c 0 t) (iblk m hO c 1 t) (iblk m hO c 2 t) (iblk m hO c 3 t) := by
  unfold outsAt0
  exact (dif_pos h1).trans (outA_eq c _ _ _ _ _ _ _ _ _ _ _ _ _ _ _ _ _ _ _)

/-- what an unused block's point stores -/
theorem stored_unused (t : Fin (cfgM m hO).N) (h1 : ¬ k0_cond1 (grid0.coords t) (word (F := Ideal) c (tbl m 1)) = 1#1) :
    outsAt0 m hO c t = k0_pay2 (F := Ideal) := by
  unfold outsAt0
  exact (dif_neg h1).trans (outB_eq c _ _ _ _ _ _ _ _ _ _ _ _ _ _ _ _ _ _ _)

/-- a used block's numbers are the reference's, where the block's tokens and weights are -/
theorem pay1_ref (X : FVec Ideal S278528x1024 .bf16) (e : IVec S1088 32) (G U : FVec Ideal S64x1024x256 .f32) (D : FVec Ideal S64x256x1024 .f32)
    (t : Fin 1088) (n : Fin 64) (hn : (expert e (ix2 t (0 : Fin 1))).toInt.toNat = n)
    (x0 : FVec Ideal S256x1024 .bf16) (x1 x2 : FVec Ideal S1x1024x256 .f32) (x3 : FVec Ideal S1x256x1024 .f32)
    (h0 : ∀ r k, x0 (ix2 r k) = X (ix2 (⟨256 * t.val + (r : Fin 256).val, by omega⟩ : Fin 278528) k))
    (h1 : ∀ k f, x1 (ix3 (0 : Fin 1) k f) = G (ix3 n k f)) (h2 : ∀ k f, x2 (ix3 (0 : Fin 1) k f) = U (ix3 n k f)) (h3 : ∀ f d, x3 (ix3 (0 : Fin 1) f d) = D (ix3 n f d))
    (r : Fin 256) (d : Fin 1024) : (k0_pay1 (F := Ideal) x0 x1 x2 x3 (ix2 r d) : EReal) = second X e G U D (ix3 t r d) := by
  rw [pay1_at, second_at _ _ _ _ _ _ _ _ n hn]
  refine Finset.sum_congr rfl fun f _ => ?_
  rw [silu_at, first_at _ _ _ _ _ _ n hn, first_at _ _ _ _ _ _ n hn]
  simp only [h0, h1, h2, h3, zero_sub]

/-- what a point stores is the reference's block -/
theorem stored (hd : ∀ t : Fin 1088, (block m t).toNat < 64 ∧ (block m t).toInt = (block m t).toNat)
    (t : Fin (cfgM m hO).N) (r : Fin 256) (d : Fin 1024) :
    (outsAt0 m hO c t : FVec Ideal S256x1024 .bf16) (ix2 r d)
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (ix2 (⟨256 * t.val + r, by have : t.val < 1088 := lt_of_lt_of_eq t.isLt N_0; omega⟩ : Fin 278528) d) := by
  have hN : t.val < 1088 := lt_of_lt_of_eq t.isLt N_0
  obtain rfl : c = 0 := Subsingleton.elim _ _
  refine Eq.trans ?_ (REF_at _ _ _ _ _ _ (⟨t.val, hN⟩ : Fin 1088) r d).symm
  by_cases h1 : k0_cond1 (grid0.coords t) (word (F := Ideal) 0 (tbl m 1)) = 1#1
  · rw [stored_used m hO 0 t h1, if_pos (by rw [← word_eq m 0]; exact (cond_iff m hO t _).1 h1)]
    obtain ⟨hb, hi⟩ := hd (⟨t.val, hN⟩ : Fin 1088)
    have he : (expert (m ((((0 : Dev nD)) : Thread nD τ).loc main_arg1)) (ix2 (⟨t.val, hN⟩ : Fin 1088) (0 : Fin 1))).toInt.toNat = ((⟨_, hb⟩ : Fin 64) : ℕ) := by
      rw [expert_at _ _ _ hi]
      exact (congrArg Int.toNat hi).trans (Int.toNat_natCast _)
    exact pay1_ref _ _ _ _ _ (⟨t.val, hN⟩ : Fin 1088) ⟨_, hb⟩ he _ _ _ _ (blk0 m hO 0 t) (blk1 m hO 0 t ⟨_, hb⟩ rfl) (blk2 m hO 0 t ⟨_, hb⟩ rfl) (blk3 m hO 0 t ⟨_, hb⟩ rfl) r d
  · rw [stored_unused m hO 0 t h1, if_neg (by rw [← word_eq m 0]; exact fun h => h1 ((cond_iff m hO t _).2 h))]
    exact pay2_at r d

/-- the same at an index of the block -/
theorem stored_at (hd : ∀ t : Fin 1088, (block m t).toNat < 64 ∧ (block m t).toInt = (block m t).toNat)
    (t : Fin (cfgM m hO).N) (y : S256x1024.Idx) :
    (outsAt0 m hO c t : FVec Ideal S256x1024 .bf16) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (ix2 (⟨256 * t.val + (y 0).val, by have : t.val < 1088 := lt_of_lt_of_eq t.isLt N_0; have : (y 0).val < 256 := (y 0).isLt; omega⟩ : Fin 278528) (⟨(y 1).val, (y 1).isLt⟩ : Fin 1024)) := by
  have e := stored m hO c hd t (⟨(y 0).val, (y 0).isLt⟩ : Fin 256) (⟨(y 1).val, (y 1).isLt⟩ : Fin 1024)
  have ey : y = ix2 (⟨(y 0).val, (y 0).isLt⟩ : Fin 256) (⟨(y 1).val, (y 1).isLt⟩ : Fin 1024) := by
    funext a
    apply Fin.ext
    match a with
    | ⟨0, _⟩ => rfl
    | ⟨1, _⟩ => rfl
  exact (congrArg _ ey).trans e

/-- the array the kernel leaves is the reference's -/
theorem final (hd : ∀ t : Fin 1088, (block m t).toNat < 64 ∧ (block m t).toInt = (block m t).toNat) :
    (dats m hO 0 c).arrAt 4 (cfgM m hO).N
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 4 _ (covers m hO) fun t hf y => ?_
  have hN : t.val < 1088 := lt_of_lt_of_eq t.isLt N_0
  blk_simp
  rw [after0_4]
  refine (stored_at m hO c hd t y).trans ?_
  blk_ext [idx m hO t]

end Cert.Kernel2Ideal.Experts

end
-- ==== Proof.Rows.lean ====
module

public import Idealize.ShloMosaic.Lib.Pointwise
public import Idealize.ShloMosaic.Lib.ValueIdxCore

@[expose] public section

noncomputable section

namespace Rows

open Idealize.ShloMosaic

/-- a row over its root mean square, with the gain, the scale and the shift of its columns -/
def normed (x g sc sh : Fin 1024 → EReal) (d : Fin 1024) : EReal :=
  x d * Ideal.rsqrt (Ideal.div (∑ k : Fin 1024, x k * x k) (Ideal.ofBits .f32 0x44800000#32) + Ideal.ofBits .f32 0x358637BD#32) * g d * (1 + sc d) + sh d

/-- three rows side by side times a matrix -/
def mixed (a b c : Fin 512 → EReal) (w : Fin 1536 → EReal) : EReal :=
  (∑ k : Fin 512, a k * w ⟨k, by omega⟩) + (∑ k : Fin 512, b k * w ⟨512 + k, by omega⟩) + ∑ k : Fin 512, c k * w ⟨1024 + k, by omega⟩

/-- a sum over 1536 numbers, third by third -/
theorem sum_thirds (f : Fin 1536 → EReal) :
    (∑ k, f k) = (∑ k : Fin 512, f ⟨k, by omega⟩) + (∑ k : Fin 512, f ⟨512 + k, by omega⟩) + ∑ k : Fin 512, f ⟨1024 + k, by omega⟩ := by
  have e1 : (∑ k, f k) = (∑ k : Fin 1024, f ⟨k, by omega⟩) + ∑ k : Fin 512, f ⟨1024 + k, by omega⟩ := Fin.sum_univ_add (a := 1024) (b := 512) f
  have e2 : (∑ k : Fin 1024, f ⟨k, by omega⟩) = (∑ k : Fin 512, f ⟨k, by omega⟩) + ∑ k : Fin 512, f ⟨512 + k, by omega⟩ :=
    Fin.sum_univ_add (a := 512) (b := 512) fun k : Fin 1024 => f ⟨k, by omega⟩
  rw [e1, e2]

/-- the integer zero arrays are filled up with is the number zero -/
theorem zero_word : (FloatOps.sitofp .f32 (0#32 : BitVec 32) : Ideal .f32) = (0 : EReal) := by
  show (((0#32 : BitVec 32).toInt : ℝ) : EReal) = 0
  simp

/-- the sigmoid -/
def sigmoid (z : EReal) : EReal := Ideal.div 1 (1 + Ideal.exp (-z))

end Rows

end
-- ==== Proof.OutprojBlock.lean ====
module

public import proofs.«01_k».proof.Proof.Gen.Kernel3Ideal.Value
public import proofs.«01_k».proof.Proof.Rows
public import Idealize.ShloMosaic.Lib.Pipeline.ValueKit

@[expose] public section

set_option maxRecDepth 16384

noncomputable section

namespace Cert.Kernel3Ideal.Outproj

open Cert.Kernel3Ideal Cert.Kernel3Ideal.Gen Idealize.ShloMosaic Idealize.ShloMosaic.TcCoe Idealize.SL.Sem

variable (x0 x1 x2 : FVec Ideal S512x512 .bf16) (x3 : FVec Ideal S512x1024 .f32) (x4 : FVec Ideal S1536x1024 .bf16) (x5 : FVec Ideal S1x1x1024 .f32)
  (x6 : FVec Ideal S1x1024 .f32) (x7 x8 : FVec Ideal S1x1x1024 .f32) (x9 : FVec Ideal S1024x128 .bf16)

/-- a row of a block after the mixers: the row plus the gated product -/
def rowX (r : Fin 512) (d : Fin 1024) : EReal :=
  x3 (ix2 r d) + x5 (ix3 (0 : Fin 1) (0 : Fin 1) d) * Rows.mixed (fun k => x0 (ix2 r k)) (fun k => x1 (ix2 r k)) (fun k => x2 (ix2 r k)) (fun k => x4 (ix2 k d))

/-- the same row normed -/
def rowH (r : Fin 512) (d : Fin 1024) : EReal :=
  Rows.normed (rowX x0 x1 x2 x3 x4 x5 r) (fun d => x6 (ix2 (0 : Fin 1) d)) (fun d => x7 (ix3 (0 : Fin 1) (0 : Fin 1) d)) (fun d => x8 (ix3 (0 : Fin 1) (0 : Fin 1) d)) d

/-- what the first result's block holds -/
theorem out10_at (r : Fin 512) (d : Fin 1024) : out0_10 (F := Ideal) x0 x1 x2 x3 x4 x5 x6 x7 x8 x9 (ix2 r d) = rowX x0 x1 x2 x3 x4 x5 r d := by
  unfold_out out0_10
  canon_tiles z e
  idx_vars z
  obtain rfl : r = z0 := Fin.ext e0
  obtain rfl : d = z1 := Fin.ext e1
  pointwise [k0_pay3, rowX, Rows.mixed]

/-- what the second result's block holds -/
theorem out11_at (r : Fin 512) (d : Fin 1024) : out0_11 (F := Ideal) x0 x1 x2 x3 x4 x5 x6 x7 x8 x9 (ix2 r d) = rowH x0 x1 x2 x3 x4 x5 x6 x7 x8 r d := by
  unfold_out out0_11
  canon_tiles z e
  idx_vars z
  obtain rfl : r = z0 := Fin.ext e0
  obtain rfl : d = z1 := Fin.ext e1
  pointwise [k0_pay1, k0_pay3, k0_pay4, k0_pay5, rowH, rowX, Rows.mixed, Rows.normed]

/-- what the third result's block holds -/
theorem out12_at (r : Fin 512) (l : Fin 128) : out0_12 (F := Ideal) x0 x1 x2 x3 x4 x5 x6 x7 x8 x9 (ix2 r l)
    = Rows.sigmoid (∑ d : Fin 1024, rowH x0 x1 x2 x3 x4 x5 x6 x7 x8 r d * x9 (ix2 d l)) := by
  unfold_out out0_12
  canon_tiles z e
  idx_vars z
  obtain rfl : r = z0 := Fin.ext e0
  obtain rfl : l = z1 := Fin.ext e1
  pointwise [k0_pay2, k0_pay1, k0_pay3, k0_pay4, k0_pay5, rowH, rowX, Rows.mixed, Rows.normed, Rows.sigmoid]
  rw [zero_sub]

end Cert.Kernel3Ideal.Outproj

end
-- ==== Proof.OutprojRef.lean ====
module

public import proofs.«01_k».proof.Proof.Gen.Reference3Ideal.Run
public import proofs.«01_k».proof.Proof.Rows

@[expose] public section

set_option maxRecDepth 16384

noncomputable section

namespace Cert.Reference3Ideal.Outproj

open Cert.Reference3Ideal Cert.Reference3Ideal.Gen Cert.Reference3Ideal.Facts Idealize.ShloMosaic

variable (ys om od : FVec Ideal S32768x512 .bf16) (x : FVec Ideal S8x4096x1024 .f32) (w : FVec Ideal S1536x1024 .f32) (g1 : FVec Ideal S8x1x1024 .f32)
  (gn : FVec Ideal S1024 .f32) (sc sh : FVec Ideal S8x1x1024 .f32) (wr : FVec Ideal S1024x64 .f32)

/-- the tokens after the mixers -/
def after : FVec Ideal S8x4096x1024 .f32 :=
  addf x (mulf (broadcastInDim S8x4096x1024 ![0, 1, 2] bcast_S8x1x1024_S8x4096x1024_0_1_2 g1)
    (Host.dotGeneral dot_S8x4096x1536_S1536x1024_S8x4096x1024_2_0_01_1_n_n none
      (shapeCast S8x4096x1536 (extf .f32 (concatenate S32768x1536 1 [⟨S32768x512, ys⟩, ⟨S32768x512, om⟩, ⟨S32768x512, od⟩] concatenates_S32768x512_S32768x512_S32768x512_S32768x1536_d1 : FVec Ideal S32768x1536 .bf16) bitsLt_bf16_f32) shapeCasts_S32768x1536_S8x4096x1536) w))

/-- tokens normed, scaled and shifted -/
def norms (y : FVec Ideal S8x4096x1024 .f32) : FVec Ideal S8x4096x1024 .f32 :=
  addf (mulf (mulf (mulf y (broadcastInDim S8x4096x1024 ![0, 1, 2] bcast_S8x4096x1_S8x4096x1024_0_1_2 (Host.rsqrt (addf (Host.divf (broadcastInDim S8x4096x1 ![0, 1] bcast_S8x4096_S8x4096x1_0_1
      (Host.reduceAdd (mulf y y) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 gn)))
    (broadcastInDim S8x4096x1024 ![0, 1, 2] bcast_S8x1x1024_S8x4096x1024_0_1_2 (addf (broadcastInDim S8x1x1024 ![] bcast_S_S8x1x1024 (constant S_ .f32 0x3F800000#32)) sc)))
    (broadcastInDim S8x4096x1024 ![0, 1, 2] bcast_S8x1x1024_S8x4096x1024_0_1_2 sh)

/-- tokens one below another -/
def flat (y : FVec Ideal S8x4096x1024 .f32) : FVec Ideal S32768x1024 .f32 := shapeCast S32768x1024 y shapeCasts_S8x4096x1024_S32768x1024

/-- the first result -/
def REF1 : FVec Ideal S32768x1024 .f32 := flat (after ys om od x w g1)

/-- the second result -/
def REF2 : FVec Ideal S32768x1024 .bf16 := truncf .bf16 (flat (norms gn sc sh (after ys om od x w g1))) bitsLt_bf16_f32

/-- the router's scores of tokens -/
def score (h : FVec Ideal S32768x1024 .f32) : FVec Ideal S32768x128 .f32 :=
  Host.divf (broadcastInDim S32768x128 ![] bcast_S_S32768x128 (constant S_ .f32 0x3F800000#32)) (addf (broadcastInDim S32768x128 ![] bcast_S_S32768x128 (constant S_ .f32 0x3F800000#32))
    (Host.exp (Host.negf (pad S32768x128 ![0, 0] ![0, 64] ![0, 0] (Host.dotGeneral dot_S32768x1024_S1024x64_S32768x64_1_0_0_1_n_n none h wr) (sitofp .f32 (constantI S_ 32 0#32)) pads_S32768x64_S32768x128_000_0640 h_S_))))

/-- the third result -/
def REF3 : FVec Ideal S32768x128 .f32 := score wr (flat (norms gn sc sh (after ys om od x w g1)))

/-- a number of a token after the mixers -/
theorem after_at (b : Fin 8) (i : Fin 4096) (d : Fin 1024) :
    after ys om od x w g1 (ix3 b i d) = x (ix3 b i d) + g1 (ix3 b (0 : Fin 1) d)
      * Rows.mixed (fun k => ys (ix2 (⟨4096 * b + i, by omega⟩ : Fin 32768) k)) (fun k => om (ix2 (⟨4096 * b + i, by omega⟩ : Fin 32768) k)) (fun k => od (ix2 (⟨4096 * b + i, by omega⟩ : Fin 32768) k)) (fun k => w (ix2 k d)) := by
  pointwise [after, Rows.mixed]
  refine congrArg (x (ix3 b i d) + g1 (ix3 b 0 d) * ·) ?_
  rw [Rows.sum_thirds]
  have e : (⟨(b : ℕ) * 4096 + i, by omega⟩ : Fin 32768) = ⟨4096 * b + i, by omega⟩ := Fin.ext (by dsimp only; omega)
  refine congrArg₂ (· + ·) (congrArg₂ (· + ·) ?_ ?_) ?_
  · refine Finset.sum_congr rfl fun k _ => ?_
    rw [dif_pos (show (k : ℕ) < 512 from k.isLt), e]
  · refine Finset.sum_congr rfl fun k _ => ?_
    rw [dif_neg (show ¬512 + (k : ℕ) < 512 by omega), dif_pos (show 512 + (k : ℕ) - 512 < 512 by omega), e]
    exact congrArg (fun j => om (ix2 _ j) * _) (Fin.ext (by dsimp only; omega))
  · refine Finset.sum_congr rfl fun k _ => ?_
    rw [dif_neg (show ¬1024 + (k : ℕ) < 512 by omega), dif_neg (show ¬1024 + (k : ℕ) - 512 < 512 by omega), e]
    exact congrArg (fun j => od (ix2 _ j) * _) (Fin.ext (by dsimp only; omega))

/-- a number of a normed token -/
theorem norms_at (y : FVec Ideal S8x4096x1024 .f32) (b : Fin 8) (i : Fin 4096) (d : Fin 1024) :
    norms gn sc sh y (ix3 b i d) = Rows.normed (fun d => y (ix3 b i d)) (fun d => gn (ix1 d)) (fun d => sc (ix3 b (0 : Fin 1) d)) (fun d => sh (ix3 b (0 : Fin 1) d)) d := by
  pointwise [norms, Rows.normed]

/-- a number of the tokens one below another -/
theorem flat_at (y : FVec Ideal S8x4096x1024 .f32) (b : Fin 8) (i : Fin 4096) (d : Fin 1024) :
    flat y (ix2 (⟨4096 * b + i, by omega⟩ : Fin 32768) d) = y (ix3 b i d) := by
  pointwise [flat]

/-- a score of a token -/
theorem score_at (h : FVec Ideal S32768x1024 .f32) (i : Fin 32768) (l : Fin 128) :
    score wr h (ix2 i l) = Rows.sigmoid (if hl : (l : ℕ) < 64 then ∑ d : Fin 1024, h (ix2 i d) * wr (ix2 d (⟨l, hl⟩ : Fin 64)) else 0) := by
  pointwise [score, Rows.sigmoid]
  rw [Rows.zero_word]

end Cert.Reference3Ideal.Outproj

end
-- ==== Proof.OutprojValue.lean ====
module

public import proofs.«01_k».proof.Proof.OutprojBlock
public import proofs.«01_k».proof.Proof.OutprojRef

@[expose] public section

set_option maxRecDepth 16384

noncomputable section

namespace Cert.Kernel3Ideal.Outproj

open Cert.Kernel3Ideal Cert.Kernel3Ideal.Gen Idealize.ShloMosaic Idealize.ShloMosaic.TcCoe Idealize.SL.Sem
open Cert.Reference3Ideal.Outproj (REF1 REF2 REF3 after norms flat score after_at norms_at flat_at score_at)

variable (m : (ℓ : Loc nD τ sig) → Buf (Elt Ideal) ℓ) (c : Dev nD)

/-- the block each window takes at each point of the grid -/
theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![t.val / 8, 0, 0] ∧ win0_6.index t = ![0, 0]
    ∧ win0_7.index t = ![t.val / 8, 0, 0] ∧ win0_8.index t = ![t.val / 8, 0, 0] ∧ win0_9.index t = ![0, 0]
    ∧ win0_10.index t = ![t.val, 0] ∧ win0_11.index t = ![t.val, 0] ∧ win0_12.index t = ![t.val, 0] :=
  (by decide +kernel : ∀ t : Fin grid0.N, _)

/-- the matrix of the output projection at the kernel's launch -/
theorem V_v0 : V m c main_v0 = truncf (F := Ideal) .bf16 (m ((c : Thread nD τ).loc main_arg4) : FVec Ideal S1536x1024 .f32) bitsLt_bf16_f32 := by
  unfold V
  simp only [List.flatten_cons, List.flatten_nil, List.cons_append, List.nil_append, hostOps0, hostOps0_1, hostOps0_2]
  entry_read
  rfl

/-- the gain at the kernel's launch -/
theorem V_v1 : V m c main_v1 = (broadcastInDim S1x1024 ![1] bcast_S1024_S1x1024_1 (m ((c : Thread nD τ).loc main_arg6)) : FVec Ideal S1x1024 .f32) := by
  unfold V
  simp only [List.flatten_cons, List.flatten_nil, List.cons_append, List.nil_append, hostOps0, hostOps0_1, hostOps0_2]
  entry_read
  rfl

/-- the router's matrix at the kernel's launch -/
theorem V_v3 : V m c main_v3 = truncf (F := Ideal) .bf16 (pad S1024x128 ![0, 0] ![0, 64] ![0, 0] (m ((c : Thread nD τ).loc main_arg9) : FVec Ideal S1024x64 .f32) (sitofp .f32 (constantI S_ 32 0#32)) pads_S1024x64_S1024x128_000_0640 h_S_) bitsLt_bf16_f32 := by
  unfold V
  simp only [List.flatten_cons, List.flatten_nil, List.cons_append, List.nil_append, hostOps0, hostOps0_1, hostOps0_2]
  entry_read
  rfl

/-- the tokens at the kernel's launch -/
theorem V_v4 : V m c main_v4 = (shapeCast S32768x1024 (m ((c : Thread nD τ).loc main_arg3)) shapeCasts_S8x4096x1024_S32768x1024 : FVec Ideal S32768x1024 .f32) := by
  unfold V
  simp only [List.flatten_cons, List.flatten_nil, List.cons_append, List.nil_append, hostOps0, hostOps0_1, hostOps0_2]
  entry_read
  rfl

section Arrays

variable (A : FVec Ideal S8x4096x1024 .f32) (G : FVec Ideal S1024 .f32) (R : FVec Ideal S1024x64 .f32)

/-- a number of the tokens one below another -/
theorem tokens_at (b : Fin 8) (i : Fin 4096) (d : Fin 1024) :
    (shapeCast S32768x1024 A shapeCasts_S8x4096x1024_S32768x1024) (ix2 (⟨4096 * b + i, by omega⟩ : Fin 32768) d) = A (ix3 b i d) := by
  pointwise []

/-- a number of the gain -/
theorem gain_at (d : Fin 1024) : (broadcastInDim S1x1024 ![1] bcast_S1024_S1x1024_1 G) (ix2 (0 : Fin 1) d) = G (ix1 d) := by
  pointwise []

/-- a number of the router's matrix, with zeros past its columns -/
theorem router_at (d : Fin 1024) (l : Fin 128) :
    (truncf (F := Ideal) .bf16 (pad S1024x128 ![0, 0] ![0, 64] ![0, 0] R (sitofp .f32 (constantI S_ 32 0#32)) pads_S1024x64_S1024x128_000_0640 h_S_) bitsLt_bf16_f32) (ix2 d l)
      = if hl : (l : ℕ) < 64 then R (ix2 d (⟨l, hl⟩ : Fin 64)) else (0 : EReal) := by
  pointwise []
  rw [Rows.zero_word]

end Arrays

section Blocks

variable (t : Fin cfg0.N)

/-- the state-space rows a point reads -/
theorem blk0 (r : Fin 512) (k : Fin 512) : (iblk m c 0 t : FVec Ideal S512x512 .bf16) (ix2 r k)
    = (m ((c : Thread nD τ).loc main_arg0) : FVec Ideal S32768x512 .bf16) (ix2 (⟨512 * t.val + r, by have : t.val < 64 := lt_of_lt_of_eq t.isLt N_0; omega⟩ : Fin 32768) k) := by
  have hN : t.val < 64 := lt_of_lt_of_eq t.isLt N_0
  blk_simp [iblk]
  rw [V_main_arg0]
  blk_ext [idx t]

/-- the latent attention's rows a point reads -/
theorem blk1 (r : Fin 512) (k : Fin 512) : (iblk m c 1 t : FVec Ideal S512x512 .bf16) (ix2 r k)
    = (m ((c : Thread nD τ).loc main_arg1) : FVec Ideal S32768x512 .bf16) (ix2 (⟨512 * t.val + r, by have : t.val < 64 := lt_of_lt_of_eq t.isLt N_0; omega⟩ : Fin 32768) k) := by
  have hN : t.val < 64 := lt_of_lt_of_eq t.isLt N_0
  blk_simp [iblk]
  rw [V_main_arg1]
  blk_ext [idx t]

/-- the differential attention's rows a point reads -/
theorem blk2 (r : Fin 512) (k : Fin 512) : (iblk m c 2 t : FVec Ideal S512x512 .bf16) (ix2 r k)
    = (m ((c : Thread nD τ).loc main_arg2) : FVec Ideal S32768x512 .bf16) (ix2 (⟨512 * t.val + r, by have : t.val < 64 := lt_of_lt_of_eq t.isLt N_0; omega⟩ : Fin 32768) k) := by
  have hN : t.val < 64 := lt_of_lt_of_eq t.isLt N_0
  blk_simp [iblk]
  rw [V_main_arg2]
  blk_ext [idx t]

/-- the tokens a point reads, in the flat array -/
theorem blk3' (r : Fin 512) (d : Fin 1024) : (iblk m c 3 t : FVec Ideal S512x1024 .f32) (ix2 r d)
    = (V m c main_v4 : FVec Ideal S32768x1024 .f32) (ix2 (⟨4096 * (t.val / 8) + (512 * (t.val % 8) + r), by have : t.val < 64 := lt_of_lt_of_eq t.isLt N_0; omega⟩ : Fin 32768) d) := by
  have hN : t.val < 64 := lt_of_lt_of_eq t.isLt N_0
  blk_simp [iblk]
  blk_ext [idx t]

/-- the tokens a point reads -/
theorem blk3 (r : Fin 512) (d : Fin 1024) : (iblk m c 3 t : FVec Ideal S512x1024 .f32) (ix2 r d)
    = (m ((c : Thread nD τ).loc main_arg3) : FVec Ideal S8x4096x1024 .f32)
      (ix3 (⟨t.val / 8, by have : t.val < 64 := lt_of_lt_of_eq t.isLt N_0; omega⟩ : Fin 8) (⟨512 * (t.val % 8) + r, by omega⟩ : Fin 4096) d) := by
  rw [blk3', V_v4]
  exact tokens_at _ (⟨t.val / 8, by have : t.val < 64 := lt_of_lt_of_eq t.isLt N_0; omega⟩ : Fin 8) (⟨512 * (t.val % 8) + r, by omega⟩ : Fin 4096) d

/-- the matrix a point reads -/
theorem blk4 (k : Fin 1536) (d : Fin 1024) : (iblk m c 4 t : FVec Ideal S1536x1024 .bf16) (ix2 k d)
    = (m ((c : Thread nD τ).loc main_arg4) : FVec Ideal S1536x1024 .f32) (ix2 k d) := by
  have e : (iblk m c 4 t : FVec Ideal S1536x1024 .bf16) (ix2 k d) = (V m c main_v0 : FVec Ideal S1536x1024 .bf16) (ix2 k d) := by
    blk_simp [iblk]
    blk_ext [idx t]
  rw [e, V_v0]
  rfl

/-- the gates a point reads -/
theorem blk5 (d : Fin 1024) : (iblk m c 5 t : FVec Ideal S1x1x1024 .f32) (ix3 (0 : Fin 1) (0 : Fin 1) d)
    = (m ((c : Thread nD τ).loc main_arg5) : FVec Ideal S8x1x1024 .f32) (ix3 (⟨t.val / 8, by have : t.val < 64 := lt_of_lt_of_eq t.isLt N_0; omega⟩ : Fin 8) (0 : Fin 1) d) := by
  have hN : t.val < 64 := lt_of_lt_of_eq t.isLt N_0
  blk_simp [iblk]
  rw [V_main_arg5]
  blk_ext [idx t]

/-- the gain a point reads -/
theorem blk6 (d : Fin 1024) : (iblk m c 6 t : FVec Ideal S1x1024 .f32) (ix2 (0 : Fin 1) d)
    = (m ((c : Thread nD τ).loc main_arg6) : FVec Ideal S1024 .f32) (ix1 d) := by
  have e : (iblk m c 6 t : FVec Ideal S1x1024 .f32) (ix2 (0 : Fin 1) d) = (V m c main_v1 : FVec Ideal S1x1024 .f32) (ix2 (0 : Fin 1) d) := by
    blk_simp [iblk]
    blk_ext [idx t]
  rw [e, V_v1]
  exact gain_at _ d

/-- the scales a point reads -/
theorem blk7 (d : Fin 1024) : (iblk m c 7 t : FVec Ideal S1x1x1024 .f32) (ix3 (0 : Fin 1) (0 : Fin 1) d)
    = (m ((c : Thread nD τ).loc main_arg7) : FVec Ideal S8x1x1024 .f32) (ix3 (⟨t.val / 8, by have : t.val < 64 := lt_of_lt_of_eq t.isLt N_0; omega⟩ : Fin 8) (0 : Fin 1) d) := by
  have hN : t.val < 64 := lt_of_lt_of_eq t.isLt N_0
  blk_simp [iblk]
  rw [V_main_arg7]
  blk_ext [idx t]

/-- the shifts a point reads -/
theorem blk8 (d : Fin 1024) : (iblk m c 8 t : FVec Ideal S1x1x1024 .f32) (ix3 (0 : Fin 1) (0 : Fin 1) d)
    = (m ((c : Thread nD τ).loc main_arg8) : FVec Ideal S8x1x1024 .f32) (ix3 (⟨t.val / 8, by have : t.val < 64 := lt_of_lt_of_eq t.isLt N_0; omega⟩ : Fin 8) (0 : Fin 1) d) := by
  have hN : t.val < 64 := lt_of_lt_of_eq t.isLt N_0
  blk_simp [iblk]
  rw [V_main_arg8]
  blk_ext [idx t]

/-- the router's matrix a point reads -/
theorem blk9 (d : Fin 1024) (l : Fin 128) : (iblk m c 9 t : FVec Ideal S1024x128 .bf16) (ix2 d l)
    = if hl : (l : ℕ) < 64 then (m ((c : Thread nD τ).loc main_arg9) : FVec Ideal S1024x64 .f32) (ix2 d (⟨l, hl⟩ : Fin 64)) else (0 : EReal) := by
  have e : (iblk m c 9 t : FVec Ideal S1024x128 .bf16) (ix2 d l) = (V m c main_v3 : FVec Ideal S1024x128 .bf16) (ix2 d l) := by
    blk_simp [iblk]
    blk_ext [idx t]
  rw [e, V_v3]
  exact router_at _ d l

end Blocks

section Match

variable (ys om od : FVec Ideal S32768x512 .bf16) (x : FVec Ideal S8x4096x1024 .f32) (w : FVec Ideal S1536x1024 .f32) (g1 : FVec Ideal S8x1x1024 .f32)
  (gn : FVec Ideal S1024 .f32) (sc sh : FVec Ideal S8x1x1024 .f32) (wr : FVec Ideal S1024x64 .f32)
  (x0 x1 x2 : FVec Ideal S512x512 .bf16) (x3 : FVec Ideal S512x1024 .f32) (x4 : FVec Ideal S1536x1024 .bf16) (x5 : FVec Ideal S1x1x1024 .f32)
  (x6 : FVec Ideal S1x1024 .f32) (x7 x8 : FVec Ideal S1x1x1024 .f32) (x9 : FVec Ideal S1024x128 .bf16) (n : ℕ) (hn : n < 64)

/-- the blocks a point reads are those of the arguments -/
structure Reads : Prop where
  h0 : ∀ r k : Fin 512, x0 (ix2 r k) = ys (ix2 (⟨512 * n + r, by omega⟩ : Fin 32768) k)
  h1 : ∀ r k : Fin 512, x1 (ix2 r k) = om (ix2 (⟨512 * n + r, by omega⟩ : Fin 32768) k)
  h2 : ∀ r k : Fin 512, x2 (ix2 r k) = od (ix2 (⟨512 * n + r, by omega⟩ : Fin 32768) k)
  h3 : ∀ (r : Fin 512) (d : Fin 1024), x3 (ix2 r d) = x (ix3 (⟨n / 8, by omega⟩ : Fin 8) (⟨512 * (n % 8) + r, by omega⟩ : Fin 4096) d)
  h4 : ∀ (k : Fin 1536) (d : Fin 1024), x4 (ix2 k d) = w (ix2 k d)
  h5 : ∀ d : Fin 1024, x5 (ix3 (0 : Fin 1) (0 : Fin 1) d) = g1 (ix3 (⟨n / 8, by omega⟩ : Fin 8) (0 : Fin 1) d)
  h6 : ∀ d : Fin 1024, x6 (ix2 (0 : Fin 1) d) = gn (ix1 d)
  h7 : ∀ d : Fin 1024, x7 (ix3 (0 : Fin 1) (0 : Fin 1) d) = sc (ix3 (⟨n / 8, by omega⟩ : Fin 8) (0 : Fin 1) d)
  h8 : ∀ d : Fin 1024, x8 (ix3 (0 : Fin 1) (0 : Fin 1) d) = sh (ix3 (⟨n / 8, by omega⟩ : Fin 8) (0 : Fin 1) d)
  h9 : ∀ (d : Fin 1024) (l : Fin 128), x9 (ix2 d l) = if hl : (l : ℕ) < 64 then wr (ix2 d (⟨l, hl⟩ : Fin 64)) else (0 : EReal)

variable (H : Reads ys om od x w g1 gn sc sh wr x0 x1 x2 x3 x4 x5 x6 x7 x8 x9 n hn)

include H in
/-- a row of a block after the mixers is the reference's -/
theorem rowX_ref (r : Fin 512) (d : Fin 1024) : rowX x0 x1 x2 x3 x4 x5 r d
    = after ys om od x w g1 (ix3 (⟨n / 8, by omega⟩ : Fin 8) (⟨512 * (n % 8) + r, by omega⟩ : Fin 4096) d) := by
  rw [after_at]
  unfold rowX
  have e : (⟨4096 * (n / 8) + (512 * (n % 8) + r), by omega⟩ : Fin 32768) = ⟨512 * n + r, by omega⟩ := Fin.ext (by dsimp only; omega)
  simp only [H.h0, H.h1, H.h2, H.h3, H.h4, H.h5, e]

include H in
/-- a normed row of a block is the reference's -/
theorem rowH_ref (r : Fin 512) (d : Fin 1024) : rowH x0 x1 x2 x3 x4 x5 x6 x7 x8 r d
    = norms gn sc sh (after ys om od x w g1) (ix3 (⟨n / 8, by omega⟩ : Fin 8) (⟨512 * (n % 8) + r, by omega⟩ : Fin 4096) d) := by
  rw [norms_at]
  unfold rowH
  have e : rowX x0 x1 x2 x3 x4 x5 r = fun d => after ys om od x w g1 (ix3 (⟨n / 8, by omega⟩ : Fin 8) (⟨512 * (n % 8) + r, by omega⟩ : Fin 4096) d) :=
    funext (rowX_ref _ _ _ _ _ _ _ _ _ _ _ _ _ _ _ _ _ _ _ _ n hn H r)
  simp only [e, H.h6, H.h7, H.h8]

/-- a flat array read at a block's row -/
theorem flat_row (y : FVec Ideal S8x4096x1024 .f32) (r : Fin 512) (d : Fin 1024) :
    flat y (ix2 (⟨512 * n + r, by omega⟩ : Fin 32768) d) = y (ix3 (⟨n / 8, by omega⟩ : Fin 8) (⟨512 * (n % 8) + r, by omega⟩ : Fin 4096) d) := by
  refine Eq.trans ?_ (flat_at y (⟨n / 8, by omega⟩ : Fin 8) (⟨512 * (n % 8) + r, by omega⟩ : Fin 4096) d)
  exact congrArg (fun i => flat y (ix2 i d)) (Fin.ext (by dsimp only; omega))

include H in
/-- the first result's block -/
theorem out10_ref (r : Fin 512) (d : Fin 1024) : out0_10 (F := Ideal) x0 x1 x2 x3 x4 x5 x6 x7 x8 x9 (ix2 r d)
    = REF1 ys om od x w g1 (ix2 (⟨512 * n + r, by omega⟩ : Fin 32768) d) := by
  rw [out10_at, rowX_ref _ _ _ _ _ _ _ _ _ _ _ _ _ _ _ _ _ _ _ _ n hn H]
  exact (flat_row n hn _ r d).symm

include H in
/-- the second result's block -/
theorem out11_ref (r : Fin 512) (d : Fin 1024) : out0_11 (F := Ideal) x0 x1 x2 x3 x4 x5 x6 x7 x8 x9 (ix2 r d)
    = REF2 ys om od x w g1 gn sc sh (ix2 (⟨512 * n + r, by omega⟩ : Fin 32768) d) := by
  rw [out11_at, rowH_ref _ _ _ _ _ _ _ _ _ _ _ _ _ _ _ _ _ _ _ _ n hn H]
  exact (flat_row n hn _ r d).symm

include H in
/-- the third result's block -/
theorem out12_ref (r : Fin 512) (l : Fin 128) : out0_12 (F := Ideal) x0 x1 x2 x3 x4 x5 x6 x7 x8 x9 (ix2 r l)
    = REF3 ys om od x w g1 gn sc sh wr (ix2 (⟨512 * n + r, by omega⟩ : Fin 32768) l) := by
  unfold REF3
  rw [out12_at, score_at]
  simp only [rowH_ref _ _ _ _ _ _ _ _ _ _ _ _ _ _ _ _ _ _ _ _ n hn H, flat_row n hn, H.h9]
  refine congrArg _ ?_
  split
  · rfl
  · simp only [mul_zero, Finset.sum_const_zero]

end Match

/-- every point reads blocks of the arguments -/
theorem reads (t : Fin cfg0.N) : Reads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (iblk m c 0 t) (iblk m c 1 t) (iblk m c 2 t) (iblk m c 3 t) (iblk m c 4 t) (iblk m c 5 t) (iblk m c 6 t) (iblk m c 7 t) (iblk m c 8 t) (iblk m c 9 t) t.val (lt_of_lt_of_eq t.isLt N_0) :=
  ⟨blk0 m c t, blk1 m c t, blk2 m c t, blk3 m c t, blk4 m c t, blk5 m c t, blk6 m c t, blk7 m c t, blk8 m c t, blk9 m c t⟩

/-- an index of a block of 1024 columns, coordinate by coordinate -/
theorem idx_wide (y : S512x1024.Idx) : y = ix2 (⟨(y 0).val, (y 0).isLt⟩ : Fin 512) (⟨(y 1).val, (y 1).isLt⟩ : Fin 1024) := by
  funext a
  apply Fin.ext
  match a with
  | ⟨0, _⟩ => rfl
  | ⟨1, _⟩ => rfl

/-- an index of a block of 128 columns, coordinate by coordinate -/
theorem idx_lane (y : S512x128.Idx) : y = ix2 (⟨(y 0).val, (y 0).isLt⟩ : Fin 512) (⟨(y 1).val, (y 1).isLt⟩ : Fin 128) := by
  funext a
  apply Fin.ext
  match a with
  | ⟨0, _⟩ => rfl
  | ⟨1, _⟩ => rfl

/-- the first array the kernel leaves is the reference's -/
theorem final10 : (dats m 0 c).arrAt 10 cfg0.N
    = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  have hN : t.val < 64 := lt_of_lt_of_eq t.isLt N_0
  blk_simp
  rw [after0_10]
  refine ((congrArg _ (idx_wide y)).trans (out10_ref _ _ _ _ _ _ _ _ _ _ _ _ _ _ _ _ _ _ _ _ t.val hN (reads m c t) _ _)).trans ?_
  blk_ext [idx t]

/-- the second array the kernel leaves is the reference's -/
theorem final11 : (dats m 0 c).arrAt 11 cfg0.N
    = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  have hN : t.val < 64 := lt_of_lt_of_eq t.isLt N_0
  blk_simp
  rw [after0_11]
  refine ((congrArg _ (idx_wide y)).trans (out11_ref _ _ _ _ _ _ _ _ _ _ _ _ _ _ _ _ _ _ _ _ t.val hN (reads m c t) _ _)).trans ?_
  blk_ext [idx t]

/-- the third array the kernel leaves is the reference's -/
theorem final12 : (dats m 0 c).arrAt 12 cfg0.N
    = REF3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t hf y => ?_
  have hN : t.val < 64 := lt_of_lt_of_eq t.isLt N_0
  blk_simp
  rw [after0_12]
  refine ((congrArg _ (idx_lane y)).trans (out12_ref _ _ _ _ _ _ _ _ _ _ _ _ _ _ _ _ _ _ _ _ t.val hN (reads m c t) _ _)).trans ?_
  blk_ext [idx t]

end Cert.Kernel3Ideal.Outproj

end
-- ==== Proof.DiffSpec.lean ====
module

public import proofs.«01_k».proof.Proof.Gen.Kernel4Ideal.Frame
public import Idealize.ShloMosaic.Lib.Pipeline.ValueKit
public import Idealize.ShloMosaic.Lib.Pointwise
public import Idealize.ShloMosaic.Lib.Pipeline.ReadBack
public import proofs.«01_k».proof.Proof.BlockSpec

@[expose] public section

set_option maxRecDepth 16384

noncomputable section

namespace Cert.Kernel4Ideal.Diff

open Idealize.ShloMosaic Idealize.ShloMosaic.TcCoe Idealize.SL.Sem
open Cert.Kernel4Ideal Cert.Kernel4Ideal.Gen

/-- whether lane `l` belongs to the first of a head's two queries -/
def low (l : Fin 128) : BitVec 1 := IntOp.cmpi .slt (BitVec.ofNat 32 l) 64#32

/-- one term of a score: a head's query lane times its key lane, with the other map's lanes emptied; the maps are
numbered two for each head -/
def qk (Q K : FVec Ideal S512x512 .bf16) (s : Fin 8) (r k : Fin 512) (d : Fin 128) : EReal :=
  if (s : ℕ) % 2 = 0 then
    Scalar.select (low d) ((Q (ix2 r (⟨128 * (s / 2) + d, by omega⟩ : Fin 512)) : EReal) * (K (ix2 k (⟨128 * (s / 2) + d, by omega⟩ : Fin 512)) : EReal)) 0
  else
    Scalar.select (low d) 0 ((Q (ix2 r (⟨128 * (s / 2) + d, by omega⟩ : Fin 512)) : EReal) * (K (ix2 k (⟨128 * (s / 2) + d, by omega⟩ : Fin 512)) : EReal))

/-- the score of query row `r` against key row `k` of a block, in map `s` -/
def sc (Q K : FVec Ideal S512x512 .bf16) (s : Fin 8) (r k : Fin 512) : EReal :=
  ∑ d : Fin 128, qk Q K s r k d

/-- the running maximum after a block of keys, from the one before it -/
def mNew (Q K : FVec Ideal S512x512 .bf16) (mp : FVec Ideal S8x512x128 .f32) (s : Fin 8) (r : Fin 512) (l : Fin 128) : EReal :=
  max (mp (ix3 s r l)) (Finset.univ.fold max (Ideal.ofBits .f32 0xFF800000#32) fun k : Fin 512 => sc Q K s r k)

/-- what the earlier sums are scaled by when the running maximum moves -/
def alpha (Q K : FVec Ideal S512x512 .bf16) (mp : FVec Ideal S8x512x128 .f32) (s : Fin 8) (r : Fin 512) (l : Fin 128) : EReal :=
  Ideal.exp (mp (ix3 s r l) - mNew Q K mp s r l)

/-- the weight of key `k` of the block, relative to the new running maximum -/
def wt (Q K : FVec Ideal S512x512 .bf16) (mp : FVec Ideal S8x512x128 .f32) (s : Fin 8) (r k : Fin 512) : EReal :=
  Ideal.exp (sc Q K s r k - mNew Q K mp s r 0)

/-- the running sum of weights after a block -/
def lNew (Q K : FVec Ideal S512x512 .bf16) (mp lp : FVec Ideal S8x512x128 .f32) (s : Fin 8) (r : Fin 512) (l : Fin 128) : EReal :=
  alpha Q K mp s r l * lp (ix3 s r l) + ∑ k : Fin 512, wt Q K mp s r k

/-- the running weighted values after a block; a head's two maps weigh the same values -/
def accNew (Q K V : FVec Ideal S512x512 .bf16) (mp ap : FVec Ideal S8x512x128 .f32) (s : Fin 8) (r : Fin 512) (l : Fin 128) : EReal :=
  ap (ix3 s r l) * alpha Q K mp s r l + ∑ k : Fin 512, wt Q K mp s r k * (V (ix2 k (⟨128 * (s / 2) + l, by omega⟩ : Fin 512)) : EReal)

/-- the first map of head `h` -/
abbrev fst (h : Fin 4) : Fin 8 := ⟨2 * h, by omega⟩
/-- the second map of head `h` -/
abbrev snd (h : Fin 4) : Fin 8 := ⟨2 * h + 1, by omega⟩

/-- the factor of the second map, from the four vectors laid below one another -/
def lam (X : FVec Ideal S4x128 .f32) : EReal :=
  Ideal.exp (∑ l : Fin 128, X (ix2 (0 : Fin 4) l) * X (ix2 (1 : Fin 4) l)) - Ideal.exp (∑ l : Fin 128, X (ix2 (2 : Fin 4) l) * X (ix2 (3 : Fin 4) l))
    + Ideal.ofBits .f32 0x3E4CCCCD#32

/-- a row of 128 numbers divided by the root of its mean square, times the gain and the last factor -/
def rms (o : Fin 128 → EReal) (g : EReal) (l : Fin 128) : EReal :=
  o l * Ideal.rsqrt (Ideal.div (∑ d : Fin 128, o d * o d) (Ideal.ofBits .f32 0x43000000#32) + Ideal.ofBits .f32 0x358637BD#32) * g
    * Ideal.ofBits .f32 0x3F4CCCCD#32

end Cert.Kernel4Ideal.Diff

end
-- ==== Proof.DiffLayout.lean ====
module

public import proofs.«01_k».proof.Proof.DiffSpec
public import Idealize.ShloMosaic.Lib.Claim
public import Idealize.ShloMosaic.Lib.StableHlo.RunRead

@[expose] public section

set_option maxRecDepth 16384

noncomputable section

namespace Cert.Kernel4Ideal.Diff

open Idealize.ShloMosaic Idealize.ShloMosaic.TcCoe Idealize.SL.Sem
open Cert.Kernel4Ideal Cert.Kernel4Ideal.Gen

variable (m : (ℓ : Loc nD τ sig) → Buf (Elt Ideal) ℓ)

/-- the block each window takes at each point of the grid -/
theorem idx : ∀ t : Fin cfg0.N,
    win0_0.index t = ![t.val / 9, 0]
    ∧ win0_1.index t = ![8 * (t.val / 72) + min (t.val % 9) 7, 0]
    ∧ win0_2.index t = ![8 * (t.val / 72) + min (t.val % 9) 7, 0]
    ∧ win0_3.index t = ![t.val / 72, 0]
    ∧ win0_4.index t = ![t.val / 72, 0]
    ∧ win0_5.index t = ![0, 0]
    ∧ win0_6.index t = ![0, 0]
    ∧ win0_7.index t = ![t.val / 9, 0] :=
  (by decide +kernel : ∀ t : Fin grid0.N, _)

/-- the head of a map -/
abbrev hd (s : Fin 8) : Fin 4 := ⟨s / 2, by omega⟩
/-- which of its head's two maps a map is -/
abbrev mp (s : Fin 8) : Fin 2 := ⟨s % 2, by omega⟩

/-- the maps' queries or keys, side by side in a row -/
def mapsL (X : FVec Ideal S8x4096x4x2x64 .f32) : FVec Ideal S32768x512 .bf16 :=
  truncf .bf16 (shapeCast S32768x512 X shapeCasts_S8x4096x4x2x64_S32768x512) bitsLt_bf16_f32

/-- the heads' values, side by side in a row -/
def valsL (X : FVec Ideal S8x4096x4x128 .f32) : FVec Ideal S32768x512 .bf16 :=
  truncf .bf16 (shapeCast S32768x512 X shapeCasts_S8x4096x4x128_S32768x512) bitsLt_bf16_f32

/-- the heads' keys or values of the cached tokens, side by side in a row -/
def rowsC (X : FVec Ideal S8x512x4x128 .f32) : FVec Ideal S4096x512 .bf16 :=
  truncf .bf16 (shapeCast S4096x512 X shapeCasts_S8x512x4x128_S4096x512) bitsLt_bf16_f32

/-- the four vectors below one another, zeros in the lanes after theirs -/
def lamL (a b c d : FVec Ideal S64 .f32) : FVec Ideal S4x128 .f32 :=
  pad S4x128 ![0, 0] ![0, 64] ![0, 0] (concatenate S4x64 0
    [⟨S1x64, broadcastInDim S1x64 ![1] bcast_S64_S1x64_1 a⟩, ⟨S1x64, broadcastInDim S1x64 ![1] bcast_S64_S1x64_1 b⟩,
     ⟨S1x64, broadcastInDim S1x64 ![1] bcast_S64_S1x64_1 c⟩, ⟨S1x64, broadcastInDim S1x64 ![1] bcast_S64_S1x64_1 d⟩]
    concatenates_S1x64_S1x64_S1x64_S1x64_S4x64_d0) (sitofp .f32 (constantI S_ 32 0#32)) pads_S4x64_S4x128_000_0640 h_S_

/-- the maps' lanes, read -/
theorem mapsL_at (X : FVec Ideal S8x4096x4x2x64 .f32) (b : Fin 8) (i : Fin 4096) (s : Fin 8) (d : Fin 64) :
    mapsL X (ix2 (⟨4096 * b + i, by omega⟩ : Fin 32768) (⟨64 * s + d, by omega⟩ : Fin 512)) = X (ix5 b i (hd s) (mp s) d) := by
  pointwise [mapsL]
  have e1 : (⟨(64 * (s : ℕ) + d) / 128, by omega⟩ : Fin 4) = hd s := Fin.ext (by dsimp only; omega)
  have e2 : (⟨(64 * (s : ℕ) + d) / 64 % 2, by omega⟩ : Fin 2) = mp s := Fin.ext (by dsimp only; omega)
  rw [e1, e2]

/-- the values' lanes, read -/
theorem valsL_at (X : FVec Ideal S8x4096x4x128 .f32) (b : Fin 8) (i : Fin 4096) (h : Fin 4) (l : Fin 128) :
    valsL X (ix2 (⟨4096 * b + i, by omega⟩ : Fin 32768) (⟨128 * h + l, by omega⟩ : Fin 512)) = X (ix4 b i h l) := by
  pointwise [valsL]

/-- the cached lanes, read by head -/
theorem rowsC_at (X : FVec Ideal S8x512x4x128 .f32) (b : Fin 8) (i : Fin 512) (h : Fin 4) (l : Fin 128) :
    rowsC X (ix2 (⟨512 * b + i, by omega⟩ : Fin 4096) (⟨128 * h + l, by omega⟩ : Fin 512)) = X (ix4 b i h l) := by
  pointwise [rowsC]

/-- the integer zero the lanes are filled with is the number zero -/
theorem zero_word : (FloatOps.sitofp .f32 (0#32 : BitVec 32) : Ideal .f32) = (0 : EReal) := by
  show (((0#32 : BitVec 32).toInt : ℝ) : EReal) = 0
  simp

section Lam

variable (a b c d : FVec Ideal S64 .f32) (l : Fin 128)

/-- the first vector's lanes -/
theorem lamL_0 : lamL a b c d (ix2 (0 : Fin 4) l) = if hl : (l : ℕ) < 64 then a (ix1 (⟨l, hl⟩ : Fin 64)) else (0 : EReal) := by
  pointwise [lamL]
  try rw [zero_word]

/-- the second vector's lanes -/
theorem lamL_1 : lamL a b c d (ix2 (1 : Fin 4) l) = if hl : (l : ℕ) < 64 then b (ix1 (⟨l, hl⟩ : Fin 64)) else (0 : EReal) := by
  pointwise [lamL]
  try rw [zero_word]

/-- the third vector's lanes -/
theorem lamL_2 : lamL a b c d (ix2 (2 : Fin 4) l) = if hl : (l : ℕ) < 64 then c (ix1 (⟨l, hl⟩ : Fin 64)) else (0 : EReal) := by
  pointwise [lamL]
  try rw [zero_word]

/-- the fourth vector's lanes -/
theorem lamL_3 : lamL a b c d (ix2 (3 : Fin 4) l) = if hl : (l : ℕ) < 64 then d (ix1 (⟨l, hl⟩ : Fin 64)) else (0 : EReal) := by
  pointwise [lamL]
  try rw [zero_word]

end Lam

/-- the queries' array at the kernel's launch -/
theorem V_v8 (c : Dev nD) : V m c main_v8 = mapsL (mulf (m ((c : Thread nD τ).loc main_arg0)) (broadcastInDim S8x4096x4x2x64 ![] bcast_S_S8x4096x4x2x64 (constant S_ .f32 0x3E000000#32))) := by
  unfold V
  simp only [List.flatten_cons, List.flatten_nil, List.cons_append, List.nil_append, hostOps0, hostOps0_1, hostOps0_2]
  entry_read
  rfl

/-- the keys' array at the kernel's launch -/
theorem V_v10 (c : Dev nD) : V m c main_v10 = mapsL (m ((c : Thread nD τ).loc main_arg1)) := by
  unfold V
  simp only [List.flatten_cons, List.flatten_nil, List.cons_append, List.nil_append, hostOps0, hostOps0_1, hostOps0_2]
  entry_read
  rfl

/-- the values' array at the kernel's launch -/
theorem V_v12 (c : Dev nD) : V m c main_v12 = valsL (m ((c : Thread nD τ).loc main_arg2)) := by
  unfold V
  simp only [List.flatten_cons, List.flatten_nil, List.cons_append, List.nil_append, hostOps0, hostOps0_1, hostOps0_2]
  entry_read
  rfl

/-- the cached keys' array at the kernel's launch -/
theorem V_v14 (c : Dev nD) : V m c main_v14 = rowsC (m ((c : Thread nD τ).loc main_arg3)) := by
  unfold V
  simp only [List.flatten_cons, List.flatten_nil, List.cons_append, List.nil_append, hostOps0, hostOps0_1, hostOps0_2]
  entry_read
  rfl

/-- the cached values' array at the kernel's launch -/
theorem V_v16 (c : Dev nD) : V m c main_v16 = rowsC (m ((c : Thread nD τ).loc main_arg4)) := by
  unfold V
  simp only [List.flatten_cons, List.flatten_nil, List.cons_append, List.nil_append, hostOps0, hostOps0_1, hostOps0_2]
  entry_read
  rfl

/-- the four vectors' array at the kernel's launch -/
theorem V_v17 (c : Dev nD) : V m c main_v17 = lamL (m ((c : Thread nD τ).loc main_arg5)) (m ((c : Thread nD τ).loc main_arg6)) (m ((c : Thread nD τ).loc main_arg7)) (m ((c : Thread nD τ).loc main_arg8)) := by
  unfold V
  simp only [List.flatten_cons, List.flatten_nil, List.cons_append, List.nil_append, hostOps0, hostOps0_1, hostOps0_2]
  after_reads_simp
  rfl

/-- the gain's array at the kernel's launch -/
theorem V_v18 (c : Dev nD) : V m c main_v18 = (broadcastInDim S1x128 ![1] bcast_S128_S1x128_1 (m ((c : Thread nD τ).loc main_arg9)) : FVec Ideal S1x128 .f32) := by
  unfold V
  simp only [List.flatten_cons, List.flatten_nil, List.cons_append, List.nil_append, hostOps0, hostOps0_1, hostOps0_2]
  entry_read
  rfl

/-- the queries a point reads -/
theorem blk0 (c : Dev nD) (t : Fin cfg0.N) (r : Fin 512) (l : Fin 512) :
    (iblk m c 0 t : FVec Ideal S512x512 .bf16) (ix2 r l) = (V m c main_v8 : FVec Ideal S32768x512 .bf16)
      (ix2 (⟨4096 * (t.val / 72) + (512 * (t.val / 9 % 8) + r), by have : t.val < 576 := lt_of_lt_of_eq t.isLt N_0; omega⟩ : Fin 32768) l) := by
  have hN : t.val < 576 := lt_of_lt_of_eq t.isLt N_0
  blk_simp [iblk]
  blk_ext [idx t]

/-- the keys a point reads -/
theorem blk1 (c : Dev nD) (t : Fin cfg0.N) (r : Fin 512) (l : Fin 512) :
    (iblk m c 1 t : FVec Ideal S512x512 .bf16) (ix2 r l) = (V m c main_v10 : FVec Ideal S32768x512 .bf16)
      (ix2 (⟨4096 * (t.val / 72) + (512 * min (t.val % 9) 7 + r), by have : t.val < 576 := lt_of_lt_of_eq t.isLt N_0; omega⟩ : Fin 32768) l) := by
  have hN : t.val < 576 := lt_of_lt_of_eq t.isLt N_0
  blk_simp [iblk]
  blk_ext [idx t]

/-- the values a point reads -/
theorem blk2 (c : Dev nD) (t : Fin cfg0.N) (r : Fin 512) (l : Fin 512) :
    (iblk m c 2 t : FVec Ideal S512x512 .bf16) (ix2 r l) = (V m c main_v12 : FVec Ideal S32768x512 .bf16)
      (ix2 (⟨4096 * (t.val / 72) + (512 * min (t.val % 9) 7 + r), by have : t.val < 576 := lt_of_lt_of_eq t.isLt N_0; omega⟩ : Fin 32768) l) := by
  have hN : t.val < 576 := lt_of_lt_of_eq t.isLt N_0
  blk_simp [iblk]
  blk_ext [idx t]

/-- the cached keys a point reads -/
theorem blk3 (c : Dev nD) (t : Fin cfg0.N) (r : Fin 512) (l : Fin 512) :
    (iblk m c 3 t : FVec Ideal S512x512 .bf16) (ix2 r l) = (V m c main_v14 : FVec Ideal S4096x512 .bf16)
      (ix2 (⟨512 * (t.val / 72) + r, by have : t.val < 576 := lt_of_lt_of_eq t.isLt N_0; omega⟩ : Fin 4096) l) := by
  have hN : t.val < 576 := lt_of_lt_of_eq t.isLt N_0
  blk_simp [iblk]
  blk_ext [idx t]

/-- the cached values a point reads -/
theorem blk4 (c : Dev nD) (t : Fin cfg0.N) (r : Fin 512) (l : Fin 512) :
    (iblk m c 4 t : FVec Ideal S512x512 .bf16) (ix2 r l) = (V m c main_v16 : FVec Ideal S4096x512 .bf16)
      (ix2 (⟨512 * (t.val / 72) + r, by have : t.val < 576 := lt_of_lt_of_eq t.isLt N_0; omega⟩ : Fin 4096) l) := by
  have hN : t.val < 576 := lt_of_lt_of_eq t.isLt N_0
  blk_simp [iblk]
  blk_ext [idx t]

/-- the four vectors a point reads -/
theorem blk5 (c : Dev nD) (t : Fin cfg0.N) (r : Fin 4) (l : Fin 128) :
    (iblk m c 5 t : FVec Ideal S4x128 .f32) (ix2 r l) = (V m c main_v17 : FVec Ideal S4x128 .f32)
      (ix2 r l) := by
  have hN : t.val < 576 := lt_of_lt_of_eq t.isLt N_0
  blk_simp [iblk]
  blk_ext [idx t]

/-- the gain a point reads -/
theorem blk6 (c : Dev nD) (t : Fin cfg0.N) (r : Fin 1) (l : Fin 128) :
    (iblk m c 6 t : FVec Ideal S1x128 .f32) (ix2 r l) = (V m c main_v18 : FVec Ideal S1x128 .f32)
      (ix2 r l) := by
  have hN : t.val < 576 := lt_of_lt_of_eq t.isLt N_0
  blk_simp [iblk]
  blk_ext [idx t]

end Cert.Kernel4Ideal.Diff

end
-- ==== Proof.DiffA0.lean ====
module

public import proofs.«01_k».proof.Proof.DiffSpec

@[expose] public section

set_option maxRecDepth 16384

noncomputable section

namespace Cert.Kernel4Ideal.Diff

open Idealize.ShloMosaic Idealize.ShloMosaic.TcCoe Idealize.SL.Sem
open Cert.Kernel4Ideal Cert.Kernel4Ideal.Gen

set_option maxHeartbeats 4000000

/-- the first block leaves the maxima it starts -/
theorem A0 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4x128 .f32) (harg8 : arg8.IsWhole) (arg9 : Memref sig .tc .vmem S1x128 .f32) (harg9 : arg9.IsWhole) (arg10 : Memref sig .tc .vmem S512x512 .bf16) (harg10 : arg10.IsWhole) (arg11 : Memref sig .tc .vmem S8x512x128 .f32) (harg11 : arg11.IsWhole) (arg12 : Memref sig .tc .vmem S8x512x128 .f32) (harg12 : arg12.IsWhole) (arg13 : Memref sig .tc .vmem S8x512x128 .f32) (harg13 : arg13.IsWhole) (hc0 : cond0_0 i) (hc1 : cond0_1 i) (hc2 : ¬cond0_2 i) (hc3 : ¬cond0_3 i)
    (x0 x1 x2 x3 x4 : FVec Ideal S512x512 .bf16) (x5 : FVec Ideal S4x128 .f32) (x6 : FVec Ideal S1x128 .f32) (s : Fin 8) (r : Fin 512) (l : Fin 128) :
    sout0_A_0 (F := Ideal) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 (ix3 s r l) = mNew x0 x1 (fun _ => Ideal.ofBits .f32 0xFF800000#32) s r l := by
  frame_out
  simp (disch := first | rfl | decide) only [↓View.readCov_skip, View.readCov_fill]
  refine (Cert.KernelIdeal.Attn.canon_drop [_, _, _, _, _, _, _, _] [_] _ (by refine View.cover_of_tiledL (s := S8x512x128) _ S1x512x128.size ?_ _; sl_kernel_rfl)).trans ?_
  canon_tiles z e
  case piece0 =>
    idx_vars z
    obtain rfl : r = z1 := Fin.ext e1
    obtain rfl : l = z2 := Fin.ext e2
    obtain rfl : s = 7 := Fin.ext (e0.trans (by show _ = 7; omega))
    open_payloads
    pointwise [accNew, lNew, wt, alpha, mNew, sc, qk, low, k0_pay4]
  case piece1 =>
    idx_vars z
    obtain rfl : r = z1 := Fin.ext e1
    obtain rfl : l = z2 := Fin.ext e2
    obtain rfl : s = 6 := Fin.ext (e0.trans (by show _ = 6; omega))
    open_payloads
    pointwise [accNew, lNew, wt, alpha, mNew, sc, qk, low, k0_pay4]
  case piece2 =>
    idx_vars z
    obtain rfl : r = z1 := Fin.ext e1
    obtain rfl : l = z2 := Fin.ext e2
    obtain rfl : s = 5 := Fin.ext (e0.trans (by show _ = 5; omega))
    open_payloads
    pointwise [accNew, lNew, wt, alpha, mNew, sc, qk, low, k0_pay4]
  case piece3 =>
    idx_vars z
    obtain rfl : r = z1 := Fin.ext e1
    obtain rfl : l = z2 := Fin.ext e2
    obtain rfl : s = 4 := Fin.ext (e0.trans (by show _ = 4; omega))
    open_payloads
    pointwise [accNew, lNew, wt, alpha, mNew, sc, qk, low, k0_pay4]
  case piece4 =>
    idx_vars z
    obtain rfl : r = z1 := Fin.ext e1
    obtain rfl : l = z2 := Fin.ext e2
    obtain rfl : s = 3 := Fin.ext (e0.trans (by show _ = 3; omega))
    open_payloads
    pointwise [accNew, lNew, wt, alpha, mNew, sc, qk, low, k0_pay4]
  case piece5 =>
    idx_vars z
    obtain rfl : r = z1 := Fin.ext e1
    obtain rfl : l = z2 := Fin.ext e2
    obtain rfl : s = 2 := Fin.ext (e0.trans (by show _ = 2; omega))
    open_payloads
    pointwise [accNew, lNew, wt, alpha, mNew, sc, qk, low, k0_pay4]
  case piece6 =>
    idx_vars z
    obtain rfl : r = z1 := Fin.ext e1
    obtain rfl : l = z2 := Fin.ext e2
    obtain rfl : s = 1 := Fin.ext (e0.trans (by show _ = 1; omega))
    open_payloads
    pointwise [accNew, lNew, wt, alpha, mNew, sc, qk, low, k0_pay4]
  case piece7 =>
    idx_vars z
    obtain rfl : r = z1 := Fin.ext e1
    obtain rfl : l = z2 := Fin.ext e2
    obtain rfl : s = 0 := Fin.ext (e0.trans (by show _ = 0; omega))
    open_payloads
    pointwise [accNew, lNew, wt, alpha, mNew, sc, qk, low, k0_pay4]

end Cert.Kernel4Ideal.Diff

end
-- ==== Proof.DiffA1.lean ====
module

public import proofs.«01_k».proof.Proof.DiffSpec

@[expose] public section

set_option maxRecDepth 16384

noncomputable section

namespace Cert.Kernel4Ideal.Diff

open Idealize.ShloMosaic Idealize.ShloMosaic.TcCoe Idealize.SL.Sem
open Cert.Kernel4Ideal Cert.Kernel4Ideal.Gen

set_option maxHeartbeats 4000000

/-- the first block leaves the sums of weights it starts -/
theorem A1 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4x128 .f32) (harg8 : arg8.IsWhole) (arg9 : Memref sig .tc .vmem S1x128 .f32) (harg9 : arg9.IsWhole) (arg10 : Memref sig .tc .vmem S512x512 .bf16) (harg10 : arg10.IsWhole) (arg11 : Memref sig .tc .vmem S8x512x128 .f32) (harg11 : arg11.IsWhole) (arg12 : Memref sig .tc .vmem S8x512x128 .f32) (harg12 : arg12.IsWhole) (arg13 : Memref sig .tc .vmem S8x512x128 .f32) (harg13 : arg13.IsWhole) (hc0 : cond0_0 i) (hc1 : cond0_1 i) (hc2 : ¬cond0_2 i) (hc3 : ¬cond0_3 i)
    (x0 x1 x2 x3 x4 : FVec Ideal S512x512 .bf16) (x5 : FVec Ideal S4x128 .f32) (x6 : FVec Ideal S1x128 .f32) (s : Fin 8) (r : Fin 512) (l : Fin 128) :
    sout0_A_1 (F := Ideal) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 (ix3 s r l) = lNew x0 x1 (fun _ => Ideal.ofBits .f32 0xFF800000#32) (fun _ => 0) s r l := by
  frame_out
  simp (disch := first | rfl | decide) only [↓View.readCov_skip, View.readCov_fill]
  refine (Cert.KernelIdeal.Attn.canon_drop [_, _, _, _, _, _, _, _] [_] _ (by refine View.cover_of_tiledL (s := S8x512x128) _ S1x512x128.size ?_ _; sl_kernel_rfl)).trans ?_
  canon_tiles z e
  case piece0 =>
    idx_vars z
    obtain rfl : r = z1 := Fin.ext e1
    obtain rfl : l = z2 := Fin.ext e2
    obtain rfl : s = 7 := Fin.ext (e0.trans (by show _ = 7; omega))
    open_payloads
    pointwise [accNew, lNew, wt, alpha, mNew, sc, qk, low, k0_pay4]
  case piece1 =>
    idx_vars z
    obtain rfl : r = z1 := Fin.ext e1
    obtain rfl : l = z2 := Fin.ext e2
    obtain rfl : s = 6 := Fin.ext (e0.trans (by show _ = 6; omega))
    open_payloads
    pointwise [accNew, lNew, wt, alpha, mNew, sc, qk, low, k0_pay4]
  case piece2 =>
    idx_vars z
    obtain rfl : r = z1 := Fin.ext e1
    obtain rfl : l = z2 := Fin.ext e2
    obtain rfl : s = 5 := Fin.ext (e0.trans (by show _ = 5; omega))
    open_payloads
    pointwise [accNew, lNew, wt, alpha, mNew, sc, qk, low, k0_pay4]
  case piece3 =>
    idx_vars z
    obtain rfl : r = z1 := Fin.ext e1
    obtain rfl : l = z2 := Fin.ext e2
    obtain rfl : s = 4 := Fin.ext (e0.trans (by show _ = 4; omega))
    open_payloads
    pointwise [accNew, lNew, wt, alpha, mNew, sc, qk, low, k0_pay4]
  case piece4 =>
    idx_vars z
    obtain rfl : r = z1 := Fin.ext e1
    obtain rfl : l = z2 := Fin.ext e2
    obtain rfl : s = 3 := Fin.ext (e0.trans (by show _ = 3; omega))
    open_payloads
    pointwise [accNew, lNew, wt, alpha, mNew, sc, qk, low, k0_pay4]
  case piece5 =>
    idx_vars z
    obtain rfl : r = z1 := Fin.ext e1
    obtain rfl : l = z2 := Fin.ext e2
    obtain rfl : s = 2 := Fin.ext (e0.trans (by show _ = 2; omega))
    open_payloads
    pointwise [accNew, lNew, wt, alpha, mNew, sc, qk, low, k0_pay4]
  case piece6 =>
    idx_vars z
    obtain rfl : r = z1 := Fin.ext e1
    obtain rfl : l = z2 := Fin.ext e2
    obtain rfl : s = 1 := Fin.ext (e0.trans (by show _ = 1; omega))
    open_payloads
    pointwise [accNew, lNew, wt, alpha, mNew, sc, qk, low, k0_pay4]
  case piece7 =>
    idx_vars z
    obtain rfl : r = z1 := Fin.ext e1
    obtain rfl : l = z2 := Fin.ext e2
    obtain rfl : s = 0 := Fin.ext (e0.trans (by show _ = 0; omega))
    open_payloads
    pointwise [accNew, lNew, wt, alpha, mNew, sc, qk, low, k0_pay4]

end Cert.Kernel4Ideal.Diff

end
-- ==== Proof.DiffA2.lean ====
module

public import proofs.«01_k».proof.Proof.DiffSpec

@[expose] public section

set_option maxRecDepth 16384

noncomputable section

namespace Cert.Kernel4Ideal.Diff

open Idealize.ShloMosaic Idealize.ShloMosaic.TcCoe Idealize.SL.Sem
open Cert.Kernel4Ideal Cert.Kernel4Ideal.Gen

set_option maxHeartbeats 4000000

/-- the first block leaves the weighted values it starts -/
theorem A2 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4x128 .f32) (harg8 : arg8.IsWhole) (arg9 : Memref sig .tc .vmem S1x128 .f32) (harg9 : arg9.IsWhole) (arg10 : Memref sig .tc .vmem S512x512 .bf16) (harg10 : arg10.IsWhole) (arg11 : Memref sig .tc .vmem S8x512x128 .f32) (harg11 : arg11.IsWhole) (arg12 : Memref sig .tc .vmem S8x512x128 .f32) (harg12 : arg12.IsWhole) (arg13 : Memref sig .tc .vmem S8x512x128 .f32) (harg13 : arg13.IsWhole) (hc0 : cond0_0 i) (hc1 : cond0_1 i) (hc2 : ¬cond0_2 i) (hc3 : ¬cond0_3 i)
    (x0 x1 x2 x3 x4 : FVec Ideal S512x512 .bf16) (x5 : FVec Ideal S4x128 .f32) (x6 : FVec Ideal S1x128 .f32) (s : Fin 8) (r : Fin 512) (l : Fin 128) :
    sout0_A_2 (F := Ideal) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 (ix3 s r l) = accNew x0 x1 x2 (fun _ => Ideal.ofBits .f32 0xFF800000#32) (fun _ => 0) s r l := by
  frame_out
  simp (disch := first | rfl | decide) only [↓View.readCov_skip, View.readCov_fill]
  refine (Cert.KernelIdeal.Attn.canon_drop [_, _, _, _, _, _, _, _] [_] _ (by refine View.cover_of_tiledL (s := S8x512x128) _ S1x512x128.size ?_ _; sl_kernel_rfl)).trans ?_
  canon_tiles z e
  case piece0 =>
    idx_vars z
    obtain rfl : r = z1 := Fin.ext e1
    obtain rfl : l = z2 := Fin.ext e2
    obtain rfl : s = 7 := Fin.ext (e0.trans (by show _ = 7; omega))
    open_payloads
    pointwise [accNew, lNew, wt, alpha, mNew, sc, qk, low, k0_pay4]
  case piece1 =>
    idx_vars z
    obtain rfl : r = z1 := Fin.ext e1
    obtain rfl : l = z2 := Fin.ext e2
    obtain rfl : s = 6 := Fin.ext (e0.trans (by show _ = 6; omega))
    open_payloads
    pointwise [accNew, lNew, wt, alpha, mNew, sc, qk, low, k0_pay4]
  case piece2 =>
    idx_vars z
    obtain rfl : r = z1 := Fin.ext e1
    obtain rfl : l = z2 := Fin.ext e2
    obtain rfl : s = 5 := Fin.ext (e0.trans (by show _ = 5; omega))
    open_payloads
    pointwise [accNew, lNew, wt, alpha, mNew, sc, qk, low, k0_pay4]
  case piece3 =>
    idx_vars z
    obtain rfl : r = z1 := Fin.ext e1
    obtain rfl : l = z2 := Fin.ext e2
    obtain rfl : s = 4 := Fin.ext (e0.trans (by show _ = 4; omega))
    open_payloads
    pointwise [accNew, lNew, wt, alpha, mNew, sc, qk, low, k0_pay4]
  case piece4 =>
    idx_vars z
    obtain rfl : r = z1 := Fin.ext e1
    obtain rfl : l = z2 := Fin.ext e2
    obtain rfl : s = 3 := Fin.ext (e0.trans (by show _ = 3; omega))
    open_payloads
    pointwise [accNew, lNew, wt, alpha, mNew, sc, qk, low, k0_pay4]
  case piece5 =>
    idx_vars z
    obtain rfl : r = z1 := Fin.ext e1
    obtain rfl : l = z2 := Fin.ext e2
    obtain rfl : s = 2 := Fin.ext (e0.trans (by show _ = 2; omega))
    open_payloads
    pointwise [accNew, lNew, wt, alpha, mNew, sc, qk, low, k0_pay4]
  case piece6 =>
    idx_vars z
    obtain rfl : r = z1 := Fin.ext e1
    obtain rfl : l = z2 := Fin.ext e2
    obtain rfl : s = 1 := Fin.ext (e0.trans (by show _ = 1; omega))
    open_payloads
    pointwise [accNew, lNew, wt, alpha, mNew, sc, qk, low, k0_pay4]
  case piece7 =>
    idx_vars z
    obtain rfl : r = z1 := Fin.ext e1
    obtain rfl : l = z2 := Fin.ext e2
    obtain rfl : s = 0 := Fin.ext (e0.trans (by show _ = 0; omega))
    open_payloads
    pointwise [accNew, lNew, wt, alpha, mNew, sc, qk, low, k0_pay4]

end Cert.Kernel4Ideal.Diff

end
-- ==== Proof.DiffC.lean ====
module

public import proofs.«01_k».proof.Proof.DiffSpec

@[expose] public section

set_option maxRecDepth 16384

noncomputable section

namespace Cert.Kernel4Ideal.Diff

open Idealize.ShloMosaic Idealize.ShloMosaic.TcCoe Idealize.SL.Sem
open Cert.Kernel4Ideal Cert.Kernel4Ideal.Gen

set_option maxHeartbeats 4000000

/-- the last block stores the difference of the two maps' weighted values, normed -/
theorem C7 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4x128 .f32) (harg8 : arg8.IsWhole) (arg9 : Memref sig .tc .vmem S1x128 .f32) (harg9 : arg9.IsWhole) (arg10 : Memref sig .tc .vmem S512x512 .bf16) (harg10 : arg10.IsWhole) (arg11 : Memref sig .tc .vmem S8x512x128 .f32) (harg11 : arg11.IsWhole) (arg12 : Memref sig .tc .vmem S8x512x128 .f32) (harg12 : arg12.IsWhole) (arg13 : Memref sig .tc .vmem S8x512x128 .f32) (harg13 : arg13.IsWhole) (hc0 : ¬cond0_0 i) (hc1 : ¬cond0_1 i) (hc2 : cond0_2 i) (hc3 : cond0_3 i)
    (x0 x1 x2 x3 x4 : FVec Ideal S512x512 .bf16) (x5 : FVec Ideal S4x128 .f32) (x6 : FVec Ideal S1x128 .f32) (xs0 xs1 xs2 : FVec Ideal S8x512x128 .f32) (h : Fin 4) (r : Fin 512) (l : Fin 128) :
    out0_C_7 (F := Ideal) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 (ix2 r (⟨128 * h + l, by omega⟩ : Fin 512))
      = rms (fun l => Ideal.div (accNew x0 x3 x4 xs0 xs2 (fst h) r l) (lNew x0 x3 xs0 xs1 (fst h) r l)
          - lam x5 * Ideal.div (accNew x0 x3 x4 xs0 xs2 (snd h) r l) (lNew x0 x3 xs0 xs1 (snd h) r l)) (x6 (ix2 (0 : Fin 1) l)) l := by
  frame_out
  simp (disch := first | rfl | decide) only [↓View.readCov_skip, View.readCov_cons_toLoadRect]
  canon_tiles z e
  case piece0 =>
    idx_vars z
    obtain rfl : r = z0 := Fin.ext e0
    have e1' : 128 * (h : ℕ) + l = _ := e1
    obtain rfl : l = z1 := Fin.ext (by omega)
    obtain rfl : h = 3 := Fin.ext (by show (h : ℕ) = _; omega)
    clear e1 e1'
    open_payloads
    pointwise [fst, snd, rms, lam, accNew, lNew, wt, alpha, mNew, sc, qk, low, k0_pay4]
  case piece1 =>
    idx_vars z
    obtain rfl : r = z0 := Fin.ext e0
    have e1' : 128 * (h : ℕ) + l = _ := e1
    obtain rfl : l = z1 := Fin.ext (by omega)
    obtain rfl : h = 2 := Fin.ext (by show (h : ℕ) = _; omega)
    clear e1 e1'
    open_payloads
    pointwise [fst, snd, rms, lam, accNew, lNew, wt, alpha, mNew, sc, qk, low, k0_pay4]
  case piece2 =>
    idx_vars z
    obtain rfl : r = z0 := Fin.ext e0
    have e1' : 128 * (h : ℕ) + l = _ := e1
    obtain rfl : l = z1 := Fin.ext (by omega)
    obtain rfl : h = 1 := Fin.ext (by show (h : ℕ) = _; omega)
    clear e1 e1'
    open_payloads
    pointwise [fst, snd, rms, lam, accNew, lNew, wt, alpha, mNew, sc, qk, low, k0_pay4]
  case piece3 =>
    idx_vars z
    obtain rfl : r = z0 := Fin.ext e0
    have e1' : 128 * (h : ℕ) + l = _ := e1
    obtain rfl : l = z1 := Fin.ext (by omega)
    obtain rfl : h = 0 := Fin.ext (by show (h : ℕ) = _; omega)
    clear e1 e1'
    open_payloads
    pointwise [fst, snd, rms, lam, accNew, lNew, wt, alpha, mNew, sc, qk, low, k0_pay4]

end Cert.Kernel4Ideal.Diff

end
-- ==== Proof.DiffSweep.lean ====
module

public import proofs.«01_k».proof.Proof.DiffA0
public import proofs.«01_k».proof.Proof.DiffA1
public import proofs.«01_k».proof.Proof.DiffA2
public import proofs.«01_k».proof.Proof.DiffB0
public import proofs.«01_k».proof.Proof.DiffB1
public import proofs.«01_k».proof.Proof.DiffB2
public import proofs.«01_k».proof.Proof.DiffC
public import proofs.«01_k».proof.Proof.OnlineSoftmax

@[expose] public section

set_option maxRecDepth 16384

noncomputable section

namespace Cert.Kernel4Ideal.Diff

open Idealize.ShloMosaic Idealize.ShloMosaic.TcCoe Idealize.SL.Sem
open Cert.Kernel4Ideal Cert.Kernel4Ideal.Gen
open Attention

/-- the word the maxima start from is minus infinity -/
theorem bot_word : Ideal.ofBits .f32 0xFF800000#32 = ⊥ := by simp [Ideal.ofBits, Ideal.ieee]

section Step

variable (Q K W : FVec Ideal S512x512 .bf16) (mp lp ap : FVec Ideal S8x512x128 .f32)
variable (S : Fin 8 → Fin 512 → ℕ → Fin 512 → EReal) (V : Fin 8 → Fin 128 → ℕ → Fin 512 → EReal) (n j : ℕ)

/-- one block takes the maxima of `j` blocks to those of `j + 1` -/
theorem step_m (hs : ∀ h r k, sc Q K h r k = S h r j k) (hm : ∀ h r l, mp (ix3 h r l) = mx (S h r) j) (h : Fin 8) (r : Fin 512) (l : Fin 128) :
    mNew Q K mp h r l = mx (S h r) (j + 1) := by
  unfold mNew
  rw [mx_succ, hm, bot_word, fold_max_bot]
  simp only [hs]

/-- one block takes the sums of weights of `j` blocks to those of `j + 1` -/
theorem step_l (hn : j < n) (hS : ∀ h r, ∀ i < n, ∀ k, ∃ x : ℝ, S h r i k = x) (hs : ∀ h r k, sc Q K h r k = S h r j k)
    (hm : ∀ h r l, mp (ix3 h r l) = mx (S h r) j) (hl : ∀ h r l, lp (ix3 h r l) = lx (S h r) j) (h : Fin 8) (r : Fin 512) (l : Fin 128) :
    lNew Q K mp lp h r l = lx (S h r) (j + 1) := by
  unfold lNew alpha wt
  simp only [step_m Q K mp S j hs hm]
  rw [lx_succ (S h r) n j hn (hS h r), hm, hl]
  simp only [hs]

/-- one block takes the weighted values of `j` blocks to those of `j + 1` -/
theorem step_a (hn : j < n) (hS : ∀ h r, ∀ i < n, ∀ k, ∃ x : ℝ, S h r i k = x) (hs : ∀ h r k, sc Q K h r k = S h r j k)
    (hv : ∀ (h : Fin 8) (l : Fin 128) k, W (ix2 k (⟨128 * (h / 2) + l, by omega⟩ : Fin 512)) = V h l j k)
    (hm : ∀ h r l, mp (ix3 h r l) = mx (S h r) j) (ha : ∀ h r l, ap (ix3 h r l) = ax (S h r) (V h l) j)
    (h : Fin 8) (r : Fin 512) (l : Fin 128) :
    accNew Q K W mp ap h r l = ax (S h r) (V h l) (j + 1) := by
  unfold accNew alpha wt
  simp only [step_m Q K mp S j hs hm, hv, hs]
  rw [ax_succ (S h r) (V h l) n j hn (hS _ _), hm, ha]

end Step

/-- what the three scratch arrays hold after `j` blocks -/
def Inv (s0 s1 s2 : FVec Ideal S8x512x128 .f32)
    (S : Fin 8 → Fin 512 → ℕ → Fin 512 → EReal) (V : Fin 8 → Fin 128 → ℕ → Fin 512 → EReal) (j : ℕ) : Prop :=
  (∀ h r l, s0 (ix3 h r l) = mx (S h r) j) ∧ (∀ h r l, s1 (ix3 h r l) = lx (S h r) j)
    ∧ ∀ h r l, s2 (ix3 h r l) = ax (S h r) (V h l) j

variable (m : (ℓ : Loc nD τ sig) → Buf (Elt Ideal) ℓ)

/-- the scores a point computes, from the blocks it reads -/
def ptScore (c : Dev nD) (t : Fin cfg0.N) (h : Fin 8) (r k : Fin 512) : EReal :=
  if t.val % 9 ≤ 7 then sc (iblk m c 0 t) (iblk m c 1 t) h r k else sc (iblk m c 0 t) (iblk m c 3 t) h r k

/-- the values a point weighs -/
def ptVal (c : Dev nD) (t : Fin cfg0.N) (h : Fin 8) (l : Fin 128) (k : Fin 512) : EReal :=
  if t.val % 9 ≤ 7 then (iblk m c 2 t : FVec Ideal S512x512 .bf16) (ix2 k (⟨128 * (h / 2) + l, by omega⟩ : Fin 512))
  else (iblk m c 4 t : FVec Ideal S512x512 .bf16) (ix2 k (⟨128 * (h / 2) + l, by omega⟩ : Fin 512))

section Run

variable (c : Dev nD) (n : ℕ) (S : Fin 8 → Fin 512 → ℕ → Fin 512 → EReal) (V : Fin 8 → Fin 128 → ℕ → Fin 512 → EReal)

/-- after each point of a run but the last the scratch holds the running maxima, sums and weighted values -/
theorem sweep (hS : ∀ h r, ∀ i < 9, ∀ k, ∃ x : ℝ, S h r i k = x)
    (hs : ∀ j (hj : 9 * n + j < cfg0.N), j < 9 → ∀ h r k, ptScore m c ⟨9 * n + j, hj⟩ h r k = S h r j k)
    (hv : ∀ j (hj : 9 * n + j < cfg0.N), j < 9 → ∀ h l k, ptVal m c ⟨9 * n + j, hj⟩ h l k = V h l j k) :
    ∀ j (hj : 9 * n + j < cfg0.N), j < 8 →
      Inv (outsAt0 m c (9 * n + j) hj).2.1 (outsAt0 m c (9 * n + j) hj).2.2.1 (outsAt0 m c (9 * n + j) hj).2.2.2 S V (j + 1) := by
  intro j
  induction j with
  | zero =>
    intro hj _
    have hs' : ∀ h r k, sc (iblk m c 0 ⟨9 * n + 0, hj⟩) (iblk m c 1 ⟨9 * n + 0, hj⟩) h r k = S h r 0 k := fun h r k =>
      (if_pos (by show (9 * n + 0) % 9 ≤ 7; omega)).symm.trans (hs 0 hj (by omega) h r k)
    have hv' : ∀ (h : Fin 8) (l : Fin 128) k, (iblk m c 2 ⟨9 * n + 0, hj⟩ : FVec Ideal S512x512 .bf16) (ix2 k (⟨128 * (h / 2) + l, by omega⟩ : Fin 512)) = V h l 0 k := fun h l k =>
      (if_pos (by show (9 * n + 0) % 9 ≤ 7; omega)).symm.trans (hv 0 hj (by omega) h l k)
    have hb : ∀ (h : Fin 8) (r : Fin 512) (l : Fin 128), (fun _ => Ideal.ofBits .f32 0xFF800000#32 : FVec Ideal S8x512x128 .f32) (ix3 h r l) = mx (S h r) 0 := fun h r l => bot_word
    have e := outsAt0_A m c ⟨9 * n + 0, hj⟩ (by show (9 * n + 0) % 9 = 0; omega) (by show (9 * n + 0) % 9 ≤ 7; omega)
      (by show ¬(9 * n + 0) % 9 = 8; omega) (by show ¬(9 * n + 0) % 9 = 8; omega)
    dsimp only at e
    rw [e]
    refine ⟨fun h r l => ?_, fun h r l => ?_, fun h r l => ?_⟩
    · dsimp only
      rw [A0]
      exact step_m _ _ _ S 0 hs' hb h r l
    · dsimp only
      rw [A1]
      exact step_l _ _ _ _ S 9 0 (by omega) hS hs' hb (fun _ _ _ => rfl) h r l
    · dsimp only
      rw [A2]
      exact step_a _ _ _ _ _ S V 9 0 (by omega) hS hs' hv' hb (fun _ _ _ => rfl) h r l
  | succ j ih =>
    intro hj hj8
    obtain ⟨i0, i1, i2⟩ := ih (by omega) (by omega)
    have hs' : ∀ h r k, sc (iblk m c 0 ⟨9 * n + (j + 1), hj⟩) (iblk m c 1 ⟨9 * n + (j + 1), hj⟩) h r k = S h r (j + 1) k := fun h r k =>
      (if_pos (by show (9 * n + (j + 1)) % 9 ≤ 7; omega)).symm.trans (hs (j + 1) hj (by omega) h r k)
    have hv' : ∀ (h : Fin 8) (l : Fin 128) k, (iblk m c 2 ⟨9 * n + (j + 1), hj⟩ : FVec Ideal S512x512 .bf16) (ix2 k (⟨128 * (h / 2) + l, by omega⟩ : Fin 512)) = V h l (j + 1) k := fun h l k =>
      (if_pos (by show (9 * n + (j + 1)) % 9 ≤ 7; omega)).symm.trans (hv (j + 1) hj (by omega) h l k)
    have e := outsAt0_B m c ⟨9 * n + (j + 1), hj⟩ (by show ¬(9 * n + (j + 1)) % 9 = 0; omega) (by show (9 * n + (j + 1)) % 9 ≤ 7; omega)
      (by show ¬(9 * n + (j + 1)) % 9 = 8; omega) (by show ¬(9 * n + (j + 1)) % 9 = 8; omega)
    dsimp only at e
    rw [e]
    refine ⟨fun h r l => ?_, fun h r l => ?_, fun h r l => ?_⟩
    · dsimp only
      rw [B0]
      exact step_m _ _ _ S (j + 1) hs' i0 h r l
    · dsimp only
      rw [B1]
      exact step_l _ _ _ _ S 9 (j + 1) (by omega) hS hs' i0 i1 h r l
    · dsimp only
      rw [B2]
      exact step_a _ _ _ _ _ S V 9 (j + 1) (by omega) hS hs' hv' i0 i2 h r l

/-- the last point of a run stores the difference of the two maps' quotients, normed -/
theorem stored (hS : ∀ h r, ∀ i < 9, ∀ k, ∃ x : ℝ, S h r i k = x)
    (hs : ∀ j (hj : 9 * n + j < cfg0.N), j < 9 → ∀ h r k, ptScore m c ⟨9 * n + j, hj⟩ h r k = S h r j k)
    (hv : ∀ j (hj : 9 * n + j < cfg0.N), j < 9 → ∀ h l k, ptVal m c ⟨9 * n + j, hj⟩ h l k = V h l j k)
    (hj : 9 * n + 8 < cfg0.N) (h : Fin 4) (r : Fin 512) (l : Fin 128) :
    ((outsAt0 m c (9 * n + 8) hj).1 : FVec Ideal S512x512 .bf16) (ix2 r (⟨128 * h + l, by omega⟩ : Fin 512))
      = rms (fun l => Ideal.div (ax (S (fst h) r) (V (fst h) l) 9) (lx (S (fst h) r) 9)
          - lam (iblk m c 5 ⟨9 * n + 8, hj⟩) * Ideal.div (ax (S (snd h) r) (V (snd h) l) 9) (lx (S (snd h) r) 9))
          ((iblk m c 6 ⟨9 * n + 8, hj⟩ : FVec Ideal S1x128 .f32) (ix2 (0 : Fin 1) l)) l := by
  obtain ⟨i0, i1, i2⟩ := sweep m c n S V hS hs hv 7 (by omega) (by omega)
  have hs' : ∀ h r k, sc (iblk m c 0 ⟨9 * n + 8, hj⟩) (iblk m c 3 ⟨9 * n + 8, hj⟩) h r k = S h r 8 k := fun h r k =>
    (if_neg (by show ¬(9 * n + 8) % 9 ≤ 7; omega)).symm.trans (hs 8 hj (by omega) h r k)
  have hv' : ∀ (h : Fin 8) (l : Fin 128) k, (iblk m c 4 ⟨9 * n + 8, hj⟩ : FVec Ideal S512x512 .bf16) (ix2 k (⟨128 * (h / 2) + l, by omega⟩ : Fin 512)) = V h l 8 k := fun h l k =>
    (if_neg (by show ¬(9 * n + 8) % 9 ≤ 7; omega)).symm.trans (hv 8 hj (by omega) h l k)
  have e := outsAt0_C m c ⟨9 * n + 8, hj⟩ (by show ¬(9 * n + 8) % 9 = 0; omega) (by show ¬(9 * n + 8) % 9 ≤ 7; omega)
    (by show (9 * n + 8) % 9 = 8; omega) (by show (9 * n + 8) % 9 = 8; omega)
  dsimp only at e
  rw [e]
  dsimp only
  rw [C7]
  have e1 := step_l _ _ _ _ S 9 8 (by omega) hS hs' i0 i1
  have e2 := step_a _ _ _ _ _ S V 9 8 (by omega) hS hs' hv' i0 i2
  refine congrArg (fun o => rms o _ l) (funext fun l => ?_)
  exact congrArg₂ (fun x y => x - lam _ * y) (congrArg₂ Ideal.div (e2 _ r l) (e1 _ r l)) (congrArg₂ Ideal.div (e2 _ r l) (e1 _ r l))

end Run

end Cert.Kernel4Ideal.Diff

end
-- ==== Proof.DiffRef.lean ====
module

public import proofs.«01_k».proof.Proof.Gen.Reference4Ideal.Run
public import proofs.«01_k».proof.Proof.DiffSpec
public import Idealize.ShloMosaic.Lib.Pointwise

@[expose] public section

set_option maxRecDepth 16384

noncomputable section

namespace Cert.Reference4Ideal.Diff

open Cert.Reference4Ideal Cert.Reference4Ideal.Gen Cert.Reference4Ideal.Facts Idealize.ShloMosaic
open Cert.Kernel4Ideal.Diff (rms)

/-- the scaled scores of every query against every key, new and cached, two maps for each head -/
def scores (q k : FVec Ideal S8x4096x4x2x64 .f32) (kc : FVec Ideal S8x512x4x128 .f32) : FVec Ideal S8x4x2x4096x4608 .f32 :=
  mulf (Host.dotGeneral dot_S8x4096x4x2x64_S8x4608x4x2x64_S8x4x2x4096x4608_4_4_1_1_023_023 none q (concatenate S8x4608x4x2x64 1 [⟨S8x4096x4x2x64, k⟩, ⟨S8x512x4x2x64, shapeCast _ kc shapeCasts_S8x512x4x128_S8x512x4x2x64⟩] concatenates_S8x4096x4x2x64_S8x512x4x2x64_S8x4608x4x2x64_d1)) (broadcastInDim S8x4x2x4096x4608 ![] bcast_S_S8x4x2x4096x4608 (constant S_ .f32 0x3E000000#32))

/-- the largest score of a query in a map -/
def largest (q k : FVec Ideal S8x4096x4x2x64 .f32) (kc : FVec Ideal S8x512x4x128 .f32) : FVec Ideal S8x4x2x4096 .f32 :=
  maximumf (broadcastInDim S8x4x2x4096 ![] bcast_S_S8x4x2x4096 (constant S_ .f32 0xFF800000#32)) (Host.reduce FloatOps.maximumf (scores q k kc) (constant S_ .f32 0xFF800000#32) reducesTo_S8x4x2x4096x4608_S8x4x2x4096_d4 h_S_)

/-- the exponentials of the scores less the largest one -/
def weights (q k : FVec Ideal S8x4096x4x2x64 .f32) (kc : FVec Ideal S8x512x4x128 .f32) : FVec Ideal S8x4x2x4096x4608 .f32 :=
  Host.exp (subf (scores q k kc) (broadcastInDim S8x4x2x4096x4608 ![0, 1, 2, 3, 4] bcast_S8x4x2x4096x1_S8x4x2x4096x4608_0_1_2_3_4 (broadcastInDim S8x4x2x4096x1 ![0, 1, 2, 3] bcast_S8x4x2x4096_S8x4x2x4096x1_0_1_2_3 (largest q k kc))))

/-- the sum of a query's exponentials in a map -/
def total (q k : FVec Ideal S8x4096x4x2x64 .f32) (kc : FVec Ideal S8x512x4x128 .f32) : FVec Ideal S8x4x2x4096 .f32 :=
  Host.reduceAdd (weights q k kc) (constant S_ .f32 0x00000000#32) reducesTo_S8x4x2x4096x4608_S8x4x2x4096_d4 h_S_

/-- the softmax of the scores -/
def shares (q k : FVec Ideal S8x4096x4x2x64 .f32) (kc : FVec Ideal S8x512x4x128 .f32) : FVec Ideal S8x4x2x4096x4608 .f32 :=
  Host.divf (weights q k kc) (broadcastInDim S8x4x2x4096x4608 ![0, 1, 2, 3, 4] bcast_S8x4x2x4096x1_S8x4x2x4096x4608_0_1_2_3_4 (broadcastInDim S8x4x2x4096x1 ![0, 1, 2, 3] bcast_S8x4x2x4096_S8x4x2x4096x1_0_1_2_3 (total q k kc)))

/-- the factor of the second map -/
def factor (a b c d : FVec Ideal S64 .f32) : FVec Ideal S_ .f32 :=
  addf (subf (Host.exp (Host.reduceAdd (mulf a b) (constant S_ .f32 0x00000000#32) reducesTo_S64_S_d0 h_S_)) (Host.exp (Host.reduceAdd (mulf c d) (constant S_ .f32 0x00000000#32) reducesTo_S64_S_d0 h_S_))) (constant S_ .f32 0x3E4CCCCD#32)

/-- the first map's shares less the factor times the second map's -/
def diffs (X : FVec Ideal S8x4x2x4096x4608 .f32) (f : FVec Ideal S_ .f32) : FVec Ideal S8x4x4096x4608 .f32 :=
  subf (shapeCast _ (extractStridedSlice S8x4x1x4096x4608 ![0, 0, 0, 0, 0] X slices_S8x4x2x4096x4608_S8x4x1x4096x4608_0_0_0_0_0) shapeCasts_S8x4x1x4096x4608_S8x4x4096x4608)
    (mulf (broadcastInDim S8x4x4096x4608 ![] bcast_S_S8x4x4096x4608 f)
      (shapeCast _ (extractStridedSlice S8x4x1x4096x4608 ![0, 0, 1, 0, 0] X slices_S8x4x2x4096x4608_S8x4x1x4096x4608_0_0_1_0_0) shapeCasts_S8x4x1x4096x4608_S8x4x4096x4608))

/-- the values weighed by the differences of the shares -/
def mixed (w : FVec Ideal S8x4x4096x4608 .f32) (v : FVec Ideal S8x4096x4x128 .f32) (vc : FVec Ideal S8x512x4x128 .f32) : FVec Ideal S8x4096x4x128 .f32 :=
  transpose S8x4096x4x128 [0, 3, 1, 2] (Host.dotGeneral dot_S8x4608x4x128_S8x4x4096x4608_S8x4x128x4096_1_3_3_2_02_01 none (concatenate S8x4608x4x128 1 [⟨S8x4096x4x128, v⟩, ⟨S8x512x4x128, vc⟩] concatenates_S8x4096x4x128_S8x512x4x128_S8x4608x4x128_d1) w) transposes_S8x4x128x4096_S8x4096x4x128_0_3_1_2

/-- each head's row over the root of its mean square, times the gain and the last factor -/
def normed (o : FVec Ideal S8x4096x4x128 .f32) (g : FVec Ideal S128 .f32) : FVec Ideal S32768x512 .bf16 :=
  truncf .bf16 (shapeCast S32768x512 (mulf (mulf (mulf o (broadcastInDim S8x4096x4x128 ![0, 1, 2, 3] bcast_S8x4096x4x1_S8x4096x4x128_0_1_2_3 (Host.rsqrt (addf (Host.divf (broadcastInDim S8x4096x4x1 ![0, 1, 2] bcast_S8x4096x4_S8x4096x4x1_0_1_2 (Host.reduceAdd (mulf o o) (constant S_ .f32 0x00000000#32) reducesTo_S8x4096x4x128_S8x4096x4_d3 h_S_)) (broadcastInDim S8x4096x4x1 ![] bcast_S_S8x4096x4x1 (constant S_ .f32 0x43000000#32))) (broadcastInDim S8x4096x4x1 ![] bcast_S_S8x4096x4x1 (constant S_ .f32 0x358637BD#32))))))
    (broadcastInDim S8x4096x4x128 ![0, 1, 2, 3] bcast_S1x1x1x128_S8x4096x4x128_0_1_2_3 (broadcastInDim S1x1x1x128 ![3] bcast_S128_S1x1x1x128_3 g))) (broadcastInDim S8x4096x4x128 ![] bcast_S_S8x4096x4x128 (constant S_ .f32 0x3F4CCCCD#32))) shapeCasts_S8x4096x4x128_S32768x512) bitsLt_bf16_f32

/-- the reference's result -/
def REF (q k : FVec Ideal S8x4096x4x2x64 .f32) (v : FVec Ideal S8x4096x4x128 .f32) (kc vc : FVec Ideal S8x512x4x128 .f32) (a b c d : FVec Ideal S64 .f32) (g : FVec Ideal S128 .f32) : FVec Ideal S32768x512 .bf16 :=
  normed (mixed (diffs (shares q k kc) (factor a b c d)) v vc) g

open Idealize.SL.Sem in
/-- the reference's run ends with this array -/
theorem res_REF (m : (ℓ : Loc nD τ sig) → Buf (Elt Ideal) ℓ) (c : Dev nD) :
    Cert.Reference4Ideal.Value.res_main_v50 (F := Ideal) m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.Reference4Ideal.Value.res_main_v50 REF normed mixed diffs shares total weights largest scores factor
  rfl

section At

variable (q k : FVec Ideal S8x4096x4x2x64 .f32) (v : FVec Ideal S8x4096x4x128 .f32) (kc vc : FVec Ideal S8x512x4x128 .f32)

/-- a key read in the new tokens or the cached ones -/
def keyAt (k : FVec Ideal S8x4096x4x2x64 .f32) (kc : FVec Ideal S8x512x4x128 .f32) (b : Fin 8) (h : Fin 4) (t : Fin 2) (j : Fin 4608) (d : Fin 64) : EReal :=
  if hj : (j : ℕ) < 4096 then k (ix5 b (⟨j, hj⟩ : Fin 4096) h t d) else kc (ix4 b (⟨j - 4096, by omega⟩ : Fin 512) h (⟨t * 64 + d, by omega⟩ : Fin 128))

/-- a value read in the new tokens or the cached ones -/
def valAt (v : FVec Ideal S8x4096x4x128 .f32) (vc : FVec Ideal S8x512x4x128 .f32) (b : Fin 8) (h : Fin 4) (j : Fin 4608) (d : Fin 128) : EReal :=
  if hj : (j : ℕ) < 4096 then v (ix4 b (⟨j, hj⟩ : Fin 4096) h d) else vc (ix4 b (⟨j - 4096, by omega⟩ : Fin 512) h d)

/-- a score is the sum of the products of a query's and a key's numbers, scaled -/
theorem scores_at (b : Fin 8) (h : Fin 4) (t : Fin 2) (i : Fin 4096) (j : Fin 4608) :
    scores q k kc (ix5 b h t i j) = (∑ d : Fin 64, q (ix5 b i h t d) * keyAt k kc b h t j d) * Ideal.ofBits .f32 0x3E000000#32 := by
  pointwise [scores, keyAt]

/-- the word the maxima start from is minus infinity -/
theorem bot_word : Ideal.ofBits .f32 0xFF800000#32 = ⊥ := by simp [Ideal.ofBits, Ideal.ieee]

/-- the maximum with an array full of minus infinity is the other operand -/
theorem max_bot_at (R : FVec Ideal S8x4x2x4096 .f32) (b : Fin 8) (h : Fin 4) (t : Fin 2) (i : Fin 4096) :
    maximumf (broadcastInDim S8x4x2x4096 ![] bcast_S_S8x4x2x4096 (constant S_ .f32 0xFF800000#32)) R (ix4 b h t i) = R (ix4 b h t i) := by
  pointwise []
  rw [bot_word]
  exact bot_sup_eq _

/-- the reduction over the keys drops the last axis -/
theorem reduces_last : S8x4x2x4096x4608.Reduces [4] S8x4x2x4096 := by decide

/-- the index a reduction over the keys reads -/
theorem lift_last (b : Fin 8) (h : Fin 4) (t : Fin 2) (i : Fin 4096) (j : Fin 4608) : reduces_last.lift (ix4 b h t i) j = ix5 b h t i j := by
  funext a
  apply Fin.ext
  match a with
  | ⟨0, _⟩ => rfl
  | ⟨1, _⟩ => rfl
  | ⟨2, _⟩ => rfl
  | ⟨3, _⟩ => rfl
  | ⟨4, _⟩ => rfl

/-- the maximum over the keys of any array of scores -/
theorem reduce_max_at (X : FVec Ideal S8x4x2x4096x4608 .f32) (b : Fin 8) (h : Fin 4) (t : Fin 2) (i : Fin 4096) :
    Host.reduce (FloatOps.maximumf (F := Ideal) (φ := .f32)) X (constant S_ .f32 0xFF800000#32) reducesTo_S8x4x2x4096x4608_S8x4x2x4096_d4 h_S_ (ix4 b h t i)
      = Finset.univ.sup fun j : Fin 4608 => X (ix5 b h t i j) := by
  rw [Host.reduce_eq_fold_single (FloatOps.maximumf (F := Ideal) (φ := .f32)) X (constant S_ .f32 0xFF800000#32) reducesTo_S8x4x2x4096x4608_S8x4x2x4096_d4 reduces_last h_S_ (ix4 b h t i)]
  have e : (constant S_ .f32 0xFF800000#32 : FVec Ideal S_ .f32) (Shape.Idx.first h_S_) = ⊥ := bot_word
  rw [e]
  exact Finset.sup_congr rfl fun j _ => congrArg X (lift_last b h t i j)

/-- the largest score of a query is the supremum of its scores -/
theorem largest_at (b : Fin 8) (h : Fin 4) (t : Fin 2) (i : Fin 4096) : largest q k kc (ix4 b h t i) = Finset.univ.sup fun j : Fin 4608 => scores q k kc (ix5 b h t i j) := by
  unfold largest
  exact (max_bot_at _ b h t i).trans (reduce_max_at _ b h t i)

/-- a weight is the exponential of the score less the largest -/
theorem weights_at (b : Fin 8) (h : Fin 4) (t : Fin 2) (i : Fin 4096) (j : Fin 4608) :
    weights q k kc (ix5 b h t i j) = Ideal.exp (scores q k kc (ix5 b h t i j) - largest q k kc (ix4 b h t i)) := by
  pointwise [weights]

/-- the total of a query is the sum of its weights -/
theorem total_at (b : Fin 8) (h : Fin 4) (t : Fin 2) (i : Fin 4096) : total q k kc (ix4 b h t i) = ∑ j : Fin 4608, weights q k kc (ix5 b h t i j) := by
  pointwise [total]

/-- a share is a weight over the total -/
theorem shares_at (b : Fin 8) (h : Fin 4) (t : Fin 2) (i : Fin 4096) (j : Fin 4608) :
    shares q k kc (ix5 b h t i j) = Ideal.div (weights q k kc (ix5 b h t i j)) (total q k kc (ix4 b h t i)) := by
  pointwise [shares]

/-- the factor of the second map, as a number -/
def num (a b c d : FVec Ideal S64 .f32) : EReal :=
  Ideal.exp (∑ l : Fin 64, a (ix1 l) * b (ix1 l)) - Ideal.exp (∑ l : Fin 64, c (ix1 l) * d (ix1 l)) + Ideal.ofBits .f32 0x3E4CCCCD#32

/-- the factor, read -/
theorem factor_at (a b c d : FVec Ideal S64 .f32) : factor a b c d ix0 = num a b c d := by
  pointwise [factor, num]

/-- a difference of shares -/
theorem diffs_at (X : FVec Ideal S8x4x2x4096x4608 .f32) (f : FVec Ideal S_ .f32) (b : Fin 8) (h : Fin 4) (i : Fin 4096) (j : Fin 4608) :
    diffs X f (ix4 b h i j) = X (ix5 b h (0 : Fin 2) i j) - f ix0 * X (ix5 b h (1 : Fin 2) i j) := by
  pointwise [diffs]

/-- a weighted value -/
theorem mixed_at (w : FVec Ideal S8x4x4096x4608 .f32) (b : Fin 8) (i : Fin 4096) (h : Fin 4) (d : Fin 128) :
    mixed w v vc (ix4 b i h d) = ∑ j : Fin 4608, w (ix4 b h i j) * valAt v vc b h j d := by
  pointwise [mixed, valAt]
  exact congrArg₂ (· + ·) (Finset.sum_congr rfl fun _ _ => mul_comm _ _) (Finset.sum_congr rfl fun _ _ => mul_comm _ _)

/-- a result is a row's lane, normed -/
theorem normed_at (o : FVec Ideal S8x4096x4x128 .f32) (g : FVec Ideal S128 .f32) (b : Fin 8) (i : Fin 4096) (h : Fin 4) (l : Fin 128) :
    normed o g (ix2 (⟨4096 * b + i, by omega⟩ : Fin 32768) (⟨128 * h + l, by omega⟩ : Fin 512)) = rms (fun d => o (ix4 b i h d)) (g (ix1 l)) l := by
  pointwise [normed, rms]

end At

end Cert.Reference4Ideal.Diff

end
-- ==== Proof.DiffFinal.lean ====
module

public import proofs.«01_k».proof.Proof.DiffLayout
public import proofs.«01_k».proof.Proof.DiffSweep
public import proofs.«01_k».proof.Proof.DiffRef

@[expose] public section

set_option maxRecDepth 16384

noncomputable section

namespace Cert.Kernel4Ideal.Diff

open Idealize.ShloMosaic Idealize.ShloMosaic.TcCoe Idealize.SL.Sem
open Cert.Kernel4Ideal Cert.Kernel4Ideal.Gen
open Attention
open Cert.Reference4Ideal.Diff (scores largest weights total shares factor diffs mixed normed REF keyAt valAt num scores_at largest_at weights_at total_at shares_at factor_at diffs_at mixed_at normed_at)

/-- an array of real numbers -/
def AllReal {s : Shape} (X : FVec Ideal s .f32) : Prop := ∀ i, ∃ r : ℝ, X i = r

/-- the scale is a real number, not a negative one -/
theorem scale_word : ∃ x : ℝ, 0 ≤ x ∧ Ideal.ofBits .f32 0x3E000000#32 = x := by
  refine ⟨_, ?_, by simp [Ideal.ofBits, Ideal.ieee]; rfl⟩
  positivity

/-- the factor's constant is a real number -/
theorem start_word : ∃ x : ℝ, Ideal.ofBits .f32 0x3E4CCCCD#32 = x := by
  refine ⟨_, by simp [Ideal.ofBits, Ideal.ieee]; rfl⟩

/-- a sum of real numbers, each cast, is the cast of their sum -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- weighing by a difference is the difference of the weighings, for real numbers -/
theorem sum_diff {ι : Type*} [Fintype ι] (p0 p1 v : ι → EReal) (f : EReal) (h0 : ∀ i, ∃ r : ℝ, p0 i = r) (h1 : ∀ i, ∃ r : ℝ, p1 i = r)
    (hv : ∀ i, ∃ r : ℝ, v i = r) (hf : ∃ r : ℝ, f = r) :
    ∑ i, (p0 i - f * p1 i) * v i = (∑ i, p0 i * v i) - f * ∑ i, p1 i * v i := by
  choose a ha using h0
  choose b hb using h1
  choose w hw using hv
  obtain ⟨x, rfl⟩ := hf
  simp only [ha, hb, hw, ← EReal.coe_mul, ← EReal.coe_sub, coe_sum]
  congr 1
  rw [Finset.mul_sum, ← Finset.sum_sub_distrib]
  exact Finset.sum_congr rfl fun i _ => by ring

/-- the softmax of real scores is real -/
theorem share_real {ι : Type*} [Fintype ι] [Nonempty ι] (s : ι → EReal) (hs : ∀ i, ∃ r : ℝ, s i = r) (i : ι) :
    ∃ r : ℝ, Ideal.div (Ideal.exp (s i - Finset.univ.sup fun j => s j)) (∑ i, Ideal.exp (s i - Finset.univ.sup fun j => s j)) = r := by
  obtain ⟨t, ht⟩ := sup_real Finset.univ Finset.univ_nonempty (fun j => s j) fun j _ => hs j
  have he : ∀ i, ∃ r : ℝ, 0 < r ∧ Ideal.exp (s i - Finset.univ.sup fun j => s j) = r := fun i => by
    obtain ⟨x, hx⟩ := hs i
    exact ⟨Real.exp (x - t), Real.exp_pos _, by rw [ht, hx, ← EReal.coe_sub, Ideal.exp_coe]⟩
  obtain ⟨y, hy, e⟩ := sum_pos_real Finset.univ Finset.univ_nonempty (fun i => Ideal.exp (s i - Finset.univ.sup fun j => s j)) fun i _ => he i
  obtain ⟨x, hx, e'⟩ := he i
  rw [e, e', Ideal.div_coe hy.ne', ← EReal.coe_mul]
  exact ⟨_, rfl⟩

/-- the test for the first query's lanes, as a comparison of numbers -/
theorem low_eq : ∀ l : Fin 128, low l = BitVec.ofBool (decide ((l : ℕ) < 64)) := by
  unfold low
  decide

/-- a sum over 128 lanes is the sum over the first 64 and that over the last -/
theorem sum_halves (f : Fin 128 → EReal) :
    ∑ d, f d = (∑ d : Fin 64, f ⟨d, by omega⟩) + ∑ d : Fin 64, f ⟨64 + d, by omega⟩ :=
  Fin.sum_univ_add (a := 64) (b := 64) f

/-- a map's score is the sum over its own 64 lanes -/
theorem sc_own (Q K : FVec Ideal S512x512 .bf16) (s : Fin 8) (r k : Fin 512) :
    sc Q K s r k = ∑ d : Fin 64, (Q (ix2 r (⟨64 * s + d, by omega⟩ : Fin 512)) : EReal) * (K (ix2 k (⟨64 * s + d, by omega⟩ : Fin 512)) : EReal) := by
  unfold sc qk
  rw [sum_halves]
  simp only [low_eq, Scalar.select_ofBool]
  by_cases hs : (s : ℕ) % 2 = 0
  · have e2 : ∀ d : Fin 64, ¬64 + (d : ℕ) < 64 := fun d => by omega
    simp only [hs, if_true, Fin.isLt, decide_true, e2, decide_false, Bool.false_eq_true, if_false, Finset.sum_const_zero, add_zero]
    refine Finset.sum_congr rfl fun d _ => ?_
    have e : (⟨128 * ((s : ℕ) / 2) + d, by omega⟩ : Fin 512) = ⟨64 * s + d, by omega⟩ := Fin.ext (by dsimp only; omega)
    rw [e]
  · have e2 : ∀ d : Fin 64, ¬64 + (d : ℕ) < 64 := fun d => by omega
    simp only [hs, if_true, Fin.isLt, decide_true, e2, decide_false, Bool.false_eq_true, if_false, Finset.sum_const_zero, zero_add]
    refine Finset.sum_congr rfl fun d _ => ?_
    have e : (⟨128 * ((s : ℕ) / 2) + (64 + d), by omega⟩ : Fin 512) = ⟨64 * s + d, by omega⟩ := Fin.ext (by dsimp only; omega)
    rw [e]

/-- a score from scaled queries is the scaled score -/
theorem score_scaled (x y : Fin 64 → EReal) :
    (∑ d, x d * Ideal.ofBits .f32 0x3E000000#32 * y d) = (∑ d, x d * y d) * Ideal.ofBits .f32 0x3E000000#32 := by
  obtain ⟨s, hs, e⟩ := scale_word
  rw [e, sum_mul_real _ _ _ hs]
  exact Finset.sum_congr rfl fun d _ => mul_right_comm _ _ _

/-- the kernel's factor is the reference's -/
theorem lam_num (a b c d : FVec Ideal S64 .f32) (X : FVec Ideal S4x128 .f32) (hX : ∀ r l, X (ix2 r l) = lamL a b c d (ix2 r l)) : lam X = num a b c d := by
  have e2 : ∀ d : Fin 64, ¬64 + (d : ℕ) < 64 := fun d => by omega
  unfold lam num
  rw [sum_halves, sum_halves]
  simp only [hX, lamL_0, lamL_1, lamL_2, lamL_3, Fin.isLt, dif_pos, e2, dif_neg, not_false_eq_true, mul_zero, Finset.sum_const_zero, add_zero]

/-- the factor of real vectors is real -/
theorem num_real (a b c d : FVec Ideal S64 .f32) (ha : AllReal a) (hb : AllReal b) (hc : AllReal c) (hd : AllReal d) : ∃ r : ℝ, num a b c d = r := by
  choose f hf using ha
  choose g hg using hb
  choose p hp using hc
  choose q hq using hd
  obtain ⟨x, hx⟩ := start_word
  unfold num
  simp only [hf, hg, hp, hq, ← EReal.coe_mul, coe_sum, Ideal.exp_coe, hx, ← EReal.coe_sub, ← EReal.coe_add]
  exact ⟨_, rfl⟩

section Read

/-- a key of the new tokens -/
theorem keyAt_new (k : FVec Ideal S8x4096x4x2x64 .f32) (kc : FVec Ideal S8x512x4x128 .f32) (b : Fin 8) (h : Fin 4) (t : Fin 2) (j : Fin 4608) (hj : (j : ℕ) < 4096) (d : Fin 64) :
    keyAt k kc b h t j d = k (ix5 b (⟨j, hj⟩ : Fin 4096) h t d) := dif_pos hj

/-- a cached key -/
theorem keyAt_old (k : FVec Ideal S8x4096x4x2x64 .f32) (kc : FVec Ideal S8x512x4x128 .f32) (b : Fin 8) (h : Fin 4) (t : Fin 2) (j : Fin 4608) (i : Fin 512) (hj : (j : ℕ) = 512 * 8 + i) (d : Fin 64) :
    keyAt k kc b h t j d = kc (ix4 b i h (⟨t * 64 + d, by omega⟩ : Fin 128)) :=
  (dif_neg (by omega)).trans (congrArg (fun x => kc (ix4 b x h _)) (Fin.ext (by dsimp only; omega)))

variable (q k : FVec Ideal S8x4096x4x2x64 .f32) (v : FVec Ideal S8x4096x4x128 .f32) (kc vc : FVec Ideal S8x512x4x128 .f32)

/-- the scores of real queries and keys are real -/
theorem scores_real (hq : AllReal q) (hk : AllReal k) (hkc : AllReal kc)
    (b : Fin 8) (h : Fin 4) (t : Fin 2) (i : Fin 4096) (j : Fin 4608) : ∃ r : ℝ, scores q k kc (ix5 b h t i j) = r := by
  rw [scores_at]
  obtain ⟨s, _, e⟩ := scale_word
  have hkey : ∀ d, ∃ r : ℝ, keyAt k kc b h t j d = r := fun d => by
    unfold keyAt
    split
    · exact hk _
    · exact hkc _
  choose f hf using hkey
  choose g hg using hq
  obtain ⟨x, hx⟩ := sum_real Finset.univ (fun d : Fin 64 => q (ix5 b i h t d) * keyAt k kc b h t j d) fun d _ => ⟨g (ix5 b i h t d) * f d, by rw [hf, hg, EReal.coe_mul]⟩
  exact ⟨x * s, by rw [hx, e, EReal.coe_mul]⟩

/-- the values read are real -/
theorem valAt_real (hv : AllReal v) (hvc : AllReal vc) (b : Fin 8) (h : Fin 4) (j : Fin 4608) (d : Fin 128) : ∃ r : ℝ, valAt v vc b h j d = r := by
  unfold valAt
  split
  · exact hv _
  · exact hvc _

/-- the shares of real queries and keys are real -/
theorem shares_real (hq : AllReal q) (hk : AllReal k) (hkc : AllReal kc)
    (b : Fin 8) (h : Fin 4) (t : Fin 2) (i : Fin 4096) (j : Fin 4608) : ∃ r : ℝ, shares q k kc (ix5 b h t i j) = r := by
  rw [shares_at, total_at]
  simp only [weights_at, largest_at]
  haveI : Nonempty (Fin 4608) := ⟨0⟩
  exact share_real (fun J : Fin 4608 => scores q k kc (ix5 b h t i J)) (fun J => scores_real q k kc hq hk hkc b h t i J) j

/-- one map's weighted values as a quotient computed over nine blocks of 512 keys -/
theorem map_blocks (hq : AllReal q) (hk : AllReal k) (hkc : AllReal kc)
    (b : Fin 8) (h : Fin 4) (t : Fin 2) (i : Fin 4096) (d : Fin 128) :
    ∑ J : Fin 4608, shares q k kc (ix5 b h t i J) * valAt v vc b h J d
      = Ideal.div (ax (w := 512) (cut 9 rfl fun J : Fin 4608 => scores q k kc (ix5 b h t i J)) (cut 9 rfl fun J => valAt v vc b h J d) 9)
          (lx (w := 512) (cut 9 rfl fun J : Fin 4608 => scores q k kc (ix5 b h t i J)) 9) := by
  simp only [shares_at, total_at, weights_at, largest_at]
  exact softmax_cut (w := 512) (M := 4608) 9 (by omega) rfl (fun J => scores q k kc (ix5 b h t i J)) (fun J => valAt v vc b h J d) fun J => scores_real q k kc hq hk hkc b h t i J

/-- the reference's result from the two maps' quotients -/
theorem REF_blocks (a b' c d : FVec Ideal S64 .f32) (g : FVec Ideal S128 .f32) (hq : AllReal q) (hk : AllReal k) (hkc : AllReal kc) (hv : AllReal v) (hvc : AllReal vc)
    (ha : AllReal a) (hb : AllReal b') (hc : AllReal c) (hd : AllReal d) (b : Fin 8) (h : Fin 4) (i : Fin 4096) (l : Fin 128) :
    REF q k v kc vc a b' c d g (ix2 (⟨4096 * b + i, by omega⟩ : Fin 32768) (⟨128 * h + l, by omega⟩ : Fin 512))
      = rms (fun l => Ideal.div (ax (w := 512) (cut 9 rfl fun J : Fin 4608 => scores q k kc (ix5 b h (0 : Fin 2) i J)) (cut 9 rfl fun J => valAt v vc b h J l) 9)
            (lx (w := 512) (cut 9 rfl fun J : Fin 4608 => scores q k kc (ix5 b h (0 : Fin 2) i J)) 9)
          - num a b' c d * Ideal.div (ax (w := 512) (cut 9 rfl fun J : Fin 4608 => scores q k kc (ix5 b h (1 : Fin 2) i J)) (cut 9 rfl fun J => valAt v vc b h J l) 9)
            (lx (w := 512) (cut 9 rfl fun J : Fin 4608 => scores q k kc (ix5 b h (1 : Fin 2) i J)) 9)) (g (ix1 l)) l := by
  unfold REF
  rw [normed_at]
  refine congrArg (fun o => rms o _ l) (funext fun l => ?_)
  rw [mixed_at]
  simp only [diffs_at, factor_at]
  rw [sum_diff (fun J => shares q k kc (ix5 b h (0 : Fin 2) i J)) (fun J => shares q k kc (ix5 b h (1 : Fin 2) i J)) (fun J => valAt v vc b h J l) _
    (fun J => shares_real q k kc hq hk hkc b h 0 i J) (fun J => shares_real q k kc hq hk hkc b h 1 i J) (fun J => valAt_real v vc hv hvc b h J l) (num_real a b' c d ha hb hc hd),
    map_blocks q k v kc vc hq hk hkc, map_blocks q k v kc vc hq hk hkc]

end Read

section Points

variable (m : (ℓ : Loc nD τ sig) → Buf (Elt Ideal) ℓ) (c : Dev nD)

/-- the scores a point computes are the reference's -/
theorem score_point (n j : ℕ) (hn : n < 64) (hj : 9 * n + j < cfg0.N) (h9 : j < 9) (s : Fin 8) (r k : Fin 512) :
    ptScore m c ⟨9 * n + j, hj⟩ s r k
      = cut (w := 512) 9 rfl (fun J : Fin 4608 => scores (m ((c : Thread nD τ).loc main_arg0)) (m ((c : Thread nD τ).loc main_arg1)) (m ((c : Thread nD τ).loc main_arg3)) (ix5 (⟨n / 8, by omega⟩ : Fin 8) (hd s) (mp s) (⟨512 * (n % 8) + r, by omega⟩ : Fin 4096) J)) j k := by
  rw [cut_eq 9 rfl _ j h9 k (⟨512 * j + k, by omega⟩ : Fin 4608) rfl, scores_at, ← score_scaled]
  unfold ptScore
  split
  · rename_i h7
    have h7' : j ≤ 7 := by dsimp only at h7; omega
    rw [sc_own]
    refine Finset.sum_congr rfl fun d _ => ?_
    rw [blk0, blk1, V_v8, V_v10]
    have e0 := mapsL_at (mulf (m ((c : Thread nD τ).loc main_arg0)) (broadcastInDim S8x4096x4x2x64 ![] bcast_S_S8x4096x4x2x64 (constant S_ .f32 0x3E000000#32)))
      (⟨n / 8, by omega⟩ : Fin 8) (⟨512 * (n % 8) + r, by omega⟩ : Fin 4096) s d
    have e1 := mapsL_at (m ((c : Thread nD τ).loc main_arg1)) (⟨n / 8, by omega⟩ : Fin 8) (⟨512 * j + k, by omega⟩ : Fin 4096) s d
    refine congrArg₂ (· * ·) (Eq.trans ?_ e0) (Eq.trans ?_ (e1.trans ?_))
    · exact congrArg _ (congrArg₂ ix2 (Fin.ext (by dsimp only; omega)) rfl)
    · exact congrArg _ (congrArg₂ ix2 (Fin.ext (by dsimp only; omega)) rfl)
    · exact (keyAt_new _ _ _ _ _ (⟨512 * j + k, by omega⟩ : Fin 4608) (show 512 * j + (k : ℕ) < 4096 by omega) d).symm
  · rename_i h7
    have h8 : j = 8 := by dsimp only at h7; omega
    subst h8
    rw [sc_own]
    refine Finset.sum_congr rfl fun d _ => ?_
    rw [blk0, blk3, V_v8, V_v14]
    have e0 := mapsL_at (mulf (m ((c : Thread nD τ).loc main_arg0)) (broadcastInDim S8x4096x4x2x64 ![] bcast_S_S8x4096x4x2x64 (constant S_ .f32 0x3E000000#32)))
      (⟨n / 8, by omega⟩ : Fin 8) (⟨512 * (n % 8) + r, by omega⟩ : Fin 4096) s d
    have e1 := rowsC_at (m ((c : Thread nD τ).loc main_arg3)) (⟨n / 8, by omega⟩ : Fin 8) k (hd s) (⟨mp s * 64 + d, by have : ((mp s : Fin 2) : ℕ) < 2 := (mp s).isLt; omega⟩ : Fin 128)
    refine congrArg₂ (· * ·) (Eq.trans ?_ e0) (Eq.trans ?_ (e1.trans ?_))
    · exact congrArg _ (congrArg₂ ix2 (Fin.ext (by dsimp only; omega)) rfl)
    · exact congrArg _ (congrArg₂ ix2 (Fin.ext (by dsimp only; omega)) (Fin.ext (by dsimp only; omega)))
    · exact (keyAt_old _ _ _ _ _ (⟨512 * 8 + k, by omega⟩ : Fin 4608) k rfl d).symm

/-- the values a point weighs are the reference's -/
theorem val_point (n j : ℕ) (hn : n < 64) (hj : 9 * n + j < cfg0.N) (h9 : j < 9) (s : Fin 8) (l : Fin 128) (k : Fin 512) :
    ptVal m c ⟨9 * n + j, hj⟩ s l k = cut (w := 512) 9 rfl (fun J : Fin 4608 => valAt (m ((c : Thread nD τ).loc main_arg2)) (m ((c : Thread nD τ).loc main_arg4)) (⟨n / 8, by omega⟩ : Fin 8) (hd s) J l) j k := by
  unfold ptVal
  rw [cut_eq 9 rfl _ j h9 k (⟨512 * j + k, by omega⟩ : Fin 4608) rfl]
  split
  · rename_i h7
    have h7' : j ≤ 7 := by dsimp only at h7; omega
    rw [blk2, V_v12]
    have e1 := valsL_at (m ((c : Thread nD τ).loc main_arg2)) (⟨n / 8, by omega⟩ : Fin 8) (⟨512 * j + k, by omega⟩ : Fin 4096) (hd s) l
    refine Eq.trans ?_ (e1.trans ?_)
    · exact congrArg _ (congrArg₂ ix2 (Fin.ext (by dsimp only; omega)) rfl)
    · unfold valAt
      rw [dif_pos (show 512 * j + (k : ℕ) < 4096 by omega)]
  · rename_i h7
    have h8 : j = 8 := by dsimp only at h7; omega
    subst h8
    rw [blk4, V_v16]
    have e1 := rowsC_at (m ((c : Thread nD τ).loc main_arg4)) (⟨n / 8, by omega⟩ : Fin 8) k (hd s) l
    refine Eq.trans ?_ (e1.trans ?_)
    · exact congrArg _ (congrArg₂ ix2 (Fin.ext (by dsimp only; omega)) rfl)
    · unfold valAt
      rw [dif_neg (show ¬512 * 8 + (k : ℕ) < 4096 by omega)]
      have e : (⟨512 * 8 + (k : ℕ) - 4096, by omega⟩ : Fin 512) = k := Fin.ext (by dsimp only; omega)
      simp only [e]

/-- the factor a point computes is the reference's -/
theorem lam_point (t : Fin cfg0.N) : lam (iblk m c 5 t) = num (m ((c : Thread nD τ).loc main_arg5)) (m ((c : Thread nD τ).loc main_arg6)) (m ((c : Thread nD τ).loc main_arg7)) (m ((c : Thread nD τ).loc main_arg8)) :=
  lam_num _ _ _ _ _ fun r l => (blk5 m c t r l).trans (congrFun (V_v17 m c) _)

/-- the gain a point reads is the argument's -/
theorem gain_point (t : Fin cfg0.N) (l : Fin 128) : (iblk m c 6 t : FVec Ideal S1x128 .f32) (ix2 (0 : Fin 1) l) = (m ((c : Thread nD τ).loc main_arg9)) (ix1 l) := by
  rw [blk6, V_v18]
  pointwise []

/-- what the last point of a run stores -/
theorem stored_ref (hq : AllReal (m ((c : Thread nD τ).loc main_arg0))) (hk : AllReal (m ((c : Thread nD τ).loc main_arg1))) (hkc : AllReal (m ((c : Thread nD τ).loc main_arg3)))
    (hv : AllReal (m ((c : Thread nD τ).loc main_arg2))) (hvc : AllReal (m ((c : Thread nD τ).loc main_arg4))) (h5 : AllReal (m ((c : Thread nD τ).loc main_arg5))) (h6 : AllReal (m ((c : Thread nD τ).loc main_arg6))) (h7 : AllReal (m ((c : Thread nD τ).loc main_arg7))) (h8 : AllReal (m ((c : Thread nD τ).loc main_arg8)))
    (n : ℕ) (hn : n < 64) (hj : 9 * n + 8 < cfg0.N) (h : Fin 4) (r : Fin 512) (l : Fin 128) :
    ((outsAt0 m c (9 * n + 8) hj).1 : FVec Ideal S512x512 .bf16) (ix2 r (⟨128 * h + l, by omega⟩ : Fin 512))
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
          (ix2 (⟨512 * n + r, by omega⟩ : Fin 32768) (⟨128 * h + l, by omega⟩ : Fin 512)) := by
  have hS : ∀ (s : Fin 8) (r : Fin 512), ∀ i < 9, ∀ k : Fin 512, ∃ x : ℝ, cut (w := 512) 9 rfl (fun J : Fin 4608 => scores (m ((c : Thread nD τ).loc main_arg0)) (m ((c : Thread nD τ).loc main_arg1)) (m ((c : Thread nD τ).loc main_arg3)) (ix5 (⟨n / 8, by omega⟩ : Fin 8) (hd s) (mp s) (⟨512 * (n % 8) + r, by omega⟩ : Fin 4096) J)) i k = x := fun s r i hi k => by
    unfold cut
    rw [dif_pos hi]
    exact scores_real _ _ _ hq hk hkc _ _ _ _ _
  rw [stored m c n _ (fun s l => cut (w := 512) 9 rfl (fun J : Fin 4608 => valAt (m ((c : Thread nD τ).loc main_arg2)) (m ((c : Thread nD τ).loc main_arg4)) (⟨n / 8, by omega⟩ : Fin 8) (hd s) J l)) hS (fun j hj h9 s r k => score_point m c n j hn hj h9 s r k) (fun j hj h9 s l k => val_point m c n j hn hj h9 s l k) hj h r l,
    lam_point, gain_point]
  have e := REF_blocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    hq hk hkc hv hvc h5 h6 h7 h8 (⟨n / 8, by omega⟩ : Fin 8) h (⟨512 * (n % 8) + r, by omega⟩ : Fin 4096) l
  have e1 : hd (fst h) = h := Fin.ext (by dsimp only; omega)
  have e2 : hd (snd h) = h := Fin.ext (by dsimp only; omega)
  have e3 : mp (fst h) = 0 := Fin.ext (by show 2 * (h : ℕ) % 2 = 0; omega)
  have e4 : mp (snd h) = 1 := Fin.ext (by show (2 * (h : ℕ) + 1) % 2 = 1; omega)
  rw [e1, e2, e3, e4]
  refine e.symm.trans (congrArg _ (congrArg₂ ix2 (Fin.ext ?_) rfl))
  dsimp only
  omega

/-- the array the kernel leaves is the reference's -/
theorem final (hq : AllReal (m ((c : Thread nD τ).loc main_arg0))) (hk : AllReal (m ((c : Thread nD τ).loc main_arg1))) (hkc : AllReal (m ((c : Thread nD τ).loc main_arg3)))
    (hv : AllReal (m ((c : Thread nD τ).loc main_arg2))) (hvc : AllReal (m ((c : Thread nD τ).loc main_arg4))) (h5 : AllReal (m ((c : Thread nD τ).loc main_arg5))) (h6 : AllReal (m ((c : Thread nD τ).loc main_arg6))) (h7 : AllReal (m ((c : Thread nD τ).loc main_arg7))) (h8 : AllReal (m ((c : Thread nD τ).loc main_arg8))) :
    (dats m 0 c).arrAt 7 cfg0.N
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 7 _ (by decide +kernel) fun t hf y => ?_
  blk_simp
  rw [after0_7]
  have h8' : t.val % 9 = 8 := (flush0_7 t).mp hf
  have hN : t.val < 576 := lt_of_lt_of_eq t.isLt N_0
  obtain ⟨n, hn⟩ : ∃ n, t.val = 9 * n + 8 := ⟨t.val / 9, by omega⟩
  have hy1 : (y 1).val < 512 := (y 1).isLt
  have hy0 : (y 0).val < 512 := (y 0).isLt
  have e := stored_ref m c hq hk hkc hv hvc h5 h6 h7 h8 n (by omega) (by rw [← hn]; exact t.isLt) (⟨(y 1).val / 128, by omega⟩ : Fin 4) (⟨(y 0).val, hy0⟩ : Fin 512) (⟨(y 1).val % 128, by omega⟩ : Fin 128)
  obtain ⟨t, ht⟩ := t
  dsimp only at hn
  subst hn
  have ey : y = ix2 (⟨(y 0).val, hy0⟩ : Fin 512) (⟨128 * ((y 1).val / 128) + (y 1).val % 128, by omega⟩ : Fin 512) := by
    funext a
    apply Fin.ext
    match a with
    | ⟨0, _⟩ => rfl
    | ⟨1, _⟩ => exact (Nat.div_add_mod (y 1).val 128).symm
  refine Eq.trans (congrArg _ ey) (e.trans ?_)
  clear e ey
  blk_ext [idx ⟨9 * n + 8, ht⟩]

end Points

end Cert.Kernel4Ideal.Diff

end
-- ==== Proof.DiffFinite.lean ====
module

public import proofs.«01_k».proof.Proof.Finite
public import proofs.«01_k».proof.Proof.Gen.Pre_finite_pairs

@[expose] public section

set_option maxRecDepth 16384

noncomputable section

namespace Cert.FinitePairs

open Idealize.ShloMosaic Idealize.SL.Sem
open Cert.Finite (real_of_all)

instance : Subsingleton Cert.Pre_finite_pairs.S_.Idx := ⟨fun a b => funext fun x => x.elim0⟩

open Cert.Pre_finite_pairs in
/-- the precondition says that queries, keys and values, new and cached, and the four vectors are real numbers -/
theorem decode (q k : FVec Ideal S8x4096x4x2x64 .f32) (v : FVec Ideal S8x4096x4x128 .f32) (kc vc : FVec Ideal S8x512x4x128 .f32)
    (a b c d : FVec Ideal S64 .f32) (g : FVec Ideal S128 .f32)
    (i0 : S_.Idx) (h : Cert.Pre_finite_pairs.fn q k v kc vc a b c d g i0 = 1#1) :
    ((∀ i, ∃ r : ℝ, q i = r) ∧ (∀ i, ∃ r : ℝ, k i = r) ∧ ∀ i, ∃ r : ℝ, kc i = r) ∧ ((∀ i, ∃ r : ℝ, v i = r) ∧ ∀ i, ∃ r : ℝ, vc i = r)
      ∧ (∀ i, ∃ r : ℝ, a i = r) ∧ (∀ i, ∃ r : ℝ, b i = r) ∧ (∀ i, ∃ r : ℝ, c i = r) ∧ ∀ i, ∃ r : ℝ, d i = r := by
  unfold Cert.Pre_finite_pairs.fn Cert.Pre_finite_pairs.fn_part1 Cert.Pre_finite_pairs.fn_part2 at h
  dsimp only at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨⟨fun i => real_of_all q _ (fun _ => rfl) _ _ _ _ h1 i, fun i => real_of_all k _ (fun _ => rfl) _ _ _ _ h2 i, fun i => real_of_all kc _ (fun _ => rfl) _ _ _ _ h4 i⟩,
    ⟨fun i => real_of_all v _ (fun _ => rfl) _ _ _ _ h3 i, fun i => real_of_all vc _ (fun _ => rfl) _ _ _ _ h5 i⟩,
    fun i => real_of_all a _ (fun _ => rfl) _ _ _ _ h6 i, fun i => real_of_all b _ (fun _ => rfl) _ _ _ _ h7 i,
    fun i => real_of_all c _ (fun _ => rfl) _ _ _ _ h8 i, fun i => real_of_all d _ (fun _ => rfl) _ _ _ _ h9 i⟩

end Cert.FinitePairs

end
-- ==== Proof.InprojRunIdeal.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

/-!
The latent input projection's run: it ends, leaves its arguments unchanged, and each result's block at each
point of the grid is what `out0_14` to `out0_22` say of the blocks the point reads.
-/

set_option maxRecDepth 16384

noncomputable section

namespace Cert.Kernel5Ideal.Inproj

open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh⟩) main_chain

/-- no host operation writes an argument: the region finds it as launched -/
theorem V_arg (c : Dev nD) (b : Ref sig .tc) (hb : b ∈ ([main_arg0, main_arg1, main_arg2, main_arg3, main_arg4, main_arg5, main_arg6, main_arg7, main_arg8, main_arg9, main_arg10] : List (Ref sig .tc))) : V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_of_not_mem hb (by decide))))

theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)
theorem V_main_arg4 (c : Dev nD) : V m c main_arg4 = m ((c : Thread nD τ).loc main_arg4) := V_arg m c _ (by decide)
theorem V_main_arg5 (c : Dev nD) : V m c main_arg5 = m ((c : Thread nD τ).loc main_arg5) := V_arg m c _ (by decide)
theorem V_main_arg6 (c : Dev nD) : V m c main_arg6 = m ((c : Thread nD τ).loc main_arg6) := V_arg m c _ (by decide)
theorem V_main_arg7 (c : Dev nD) : V m c main_arg7 = m ((c : Thread nD τ).loc main_arg7) := V_arg m c _ (by decide)
theorem V_main_arg8 (c : Dev nD) : V m c main_arg8 = m ((c : Thread nD τ).loc main_arg8) := V_arg m c _ (by decide)
theorem V_main_arg9 (c : Dev nD) : V m c main_arg9 = m ((c : Thread nD τ).loc main_arg9) := V_arg m c _ (by decide)
theorem V_main_arg10 (c : Dev nD) : V m c main_arg10 = m ((c : Thread nD τ).loc main_arg10) := V_arg m c _ (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- window 0's buffer holds its block at every point -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- window 1's buffer holds its block at every point -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- window 2's buffer holds its block at every point -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- window 3's buffer holds its block at every point -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- window 4's buffer holds its block at every point -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- window 5's buffer holds its block at every point -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- window 6's buffer holds its block at every point -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- window 7's buffer holds its block at every point -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- window 8's buffer holds its block at every point -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- window 9's buffer holds its block at every point -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- window 10's buffer holds its block at every point -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- window 11's buffer holds its block at every point -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- window 12's buffer holds its block at every point -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- window 13's buffer holds its block at every point -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1380000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S1024x3584 := Rect.unit (s := S1024x3584) ![0, 0] S1024x512.size inb_S1024x3584_S1024x512_0_0
abbrev r0_4 : Rect S512x512 := Rect.unit (s := S512x512) ![0, 0] S512x512.size inb_S512x512_S512x512_0_0
abbrev r0_5 : Rect S1024x3584 := Rect.unit (s := S1024x3584) ![0, 512] S1024x1024.size inb_S1024x3584_S1024x1024_0_512
abbrev r0_6 : Rect S1024x3584 := Rect.unit (s := S1024x3584) ![0, 1536] S1024x128.size inb_S1024x3584_S1024x128_0_1536
abbrev r0_7 : Rect S512x128 := Rect.unit (s := S512x128) ![0, 0] S512x128.size inb_S512x128_S512x128_0_0
abbrev r0_8 : Rect S1024x3584 := Rect.unit (s := S1024x3584) ![0, 1664] S1024x256.size inb_S1024x3584_S1024x256_0_1664
abbrev r0_9 : Rect S1x256 := Rect.unit (s := S1x256) ![0, 0] S1x256.size inb_S1x256_S1x256_0_0
abbrev r0_10 : Rect S256x1024 := Rect.unit (s := S256x1024) ![0, 0] S256x1024.size inb_S256x1024_S256x1024_0_0
abbrev r0_11 : Rect S1024x3584 := Rect.unit (s := S1024x3584) ![0, 1920] S1024x128.size inb_S1024x3584_S1024x128_0_1920
abbrev r0_12 : Rect S1x128 := Rect.unit (s := S1x128) ![0, 0] S1x128.size inb_S1x128_S1x128_0_0
abbrev r0_13 : Rect S128x1024 := Rect.unit (s := S128x1024) ![0, 0] S128x1024.size inb_S128x1024_S128x1024_0_0
abbrev r0_14 : Rect S512x1024 := Rect.unit (s := S512x1024) ![0, 0] S512x128.size inb_S512x1024_S512x128_0_0
abbrev r0_15 : Rect S512x1024 := Rect.unit (s := S512x1024) ![0, 128] S512x128.size inb_S512x1024_S512x128_0_128
abbrev r0_16 : Rect S512x1024 := Rect.unit (s := S512x1024) ![0, 256] S512x128.size inb_S512x1024_S512x128_0_256
abbrev r0_17 : Rect S512x1024 := Rect.unit (s := S512x1024) ![0, 384] S512x128.size inb_S512x1024_S512x128_0_384
abbrev r0_18 : Rect S512x1024 := Rect.unit (s := S512x1024) ![0, 512] S512x128.size inb_S512x1024_S512x128_0_512
abbrev r0_19 : Rect S512x1024 := Rect.unit (s := S512x1024) ![0, 640] S512x128.size inb_S512x1024_S512x128_0_640
abbrev r0_20 : Rect S512x1024 := Rect.unit (s := S512x1024) ![0, 768] S512x128.size inb_S512x1024_S512x128_0_768
abbrev r0_21 : Rect S512x1024 := Rect.unit (s := S512x1024) ![0, 896] S512x128.size inb_S512x1024_S512x128_0_896
abbrev r0_22 : Rect S1024x3584 := Rect.unit (s := S1024x3584) ![0, 2048] S1024x512.size inb_S1024x3584_S1024x512_0_2048
abbrev r0_23 : Rect S1024x3584 := Rect.unit (s := S1024x3584) ![0, 2560] S1024x512.size inb_S1024x3584_S1024x512_0_2560
abbrev r0_24 : Rect S1024x3584 := Rect.unit (s := S1024x3584) ![0, 3072] S1024x512.size inb_S1024x3584_S1024x512_0_3072
abbrev r0_25 : Rect S512x512 := Rect.unit (s := S512x512) ![0, 0] S512x128.size inb_S512x512_S512x128_0_0
abbrev r0_26 : Rect S512x512 := Rect.unit (s := S512x512) ![0, 128] S512x128.size inb_S512x512_S512x128_0_128
abbrev r0_27 : Rect S512x512 := Rect.unit (s := S512x512) ![0, 256] S512x128.size inb_S512x512_S512x128_0_256
abbrev r0_28 : Rect S512x512 := Rect.unit (s := S512x512) ![0, 384] S512x128.size inb_S512x512_S512x128_0_384

/-! ## What the body leaves in each output window's buffer -/

/-! ### Values of the body that the stores' payloads, spelt out, would write more than once

    Each is a vector the body binds (often a part call's result), stated over the input windows' blocks and
    numbered on from the skeleton's payload functions (`k0_pay68` …, after `k0_pay67`), so that
    `out0_W` and the values after it name it instead of spelling it out (`unfold_out out0_W` opens a canon
    with them, `unfold_payloads` opens them with the payloads); the comment after each is the printed function's
    name for the value (a count appended where that name is bound again). -/

def k0_pay68 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x1024 .bf16 :=
  k0_pay2 (View.ld x0 r0_0) (View.ld x3 r0_1) (View.ld x1 r0_2) (View.ld x2 r0_2) -- `v26`
def k0_pay69 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x128 .f32 :=
  k0_pay5 (k0_pay68 x0 x1 x2 x3 x4 x5 x6 x7 x8 x9 x10 x11 x12 x13) (View.ld x4 r0_6) -- `v39`
def k0_pay70 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x1024 .f32 :=
  k0_pay6 (k0_pay68 x0 x1 x2 x3 x4 x5 x6 x7 x8 x9 x10 x11 x12 x13) (View.ld x4 r0_8) (View.ld x5 r0_9) (View.ld x7 r0_10) -- `v63`
def k0_pay71 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x128 .f32 :=
  k0_pay7 (k0_pay68 x0 x1 x2 x3 x4 x5 x6 x7 x8 x9 x10 x11 x12 x13) (View.ld x4 r0_11) -- `v66`
def k0_pay72 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S1x128 .f32 :=
  k0_pay8 (View.ld x6 r0_12) -- `v68`
def k0_pay73 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x128 .f32 :=
  k0_pay9 (k0_pay68 x0 x1 x2 x3 x4 x5 x6 x7 x8 x9 x10 x11 x12 x13) (View.ld x4 r0_11) -- `v69`
def k0_pay74 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x1024 .f32 :=
  k0_pay11 (k0_pay71 x0 x1 x2 x3 x4 x5 x6 x7 x8 x9 x10 x11 x12 x13) (k0_pay72 x0 x1 x2 x3 x4 x5 x6 x7 x8 x9 x10 x11 x12 x13) (k0_pay73 x0 x1 x2 x3 x4 x5 x6 x7 x8 x9 x10 x11 x12 x13) (View.ld x8 r0_13) -- `v84`
def k0_pay75 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : IVec S512x128 1 :=
  k0_pay13 -- `v95`
def k0_pay76 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x128 .f32 :=
  k0_pay14 (View.ld x10 r0_7) -- `v97`
def k0_pay77 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x128 .f32 :=
  k0_pay15 (View.ld x11 r0_7) -- `v99`
def k0_pay78 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x128 .f32 :=
  k0_pay16 (k0_pay69 x0 x1 x2 x3 x4 x5 x6 x7 x8 x9 x10 x11 x12 x13) (View.ld x10 r0_7) -- `v100`
def k0_pay79 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x128 .f32 :=
  k0_pay17 (k0_pay69 x0 x1 x2 x3 x4 x5 x6 x7 x8 x9 x10 x11 x12 x13) -- `v102`
def k0_pay80 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x128 .f32 :=
  k0_pay18 (k0_pay69 x0 x1 x2 x3 x4 x5 x6 x7 x8 x9 x10 x11 x12 x13) -- `v103`
def k0_pay81 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : IVec S512x128 1 :=
  k0_pay19 -- `v107`
def k0_pay82 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x128 .f32 :=
  k0_pay20 (k0_pay75 x0 x1 x2 x3 x4 x5 x6 x7 x8 x9 x10 x11 x12 x13) (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay80 x0 x1 x2 x3 x4 x5 x6 x7 x8 x9 x10 x11 x12 x13) (k0_pay81 x0 x1 x2 x3 x4 x5 x6 x7 x8 x9 x10 x11 x12 x13) -- `v112`
def k0_pay83 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x512 .f32 :=
  k0_pay42 (k0_pay68 x0 x1 x2 x3 x4 x5 x6 x7 x8 x9 x10 x11 x12 x13) (View.ld x4 r0_22) -- `v261`
def k0_pay84 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x512 .f32 :=
  k0_pay43 (k0_pay68 x0 x1 x2 x3 x4 x5 x6 x7 x8 x9 x10 x11 x12 x13) (View.ld x4 r0_23) -- `v264`
def k0_pay85 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x128 .f32 :=
  k0_pay45 (View.ld x12 r0_7) -- `v271`
def k0_pay86 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : FVec F S512x128 .f32 :=
  k0_pay46 (View.ld x13 r0_7) -- `v273`

/-- Window 14's staging buffer after the body, from the input windows' blocks: its 1 store as pieces, LAST
    FIRST (Lib/Pipeline/FrameBody.lean `View.canon`; the payloads are the skeleton's and the values stated above). -/
def out0_14 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : Vec F S512x512 .bf16 :=
  View.canon [⟨r0_4, k0_pay3 (View.ld x0 r0_0) (View.ld x3 r0_1) (View.ld x1 r0_2) (View.ld x2 r0_2) (View.ld x4 r0_3)⟩]

/-- Its stores tile the buffer (checked by evaluation), so they cover it. -/
theorem cover0_14 (p0 : Vec F S512x512 .bf16) (y : S512x512.Idx) :
    ∃ pc ∈ ([⟨r0_4, p0⟩] : List (View.Piece (Elt F) S512x512 .bf16)), y ∈ pc.1.set :=
  View.cover_of_tiled [⟨r0_4, p0⟩] S512x512.size (by rfl) y

/-- Window 15's staging buffer after the body, from the input windows' blocks: its 1 store as pieces, LAST
    FIRST (Lib/Pipeline/FrameBody.lean `View.canon`; the payloads are the skeleton's and the values stated above). -/
def out0_15 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : Vec F S512x1024 .bf16 :=
  View.canon [⟨r0_0, k0_pay4 (View.ld x0 r0_0) (View.ld x3 r0_1) (View.ld x1 r0_2) (View.ld x2 r0_2) (View.ld x4 r0_5)⟩]

/-- Its stores tile the buffer (checked by evaluation), so they cover it. -/
theorem cover0_15 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Window 16's staging buffer after the body, from the input windows' blocks: its 1 store as pieces, LAST
    FIRST (Lib/Pipeline/FrameBody.lean `View.canon`; the payloads are the skeleton's and the values stated above). -/
def out0_16 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : Vec F S512x128 .f32 :=
  View.canon [⟨r0_7, k0_pay5 (k0_pay68 x0 x1 x2 x3 x4 x5 x6 x7 x8 x9 x10 x11 x12 x13) (View.ld x4 r0_6)⟩]

/-- Its stores tile the buffer (checked by evaluation), so they cover it. -/
theorem cover0_16 (p0 : Vec F S512x128 .f32) (y : S512x128.Idx) :
    ∃ pc ∈ ([⟨r0_7, p0⟩] : List (View.Piece (Elt F) S512x128 .f32)), y ∈ pc.1.set :=
  View.cover_of_tiled [⟨r0_7, p0⟩] S512x128.size (by rfl) y

/-- Window 17's staging buffer after the body, from the input windows' blocks: its 8 stores as pieces, LAST
    FIRST (Lib/Pipeline/FrameBody.lean `View.canon`; the payloads are the skeleton's and the values stated above). -/
def out0_17 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : Vec F S512x1024 .bf16 :=
  View.canon [⟨r0_21, k0_pay40 (k0_pay70 x0 x1 x2 x3 x4 x5 x6 x7 x8 x9 x10 x11 x12 x13) (k0_pay76 x0 x1 x2 x3 x4 x5 x6 x7 x8 x9 x10 x11 x12 x13) (k0_pay77 x0 x1 x2 x3 x4 x5 x6 x7 x8 x9 x10 x11 x12 x13)⟩,
    ⟨r0_20, k0_pay38 (k0_pay77 x0 x1 x2 x3 x4 x5 x6 x7 x8 x9 x10 x11 x12 x13) (k0_pay35 (k0_pay70 x0 x1 x2 x3 x4 x5 x6 x7 x8 x9 x10 x11 x12 x13)) (k0_pay36 (k0_pay70 x0 x1 x2 x3 x4 x5 x6 x7 x8 x9 x10 x11 x12 x13) (k0_pay76 x0 x1 x2 x3 x4 x5 x6 x7 x8 x9 x10 x11 x12 x13)) (iota .tc S512x128 32 [1] iota_S512x128_d1_w32) (k0_pay37 (k0_pay70 x0 x1 x2 x3 x4 x5 x6 x7 x8 x9 x10 x11 x12 x13)) 8#32⟩,
    ⟨r0_19, k0_pay33 (k0_pay70 x0 x1 x2 x3 x4 x5 x6 x7 x8 x9 x10 x11 x12 x13) (k0_pay76 x0 x1 x2 x3 x4 x5 x6 x7 x8 x9 x10 x11 x12 x13) (k0_pay77 x0 x1 x2 x3 x4 x5 x6 x7 x8 x9 x10 x11 x12 x13)⟩,
    ⟨r0_18, k0_pay31 (k0_pay77 x0 x1 x2 x3 x4 x5 x6 x7 x8 x9 x10 x11 x12 x13) (k0_pay29 (k0_pay70 x0 x1 x2 x3 x4 x5 x6 x7 x8 x9 x10 x11 x12 x13)) (k0_pay30 (k0_pay70 x0 x1 x2 x3 x4 x5 x6 x7 x8 x9 x10 x11 x12 x13) (k0_pay76 x0 x1 x2 x3 x4 x5 x6 x7 x8 x9 x10 x11 x12 x13))⟩,
    ⟨r0_17, k0_pay27 (k0_pay70 x0 x1 x2 x3 x4 x5 x6 x7 x8 x9 x10 x11 x12 x13) (k0_pay76 x0 x1 x2 x3 x4 x5 x6 x7 x8 x9 x10 x11 x12 x13) (k0_pay77 x0 x1 x2 x3 x4 x5 x6 x7 x8 x9 x10 x11 x12 x13)⟩,
    ⟨r0_16, k0_pay25 (k0_pay70 x0 x1 x2 x3 x4 x5 x6 x7 x8 x9 x10 x11 x12 x13) (k0_pay76 x0 x1 x2 x3 x4 x5 x6 x7 x8 x9 x10 x11 x12 x13) (k0_pay77 x0 x1 x2 x3 x4 x5 x6 x7 x8 x9 x10 x11 x12 x13)⟩,
    ⟨r0_15, k0_pay23 (k0_pay70 x0 x1 x2 x3 x4 x5 x6 x7 x8 x9 x10 x11 x12 x13) (k0_pay76 x0 x1 x2 x3 x4 x5 x6 x7 x8 x9 x10 x11 x12 x13) (k0_pay77 x0 x1 x2 x3 x4 x5 x6 x7 x8 x9 x10 x11 x12 x13)⟩,
    ⟨r0_14, k0_pay21 (k0_pay70 x0 x1 x2 x3 x4 x5 x6 x7 x8 x9 x10 x11 x12 x13) (k0_pay76 x0 x1 x2 x3 x4 x5 x6 x7 x8 x9 x10 x11 x12 x13) (k0_pay77 x0 x1 x2 x3 x4 x5 x6 x7 x8 x9 x10 x11 x12 x13)⟩]

/-- Its stores tile the buffer (checked by evaluation), so they cover it. -/
theorem cover0_17 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_21, p0⟩, ⟨r0_20, p1⟩, ⟨r0_19, p2⟩, ⟨r0_18, p3⟩, ⟨r0_17, p4⟩, ⟨r0_16, p5⟩, ⟨r0_15, p6⟩, ⟨r0_14, p7⟩] : List (View.Piece (Elt F) S512x1024 .bf16)), y ∈ pc.1.set :=
  View.cover_of_tiled [⟨r0_21, p0⟩, ⟨r0_20, p1⟩, ⟨r0_19, p2⟩, ⟨r0_18, p3⟩, ⟨r0_17, p4⟩, ⟨r0_16, p5⟩, ⟨r0_15, p6⟩, ⟨r0_14, p7⟩] S512x128.size (by rfl) y

/-- Window 18's staging buffer after the body, from the input windows' blocks: its 8 stores as pieces, LAST
    FIRST (Lib/Pipeline/FrameBody.lean `View.canon`; the payloads are the skeleton's and the values stated above). -/
def out0_18 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : Vec F S512x1024 .bf16 :=
  View.canon [⟨r0_21, k0_pay41 (k0_pay74 x0 x1 x2 x3 x4 x5 x6 x7 x8 x9 x10 x11 x12 x13) (k0_pay82 x0 x1 x2 x3 x4 x5 x6 x7 x8 x9 x10 x11 x12 x13)⟩,
    ⟨r0_20, k0_pay39 (k0_pay74 x0 x1 x2 x3 x4 x5 x6 x7 x8 x9 x10 x11 x12 x13) (k0_pay82 x0 x1 x2 x3 x4 x5 x6 x7 x8 x9 x10 x11 x12 x13)⟩,
    ⟨r0_19, k0_pay34 (k0_pay74 x0 x1 x2 x3 x4 x5 x6 x7 x8 x9 x10 x11 x12 x13) (k0_pay82 x0 x1 x2 x3 x4 x5 x6 x7 x8 x9 x10 x11 x12 x13)⟩,
    ⟨r0_18, k0_pay32 (k0_pay74 x0 x1 x2 x3 x4 x5 x6 x7 x8 x9 x10 x11 x12 x13) (k0_pay82 x0 x1 x2 x3 x4 x5 x6 x7 x8 x9 x10 x11 x12 x13)⟩,
    ⟨r0_17, k0_pay28 (k0_pay74 x0 x1 x2 x3 x4 x5 x6 x7 x8 x9 x10 x11 x12 x13) (k0_pay82 x0 x1 x2 x3 x4 x5 x6 x7 x8 x9 x10 x11 x12 x13)⟩,
    ⟨r0_16, k0_pay26 (k0_pay74 x0 x1 x2 x3 x4 x5 x6 x7 x8 x9 x10 x11 x12 x13) (k0_pay82 x0 x1 x2 x3 x4 x5 x6 x7 x8 x9 x10 x11 x12 x13)⟩,
    ⟨r0_15, k0_pay24 (k0_pay74 x0 x1 x2 x3 x4 x5 x6 x7 x8 x9 x10 x11 x12 x13) (k0_pay75 x0 x1 x2 x3 x4 x5 x6 x7 x8 x9 x10 x11 x12 x13) (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay80 x0 x1 x2 x3 x4 x5 x6 x7 x8 x9 x10 x11 x12 x13) (k0_pay81 x0 x1 x2 x3 x4 x5 x6 x7 x8 x9 x10 x11 x12 x13)⟩,
    ⟨r0_14, k0_pay22 (k0_pay74 x0 x1 x2 x3 x4 x5 x6 x7 x8 x9 x10 x11 x12 x13) (k0_pay75 x0 x1 x2 x3 x4 x5 x6 x7 x8 x9 x10 x11 x12 x13) (k0_pay77 x0 x1 x2 x3 x4 x5 x6 x7 x8 x9 x10 x11 x12 x13) (k0_pay78 x0 x1 x2 x3 x4 x5 x6 x7 x8 x9 x10 x11 x12 x13) (k0_pay79 x0 x1 x2 x3 x4 x5 x6 x7 x8 x9 x10 x11 x12 x13) (k0_pay80 x0 x1 x2 x3 x4 x5 x6 x7 x8 x9 x10 x11 x12 x13) (k0_pay81 x0 x1 x2 x3 x4 x5 x6 x7 x8 x9 x10 x11 x12 x13)⟩]

/-- Its stores tile the buffer (checked by evaluation), so they cover it. -/
theorem cover0_18 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_21, p0⟩, ⟨r0_20, p1⟩, ⟨r0_19, p2⟩, ⟨r0_18, p3⟩, ⟨r0_17, p4⟩, ⟨r0_16, p5⟩, ⟨r0_15, p6⟩, ⟨r0_14, p7⟩] : List (View.Piece (Elt F) S512x1024 .bf16)), y ∈ pc.1.set :=
  View.cover_of_tiled [⟨r0_21, p0⟩, ⟨r0_20, p1⟩, ⟨r0_19, p2⟩, ⟨r0_18, p3⟩, ⟨r0_17, p4⟩, ⟨r0_16, p5⟩, ⟨r0_15, p6⟩, ⟨r0_14, p7⟩] S512x128.size (by rfl) y

/-- Window 19's staging buffer after the body, from the input windows' blocks: its 1 store as pieces, LAST
    FIRST (Lib/Pipeline/FrameBody.lean `View.canon`; the payloads are the skeleton's and the values stated above). -/
def out0_19 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : Vec F S512x1024 .bf16 :=
  View.canon [⟨r0_0, k0_pay12 (k0_pay71 x0 x1 x2 x3 x4 x5 x6 x7 x8 x9 x10 x11 x12 x13) (k0_pay72 x0 x1 x2 x3 x4 x5 x6 x7 x8 x9 x10 x11 x12 x13) (k0_pay73 x0 x1 x2 x3 x4 x5 x6 x7 x8 x9 x10 x11 x12 x13) (View.ld x9 r0_13)⟩]

/-- Its stores tile the buffer (checked by evaluation), so they cover it. -/
theorem cover0_19 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Window 20's staging buffer after the body, from the input windows' blocks: its 4 stores as pieces, LAST
    FIRST (Lib/Pipeline/FrameBody.lean `View.canon`; the payloads are the skeleton's and the values stated above). -/
def out0_20 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : Vec F S512x512 .bf16 :=
  View.canon [⟨r0_28, k0_pay63 (k0_pay83 x0 x1 x2 x3 x4 x5 x6 x7 x8 x9 x10 x11 x12 x13) (k0_pay85 x0 x1 x2 x3 x4 x5 x6 x7 x8 x9 x10 x11 x12 x13) (k0_pay86 x0 x1 x2 x3 x4 x5 x6 x7 x8 x9 x10 x11 x12 x13)⟩,
    ⟨r0_27, k0_pay60 (k0_pay86 x0 x1 x2 x3 x4 x5 x6 x7 x8 x9 x10 x11 x12 x13) (k0_pay56 (k0_pay83 x0 x1 x2 x3 x4 x5 x6 x7 x8 x9 x10 x11 x12 x13) (k0_pay85 x0 x1 x2 x3 x4 x5 x6 x7 x8 x9 x10 x11 x12 x13)) (k0_pay57 (k0_pay83 x0 x1 x2 x3 x4 x5 x6 x7 x8 x9 x10 x11 x12 x13)) (k0_pay58 (k0_pay83 x0 x1 x2 x3 x4 x5 x6 x7 x8 x9 x10 x11 x12 x13)) k0_pay59 16#32⟩,
    ⟨r0_26, k0_pay52 (k0_pay83 x0 x1 x2 x3 x4 x5 x6 x7 x8 x9 x10 x11 x12 x13) (k0_pay85 x0 x1 x2 x3 x4 x5 x6 x7 x8 x9 x10 x11 x12 x13) (k0_pay86 x0 x1 x2 x3 x4 x5 x6 x7 x8 x9 x10 x11 x12 x13)⟩,
    ⟨r0_25, k0_pay48 (k0_pay83 x0 x1 x2 x3 x4 x5 x6 x7 x8 x9 x10 x11 x12 x13) (View.ld x12 r0_7) (View.ld x13 r0_7)⟩]

/-- Its stores tile the buffer (checked by evaluation), so they cover it. -/
theorem cover0_20 (p0 : Vec F S512x128 .bf16) (p1 : Vec F S512x128 .bf16) (p2 : Vec F S512x128 .bf16) (p3 : Vec F S512x128 .bf16) (y : S512x512.Idx) :
    ∃ pc ∈ ([⟨r0_28, p0⟩, ⟨r0_27, p1⟩, ⟨r0_26, p2⟩, ⟨r0_25, p3⟩] : List (View.Piece (Elt F) S512x512 .bf16)), y ∈ pc.1.set :=
  View.cover_of_tiled [⟨r0_28, p0⟩, ⟨r0_27, p1⟩, ⟨r0_26, p2⟩, ⟨r0_25, p3⟩] S512x128.size (by rfl) y

/-- Window 21's staging buffer after the body, from the input windows' blocks: its 4 stores as pieces, LAST
    FIRST (Lib/Pipeline/FrameBody.lean `View.canon`; the payloads are the skeleton's and the values stated above). -/
def out0_21 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : Vec F S512x512 .bf16 :=
  View.canon [⟨r0_28, k0_pay1 (k0_pay86 x0 x1 x2 x3 x4 x5 x6 x7 x8 x9 x10 x11 x12 x13) (k0_pay64 (k0_pay84 x0 x1 x2 x3 x4 x5 x6 x7 x8 x9 x10 x11 x12 x13) (k0_pay85 x0 x1 x2 x3 x4 x5 x6 x7 x8 x9 x10 x11 x12 x13)) (iota .tc S512x128 32 [1] iota_S512x128_d1_w32) (k0_pay65 (k0_pay84 x0 x1 x2 x3 x4 x5 x6 x7 x8 x9 x10 x11 x12 x13)) (k0_pay66 (k0_pay84 x0 x1 x2 x3 x4 x5 x6 x7 x8 x9 x10 x11 x12 x13)) k0_pay67⟩,
    ⟨r0_27, k0_pay61 (k0_pay85 x0 x1 x2 x3 x4 x5 x6 x7 x8 x9 x10 x11 x12 x13) (k0_pay86 x0 x1 x2 x3 x4 x5 x6 x7 x8 x9 x10 x11 x12 x13) (k0_pay55 (k0_pay84 x0 x1 x2 x3 x4 x5 x6 x7 x8 x9 x10 x11 x12 x13))⟩,
    ⟨r0_26, k0_pay53 (k0_pay84 x0 x1 x2 x3 x4 x5 x6 x7 x8 x9 x10 x11 x12 x13) (k0_pay85 x0 x1 x2 x3 x4 x5 x6 x7 x8 x9 x10 x11 x12 x13) (k0_pay86 x0 x1 x2 x3 x4 x5 x6 x7 x8 x9 x10 x11 x12 x13)⟩,
    ⟨r0_25, k0_pay51 (k0_pay49 (k0_pay68 x0 x1 x2 x3 x4 x5 x6 x7 x8 x9 x10 x11 x12 x13) (View.ld x4 r0_23) (View.ld x12 r0_7)) (k0_pay50 (k0_pay68 x0 x1 x2 x3 x4 x5 x6 x7 x8 x9 x10 x11 x12 x13) (View.ld x4 r0_23) (View.ld x13 r0_7))⟩]

/-- Its stores tile the buffer (checked by evaluation), so they cover it. -/
theorem cover0_21 (p0 : Vec F S512x128 .bf16) (p1 : Vec F S512x128 .bf16) (p2 : Vec F S512x128 .bf16) (p3 : Vec F S512x128 .bf16) (y : S512x512.Idx) :
    ∃ pc ∈ ([⟨r0_28, p0⟩, ⟨r0_27, p1⟩, ⟨r0_26, p2⟩, ⟨r0_25, p3⟩] : List (View.Piece (Elt F) S512x512 .bf16)), y ∈ pc.1.set :=
  View.cover_of_tiled [⟨r0_28, p0⟩, ⟨r0_27, p1⟩, ⟨r0_26, p2⟩, ⟨r0_25, p3⟩] S512x128.size (by rfl) y

/-- Window 22's staging buffer after the body, from the input windows' blocks: its 1 store as pieces, LAST
    FIRST (Lib/Pipeline/FrameBody.lean `View.canon`; the payloads are the skeleton's and the values stated above). -/
def out0_22 (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) : Vec F S512x512 .bf16 :=
  View.canon [⟨r0_4, k0_pay44 (k0_pay68 x0 x1 x2 x3 x4 x5 x6 x7 x8 x9 x10 x11 x12 x13) (View.ld x4 r0_24)⟩]

/-- Its stores tile the buffer (checked by evaluation), so they cover it. -/
theorem cover0_22 (p0 : Vec F S512x512 .bf16) (y : S512x512.Idx) :
    ∃ pc ∈ ([⟨r0_4, p0⟩] : List (View.Piece (Elt F) S512x512 .bf16)), y ∈ pc.1.set :=
  View.cover_of_tiled [⟨r0_4, p0⟩] S512x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x3584 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x512 .bf16) (harg15 : arg15.IsWhole) (arg16 : Memref sig .tc .vmem S512x1024 .bf16) (harg16 : arg16.IsWhole) (arg17 : Memref sig .tc .vmem S512x128 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole)
    (x0 : Vec F S512x1024 .f32) (x1 x2 : Vec F S1x1x1024 .f32) (x3 : Vec F S1x1024 .f32) (x4 : Vec F S1024x3584 .bf16) (x5 : Vec F S1x256 .f32) (x6 : Vec F S1x128 .f32) (x7 : Vec F S256x1024 .bf16) (x8 x9 : Vec F S128x1024 .bf16) (x10 x11 x12 x13 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13) ∗ owns (c : Thread nD τ) arg17 fullShare (out0_16 x0 x1 x2 x3 x4 x5 x6 x7 x8 x9 x10 x11 x12 x13) ∗ owns (c : Thread nD τ) arg18 fullShare (out0_17 x0 x1 x2 x3 x4 x5 x6 x7 x8 x9 x10 x11 x12 x13) ∗ owns (c : Thread nD τ) arg19 fullShare (out0_18 x0 x1 x2 x3 x4 x5 x6 x7 x8 x9 x10 x11 x12 x13) ∗ owns (c : Thread nD τ) arg20 fullShare (out0_19 x0 x1 x2 x3 x4 x5 x6 x7 x8 x9 x10 x11 x12 x13) ∗ owns (c : Thread nD τ) arg21 fullShare (out0_20 x0 x1 x2 x3 x4 x5 x6 x7 x8 x9 x10 x11 x12 x13) ∗ owns (c : Thread nD τ) arg22 fullShare (out0_21 x0 x1 x2 x3 x4 x5 x6 x7 x8 x9 x10 x11 x12 x13) ∗ owns (c : Thread nD τ) arg23 fullShare (out0_22 x0 x1 x2 x3 x4 x5 x6 x7 x8 x9 x10 x11 x12 x13)) -∗ K ⟨⟩))
      ⊢ wp frame (wpE (defs₀ (F := F)) Variants.none c none) E (cc0_inproj_lat i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_inproj_lat_eq_skeleton]; unfold cc0_inproj_lat_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _ _ _ _ _ _ _ _)).trans ?_
    rfl
  isplitl [H18]
  · iexists _; isplitr
    swap; · iexact H18
    ipureintro
    refine (View.read_writes_eq_canon _ _ _ (cover0_18 _ _ _ _ _ _ _ _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _ _ _ _)).trans ?_
    rfl
  isplitl [H21]
  · iexists _; isplitr
    swap; · iexact H21
    ipureintro
    refine (View.read_writes_eq_canon _ _ _ (cover0_21 _ _ _ _)).trans ?_
    rfl
  iexists _; isplitr
  swap; · iexact H22
  ipureintro
  refine (View.read_writes_eq_canon _ _ _ (cover0_22 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- the kernel ends with its arguments unchanged and no semaphore counted -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel5Ideal.Inproj

end
-- ==== Proof.InprojSpec.lean ====
module

public import proofs.«01_k».proof.Proof.Rows

@[expose] public section

noncomputable section

namespace Lanes

open Idealize.ShloMosaic

/-- the sum of a row's products with a column -/
def along {n : ℕ} (h w : Fin n → EReal) : EReal := ∑ d : Fin n, h d * w d

/-- a row over its root mean square, times the gain; `c` is the row's length as a number -/
def rms {n : ℕ} (c : EReal) (x g : Fin n → EReal) (k : Fin n) : EReal :=
  x k * Ideal.rsqrt (Ideal.div (∑ j : Fin n, x j * x j) c + Ideal.ofBits .f32 0x358637BD#32) * g k

/-- the partner of each lane: `h` lanes up in the lower half of a group of `2 h` lanes, `h` lanes down in the upper half -/
def turn (h : ℕ) (x : Fin 128 → EReal) (l : Fin 128) : EReal :=
  if (l : ℕ) % (2 * h) < h then x ⟨((l : ℕ) + h) % 128, Nat.mod_lt _ (by decide)⟩ else x ⟨((l : ℕ) + (128 - h)) % 128, Nat.mod_lt _ (by decide)⟩

/-- the rotary embedding, lane by lane: the lane times its cosine plus its partner times its signed sine -/
def roped (h : ℕ) (x C S : Fin 128 → EReal) (l : Fin 128) : EReal := x l * C l + turn h x l * S l

/-- the lanes of the lower half of each group of 16 -/
theorem low16 : ∀ l : Fin 128, IntOp.cmpi .slt (IntOp.andi (BitVec.ofNat 32 (l : ℕ)) 15#32) 8#32 = BitVec.ofBool (decide ((l : ℕ) % 16 < 8)) := by
  decide +kernel

/-- the lanes of the lower half of each group of 32 -/
theorem low32 : ∀ l : Fin 128, IntOp.cmpi .slt (IntOp.andi (BitVec.ofNat 32 (l : ℕ)) 31#32) 16#32 = BitVec.ofBool (decide ((l : ℕ) % 32 < 16)) := by
  decide +kernel

/-- the lanes the rotated key takes -/
theorem ropeLanes : ∀ l : Fin 128, IntOp.andi (IntOp.cmpi .sge (BitVec.ofNat 32 (l : ℕ)) 64#32) (IntOp.cmpi .slt (BitVec.ofNat 32 (l : ℕ)) 96#32) = BitVec.ofBool (decide (64 ≤ (l : ℕ) ∧ (l : ℕ) < 96)) := by
  decide +kernel

/-- the partner lanes as a choice between two turned rows, groups of 16 -/
theorem turn8_word (x : Fin 128 → EReal) (l : Fin 128) :
    Scalar.select (IntOp.cmpi .slt (IntOp.andi (BitVec.ofNat 32 (l : ℕ)) 15#32) 8#32) (x ⟨((l : ℕ) + 128 - 120) % 128, Nat.mod_lt _ (by decide)⟩) (x ⟨((l : ℕ) + 128 - 8) % 128, Nat.mod_lt _ (by decide)⟩)
      = turn 8 x l := by
  rw [low16, Scalar.select_ofBool]
  unfold turn
  by_cases h : (l : ℕ) % 16 < 8
  · rw [if_pos h, decide_eq_true h]
    exact congrArg x (Fin.ext (by dsimp only; omega))
  · rw [if_neg h, decide_eq_false h]
    exact congrArg x (Fin.ext (by dsimp only; omega))

/-- the partner lanes as a choice between two turned rows, groups of 32 -/
theorem turn16_word (x : Fin 128 → EReal) (l : Fin 128) :
    Scalar.select (IntOp.cmpi .slt (IntOp.andi (BitVec.ofNat 32 (l : ℕ)) 31#32) 16#32) (x ⟨((l : ℕ) + 128 - 112) % 128, Nat.mod_lt _ (by decide)⟩) (x ⟨((l : ℕ) + 128 - 16) % 128, Nat.mod_lt _ (by decide)⟩)
      = turn 16 x l := by
  rw [low32, Scalar.select_ofBool]
  unfold turn
  by_cases h : (l : ℕ) % 32 < 16
  · rw [if_pos h, decide_eq_true h]
    exact congrArg x (Fin.ext (by dsimp only; omega))
  · rw [if_neg h, decide_eq_false h]
    exact congrArg x (Fin.ext (by dsimp only; omega))

end Lanes

end
-- ==== Proof.InprojPay.lean ====
module

public import proofs.«01_k».proof.Proof.Gen.Kernel5Ideal.Skeleton
public import proofs.«01_k».proof.Proof.InprojSpec

@[expose] public section

set_option maxRecDepth 16384

noncomputable section

namespace Cert.Kernel5Ideal.Inproj

open Cert.Kernel5Ideal Cert.Kernel5Ideal.Gen Idealize.ShloMosaic Lanes

section Rows

variable (H : FVec Ideal S512x1024 .bf16) (r : Fin 512)

/-- a number of the normed rows -/
theorem k0_pay2_at (x0 : FVec Ideal S512x1024 .f32) (x3 : FVec Ideal S1x1024 .f32) (x1 x2 : FVec Ideal S1x1x1024 .f32) (d : Fin 1024) :
    (k0_pay2 x0 x3 x1 x2 : FVec Ideal S512x1024 .bf16) (ix2 r d) = Rows.normed (fun d => x0 (ix2 r d)) (fun d => x3 (ix2 (0 : Fin 1) d)) (fun d => x1 (ix3 (0 : Fin 1) (0 : Fin 1) d)) (fun d => x2 (ix3 (0 : Fin 1) (0 : Fin 1) d)) d := by
  pointwise [k0_pay2, Rows.normed]

/-- a number of the columns of steps and key rotation -/
theorem k0_pay5_at (w : FVec Ideal S1024x128 .bf16) (l : Fin 128) :
    (k0_pay5 H w : FVec Ideal S512x128 .f32) (ix2 r l) = along (fun d => H (ix2 r d)) (fun d => w (ix2 d l)) := by
  pointwise [k0_pay5, along]

/-- a number of the scaled latent queries -/
theorem k0_pay6_at (w : FVec Ideal S1024x256 .bf16) (g : FVec Ideal S1x256 .f32) (q : FVec Ideal S256x1024 .bf16) (j : Fin 1024) :
    (k0_pay6 H w g q : FVec Ideal S512x1024 .f32) (ix2 r j) = along (rms (Ideal.ofBits .f32 0x43800000#32) (fun k => along (fun d => H (ix2 r d)) (fun d => w (ix2 d k))) (fun k => g (ix2 (0 : Fin 1) k))) (fun k => q (ix2 k j)) * Ideal.ofBits .f32 0x3DD105EC#32 := by
  pointwise [k0_pay6, along, rms]

/-- a number of the latent keys before their rotated part -/
theorem k0_pay11_at (w : FVec Ideal S1024x128 .bf16) (g : FVec Ideal S1x128 .f32) (q : FVec Ideal S128x1024 .bf16) (j : Fin 1024) :
    (k0_pay11 (k0_pay7 H w) (k0_pay8 g) (k0_pay9 H w) q : FVec Ideal S512x1024 .f32) (ix2 r j)
      = along (rms (Ideal.ofBits .f32 0x43000000#32) (fun k => along (fun d => H (ix2 r d)) (fun d => w (ix2 d k))) (fun k => g (ix2 (0 : Fin 1) k))) (fun k => q (ix2 k j)) := by
  pointwise [k0_pay11, k0_pay10, k0_pay9, k0_pay8, k0_pay7, along, rms]

/-- a number of the latent values -/
theorem k0_pay12_at (w : FVec Ideal S1024x128 .bf16) (g : FVec Ideal S1x128 .f32) (q : FVec Ideal S128x1024 .bf16) (j : Fin 1024) :
    (k0_pay12 (k0_pay7 H w) (k0_pay8 g) (k0_pay9 H w) q : FVec Ideal S512x1024 .bf16) (ix2 r j)
      = along (rms (Ideal.ofBits .f32 0x43000000#32) (fun k => along (fun d => H (ix2 r d)) (fun d => w (ix2 d k))) (fun k => g (ix2 (0 : Fin 1) k))) (fun k => q (ix2 k j)) := by
  pointwise [k0_pay12, k0_pay10, k0_pay9, k0_pay8, k0_pay7, along, rms]

/-- a number of the scaled differential queries -/
theorem k0_pay42_at (w : FVec Ideal S1024x512 .bf16) (j : Fin 512) :
    (k0_pay42 H w : FVec Ideal S512x512 .f32) (ix2 r j) = along (fun d => H (ix2 r d)) (fun d => w (ix2 d j)) * Ideal.ofBits .f32 0x3E000000#32 := by
  pointwise [k0_pay42, along]

/-- a number of the differential keys -/
theorem k0_pay43_at (w : FVec Ideal S1024x512 .bf16) (j : Fin 512) :
    (k0_pay43 H w : FVec Ideal S512x512 .f32) (ix2 r j) = along (fun d => H (ix2 r d)) (fun d => w (ix2 d j)) := by
  pointwise [k0_pay43, along]

/-- a number of the differential values -/
theorem k0_pay44_at (w : FVec Ideal S1024x512 .bf16) (j : Fin 512) :
    (k0_pay44 H w : FVec Ideal S512x512 .bf16) (ix2 r j) = along (fun d => H (ix2 r d)) (fun d => w (ix2 d j)) := by
  pointwise [k0_pay44, along]

/-- a number of the gates -/
theorem k0_pay3_at (x0 : FVec Ideal S512x1024 .f32) (x3 : FVec Ideal S1x1024 .f32) (x1 x2 : FVec Ideal S1x1x1024 .f32) (w : FVec Ideal S1024x512 .bf16) (j : Fin 512) :
    (k0_pay3 x0 x3 x1 x2 w : FVec Ideal S512x512 .bf16) (ix2 r j) = along (fun d => (k0_pay2 x0 x3 x1 x2 : FVec Ideal S512x1024 .bf16) (ix2 r d)) (fun d => w (ix2 d j)) := by
  pointwise [k0_pay3, along]

/-- a number of the state-space inputs -/
theorem k0_pay4_at (x0 : FVec Ideal S512x1024 .f32) (x3 : FVec Ideal S1x1024 .f32) (x1 x2 : FVec Ideal S1x1x1024 .f32) (w : FVec Ideal S1024x1024 .bf16) (j : Fin 1024) :
    (k0_pay4 x0 x3 x1 x2 w : FVec Ideal S512x1024 .bf16) (ix2 r j) = along (fun d => (k0_pay2 x0 x3 x1 x2 : FVec Ideal S512x1024 .bf16) (ix2 r d)) (fun d => w (ix2 d j)) := by
  pointwise [k0_pay4, along]

end Rows

section Rotations

variable (A : FVec Ideal S512x1024 .f32) (B : FVec Ideal S512x512 .f32) (M C S : FVec Ideal S512x128 .f32) (r : Fin 512) (l : Fin 128)

/-- the rotated part of the keys -/
theorem k0_pay20_at : (k0_pay20 k0_pay13 (k0_pay15 S) (k0_pay16 M C) (k0_pay17 M) (k0_pay18 M) k0_pay19 : FVec Ideal S512x128 .f32) (ix2 r l)
    = if 64 ≤ (l : ℕ) ∧ (l : ℕ) < 96 then roped 8 (fun l => M (ix2 r l)) (fun l => C (ix2 r l)) (fun l => S (ix2 r l)) l else 0 := by
  unfold roped
  rw [← turn8_word]
  pointwise [k0_pay20, k0_pay13, k0_pay14, k0_pay15, k0_pay16, k0_pay17, k0_pay18, k0_pay19]
  rw [ropeLanes, Scalar.select_ofBool]
  by_cases h : 64 ≤ (l : ℕ) ∧ (l : ℕ) < 96
  · rw [if_pos h, decide_eq_true h]
    rfl
  · rw [if_neg h, decide_eq_false h]
    rfl

/-- the first head's rotated queries -/
theorem query0_at : (k0_pay21 A C S : FVec Ideal S512x128 .bf16) (ix2 r l)
    = roped 8 (fun l => A (ix2 r (⟨128 * 0 + l, by omega⟩ : Fin 1024))) (fun l => C (ix2 r l)) (fun l => S (ix2 r l)) l := by
  unfold roped
  rw [← turn8_word]
  pointwise [k0_pay21]

/-- the second head's rotated queries -/
theorem query1_at : (k0_pay23 A C S : FVec Ideal S512x128 .bf16) (ix2 r l)
    = roped 8 (fun l => A (ix2 r (⟨128 * 1 + l, by omega⟩ : Fin 1024))) (fun l => C (ix2 r l)) (fun l => S (ix2 r l)) l := by
  unfold roped
  rw [← turn8_word]
  pointwise [k0_pay23]

/-- the third head's rotated queries -/
theorem query2_at : (k0_pay25 A C S : FVec Ideal S512x128 .bf16) (ix2 r l)
    = roped 8 (fun l => A (ix2 r (⟨128 * 2 + l, by omega⟩ : Fin 1024))) (fun l => C (ix2 r l)) (fun l => S (ix2 r l)) l := by
  unfold roped
  rw [← turn8_word]
  pointwise [k0_pay25]

/-- the fourth head's rotated queries -/
theorem query3_at : (k0_pay27 A C S : FVec Ideal S512x128 .bf16) (ix2 r l)
    = roped 8 (fun l => A (ix2 r (⟨128 * 3 + l, by omega⟩ : Fin 1024))) (fun l => C (ix2 r l)) (fun l => S (ix2 r l)) l := by
  unfold roped
  rw [← turn8_word]
  pointwise [k0_pay27]

/-- the fifth head's rotated queries -/
theorem query4_at : (k0_pay31 S (k0_pay29 A) (k0_pay30 A C) : FVec Ideal S512x128 .bf16) (ix2 r l)
    = roped 8 (fun l => A (ix2 r (⟨128 * 4 + l, by omega⟩ : Fin 1024))) (fun l => C (ix2 r l)) (fun l => S (ix2 r l)) l := by
  unfold roped
  rw [← turn8_word]
  pointwise [k0_pay31, k0_pay29, k0_pay30]

/-- the sixth head's rotated queries -/
theorem query5_at : (k0_pay33 A C S : FVec Ideal S512x128 .bf16) (ix2 r l)
    = roped 8 (fun l => A (ix2 r (⟨128 * 5 + l, by omega⟩ : Fin 1024))) (fun l => C (ix2 r l)) (fun l => S (ix2 r l)) l := by
  unfold roped
  rw [← turn8_word]
  pointwise [k0_pay33]

/-- the seventh head's rotated queries -/
theorem query6_at : (k0_pay38 S (k0_pay35 A) (k0_pay36 A C) (iota .tc S512x128 32 [1] iota_S512x128_d1_w32) (k0_pay37 A) 8#32 : FVec Ideal S512x128 .bf16) (ix2 r l)
    = roped 8 (fun l => A (ix2 r (⟨128 * 6 + l, by omega⟩ : Fin 1024))) (fun l => C (ix2 r l)) (fun l => S (ix2 r l)) l := by
  unfold roped
  rw [← turn8_word]
  pointwise [k0_pay38, k0_pay35, k0_pay36, k0_pay37]

/-- the eighth head's rotated queries -/
theorem query7_at : (k0_pay40 A C S : FVec Ideal S512x128 .bf16) (ix2 r l)
    = roped 8 (fun l => A (ix2 r (⟨128 * 7 + l, by omega⟩ : Fin 1024))) (fun l => C (ix2 r l)) (fun l => S (ix2 r l)) l := by
  unfold roped
  rw [← turn8_word]
  pointwise [k0_pay40]

/-- the third head's keys -/
theorem key2_at : (k0_pay26 A M : FVec Ideal S512x128 .bf16) (ix2 r l) = A (ix2 r (⟨128 * 2 + l, by omega⟩ : Fin 1024)) + M (ix2 r l) := by
  pointwise [k0_pay26]

/-- the fourth head's keys -/
theorem key3_at : (k0_pay28 A M : FVec Ideal S512x128 .bf16) (ix2 r l) = A (ix2 r (⟨128 * 3 + l, by omega⟩ : Fin 1024)) + M (ix2 r l) := by
  pointwise [k0_pay28]

/-- the fifth head's keys -/
theorem key4_at : (k0_pay32 A M : FVec Ideal S512x128 .bf16) (ix2 r l) = A (ix2 r (⟨128 * 4 + l, by omega⟩ : Fin 1024)) + M (ix2 r l) := by
  pointwise [k0_pay32]

/-- the sixth head's keys -/
theorem key5_at : (k0_pay34 A M : FVec Ideal S512x128 .bf16) (ix2 r l) = A (ix2 r (⟨128 * 5 + l, by omega⟩ : Fin 1024)) + M (ix2 r l) := by
  pointwise [k0_pay34]

/-- the seventh head's keys -/
theorem key6_at : (k0_pay39 A M : FVec Ideal S512x128 .bf16) (ix2 r l) = A (ix2 r (⟨128 * 6 + l, by omega⟩ : Fin 1024)) + M (ix2 r l) := by
  pointwise [k0_pay39]

/-- the eighth head's keys -/
theorem key7_at : (k0_pay41 A M : FVec Ideal S512x128 .bf16) (ix2 r l) = A (ix2 r (⟨128 * 7 + l, by omega⟩ : Fin 1024)) + M (ix2 r l) := by
  pointwise [k0_pay41]

/-- the first head's keys -/
theorem key0_at (m1 m2 : IVec S512x128 1) (a b c d : FVec Ideal S512x128 .f32) : (k0_pay22 A m1 a b c d m2 : FVec Ideal S512x128 .bf16) (ix2 r l)
    = A (ix2 r (⟨128 * 0 + l, by omega⟩ : Fin 1024)) + (k0_pay20 m1 a b c d m2 : FVec Ideal S512x128 .f32) (ix2 r l) := by
  pointwise [k0_pay22]

/-- the second head's keys -/
theorem key1_at (m1 m2 : IVec S512x128 1) (a b c d : FVec Ideal S512x128 .f32) : (k0_pay24 A m1 a b c d m2 : FVec Ideal S512x128 .bf16) (ix2 r l)
    = A (ix2 r (⟨128 * 1 + l, by omega⟩ : Fin 1024)) + (k0_pay20 m1 a b c d m2 : FVec Ideal S512x128 .f32) (ix2 r l) := by
  pointwise [k0_pay24]

/-- the first pair's rotated queries -/
theorem mapQuery0_at : (k0_pay48 B C S : FVec Ideal S512x128 .bf16) (ix2 r l)
    = roped 16 (fun l => B (ix2 r (⟨128 * 0 + l, by omega⟩ : Fin 512))) (fun l => C (ix2 r l)) (fun l => S (ix2 r l)) l := by
  unfold roped
  rw [← turn16_word]
  pointwise [k0_pay48, k0_pay45, k0_pay46]

/-- the second pair's rotated queries -/
theorem mapQuery1_at : (k0_pay52 B C S : FVec Ideal S512x128 .bf16) (ix2 r l)
    = roped 16 (fun l => B (ix2 r (⟨128 * 1 + l, by omega⟩ : Fin 512))) (fun l => C (ix2 r l)) (fun l => S (ix2 r l)) l := by
  unfold roped
  rw [← turn16_word]
  pointwise [k0_pay52]

/-- the third pair's rotated queries -/
theorem mapQuery2_at : (k0_pay60 S (k0_pay56 B C) (k0_pay57 B) (k0_pay58 B) k0_pay59 16#32 : FVec Ideal S512x128 .bf16) (ix2 r l)
    = roped 16 (fun l => B (ix2 r (⟨128 * 2 + l, by omega⟩ : Fin 512))) (fun l => C (ix2 r l)) (fun l => S (ix2 r l)) l := by
  unfold roped
  rw [← turn16_word]
  pointwise [k0_pay60, k0_pay56, k0_pay57, k0_pay58, k0_pay59, k0_pay54]

/-- the fourth pair's rotated queries -/
theorem mapQuery3_at : (k0_pay63 B C S : FVec Ideal S512x128 .bf16) (ix2 r l)
    = roped 16 (fun l => B (ix2 r (⟨128 * 3 + l, by omega⟩ : Fin 512))) (fun l => C (ix2 r l)) (fun l => S (ix2 r l)) l := by
  unfold roped
  rw [← turn16_word]
  pointwise [k0_pay63]

/-- the second pair's rotated keys -/
theorem mapKey1_at : (k0_pay53 B C S : FVec Ideal S512x128 .bf16) (ix2 r l)
    = roped 16 (fun l => B (ix2 r (⟨128 * 1 + l, by omega⟩ : Fin 512))) (fun l => C (ix2 r l)) (fun l => S (ix2 r l)) l := by
  unfold roped
  rw [← turn16_word]
  pointwise [k0_pay53]

/-- the third pair's rotated keys -/
theorem mapKey2_at : (k0_pay61 C S (k0_pay55 B) : FVec Ideal S512x128 .bf16) (ix2 r l)
    = roped 16 (fun l => B (ix2 r (⟨128 * 2 + l, by omega⟩ : Fin 512))) (fun l => C (ix2 r l)) (fun l => S (ix2 r l)) l := by
  unfold roped
  rw [← turn16_word]
  pointwise [k0_pay61, k0_pay55]

/-- the fourth pair's rotated keys -/
theorem mapKey3_at : (k0_pay1 S (k0_pay64 B C) (iota .tc S512x128 32 [1] iota_S512x128_d1_w32) (k0_pay65 B) (k0_pay66 B) k0_pay67 : FVec Ideal S512x128 .bf16) (ix2 r l)
    = roped 16 (fun l => B (ix2 r (⟨128 * 3 + l, by omega⟩ : Fin 512))) (fun l => C (ix2 r l)) (fun l => S (ix2 r l)) l := by
  unfold roped
  rw [← turn16_word]
  pointwise [k0_pay1, k0_pay64, k0_pay65, k0_pay66, k0_pay67, k0_pay62]

/-- the first pair's rotated keys -/
theorem mapKey0_at (H : FVec Ideal S512x1024 .bf16) (w : FVec Ideal S1024x512 .bf16) : (k0_pay51 (k0_pay49 H w C) (k0_pay50 H w S) : FVec Ideal S512x128 .bf16) (ix2 r l)
    = roped 16 (fun l => (k0_pay43 H w : FVec Ideal S512x512 .f32) (ix2 r (⟨128 * 0 + l, by omega⟩ : Fin 512))) (fun l => C (ix2 r l)) (fun l => S (ix2 r l)) l := by
  unfold roped
  rw [← turn16_word]
  pointwise [k0_pay51, k0_pay49, k0_pay50, k0_pay47, k0_pay45, k0_pay46]

end Rotations

end Cert.Kernel5Ideal.Inproj

end
-- ==== Proof.InprojBlock.lean ====
module

public import proofs.«01_k».proof.Proof.InprojRunIdeal
public import proofs.«01_k».proof.Proof.InprojPay
public import Idealize.ShloMosaic.Lib.Pipeline.ValueKit

@[expose] public section

set_option maxRecDepth 16384

noncomputable section

namespace Cert.Kernel5Ideal.Inproj

open Cert.Kernel5Ideal Cert.Kernel5Ideal.Gen Idealize.ShloMosaic Idealize.ShloMosaic.TcCoe Idealize.SL.Sem Lanes

variable (x0 : FVec Ideal S512x1024 .f32) (x1 x2 : FVec Ideal S1x1x1024 .f32) (x3 : FVec Ideal S1x1024 .f32) (x4 : FVec Ideal S1024x3584 .bf16) (x5 : FVec Ideal S1x256 .f32) (x6 : FVec Ideal S1x128 .f32)
  (x7 : FVec Ideal S256x1024 .bf16) (x8 x9 : FVec Ideal S128x1024 .bf16) (x10 x11 x12 x13 : FVec Ideal S512x128 .f32)

/-- a normed row of a block -/
def hrow (r : Fin 512) (d : Fin 1024) : EReal :=
  Rows.normed (fun d => x0 (ix2 r d)) (fun d => x3 (ix2 (0 : Fin 1) d)) (fun d => x1 (ix3 (0 : Fin 1) (0 : Fin 1) d)) (fun d => x2 (ix3 (0 : Fin 1) (0 : Fin 1) d)) d

/-- a column of the input projection of a row -/
def proj (r : Fin 512) (j : Fin 3584) : EReal := along (hrow x0 x1 x2 x3 r) (fun d => x4 (ix2 d j))

/-- a scaled latent query of a row before its rotation -/
def query (r : Fin 512) (j : Fin 1024) : EReal :=
  along (rms (Ideal.ofBits .f32 0x43800000#32) (fun k : Fin 256 => proj x0 x1 x2 x3 x4 r (⟨1664 + k, by omega⟩ : Fin 3584)) (fun k => x5 (ix2 (0 : Fin 1) k))) (fun k => x7 (ix2 k j)) * Ideal.ofBits .f32 0x3DD105EC#32

/-- the normed latent rows times a column of a matrix -/
def latent (w : FVec Ideal S128x1024 .bf16) (r : Fin 512) (j : Fin 1024) : EReal :=
  along (rms (Ideal.ofBits .f32 0x43000000#32) (fun k : Fin 128 => proj x0 x1 x2 x3 x4 r (⟨1920 + k, by omega⟩ : Fin 3584)) (fun k => x6 (ix2 (0 : Fin 1) k))) (fun k => w (ix2 k j))

/-- an index of two coordinates, coordinate by coordinate -/
theorem idx_pair {a b : ℕ} (y : Shape.Idx ⟨2, ![a, b]⟩) : y = ix2 (⟨(y 0).val, (y 0).isLt⟩ : Fin a) (⟨(y 1).val, (y 1).isLt⟩ : Fin b) := by
  funext i
  apply Fin.ext
  match i with
  | ⟨0, _⟩ => rfl
  | ⟨1, _⟩ => rfl

/-- neighbouring columns of the input weights -/
def cut (o n : ℕ) (h : o + n ≤ 3584) : Shape.Idx ⟨2, ![1024, n]⟩ → EReal :=
  fun i => x4 (ix2 (⟨(i 0).val, (i 0).isLt⟩ : Fin 1024) (⟨o + (i 1).val, lt_of_lt_of_le (Nat.add_lt_add_left (i 1).isLt o) h⟩ : Fin 3584))

/-- the weight columns of the gates -/
theorem ld_3 : (View.ld (x4 : Vec Ideal S1024x3584 .bf16) r0_3 : Vec Ideal S1024x512 .bf16) = cut x4 0 512 (by decide) := by
  funext i
  rw [idx_pair i]
  unfold cut
  pointwise []

/-- the weight columns of the state-space inputs -/
theorem ld_5 : (View.ld (x4 : Vec Ideal S1024x3584 .bf16) r0_5 : Vec Ideal S1024x1024 .bf16) = cut x4 512 1024 (by decide) := by
  funext i
  rw [idx_pair i]
  unfold cut
  pointwise []

/-- the weight columns of the steps and key rotation -/
theorem ld_6 : (View.ld (x4 : Vec Ideal S1024x3584 .bf16) r0_6 : Vec Ideal S1024x128 .bf16) = cut x4 1536 128 (by decide) := by
  funext i
  rw [idx_pair i]
  unfold cut
  pointwise []

/-- the weight columns of the latent queries -/
theorem ld_8 : (View.ld (x4 : Vec Ideal S1024x3584 .bf16) r0_8 : Vec Ideal S1024x256 .bf16) = cut x4 1664 256 (by decide) := by
  funext i
  rw [idx_pair i]
  unfold cut
  pointwise []

/-- the weight columns of the latent keys and values -/
theorem ld_11 : (View.ld (x4 : Vec Ideal S1024x3584 .bf16) r0_11 : Vec Ideal S1024x128 .bf16) = cut x4 1920 128 (by decide) := by
  funext i
  rw [idx_pair i]
  unfold cut
  pointwise []

/-- the weight columns of the differential queries -/
theorem ld_22 : (View.ld (x4 : Vec Ideal S1024x3584 .bf16) r0_22 : Vec Ideal S1024x512 .bf16) = cut x4 2048 512 (by decide) := by
  funext i
  rw [idx_pair i]
  unfold cut
  pointwise []

/-- the weight columns of the differential keys -/
theorem ld_23 : (View.ld (x4 : Vec Ideal S1024x3584 .bf16) r0_23 : Vec Ideal S1024x512 .bf16) = cut x4 2560 512 (by decide) := by
  funext i
  rw [idx_pair i]
  unfold cut
  pointwise []

/-- the weight columns of the differential values -/
theorem ld_24 : (View.ld (x4 : Vec Ideal S1024x3584 .bf16) r0_24 : Vec Ideal S1024x512 .bf16) = cut x4 3072 512 (by decide) := by
  funext i
  rw [idx_pair i]
  unfold cut
  pointwise []

/-- a whole block read is the block -/
theorem ld_tok (y : FVec Ideal S512x1024 .f32) : (View.ld (y : Vec Ideal S512x1024 .f32) r0_0 : Vec Ideal S512x1024 .f32) = y :=
  View.ld_unit_lit (Val := Elt Ideal) (e := .f32) (S := S512x1024) (off := ![0, 0]) _ y (by decide)

/-- a whole block read is the block -/
theorem ld_gain (y : FVec Ideal S1x1024 .f32) : (View.ld (y : Vec Ideal S1x1024 .f32) r0_1 : Vec Ideal S1x1024 .f32) = y :=
  View.ld_unit_lit (Val := Elt Ideal) (e := .f32) (S := S1x1024) (off := ![0, 0]) _ y (by decide)

/-- a whole block read is the block -/
theorem ld_qgain (y : FVec Ideal S1x256 .f32) : (View.ld (y : Vec Ideal S1x256 .f32) r0_9 : Vec Ideal S1x256 .f32) = y :=
  View.ld_unit_lit (Val := Elt Ideal) (e := .f32) (S := S1x256) (off := ![0, 0]) _ y (by decide)

/-- a whole block read is the block -/
theorem ld_wq (y : FVec Ideal S256x1024 .bf16) : (View.ld (y : Vec Ideal S256x1024 .bf16) r0_10 : Vec Ideal S256x1024 .bf16) = y :=
  View.ld_unit_lit (Val := Elt Ideal) (e := .bf16) (S := S256x1024) (off := ![0, 0]) _ y (by decide)

/-- a whole block read is the block -/
theorem ld_kgain (y : FVec Ideal S1x128 .f32) : (View.ld (y : Vec Ideal S1x128 .f32) r0_12 : Vec Ideal S1x128 .f32) = y :=
  View.ld_unit_lit (Val := Elt Ideal) (e := .f32) (S := S1x128) (off := ![0, 0]) _ y (by decide)

/-- a whole block read is the block -/
theorem ld_wk (y : FVec Ideal S128x1024 .bf16) : (View.ld (y : Vec Ideal S128x1024 .bf16) r0_13 : Vec Ideal S128x1024 .bf16) = y :=
  View.ld_unit_lit (Val := Elt Ideal) (e := .bf16) (S := S128x1024) (off := ![0, 0]) _ y (by decide)

/-- a whole block read is the block -/
theorem ld_turns (y : FVec Ideal S512x128 .f32) : (View.ld (y : Vec Ideal S512x128 .f32) r0_7 : Vec Ideal S512x128 .f32) = y :=
  View.ld_unit_lit (Val := Elt Ideal) (e := .f32) (S := S512x128) (off := ![0, 0]) _ y (by decide)

/-- a whole block read is the block -/
theorem ld_row (y : FVec Ideal S1x1x1024 .f32) : (View.ld (y : Vec Ideal S1x1x1024 .f32) r0_2 : Vec Ideal S1x1x1024 .f32) = y :=
  View.ld_unit_lit (Val := Elt Ideal) (e := .f32) (S := S1x1x1024) (off := ![0, 0, 0]) _ y (by decide)

/-- the body's normed rows -/
theorem pay68_at (r : Fin 512) (d : Fin 1024) : (k0_pay68 (F := Ideal) x0 x1 x2 x3 x4 x5 x6 x7 x8 x9 x10 x11 x12 x13 : FVec Ideal S512x1024 .bf16) (ix2 r d) = hrow x0 x1 x2 x3 r d := by
  unfold k0_pay68 hrow
  rw [k0_pay2_at, ld_tok, ld_gain, ld_row, ld_row]

/-- the same rows, where the body writes them out -/
theorem pay2_ld (r : Fin 512) (d : Fin 1024) : (k0_pay2 (F := Ideal) (View.ld x0 r0_0) (View.ld x3 r0_1) (View.ld x1 r0_2) (View.ld x2 r0_2) : FVec Ideal S512x1024 .bf16) (ix2 r d) = hrow x0 x1 x2 x3 r d := by
  unfold hrow
  rw [k0_pay2_at, ld_tok, ld_gain, ld_row, ld_row]

/-- the body's columns of steps and key rotation -/
theorem pay69_at (r : Fin 512) (l : Fin 128) : (k0_pay69 (F := Ideal) x0 x1 x2 x3 x4 x5 x6 x7 x8 x9 x10 x11 x12 x13 : FVec Ideal S512x128 .f32) (ix2 r l) = proj x0 x1 x2 x3 x4 r (⟨1536 + l, by omega⟩ : Fin 3584) := by
  unfold k0_pay69 proj
  rw [ld_6, k0_pay5_at]
  simp only [pay68_at]
  rfl

/-- the body's scaled latent queries -/
theorem pay70_at (r : Fin 512) (j : Fin 1024) : (k0_pay70 (F := Ideal) x0 x1 x2 x3 x4 x5 x6 x7 x8 x9 x10 x11 x12 x13 : FVec Ideal S512x1024 .f32) (ix2 r j) = query x0 x1 x2 x3 x4 x5 x7 r j := by
  unfold k0_pay70 query proj
  rw [ld_8, ld_qgain, ld_wq, k0_pay6_at]
  simp only [pay68_at]
  rfl

/-- the body's latent keys before their rotated part -/
theorem pay74_at (r : Fin 512) (j : Fin 1024) : (k0_pay74 (F := Ideal) x0 x1 x2 x3 x4 x5 x6 x7 x8 x9 x10 x11 x12 x13 : FVec Ideal S512x1024 .f32) (ix2 r j) = latent x0 x1 x2 x3 x4 x6 x8 r j := by
  unfold k0_pay74 k0_pay71 k0_pay72 k0_pay73 latent proj
  rw [ld_11, ld_kgain, ld_wk, k0_pay11_at]
  simp only [pay68_at]
  rfl

/-- the body's latent values -/
theorem values_at (r : Fin 512) (j : Fin 1024) : (k0_pay12 (k0_pay71 (F := Ideal) x0 x1 x2 x3 x4 x5 x6 x7 x8 x9 x10 x11 x12 x13) (k0_pay72 (F := Ideal) x0 x1 x2 x3 x4 x5 x6 x7 x8 x9 x10 x11 x12 x13) (k0_pay73 (F := Ideal) x0 x1 x2 x3 x4 x5 x6 x7 x8 x9 x10 x11 x12 x13) (View.ld x9 r0_13) : FVec Ideal S512x1024 .bf16) (ix2 r j) = latent x0 x1 x2 x3 x4 x6 x9 r j := by
  unfold k0_pay71 k0_pay72 k0_pay73 latent proj
  rw [ld_11, ld_kgain, ld_wk, k0_pay12_at]
  simp only [pay68_at]
  rfl

/-- the body's cosines -/
theorem pay76_at (r : Fin 512) (l : Fin 128) : (k0_pay76 (F := Ideal) x0 x1 x2 x3 x4 x5 x6 x7 x8 x9 x10 x11 x12 x13 : FVec Ideal S512x128 .f32) (ix2 r l) = x10 (ix2 r l) := by
  unfold k0_pay76
  pointwise [k0_pay14]

/-- the body's signed sines -/
theorem pay77_at (r : Fin 512) (l : Fin 128) : (k0_pay77 (F := Ideal) x0 x1 x2 x3 x4 x5 x6 x7 x8 x9 x10 x11 x12 x13 : FVec Ideal S512x128 .f32) (ix2 r l) = x11 (ix2 r l) := by
  unfold k0_pay77
  pointwise [k0_pay15]

/-- the body's cosines -/
theorem pay85_at (r : Fin 512) (l : Fin 128) : (k0_pay85 (F := Ideal) x0 x1 x2 x3 x4 x5 x6 x7 x8 x9 x10 x11 x12 x13 : FVec Ideal S512x128 .f32) (ix2 r l) = x12 (ix2 r l) := by
  unfold k0_pay85
  pointwise [k0_pay45]

/-- the body's signed sines -/
theorem pay86_at (r : Fin 512) (l : Fin 128) : (k0_pay86 (F := Ideal) x0 x1 x2 x3 x4 x5 x6 x7 x8 x9 x10 x11 x12 x13 : FVec Ideal S512x128 .f32) (ix2 r l) = x13 (ix2 r l) := by
  unfold k0_pay86
  pointwise [k0_pay46]

/-- the rotated part of a row's keys -/
def turned (r : Fin 512) (l : Fin 128) : EReal :=
  if 64 ≤ (l : ℕ) ∧ (l : ℕ) < 96 then roped 8 (fun l => proj x0 x1 x2 x3 x4 r (⟨1536 + l, by omega⟩ : Fin 3584)) (fun l => x10 (ix2 r l)) (fun l => x11 (ix2 r l)) l else 0

/-- the body's rotated part of the keys -/
theorem pay20_ld (r : Fin 512) (l : Fin 128) : (k0_pay20 (k0_pay75 (F := Ideal) x0 x1 x2 x3 x4 x5 x6 x7 x8 x9 x10 x11 x12 x13) (k0_pay77 (F := Ideal) x0 x1 x2 x3 x4 x5 x6 x7 x8 x9 x10 x11 x12 x13) (k0_pay78 (F := Ideal) x0 x1 x2 x3 x4 x5 x6 x7 x8 x9 x10 x11 x12 x13) (k0_pay79 (F := Ideal) x0 x1 x2 x3 x4 x5 x6 x7 x8 x9 x10 x11 x12 x13) (k0_pay80 (F := Ideal) x0 x1 x2 x3 x4 x5 x6 x7 x8 x9 x10 x11 x12 x13) (k0_pay81 (F := Ideal) x0 x1 x2 x3 x4 x5 x6 x7 x8 x9 x10 x11 x12 x13) : FVec Ideal S512x128 .f32) (ix2 r l) = turned x0 x1 x2 x3 x4 x10 x11 r l := by
  unfold k0_pay75 k0_pay77 k0_pay78 k0_pay79 k0_pay80 k0_pay81 turned
  rw [ld_turns, ld_turns, k0_pay20_at]
  simp only [pay69_at]

/-- the same, under its name -/
theorem pay82_at (r : Fin 512) (l : Fin 128) : (k0_pay82 (F := Ideal) x0 x1 x2 x3 x4 x5 x6 x7 x8 x9 x10 x11 x12 x13 : FVec Ideal S512x128 .f32) (ix2 r l) = turned x0 x1 x2 x3 x4 x10 x11 r l := by
  unfold k0_pay82
  exact pay20_ld x0 x1 x2 x3 x4 x5 x6 x7 x8 x9 x10 x11 x12 x13 r l

/-- the body's scaled differential queries -/
theorem pay83_at (r : Fin 512) (j : Fin 512) : (k0_pay83 (F := Ideal) x0 x1 x2 x3 x4 x5 x6 x7 x8 x9 x10 x11 x12 x13 : FVec Ideal S512x512 .f32) (ix2 r j) = proj x0 x1 x2 x3 x4 r (⟨2048 + j, by omega⟩ : Fin 3584) * Ideal.ofBits .f32 0x3E000000#32 := by
  unfold k0_pay83 proj
  rw [ld_22, k0_pay42_at]
  simp only [pay68_at]
  rfl

/-- the body's differential keys, written out -/
theorem pay43_ld (r : Fin 512) (j : Fin 512) : (k0_pay43 (k0_pay68 (F := Ideal) x0 x1 x2 x3 x4 x5 x6 x7 x8 x9 x10 x11 x12 x13) (View.ld x4 r0_23) : FVec Ideal S512x512 .f32) (ix2 r j) = proj x0 x1 x2 x3 x4 r (⟨2560 + j, by omega⟩ : Fin 3584) := by
  unfold proj
  rw [ld_23, k0_pay43_at]
  simp only [pay68_at]
  rfl

/-- the body's differential keys -/
theorem pay84_at (r : Fin 512) (j : Fin 512) : (k0_pay84 (F := Ideal) x0 x1 x2 x3 x4 x5 x6 x7 x8 x9 x10 x11 x12 x13 : FVec Ideal S512x512 .f32) (ix2 r j) = proj x0 x1 x2 x3 x4 r (⟨2560 + j, by omega⟩ : Fin 3584) := by
  unfold k0_pay84
  exact pay43_ld x0 x1 x2 x3 x4 x5 x6 x7 x8 x9 x10 x11 x12 x13 r j

/-- what the first result's block holds -/
theorem out14_at (r : Fin 512) (j : Fin 512) : (out0_14 (F := Ideal) x0 x1 x2 x3 x4 x5 x6 x7 x8 x9 x10 x11 x12 x13 : FVec Ideal S512x512 .bf16) (ix2 r j) = proj x0 x1 x2 x3 x4 r (⟨0 + j, by omega⟩ : Fin 3584) := by
  unfold out0_14
  canon_tiles z e
  idx_vars z
  obtain rfl : r = z0 := Fin.ext e0
  obtain rfl : j = z1 := Fin.ext e1
  rw [ld_3, k0_pay3_at]
  unfold proj
  simp only [pay2_ld]
  rfl

/-- what the second result's block holds -/
theorem out15_at (r : Fin 512) (j : Fin 1024) : (out0_15 (F := Ideal) x0 x1 x2 x3 x4 x5 x6 x7 x8 x9 x10 x11 x12 x13 : FVec Ideal S512x1024 .bf16) (ix2 r j) = proj x0 x1 x2 x3 x4 r (⟨512 + j, by omega⟩ : Fin 3584) := by
  unfold out0_15
  canon_tiles z e
  idx_vars z
  obtain rfl : r = z0 := Fin.ext e0
  obtain rfl : j = z1 := Fin.ext e1
  rw [ld_5, k0_pay4_at]
  unfold proj
  simp only [pay2_ld]
  rfl

/-- what the third result's block holds -/
theorem out16_at (r : Fin 512) (j : Fin 128) : (out0_16 (F := Ideal) x0 x1 x2 x3 x4 x5 x6 x7 x8 x9 x10 x11 x12 x13 : FVec Ideal S512x128 .f32) (ix2 r j) = proj x0 x1 x2 x3 x4 r (⟨1536 + j, by omega⟩ : Fin 3584) := by
  unfold out0_16
  canon_tiles z e
  idx_vars z
  obtain rfl : r = z0 := Fin.ext e0
  obtain rfl : j = z1 := Fin.ext e1
  exact pay69_at x0 x1 x2 x3 x4 x5 x6 x7 x8 x9 x10 x11 x12 x13 r j

/-- what the sixth result's block holds -/
theorem out19_at (r : Fin 512) (j : Fin 1024) : (out0_19 (F := Ideal) x0 x1 x2 x3 x4 x5 x6 x7 x8 x9 x10 x11 x12 x13 : FVec Ideal S512x1024 .bf16) (ix2 r j) = latent x0 x1 x2 x3 x4 x6 x9 r j := by
  unfold out0_19
  canon_tiles z e
  idx_vars z
  obtain rfl : r = z0 := Fin.ext e0
  obtain rfl : j = z1 := Fin.ext e1
  exact values_at x0 x1 x2 x3 x4 x5 x6 x7 x8 x9 x10 x11 x12 x13 r j

/-- what the ninth result's block holds -/
theorem out22_at (r : Fin 512) (j : Fin 512) : (out0_22 (F := Ideal) x0 x1 x2 x3 x4 x5 x6 x7 x8 x9 x10 x11 x12 x13 : FVec Ideal S512x512 .bf16) (ix2 r j) = proj x0 x1 x2 x3 x4 r (⟨3072 + j, by omega⟩ : Fin 3584) := by
  unfold out0_22
  canon_tiles z e
  idx_vars z
  obtain rfl : r = z0 := Fin.ext e0
  obtain rfl : j = z1 := Fin.ext e1
  rw [ld_24, k0_pay44_at]
  unfold proj
  simp only [pay68_at]
  rfl

/-- what the fourth result's block holds -/
theorem out17_at (r : Fin 512) (h : Fin 8) (l : Fin 128) : (out0_17 (F := Ideal) x0 x1 x2 x3 x4 x5 x6 x7 x8 x9 x10 x11 x12 x13 : FVec Ideal S512x1024 .bf16) (ix2 r (⟨128 * h + l, by omega⟩ : Fin 1024)) = roped 8 (fun l => query x0 x1 x2 x3 x4 x5 x7 r (⟨128 * h + l, by omega⟩ : Fin 1024)) (fun l => x10 (ix2 r l)) (fun l => x11 (ix2 r l)) l := by
  unfold out0_17
  canon_tiles z e
  case piece0 =>
    idx_vars z
    obtain rfl : r = z0 := Fin.ext e0
    have hh : (h : ℕ) = 7 := by omega
    obtain rfl : l = z1 := Fin.ext (by omega)
    obtain rfl : h = 7 := Fin.ext hh
    refine (query7_at _ _ _ r l).trans ?_
    simp only [pay70_at, pay76_at, pay77_at]
    rfl
  case piece1 =>
    idx_vars z
    obtain rfl : r = z0 := Fin.ext e0
    have hh : (h : ℕ) = 6 := by omega
    obtain rfl : l = z1 := Fin.ext (by omega)
    obtain rfl : h = 6 := Fin.ext hh
    refine (query6_at _ _ _ r l).trans ?_
    simp only [pay70_at, pay76_at, pay77_at]
    rfl
  case piece2 =>
    idx_vars z
    obtain rfl : r = z0 := Fin.ext e0
    have hh : (h : ℕ) = 5 := by omega
    obtain rfl : l = z1 := Fin.ext (by omega)
    obtain rfl : h = 5 := Fin.ext hh
    refine (query5_at _ _ _ r l).trans ?_
    simp only [pay70_at, pay76_at, pay77_at]
    rfl
  case piece3 =>
    idx_vars z
    obtain rfl : r = z0 := Fin.ext e0
    have hh : (h : ℕ) = 4 := by omega
    obtain rfl : l = z1 := Fin.ext (by omega)
    obtain rfl : h = 4 := Fin.ext hh
    refine (query4_at _ _ _ r l).trans ?_
    simp only [pay70_at, pay76_at, pay77_at]
    rfl
  case piece4 =>
    idx_vars z
    obtain rfl : r = z0 := Fin.ext e0
    have hh : (h : ℕ) = 3 := by omega
    obtain rfl : l = z1 := Fin.ext (by omega)
    obtain rfl : h = 3 := Fin.ext hh
    refine (query3_at _ _ _ r l).trans ?_
    simp only [pay70_at, pay76_at, pay77_at]
    rfl
  case piece5 =>
    idx_vars z
    obtain rfl : r = z0 := Fin.ext e0
    have hh : (h : ℕ) = 2 := by omega
    obtain rfl : l = z1 := Fin.ext (by omega)
    obtain rfl : h = 2 := Fin.ext hh
    refine (query2_at _ _ _ r l).trans ?_
    simp only [pay70_at, pay76_at, pay77_at]
    rfl
  case piece6 =>
    idx_vars z
    obtain rfl : r = z0 := Fin.ext e0
    have hh : (h : ℕ) = 1 := by omega
    obtain rfl : l = z1 := Fin.ext (by omega)
    obtain rfl : h = 1 := Fin.ext hh
    refine (query1_at _ _ _ r l).trans ?_
    simp only [pay70_at, pay76_at, pay77_at]
    rfl
  case piece7 =>
    idx_vars z
    obtain rfl : r = z0 := Fin.ext e0
    have hh : (h : ℕ) = 0 := by omega
    obtain rfl : l = z1 := Fin.ext (by omega)
    obtain rfl : h = 0 := Fin.ext hh
    refine (query0_at _ _ _ r l).trans ?_
    simp only [pay70_at, pay76_at, pay77_at]
    rfl

/-- what the fifth result's block holds -/
theorem out18_at (r : Fin 512) (h : Fin 8) (l : Fin 128) : (out0_18 (F := Ideal) x0 x1 x2 x3 x4 x5 x6 x7 x8 x9 x10 x11 x12 x13 : FVec Ideal S512x1024 .bf16) (ix2 r (⟨128 * h + l, by omega⟩ : Fin 1024)) = latent x0 x1 x2 x3 x4 x6 x8 r (⟨128 * h + l, by omega⟩ : Fin 1024) + turned x0 x1 x2 x3 x4 x10 x11 r l := by
  unfold out0_18
  canon_tiles z e
  case piece0 =>
    idx_vars z
    obtain rfl : r = z0 := Fin.ext e0
    have hh : (h : ℕ) = 7 := by omega
    obtain rfl : l = z1 := Fin.ext (by omega)
    obtain rfl : h = 7 := Fin.ext hh
    refine (key7_at _ _ r l).trans ?_
    rw [pay74_at, pay82_at]
    rfl
  case piece1 =>
    idx_vars z
    obtain rfl : r = z0 := Fin.ext e0
    have hh : (h : ℕ) = 6 := by omega
    obtain rfl : l = z1 := Fin.ext (by omega)
    obtain rfl : h = 6 := Fin.ext hh
    refine (key6_at _ _ r l).trans ?_
    rw [pay74_at, pay82_at]
    rfl
  case piece2 =>
    idx_vars z
    obtain rfl : r = z0 := Fin.ext e0
    have hh : (h : ℕ) = 5 := by omega
    obtain rfl : l = z1 := Fin.ext (by omega)
    obtain rfl : h = 5 := Fin.ext hh
    refine (key5_at _ _ r l).trans ?_
    rw [pay74_at, pay82_at]
    rfl
  case piece3 =>
    idx_vars z
    obtain rfl : r = z0 := Fin.ext e0
    have hh : (h : ℕ) = 4 := by omega
    obtain rfl : l = z1 := Fin.ext (by omega)
    obtain rfl : h = 4 := Fin.ext hh
    refine (key4_at _ _ r l).trans ?_
    rw [pay74_at, pay82_at]
    rfl
  case piece4 =>
    idx_vars z
    obtain rfl : r = z0 := Fin.ext e0
    have hh : (h : ℕ) = 3 := by omega
    obtain rfl : l = z1 := Fin.ext (by omega)
    obtain rfl : h = 3 := Fin.ext hh
    refine (key3_at _ _ r l).trans ?_
    rw [pay74_at, pay82_at]
    rfl
  case piece5 =>
    idx_vars z
    obtain rfl : r = z0 := Fin.ext e0
    have hh : (h : ℕ) = 2 := by omega
    obtain rfl : l = z1 := Fin.ext (by omega)
    obtain rfl : h = 2 := Fin.ext hh
    refine (key2_at _ _ r l).trans ?_
    rw [pay74_at, pay82_at]
    rfl
  case piece6 =>
    idx_vars z
    obtain rfl : r = z0 := Fin.ext e0
    have hh : (h : ℕ) = 1 := by omega
    obtain rfl : l = z1 := Fin.ext (by omega)
    obtain rfl : h = 1 := Fin.ext hh
    refine (key1_at _ r l _ _ _ _ _ _).trans ?_
    rw [pay74_at, pay20_ld]
    rfl
  case piece7 =>
    idx_vars z
    obtain rfl : r = z0 := Fin.ext e0
    have hh : (h : ℕ) = 0 := by omega
    obtain rfl : l = z1 := Fin.ext (by omega)
    obtain rfl : h = 0 := Fin.ext hh
    refine (key0_at _ r l _ _ _ _ _ _).trans ?_
    rw [pay74_at, pay20_ld]
    rfl

/-- what the seventh result's block holds -/
theorem out20_at (r : Fin 512) (h : Fin 4) (l : Fin 128) : (out0_20 (F := Ideal) x0 x1 x2 x3 x4 x5 x6 x7 x8 x9 x10 x11 x12 x13 : FVec Ideal S512x512 .bf16) (ix2 r (⟨128 * h + l, by omega⟩ : Fin 512)) = roped 16 (fun l => proj x0 x1 x2 x3 x4 r (⟨2048 + (128 * h + l), by omega⟩ : Fin 3584) * Ideal.ofBits .f32 0x3E000000#32) (fun l => x12 (ix2 r l)) (fun l => x13 (ix2 r l)) l := by
  unfold out0_20
  canon_tiles z e
  case piece0 =>
    idx_vars z
    obtain rfl : r = z0 := Fin.ext e0
    have hh : (h : ℕ) = 3 := by omega
    obtain rfl : l = z1 := Fin.ext (by omega)
    obtain rfl : h = 3 := Fin.ext hh
    refine (mapQuery3_at _ _ _ r l).trans ?_
    simp only [pay83_at, pay85_at, pay86_at]
    rfl
  case piece1 =>
    idx_vars z
    obtain rfl : r = z0 := Fin.ext e0
    have hh : (h : ℕ) = 2 := by omega
    obtain rfl : l = z1 := Fin.ext (by omega)
    obtain rfl : h = 2 := Fin.ext hh
    refine (mapQuery2_at _ _ _ r l).trans ?_
    simp only [pay83_at, pay85_at, pay86_at]
    rfl
  case piece2 =>
    idx_vars z
    obtain rfl : r = z0 := Fin.ext e0
    have hh : (h : ℕ) = 1 := by omega
    obtain rfl : l = z1 := Fin.ext (by omega)
    obtain rfl : h = 1 := Fin.ext hh
    refine (mapQuery1_at _ _ _ r l).trans ?_
    simp only [pay83_at, pay85_at, pay86_at]
    rfl
  case piece3 =>
    idx_vars z
    obtain rfl : r = z0 := Fin.ext e0
    have hh : (h : ℕ) = 0 := by omega
    obtain rfl : l = z1 := Fin.ext (by omega)
    obtain rfl : h = 0 := Fin.ext hh
    rw [ld_turns, ld_turns]
    refine (mapQuery0_at _ _ _ r l).trans ?_
    simp only [pay83_at]
    rfl

/-- what the eighth result's block holds -/
theorem out21_at (r : Fin 512) (h : Fin 4) (l : Fin 128) : (out0_21 (F := Ideal) x0 x1 x2 x3 x4 x5 x6 x7 x8 x9 x10 x11 x12 x13 : FVec Ideal S512x512 .bf16) (ix2 r (⟨128 * h + l, by omega⟩ : Fin 512)) = roped 16 (fun l => proj x0 x1 x2 x3 x4 r (⟨2560 + (128 * h + l), by omega⟩ : Fin 3584)) (fun l => x12 (ix2 r l)) (fun l => x13 (ix2 r l)) l := by
  unfold out0_21
  canon_tiles z e
  case piece0 =>
    idx_vars z
    obtain rfl : r = z0 := Fin.ext e0
    have hh : (h : ℕ) = 3 := by omega
    obtain rfl : l = z1 := Fin.ext (by omega)
    obtain rfl : h = 3 := Fin.ext hh
    refine (mapKey3_at _ _ _ r l).trans ?_
    simp only [pay84_at, pay85_at, pay86_at]
    rfl
  case piece1 =>
    idx_vars z
    obtain rfl : r = z0 := Fin.ext e0
    have hh : (h : ℕ) = 2 := by omega
    obtain rfl : l = z1 := Fin.ext (by omega)
    obtain rfl : h = 2 := Fin.ext hh
    refine (mapKey2_at _ _ _ r l).trans ?_
    simp only [pay84_at, pay85_at, pay86_at]
    rfl
  case piece2 =>
    idx_vars z
    obtain rfl : r = z0 := Fin.ext e0
    have hh : (h : ℕ) = 1 := by omega
    obtain rfl : l = z1 := Fin.ext (by omega)
    obtain rfl : h = 1 := Fin.ext hh
    refine (mapKey1_at _ _ _ r l).trans ?_
    simp only [pay84_at, pay85_at, pay86_at]
    rfl
  case piece3 =>
    idx_vars z
    obtain rfl : r = z0 := Fin.ext e0
    have hh : (h : ℕ) = 0 := by omega
    obtain rfl : l = z1 := Fin.ext (by omega)
    obtain rfl : h = 0 := Fin.ext hh
    rw [ld_turns, ld_turns]
    refine (mapKey0_at _ _ r l _ _).trans ?_
    simp only [pay43_ld]
    rfl

end Cert.Kernel5Ideal.Inproj

end
-- ==== Proof.InprojHost.lean ====
module

public import proofs.«01_k».proof.Proof.InprojRunIdeal
public import proofs.«01_k».proof.Proof.Rows
public import Idealize.ShloMosaic.Lib.Pipeline.ValueKit
public import Idealize.ShloMosaic.Lib.StableHlo.RunRead

@[expose] public section

set_option maxRecDepth 16384

/-!
The arrays the latent input projection's call is launched with, number by number: the weights moved about, the angles' cosines and sines laid out over the lanes.
-/

noncomputable section

namespace Cert.Kernel5Ideal.Inproj

open Cert.Kernel5Ideal Cert.Kernel5Ideal.Gen Idealize.ShloMosaic Idealize.ShloMosaic.TcCoe Idealize.SL.Sem

/-- the tokens, one a row -/
def tokA (X : FVec Ideal S8x4096x1024 .f32) : FVec Ideal S32768x1024 .f32 := shapeCast S32768x1024 X shapeCasts_S8x4096x1024_S32768x1024

/-- the gain as a row -/
def gainA (G : FVec Ideal S1024 .f32) : FVec Ideal S1x1024 .f32 := broadcastInDim S1x1024 ![1] bcast_S1024_S1x1024_1 G

/-- the input weights, their columns moved and zeros between -/
def wideA (W : FVec Ideal S1024x3504 .f32) : FVec Ideal S1024x3584 .bf16 := truncf (F := Ideal) .bf16 (concatenate S1024x3584 1 [⟨S1024x1552, (extractStridedSlice S1024x1552 ![0, 0] W slices_S1024x3504_S1024x1552_0_0)⟩, ⟨S1024x48, (broadcastInDim S1024x48 ![] bcast_S_S1024x48 (constant (F := Ideal) S_ .f32 0x00000000#32))⟩, ⟨S1024x32, (extractStridedSlice S1024x32 ![0, 1936] W slices_S1024x3504_S1024x32_0_1936)⟩, ⟨S1024x32, (broadcastInDim S1024x32 ![] bcast_S_S1024x32 (constant (F := Ideal) S_ .f32 0x00000000#32))⟩, ⟨S1024x384, (extractStridedSlice S1024x384 ![0, 1552] W slices_S1024x3504_S1024x384_0_1552)⟩, ⟨S1024x1536, (extractStridedSlice S1024x1536 ![0, 1968] W slices_S1024x3504_S1024x1536_0_1968)⟩] concatenates_S1024x1552_S1024x48_S1024x32_S1024x32_S1024x384_S1024x1536_S1024x3584_d1) bitsLt_bf16_f32

/-- the queries' gain as a row -/
def qgainA (GQ : FVec Ideal S256 .f32) : FVec Ideal S1x256 .f32 := broadcastInDim S1x256 ![1] bcast_S256_S1x256_1 GQ

/-- the keys' gain as a row -/
def kgainA (GK : FVec Ideal S128 .f32) : FVec Ideal S1x128 .f32 := broadcastInDim S1x128 ![1] bcast_S128_S1x128_1 GK

/-- the queries' weights, each head with 32 columns of zeros after it -/
def queryA (WQ : FVec Ideal S256x768 .f32) : FVec Ideal S256x1024 .bf16 := truncf (F := Ideal) .bf16 (shapeCast S256x1024 (pad S256x8x128 ![0, 0, 0] ![0, 0, 32] ![0, 0, 0] (shapeCast S256x8x96 WQ shapeCasts_S256x768_S256x8x96) (sitofp .f32 (constantI S_ 32 0#32)) pads_S256x8x96_S256x8x128_000_000_0320 h_S_) shapeCasts_S256x8x128_S256x1024) bitsLt_bf16_f32

/-- the keys' weights, each head with 64 columns of zeros after it -/
def keyA (WK : FVec Ideal S128x1024 .f32) : FVec Ideal S128x1024 .bf16 := truncf (F := Ideal) .bf16 (shapeCast S128x1024 (pad S128x8x128 ![0, 0, 0] ![0, 0, 64] ![0, 0, 0] (extractStridedSlice S128x8x64 ![0, 0, 0] (shapeCast S128x8x128 WK shapeCasts_S128x1024_S128x8x128) slices_S128x8x128_S128x8x64_0_0_0) (sitofp .f32 (constantI S_ 32 0#32)) pads_S128x8x64_S128x8x128_000_000_0640 h_S_) shapeCasts_S128x8x128_S128x1024) bitsLt_bf16_f32

/-- the values' weights, in the lower half of a head's columns for even heads and the upper half for odd heads -/
def valueA (WK : FVec Ideal S128x1024 .f32) : FVec Ideal S128x1024 .bf16 := truncf (F := Ideal) .bf16 (shapeCast S128x1024 (concatenate S128x8x128 2 [⟨S128x8x64, (select (broadcastInDim S128x8x64 ![0, 1, 2] bcast_S1x8x1_S128x8x64_0_1_2 (broadcastInDim S1x8x1 ![1] bcast_S8_S1x8x1_1 (cmpi .eq (andi (iotaInDim S8 32 0) (broadcastInDim S8 ![] bcast_S_S8 (constantI S_ 32 1#32))) (broadcastInDim S8 ![] bcast_S_S8 (constantI S_ 32 0#32))))) (extractStridedSlice S128x8x64 ![0, 0, 64] (shapeCast S128x8x128 WK shapeCasts_S128x1024_S128x8x128) slices_S128x8x128_S128x8x64_0_0_64) (broadcastInDim S128x8x64 ![] bcast_S_S128x8x64 (constant (F := Ideal) S_ .f32 0x00000000#32)))⟩, ⟨S128x8x64, (select (broadcastInDim S128x8x64 ![0, 1, 2] bcast_S1x8x1_S128x8x64_0_1_2 (broadcastInDim S1x8x1 ![1] bcast_S8_S1x8x1_1 (cmpi .eq (andi (iotaInDim S8 32 0) (broadcastInDim S8 ![] bcast_S_S8 (constantI S_ 32 1#32))) (broadcastInDim S8 ![] bcast_S_S8 (constantI S_ 32 0#32))))) (broadcastInDim S128x8x64 ![] bcast_S_S128x8x64 (constant (F := Ideal) S_ .f32 0x00000000#32)) (extractStridedSlice S128x8x64 ![0, 0, 64] (shapeCast S128x8x128 WK shapeCasts_S128x1024_S128x8x128) slices_S128x8x128_S128x8x64_0_0_64))⟩] concatenates_S128x8x64_S128x8x64_S128x8x128_d2) shapeCasts_S128x8x128_S128x1024) bitsLt_bf16_f32

/-- the latent rotation's cosines over the lanes, ones elsewhere -/
def cosA (AQ : FVec Ideal S4096x2x8 .f32) : FVec Ideal S4096x128 .f32 := pad S4096x128 ![0, 64] ![0, 32] ![0, 0] (shapeCast S4096x32 (concatenate S4096x2x2x8 2 [⟨S4096x2x1x8, (broadcastInDim S4096x2x1x8 ![0, 1, 3] bcast_S4096x2x8_S4096x2x1x8_0_1_3 (Host.cos AQ))⟩, ⟨S4096x2x1x8, (broadcastInDim S4096x2x1x8 ![0, 1, 3] bcast_S4096x2x8_S4096x2x1x8_0_1_3 (Host.cos AQ))⟩] concatenates_S4096x2x1x8_S4096x2x1x8_S4096x2x2x8_d2) shapeCasts_S4096x2x2x8_S4096x32) (constant (F := Ideal) S_ .f32 0x3F800000#32) pads_S4096x32_S4096x128_000_64320 h_S_

/-- the latent rotation's signed sines over the lanes, zeros elsewhere -/
def sinA (AQ : FVec Ideal S4096x2x8 .f32) : FVec Ideal S4096x128 .f32 := pad S4096x128 ![0, 64] ![0, 32] ![0, 0] (shapeCast S4096x32 (concatenate S4096x2x2x8 2 [⟨S4096x2x1x8, (broadcastInDim S4096x2x1x8 ![0, 1, 3] bcast_S4096x2x8_S4096x2x1x8_0_1_3 (Host.negf (Host.sin AQ)))⟩, ⟨S4096x2x1x8, (broadcastInDim S4096x2x1x8 ![0, 1, 3] bcast_S4096x2x8_S4096x2x1x8_0_1_3 (Host.sin AQ))⟩] concatenates_S4096x2x1x8_S4096x2x1x8_S4096x2x2x8_d2) shapeCasts_S4096x2x2x8_S4096x32) (constant (F := Ideal) S_ .f32 0x00000000#32) pads_S4096x32_S4096x128_000_64320 h_S_

/-- the differential rotation's cosines over the lanes -/
def dcosA (AD : FVec Ideal S4096x2x16 .f32) : FVec Ideal S4096x128 .f32 := concatenate S4096x128 1 [⟨S4096x64, (shapeCast S4096x64 (concatenate S4096x2x2x16 2 [⟨S4096x2x1x16, (broadcastInDim S4096x2x1x16 ![0, 1, 3] bcast_S4096x2x16_S4096x2x1x16_0_1_3 (Host.cos AD))⟩, ⟨S4096x2x1x16, (broadcastInDim S4096x2x1x16 ![0, 1, 3] bcast_S4096x2x16_S4096x2x1x16_0_1_3 (Host.cos AD))⟩] concatenates_S4096x2x1x16_S4096x2x1x16_S4096x2x2x16_d2) shapeCasts_S4096x2x2x16_S4096x64)⟩, ⟨S4096x64, (shapeCast S4096x64 (concatenate S4096x2x2x16 2 [⟨S4096x2x1x16, (broadcastInDim S4096x2x1x16 ![0, 1, 3] bcast_S4096x2x16_S4096x2x1x16_0_1_3 (Host.cos AD))⟩, ⟨S4096x2x1x16, (broadcastInDim S4096x2x1x16 ![0, 1, 3] bcast_S4096x2x16_S4096x2x1x16_0_1_3 (Host.cos AD))⟩] concatenates_S4096x2x1x16_S4096x2x1x16_S4096x2x2x16_d2) shapeCasts_S4096x2x2x16_S4096x64)⟩] concatenates_S4096x64_S4096x64_S4096x128_d1

/-- the differential rotation's signed sines over the lanes -/
def dsinA (AD : FVec Ideal S4096x2x16 .f32) : FVec Ideal S4096x128 .f32 := concatenate S4096x128 1 [⟨S4096x64, (shapeCast S4096x64 (concatenate S4096x2x2x16 2 [⟨S4096x2x1x16, (broadcastInDim S4096x2x1x16 ![0, 1, 3] bcast_S4096x2x16_S4096x2x1x16_0_1_3 (Host.negf (Host.sin AD)))⟩, ⟨S4096x2x1x16, (broadcastInDim S4096x2x1x16 ![0, 1, 3] bcast_S4096x2x16_S4096x2x1x16_0_1_3 (Host.sin AD))⟩] concatenates_S4096x2x1x16_S4096x2x1x16_S4096x2x2x16_d2) shapeCasts_S4096x2x2x16_S4096x64)⟩, ⟨S4096x64, (shapeCast S4096x64 (concatenate S4096x2x2x16 2 [⟨S4096x2x1x16, (broadcastInDim S4096x2x1x16 ![0, 1, 3] bcast_S4096x2x16_S4096x2x1x16_0_1_3 (Host.negf (Host.sin AD)))⟩, ⟨S4096x2x1x16, (broadcastInDim S4096x2x1x16 ![0, 1, 3] bcast_S4096x2x16_S4096x2x1x16_0_1_3 (Host.sin AD))⟩] concatenates_S4096x2x1x16_S4096x2x1x16_S4096x2x2x16_d2) shapeCasts_S4096x2x2x16_S4096x64)⟩] concatenates_S4096x64_S4096x64_S4096x128_d1

variable (X : FVec Ideal S8x4096x1024 .f32) (G : FVec Ideal S1024 .f32) (W : FVec Ideal S1024x3504 .f32) (GQ : FVec Ideal S256 .f32) (WQ : FVec Ideal S256x768 .f32)
  (GK : FVec Ideal S128 .f32) (WK : FVec Ideal S128x1024 .f32) (AQ : FVec Ideal S4096x2x8 .f32) (AD : FVec Ideal S4096x2x16 .f32)

/-- a number of the tokens -/
theorem tokA_at (b : Fin 8) (i : Fin 4096) (d : Fin 1024) : tokA X (ix2 (⟨4096 * b + i, by omega⟩ : Fin 32768) d) = X (ix3 b i d) := by
  unfold tokA
  pointwise []

/-- a number of the gain -/
theorem gainA_at (d : Fin 1024) : gainA G (ix2 (0 : Fin 1) d) = G (ix1 d) := by
  unfold gainA
  pointwise []

/-- a number of the queries' gain -/
theorem qgainA_at (d : Fin 256) : qgainA GQ (ix2 (0 : Fin 1) d) = GQ (ix1 d) := by
  unfold qgainA
  pointwise []

/-- a number of the keys' gain -/
theorem kgainA_at (d : Fin 128) : kgainA GK (ix2 (0 : Fin 1) d) = GK (ix1 d) := by
  unfold kgainA
  pointwise []

/-- a number of the input weights -/
theorem wideA_at (d : Fin 1024) (j : Fin 3584) : wideA W (ix2 d j) = if h0 : (j : ℕ) < 1552 then W (ix2 d (⟨j, by omega⟩ : Fin 3504))
      else if h1 : (j - 1552 : ℕ) < 48 then (0 : EReal)
      else if h2 : (j - 1552 - 48 : ℕ) < 32 then W (ix2 d (⟨1936 + (j - 1552 - 48), by omega⟩ : Fin 3504))
      else if h3 : (j - 1552 - 48 - 32 : ℕ) < 32 then (0 : EReal)
      else if h4 : (j - 1552 - 48 - 32 - 32 : ℕ) < 384 then W (ix2 d (⟨1552 + (j - 1552 - 48 - 32 - 32), by omega⟩ : Fin 3504))
      else W (ix2 d (⟨1968 + (j - 1552 - 48 - 32 - 32 - 384), by omega⟩ : Fin 3504)) := by
  unfold wideA
  pointwise []

/-- a number of the queries' weights -/
theorem queryA_at (k : Fin 256) (h : Fin 8) (l : Fin 128) : queryA WQ (ix2 k (⟨128 * h + l, by omega⟩ : Fin 1024)) = if h1 : (l : ℕ) < 96 then WQ (ix2 k (⟨h * 96 + l, by omega⟩ : Fin 768)) else (0 : EReal) := by
  unfold queryA
  pointwise []
  rw [Rows.zero_word]

/-- a number of the keys' weights -/
theorem keyA_at (k : Fin 128) (h : Fin 8) (l : Fin 128) : keyA WK (ix2 k (⟨128 * h + l, by omega⟩ : Fin 1024)) = if h1 : (l : ℕ) < 64 then WK (ix2 k (⟨h * 128 + l, by omega⟩ : Fin 1024)) else (0 : EReal) := by
  unfold keyA
  pointwise []
  rw [Rows.zero_word]

/-- a number of the values' weights -/
theorem valueA_at (k : Fin 128) (h : Fin 8) (l : Fin 128) : valueA WK (ix2 k (⟨128 * h + l, by omega⟩ : Fin 1024)) = if h1 : (l : ℕ) < 64 then
        Scalar.select (IntOp.cmpi .eq (IntOp.andi (BitVec.ofNat 32 (h : ℕ)) 1#32) 0#32) (WK (ix2 k (⟨h * 128 + (64 + l), by omega⟩ : Fin 1024))) (0 : EReal)
      else Scalar.select (IntOp.cmpi .eq (IntOp.andi (BitVec.ofNat 32 (h : ℕ)) 1#32) 0#32) (0 : EReal) (WK (ix2 k (⟨h * 128 + (64 + (l - 64)), by omega⟩ : Fin 1024))) := by
  unfold valueA
  pointwise []

/-- a cosine of a rotated lane -/
theorem cosA_in (i : Fin 4096) (l : Fin 128) (h : 64 ≤ (l : ℕ) ∧ (l : ℕ) < 96) : cosA AQ (ix2 i l) = Ideal.cos (AQ (ix3 i (⟨(l - 64) / 16, by omega⟩ : Fin 2) (⟨l % 8, by omega⟩ : Fin 8))) := by
  unfold cosA
  pointwise []
  rw [dif_pos (⟨h.1, by omega⟩ : 64 ≤ (l : ℕ) ∧ (l - 64 : ℕ) < 32)]
  by_cases h3 : (l - 64 : ℕ) / 8 % 2 < 1
  · rw [dif_pos h3]
    exact congrArg Ideal.cos (congrArg₂ (fun a f => AQ (ix3 i a f)) rfl (Fin.ext (by first | rfl | (dsimp only; omega))))
  · rw [dif_neg h3]
    exact congrArg Ideal.cos (congrArg₂ (fun a f => AQ (ix3 i a f)) rfl (Fin.ext (by first | rfl | (dsimp only; omega))))

/-- ones at the other lanes -/
theorem cosA_out (i : Fin 4096) (l : Fin 128) (h : ¬ (64 ≤ (l : ℕ) ∧ (l : ℕ) < 96)) : cosA AQ (ix2 i l) = 1 := by
  unfold cosA
  pointwise []
  rw [dif_neg (by omega : ¬ (64 ≤ (l : ℕ) ∧ (l - 64 : ℕ) < 32))]

/-- a signed sine of a lower rotated lane -/
theorem sinA_lo (i : Fin 4096) (l : Fin 128) (h : 64 ≤ (l : ℕ) ∧ (l : ℕ) < 96) (h3 : (l : ℕ) % 16 < 8) : sinA AQ (ix2 i l) = -Ideal.sin (AQ (ix3 i (⟨(l - 64) / 16, by omega⟩ : Fin 2) (⟨l % 8, by omega⟩ : Fin 8))) := by
  unfold sinA
  pointwise []
  rw [dif_pos (⟨h.1, by omega⟩ : 64 ≤ (l : ℕ) ∧ (l - 64 : ℕ) < 32), dif_pos (by omega : (l - 64 : ℕ) / 8 % 2 < 1)]
  exact congrArg Neg.neg (congrArg Ideal.sin (congrArg₂ (fun a f => AQ (ix3 i a f)) rfl (Fin.ext (by first | rfl | (dsimp only; omega)))))

/-- a signed sine of an upper rotated lane -/
theorem sinA_hi (i : Fin 4096) (l : Fin 128) (h : 64 ≤ (l : ℕ) ∧ (l : ℕ) < 96) (h3 : ¬ (l : ℕ) % 16 < 8) : sinA AQ (ix2 i l) = Ideal.sin (AQ (ix3 i (⟨(l - 64) / 16, by omega⟩ : Fin 2) (⟨l % 8, by omega⟩ : Fin 8))) := by
  unfold sinA
  pointwise []
  rw [dif_pos (⟨h.1, by omega⟩ : 64 ≤ (l : ℕ) ∧ (l - 64 : ℕ) < 32), dif_neg (by omega : ¬ (l - 64 : ℕ) / 8 % 2 < 1)]
  exact congrArg Ideal.sin (congrArg₂ (fun a f => AQ (ix3 i a f)) rfl (Fin.ext (by first | rfl | (dsimp only; omega))))

/-- zeros at the other lanes -/
theorem sinA_out (i : Fin 4096) (l : Fin 128) (h : ¬ (64 ≤ (l : ℕ) ∧ (l : ℕ) < 96)) : sinA AQ (ix2 i l) = 0 := by
  unfold sinA
  pointwise []
  rw [dif_neg (by omega : ¬ (64 ≤ (l : ℕ) ∧ (l - 64 : ℕ) < 32))]

/-- a cosine of a lane -/
theorem dcosA_at (i : Fin 4096) (l : Fin 128) : dcosA AD (ix2 i l) = Ideal.cos (AD (ix3 i (⟨l % 64 / 32, by omega⟩ : Fin 2) (⟨l % 16, by omega⟩ : Fin 16))) := by
  unfold dcosA
  pointwise []
  by_cases h : (l : ℕ) < 64
  · rw [dif_pos h]
    by_cases h3 : (l : ℕ) / 16 % 2 < 1
    · rw [dif_pos h3]
      exact congrArg Ideal.cos (congrArg₂ (fun a f => AD (ix3 i a f)) (Fin.ext (by first | rfl | (dsimp only; omega))) (Fin.ext (by first | rfl | (dsimp only; omega))))
    · rw [dif_neg h3]
      exact congrArg Ideal.cos (congrArg₂ (fun a f => AD (ix3 i a f)) (Fin.ext (by first | rfl | (dsimp only; omega))) (Fin.ext (by first | rfl | (dsimp only; omega))))
  · rw [dif_neg h]
    by_cases h3 : (l - 64 : ℕ) / 16 % 2 < 1
    · rw [dif_pos h3]
      exact congrArg Ideal.cos (congrArg₂ (fun a f => AD (ix3 i a f)) (Fin.ext (by first | rfl | (dsimp only; omega))) (Fin.ext (by first | rfl | (dsimp only; omega))))
    · rw [dif_neg h3]
      exact congrArg Ideal.cos (congrArg₂ (fun a f => AD (ix3 i a f)) (Fin.ext (by first | rfl | (dsimp only; omega))) (Fin.ext (by first | rfl | (dsimp only; omega))))

/-- a signed sine of a lower lane -/
theorem dsinA_lo (i : Fin 4096) (l : Fin 128) (h3 : (l : ℕ) % 32 < 16) : dsinA AD (ix2 i l) = -Ideal.sin (AD (ix3 i (⟨l % 64 / 32, by omega⟩ : Fin 2) (⟨l % 16, by omega⟩ : Fin 16))) := by
  unfold dsinA
  pointwise []
  by_cases h : (l : ℕ) < 64
  · rw [dif_pos h, dif_pos (by omega : (l : ℕ) / 16 % 2 < 1)]
    exact congrArg Neg.neg (congrArg Ideal.sin (congrArg₂ (fun a f => AD (ix3 i a f)) (Fin.ext (by first | rfl | (dsimp only; omega))) (Fin.ext (by first | rfl | (dsimp only; omega)))))
  · rw [dif_neg h, dif_pos (by omega : (l - 64 : ℕ) / 16 % 2 < 1)]
    exact congrArg Neg.neg (congrArg Ideal.sin (congrArg₂ (fun a f => AD (ix3 i a f)) (Fin.ext (by first | rfl | (dsimp only; omega))) (Fin.ext (by first | rfl | (dsimp only; omega)))))

/-- a signed sine of an upper lane -/
theorem dsinA_hi (i : Fin 4096) (l : Fin 128) (h3 : ¬ (l : ℕ) % 32 < 16) : dsinA AD (ix2 i l) = Ideal.sin (AD (ix3 i (⟨l % 64 / 32, by omega⟩ : Fin 2) (⟨l % 16, by omega⟩ : Fin 16))) := by
  unfold dsinA
  pointwise []
  by_cases h : (l : ℕ) < 64
  · rw [dif_pos h, dif_neg (by omega : ¬ (l : ℕ) / 16 % 2 < 1)]
    exact congrArg Ideal.sin (congrArg₂ (fun a f => AD (ix3 i a f)) (Fin.ext (by first | rfl | (dsimp only; omega))) (Fin.ext (by first | rfl | (dsimp only; omega))))
  · rw [dif_neg h, dif_neg (by omega : ¬ (l - 64 : ℕ) / 16 % 2 < 1)]
    exact congrArg Ideal.sin (congrArg₂ (fun a f => AD (ix3 i a f)) (Fin.ext (by first | rfl | (dsimp only; omega))) (Fin.ext (by first | rfl | (dsimp only; omega))))

variable (m : (ℓ : Loc nD τ sig) → Buf (Elt Ideal) ℓ) (c : Dev nD)

/-- at the launch: the tokens, one a row -/
theorem V_v32 : V m c main_v32 = tokA (m ((c : Thread nD τ).loc main_arg0)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11]
  entry_read
  rfl

/-- at the launch: the gain as a row -/
theorem V_v33 : V m c main_v33 = gainA (m ((c : Thread nD τ).loc main_arg3)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11]
  entry_read
  rfl

/-- at the launch: the input weights, their columns moved and zeros between -/
theorem V_v7 : V m c main_v7 = wideA (m ((c : Thread nD τ).loc main_arg4)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11]
  after_reads_simp
  rfl

/-- at the launch: the queries' gain as a row -/
theorem V_v30 : V m c main_v30 = qgainA (m ((c : Thread nD τ).loc main_arg5)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11]
  entry_read
  rfl

/-- at the launch: the keys' gain as a row -/
theorem V_v31 : V m c main_v31 = kgainA (m ((c : Thread nD τ).loc main_arg7)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11]
  entry_read
  rfl

/-- at the launch: the queries' weights, each head with 32 columns of zeros after it -/
theorem V_v25 : V m c main_v25 = queryA (m ((c : Thread nD τ).loc main_arg6)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11]
  entry_read
  rfl

/-- at the launch: the keys' weights, each head with 64 columns of zeros after it -/
theorem V_v27 : V m c main_v27 = keyA (m ((c : Thread nD τ).loc main_arg8)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11]
  entry_read
  rfl

/-- at the launch: the values' weights, in the lower half of a head's columns for even heads and the upper half for odd heads -/
theorem V_v29 : V m c main_v29 = valueA (m ((c : Thread nD τ).loc main_arg8)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11]
  entry_read
  rfl

/-- at the launch: the latent rotation's cosines over the lanes, ones elsewhere -/
theorem V_v42 : V m c main_v42 = cosA (m ((c : Thread nD τ).loc main_arg9)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11]
  entry_read
  rfl

/-- at the launch: the latent rotation's signed sines over the lanes, zeros elsewhere -/
theorem V_v48 : V m c main_v48 = sinA (m ((c : Thread nD τ).loc main_arg9)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11]
  entry_read
  rfl

/-- at the launch: the differential rotation's cosines over the lanes -/
theorem V_v53 : V m c main_v53 = dcosA (m ((c : Thread nD τ).loc main_arg10)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11]
  entry_read
  rfl

/-- at the launch: the differential rotation's signed sines over the lanes -/
theorem V_v59 : V m c main_v59 = dsinA (m ((c : Thread nD τ).loc main_arg10)) := by
  unfold V
  simp only [List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11]
  entry_read
  rfl

end Cert.Kernel5Ideal.Inproj

end
-- ==== Proof.InprojRef.lean ====
module

public import proofs.«01_k».proof.Proof.Gen.Reference5Ideal.Run
public import proofs.«01_k».proof.Proof.Rows
public import proofs.«01_k».proof.Proof.InprojSpec

@[expose] public section

set_option maxRecDepth 16384

/-!
The nine results of the reference's latent input projection, number by number: sample `b`, token `i`, head `h`, lane `l`.
-/

noncomputable section

namespace Cert.Reference5Ideal.Inproj

open Cert.Reference5Ideal Cert.Reference5Ideal.Gen Cert.Reference5Ideal.Facts Cert.Reference5Ideal.Value Idealize.ShloMosaic Lanes

section Spun

/-- a query's lanes, the upper 32 of the 96 rotated -/
def spunQ (x : Fin 768 → EReal) (C S : Fin 2 → Fin 8 → EReal) (h : Fin 8) (l : Fin 128) (h1 : (l : ℕ) < 96) : EReal :=
  if h2 : (l : ℕ) < 64 then x (⟨h * 96 + l, by omega⟩)
  else if h3 : (l : ℕ) % 16 < 8 then x (⟨h * 96 + l, by omega⟩) * C (⟨(l - 64) / 16, by omega⟩ : Fin 2) (⟨l % 8, by omega⟩ : Fin 8) - x (⟨h * 96 + (l + 8), by omega⟩) * S (⟨(l - 64) / 16, by omega⟩ : Fin 2) (⟨l % 8, by omega⟩ : Fin 8)
  else x (⟨h * 96 + l, by omega⟩) * C (⟨(l - 64) / 16, by omega⟩ : Fin 2) (⟨l % 8, by omega⟩ : Fin 8) + x (⟨h * 96 + (l - 8), by omega⟩) * S (⟨(l - 64) / 16, by omega⟩ : Fin 2) (⟨l % 8, by omega⟩ : Fin 8)

/-- a query's lanes with the rotation written pair by pair -/
theorem spunQ_eq (x : Fin 768 → EReal) (C S : Fin 2 → Fin 8 → EReal) (h : Fin 8) (l : Fin 128) (h1 : (l : ℕ) < 96) :
    (if h2 : (l : ℕ) < 64 then x (⟨h * 96 + l, by omega⟩)
      else if h3 : (l - 64 : ℕ) / 8 % 2 < 1 then x (⟨h * 96 + (64 + ((l - 64) / 16 * 16 + (l - 64) % 8)), by omega⟩) * C (⟨(l - 64) / 16, by omega⟩ : Fin 2) (⟨(l - 64) % 8, by omega⟩ : Fin 8) - x (⟨h * 96 + (64 + ((l - 64) / 16 * 16 + 8 + (l - 64) % 8)), by omega⟩) * S (⟨(l - 64) / 16, by omega⟩ : Fin 2) (⟨(l - 64) % 8, by omega⟩ : Fin 8)
      else x (⟨h * 96 + (64 + ((l - 64) / 16 * 16 + 8 + (l - 64) % 8)), by omega⟩) * C (⟨(l - 64) / 16, by omega⟩ : Fin 2) (⟨(l - 64) % 8, by omega⟩ : Fin 8) + x (⟨h * 96 + (64 + ((l - 64) / 16 * 16 + (l - 64) % 8)), by omega⟩) * S (⟨(l - 64) / 16, by omega⟩ : Fin 2) (⟨(l - 64) % 8, by omega⟩ : Fin 8))
      = spunQ x C S h l h1 := by
  unfold spunQ
  by_cases h2 : (l : ℕ) < 64
  · rw [dif_pos h2, dif_pos h2]
  · rw [dif_neg h2, dif_neg h2]
    by_cases h3 : (l : ℕ) % 16 < 8
    · rw [dif_pos h3, dif_pos (by omega : (l - 64 : ℕ) / 8 % 2 < 1)]
      exact congrArg₂ (HSub.hSub : EReal → EReal → EReal) (congrArg₂ (HMul.hMul : EReal → EReal → EReal) (congrArg x (Fin.ext (by dsimp only; omega))) (congrArg₂ C (Fin.ext rfl) (Fin.ext (by dsimp only; omega)))) (congrArg₂ (HMul.hMul : EReal → EReal → EReal) (congrArg x (Fin.ext (by dsimp only; omega))) (congrArg₂ S (Fin.ext rfl) (Fin.ext (by dsimp only; omega))))
    · rw [dif_neg h3, dif_neg (by omega : ¬ (l - 64 : ℕ) / 8 % 2 < 1)]
      exact congrArg₂ (HAdd.hAdd : EReal → EReal → EReal) (congrArg₂ (HMul.hMul : EReal → EReal → EReal) (congrArg x (Fin.ext (by dsimp only; omega))) (congrArg₂ C (Fin.ext rfl) (Fin.ext (by dsimp only; omega)))) (congrArg₂ (HMul.hMul : EReal → EReal → EReal) (congrArg x (Fin.ext (by dsimp only; omega))) (congrArg₂ S (Fin.ext rfl) (Fin.ext (by dsimp only; omega))))

/-- a key's lanes, the upper 32 of the 96 rotated -/
def spunK (y : Fin 1024 → EReal) (x : Fin 3504 → EReal) (C S : Fin 2 → Fin 8 → EReal) (h : Fin 8) (l : Fin 128) (h1 : (l : ℕ) < 96) : EReal :=
  if h2 : (l : ℕ) < 64 then y (⟨h * 128 + l, by omega⟩)
  else if h3 : (l : ℕ) % 16 < 8 then x (⟨1872 + l, by omega⟩) * C (⟨(l - 64) / 16, by omega⟩ : Fin 2) (⟨l % 8, by omega⟩ : Fin 8) - x (⟨1872 + (l + 8), by omega⟩) * S (⟨(l - 64) / 16, by omega⟩ : Fin 2) (⟨l % 8, by omega⟩ : Fin 8)
  else x (⟨1872 + l, by omega⟩) * C (⟨(l - 64) / 16, by omega⟩ : Fin 2) (⟨l % 8, by omega⟩ : Fin 8) + x (⟨1872 + (l - 8), by omega⟩) * S (⟨(l - 64) / 16, by omega⟩ : Fin 2) (⟨l % 8, by omega⟩ : Fin 8)

/-- a key's lanes with the rotation written pair by pair -/
theorem spunK_eq (y : Fin 1024 → EReal) (x : Fin 3504 → EReal) (C S : Fin 2 → Fin 8 → EReal) (h : Fin 8) (l : Fin 128) (h1 : (l : ℕ) < 96) :
    (if h2 : (l : ℕ) < 64 then y (⟨h * 128 + l, by omega⟩)
      else if h3 : (l - 64 : ℕ) / 8 % 2 < 1 then x (⟨1936 + ((l - 64) / 16 * 16 + (l - 64) % 8), by omega⟩) * C (⟨(l - 64) / 16, by omega⟩ : Fin 2) (⟨(l - 64) % 8, by omega⟩ : Fin 8) - x (⟨1936 + ((l - 64) / 16 * 16 + 8 + (l - 64) % 8), by omega⟩) * S (⟨(l - 64) / 16, by omega⟩ : Fin 2) (⟨(l - 64) % 8, by omega⟩ : Fin 8)
      else x (⟨1936 + ((l - 64) / 16 * 16 + 8 + (l - 64) % 8), by omega⟩) * C (⟨(l - 64) / 16, by omega⟩ : Fin 2) (⟨(l - 64) % 8, by omega⟩ : Fin 8) + x (⟨1936 + ((l - 64) / 16 * 16 + (l - 64) % 8), by omega⟩) * S (⟨(l - 64) / 16, by omega⟩ : Fin 2) (⟨(l - 64) % 8, by omega⟩ : Fin 8))
      = spunK y x C S h l h1 := by
  unfold spunK
  by_cases h2 : (l : ℕ) < 64
  · rw [dif_pos h2, dif_pos h2]
  · rw [dif_neg h2, dif_neg h2]
    by_cases h3 : (l : ℕ) % 16 < 8
    · rw [dif_pos h3, dif_pos (by omega : (l - 64 : ℕ) / 8 % 2 < 1)]
      exact congrArg₂ (HSub.hSub : EReal → EReal → EReal) (congrArg₂ (HMul.hMul : EReal → EReal → EReal) (congrArg x (Fin.ext (by dsimp only; omega))) (congrArg₂ C (Fin.ext rfl) (Fin.ext (by dsimp only; omega)))) (congrArg₂ (HMul.hMul : EReal → EReal → EReal) (congrArg x (Fin.ext (by dsimp only; omega))) (congrArg₂ S (Fin.ext rfl) (Fin.ext (by dsimp only; omega))))
    · rw [dif_neg h3, dif_neg (by omega : ¬ (l - 64 : ℕ) / 8 % 2 < 1)]
      exact congrArg₂ (HAdd.hAdd : EReal → EReal → EReal) (congrArg₂ (HMul.hMul : EReal → EReal → EReal) (congrArg x (Fin.ext (by dsimp only; omega))) (congrArg₂ C (Fin.ext rfl) (Fin.ext (by dsimp only; omega)))) (congrArg₂ (HMul.hMul : EReal → EReal → EReal) (congrArg x (Fin.ext (by dsimp only; omega))) (congrArg₂ S (Fin.ext rfl) (Fin.ext (by dsimp only; omega))))

/-- a differential query's or key's lanes, all rotated -/
def spunD (x : Fin 3504 → EReal) (C S : Fin 2 → Fin 16 → EReal) (o : ℕ) (ho : o ≤ 2992) (h : Fin 4) (l : Fin 128) : EReal :=
  if h3 : (l : ℕ) % 32 < 16 then x (⟨o + (128 * h + l), by omega⟩) * C (⟨l % 64 / 32, by omega⟩ : Fin 2) (⟨l % 16, by omega⟩ : Fin 16) - x (⟨o + (128 * h + (l + 16)), by omega⟩) * S (⟨l % 64 / 32, by omega⟩ : Fin 2) (⟨l % 16, by omega⟩ : Fin 16)
  else x (⟨o + (128 * h + l), by omega⟩) * C (⟨l % 64 / 32, by omega⟩ : Fin 2) (⟨l % 16, by omega⟩ : Fin 16) + x (⟨o + (128 * h + (l - 16)), by omega⟩) * S (⟨l % 64 / 32, by omega⟩ : Fin 2) (⟨l % 16, by omega⟩ : Fin 16)

/-- a differential query's lanes with the rotation written pair by pair -/
theorem spunD_eq (x : Fin 3504 → EReal) (C S : Fin 2 → Fin 16 → EReal) (o : ℕ) (ho : o ≤ 2992) (h : Fin 4) (l : Fin 128) :
    (if h3 : (128 * h + l : ℕ) % 64 / 16 % 2 < 1 then x (⟨o + (h * 128 + (128 * h + l : ℕ) / 64 % 2 * 64 + (128 * h + l : ℕ) % 64 / 32 * 32 + (128 * h + l : ℕ) % 64 % 16), by omega⟩) * C (⟨(128 * h + l : ℕ) % 64 / 32, by omega⟩ : Fin 2) (⟨(128 * h + l : ℕ) % 64 % 16, by omega⟩ : Fin 16) - x (⟨o + (h * 128 + (128 * h + l : ℕ) / 64 % 2 * 64 + (128 * h + l : ℕ) % 64 / 32 * 32 + 16 + (128 * h + l : ℕ) % 64 % 16), by omega⟩) * S (⟨(128 * h + l : ℕ) % 64 / 32, by omega⟩ : Fin 2) (⟨(128 * h + l : ℕ) % 64 % 16, by omega⟩ : Fin 16)
      else x (⟨o + (h * 128 + (128 * h + l : ℕ) / 64 % 2 * 64 + (128 * h + l : ℕ) % 64 / 32 * 32 + 16 + (128 * h + l : ℕ) % 64 % 16), by omega⟩) * C (⟨(128 * h + l : ℕ) % 64 / 32, by omega⟩ : Fin 2) (⟨(128 * h + l : ℕ) % 64 % 16, by omega⟩ : Fin 16) + x (⟨o + (h * 128 + (128 * h + l : ℕ) / 64 % 2 * 64 + (128 * h + l : ℕ) % 64 / 32 * 32 + (128 * h + l : ℕ) % 64 % 16), by omega⟩) * S (⟨(128 * h + l : ℕ) % 64 / 32, by omega⟩ : Fin 2) (⟨(128 * h + l : ℕ) % 64 % 16, by omega⟩ : Fin 16))
      = spunD x C S o ho h l := by
  unfold spunD
  by_cases h3 : (l : ℕ) % 32 < 16
  · rw [dif_pos h3, dif_pos (by omega : (128 * h + l : ℕ) % 64 / 16 % 2 < 1)]
    exact congrArg₂ (HSub.hSub : EReal → EReal → EReal) (congrArg₂ (HMul.hMul : EReal → EReal → EReal) (congrArg x (Fin.ext (by dsimp only; omega))) (congrArg₂ C (Fin.ext (by dsimp only; omega)) (Fin.ext (by dsimp only; omega)))) (congrArg₂ (HMul.hMul : EReal → EReal → EReal) (congrArg x (Fin.ext (by dsimp only; omega))) (congrArg₂ S (Fin.ext (by dsimp only; omega)) (Fin.ext (by dsimp only; omega))))
  · rw [dif_neg h3, dif_neg (by omega : ¬ (128 * h + l : ℕ) % 64 / 16 % 2 < 1)]
    exact congrArg₂ (HAdd.hAdd : EReal → EReal → EReal) (congrArg₂ (HMul.hMul : EReal → EReal → EReal) (congrArg x (Fin.ext (by dsimp only; omega))) (congrArg₂ C (Fin.ext (by dsimp only; omega)) (Fin.ext (by dsimp only; omega)))) (congrArg₂ (HMul.hMul : EReal → EReal → EReal) (congrArg x (Fin.ext (by dsimp only; omega))) (congrArg₂ S (Fin.ext (by dsimp only; omega)) (Fin.ext (by dsimp only; omega))))

/-- a differential key's lanes with the rotation written pair by pair -/
theorem spunD_eq' (x : Fin 3504 → EReal) (C S : Fin 2 → Fin 16 → EReal) (o : ℕ) (ho : o ≤ 2992) (h : Fin 4) (l : Fin 128) :
    (if h3 : (128 * h + l : ℕ) / 16 % 2 < 1 then x (⟨o + (h * 128 + (128 * h + l : ℕ) / 64 % 2 * 64 + (128 * h + l : ℕ) / 32 % 2 * 32 + (128 * h + l : ℕ) % 16), by omega⟩) * C (⟨(128 * h + l : ℕ) / 32 % 2, by omega⟩ : Fin 2) (⟨(128 * h + l : ℕ) % 16, by omega⟩ : Fin 16) - x (⟨o + (h * 128 + (128 * h + l : ℕ) / 64 % 2 * 64 + (128 * h + l : ℕ) / 32 % 2 * 32 + 16 + (128 * h + l : ℕ) % 16), by omega⟩) * S (⟨(128 * h + l : ℕ) / 32 % 2, by omega⟩ : Fin 2) (⟨(128 * h + l : ℕ) % 16, by omega⟩ : Fin 16)
      else x (⟨o + (h * 128 + (128 * h + l : ℕ) / 64 % 2 * 64 + (128 * h + l : ℕ) / 32 % 2 * 32 + 16 + (128 * h + l : ℕ) % 16), by omega⟩) * C (⟨(128 * h + l : ℕ) / 32 % 2, by omega⟩ : Fin 2) (⟨(128 * h + l : ℕ) % 16, by omega⟩ : Fin 16) + x (⟨o + (h * 128 + (128 * h + l : ℕ) / 64 % 2 * 64 + (128 * h + l : ℕ) / 32 % 2 * 32 + (128 * h + l : ℕ) % 16), by omega⟩) * S (⟨(128 * h + l : ℕ) / 32 % 2, by omega⟩ : Fin 2) (⟨(128 * h + l : ℕ) % 16, by omega⟩ : Fin 16))
      = spunD x C S o ho h l := by
  unfold spunD
  by_cases h3 : (l : ℕ) % 32 < 16
  · rw [dif_pos h3, dif_pos (by omega : (128 * h + l : ℕ) / 16 % 2 < 1)]
    exact congrArg₂ (HSub.hSub : EReal → EReal → EReal) (congrArg₂ (HMul.hMul : EReal → EReal → EReal) (congrArg x (Fin.ext (by dsimp only; omega))) (congrArg₂ C (Fin.ext (by dsimp only; omega)) (Fin.ext (by dsimp only; omega)))) (congrArg₂ (HMul.hMul : EReal → EReal → EReal) (congrArg x (Fin.ext (by dsimp only; omega))) (congrArg₂ S (Fin.ext (by dsimp only; omega)) (Fin.ext (by dsimp only; omega))))
  · rw [dif_neg h3, dif_neg (by omega : ¬ (128 * h + l : ℕ) / 16 % 2 < 1)]
    exact congrArg₂ (HAdd.hAdd : EReal → EReal → EReal) (congrArg₂ (HMul.hMul : EReal → EReal → EReal) (congrArg x (Fin.ext (by dsimp only; omega))) (congrArg₂ C (Fin.ext (by dsimp only; omega)) (Fin.ext (by dsimp only; omega)))) (congrArg₂ (HMul.hMul : EReal → EReal → EReal) (congrArg x (Fin.ext (by dsimp only; omega))) (congrArg₂ S (Fin.ext (by dsimp only; omega)) (Fin.ext (by dsimp only; omega))))

end Spun

section Numbers

variable (X : FVec Ideal S8x4096x1024 .f32) (SC SH : FVec Ideal S8x1x1024 .f32) (G : FVec Ideal S1024 .f32) (W : FVec Ideal S1024x3504 .f32) (GQ : FVec Ideal S256 .f32) (WQ : FVec Ideal S256x768 .f32)
  (GK : FVec Ideal S128 .f32) (WK : FVec Ideal S128x1024 .f32) (AQ : FVec Ideal S4096x2x8 .f32) (AD : FVec Ideal S4096x2x16 .f32)

/-- a normed token of the reference -/
def nrow (b : Fin 8) (i : Fin 4096) (d : Fin 1024) : EReal :=
  Rows.normed (fun d => X (ix3 b i d)) (fun d => G (ix1 d)) (fun d => SC (ix3 b (0 : Fin 1) d)) (fun d => SH (ix3 b (0 : Fin 1) d)) d

/-- a column of the input projection of a token -/
def col (b : Fin 8) (i : Fin 4096) (j : Fin 3504) : EReal := along (nrow X SC SH G b i) (fun d => W (ix2 d j))

/-- a latent query of a token before its rotation and scale -/
def quer (b : Fin 8) (i : Fin 4096) (j : Fin 768) : EReal :=
  along (rms (Ideal.ofBits .f32 0x43800000#32) (fun k : Fin 256 => col X SC SH G W b i (⟨1552 + k, by omega⟩ : Fin 3504)) (fun k => GQ (ix1 k))) (fun k => WQ (ix2 k j))

/-- a latent key or value of a token -/
def keyv (b : Fin 8) (i : Fin 4096) (j : Fin 1024) : EReal :=
  along (rms (Ideal.ofBits .f32 0x43000000#32) (fun k : Fin 128 => col X SC SH G W b i (⟨1808 + k, by omega⟩ : Fin 3504)) (fun k => GK (ix1 k))) (fun k => WK (ix2 k j))

/-- the steps and the key rotation's columns, with zeros between -/
def miscAt (b : Fin 8) (i : Fin 4096) (l : Fin 128) : EReal :=
  if h0 : (l : ℕ) < 16 then col X SC SH G W b i (⟨1536 + l, by omega⟩ : Fin 3504)
  else if h1 : (l : ℕ) < 64 then 0
  else if h2 : (l : ℕ) < 96 then col X SC SH G W b i (⟨1872 + l, by omega⟩ : Fin 3504) else 0

/-- a latent query: 64 lanes as they are, 32 lanes rotated, zeros -/
def qAt (b : Fin 8) (i : Fin 4096) (h : Fin 8) (l : Fin 128) : EReal :=
  if h1 : (l : ℕ) < 96 then
    spunQ (quer X SC SH G W GQ WQ b i) (fun a f => Ideal.cos (AQ (ix3 i a f))) (fun a f => Ideal.sin (AQ (ix3 i a f))) h l h1 * Ideal.ofBits .f32 0x3DD105EC#32
  else 0

/-- a latent key: 64 lanes of its head, 32 rotated lanes all heads share, zeros -/
def kAt (b : Fin 8) (i : Fin 4096) (h : Fin 8) (l : Fin 128) : EReal :=
  if h1 : (l : ℕ) < 96 then
    spunK (keyv X SC SH G W GK WK b i) (col X SC SH G W b i) (fun a f => Ideal.cos (AQ (ix3 i a f))) (fun a f => Ideal.sin (AQ (ix3 i a f))) h l h1
  else 0

/-- a latent value: the lower half of the lanes for even heads, the upper half for odd heads -/
def vAt (b : Fin 8) (i : Fin 4096) (h : Fin 8) (l : Fin 128) : EReal :=
  if h1 : (l : ℕ) < 64 then
    Scalar.select (IntOp.cmpi .eq (IntOp.andi (BitVec.ofNat 32 (h : ℕ)) 1#32) 0#32) (keyv X SC SH G W GK WK b i (⟨h * 128 + (64 + l), by omega⟩ : Fin 1024)) 0
  else
    Scalar.select (IntOp.cmpi .eq (IntOp.andi (BitVec.ofNat 32 (h : ℕ)) 1#32) 0#32) 0 (keyv X SC SH G W GK WK b i (⟨h * 128 + (64 + (l - 64)), by omega⟩ : Fin 1024))

/-- 512 columns of the input projection from `o` on, rotated -/
def dAt (o : ℕ) (ho : o ≤ 2992) (b : Fin 8) (i : Fin 4096) (h : Fin 4) (l : Fin 128) : EReal :=
  spunD (col X SC SH G W b i) (fun a f => Ideal.cos (AD (ix3 i a f))) (fun a f => Ideal.sin (AD (ix3 i a f))) o ho h l

end Numbers

/-- numbers of samples, tokens and columns as a flat array, one token a row -/
def tall (w : ℕ) (f : Fin 8 → Fin 4096 → Fin w → EReal) : Shape.Idx ⟨2, ![32768, w]⟩ → EReal := fun y =>
  f (⟨(y 0).val / 4096, by have : (y 0).val < 32768 := (y 0).isLt; omega⟩ : Fin 8) (⟨(y 0).val % 4096, Nat.mod_lt _ (by decide)⟩ : Fin 4096) (⟨(y 1).val, (y 1).isLt⟩ : Fin w)

/-- numbers of samples, tokens, heads and lanes with the heads side by side in the columns -/
def heads (n : ℕ) (f : Fin 8 → Fin 4096 → Fin n → Fin 128 → EReal) (b : Fin 8) (i : Fin 4096) (j : Fin (128 * n)) : EReal :=
  f b i (⟨(j : ℕ) / 128, by omega⟩ : Fin n) (⟨(j : ℕ) % 128, Nat.mod_lt _ (by decide)⟩ : Fin 128)

/-- an array with the same numbers is the flat array -/
theorem eq_tall (w : ℕ) (f : Fin 8 → Fin 4096 → Fin w → EReal) (R : Shape.Idx ⟨2, ![32768, w]⟩ → EReal)
    (h : ∀ (b : Fin 8) (i : Fin 4096) (j : Fin w), R (ix2 (⟨4096 * b + i, by omega⟩ : Fin 32768) j) = f b i j) : R = tall w f := by
  funext y
  have hy : (y 0).val < 32768 := (y 0).isLt
  refine Eq.trans (congrArg R ?_) (h (⟨(y 0).val / 4096, by omega⟩ : Fin 8) (⟨(y 0).val % 4096, Nat.mod_lt _ (by decide)⟩ : Fin 4096) (⟨(y 1).val, (y 1).isLt⟩ : Fin w))
  funext a
  apply Fin.ext
  match a with
  | ⟨0, _⟩ => exact (Nat.div_add_mod _ 4096).symm
  | ⟨1, _⟩ => rfl

/-- the numbers of heads side by side -/
theorem heads_of (n : ℕ) (f : Fin 8 → Fin 4096 → Fin n → Fin 128 → EReal) (g : Fin 8 → Fin 4096 → Fin (128 * n) → EReal)
    (h : ∀ (b : Fin 8) (i : Fin 4096) (k : Fin n) (l : Fin 128), g b i (⟨128 * k + l, by omega⟩ : Fin (128 * n)) = f b i k l) : g = heads n f := by
  funext b i j
  refine Eq.trans (congrArg (g b i) (Fin.ext (Nat.div_add_mod _ 128).symm)) (h b i (⟨(j : ℕ) / 128, by omega⟩ : Fin n) (⟨(j : ℕ) % 128, Nat.mod_lt _ (by decide)⟩ : Fin 128))

section At

variable (V0 : Valuation τ sig (Elt Ideal))

/-- a column of the input projection, in the reference's terms -/
theorem v19_at (b : Fin 8) (i : Fin 4096) (j : Fin 3504) :
    (res_main_v19 V0 : FVec Ideal S8x4096x3504 .f32) (ix3 b i j) = col (V0 (Proc.devRef .tc main_arg0)) (V0 (Proc.devRef .tc main_arg1)) (V0 (Proc.devRef .tc main_arg2)) (V0 (Proc.devRef .tc main_arg3)) (V0 (Proc.devRef .tc main_arg4)) b i j := by
  unfold res_main_v19
  pointwise [col, along, nrow, Rows.normed]

/-- a latent query, in the reference's terms -/
theorem v43_at (b : Fin 8) (i : Fin 4096) (h : Fin 8) (j : Fin 96) :
    (res_main_v43 V0 : FVec Ideal S8x4096x8x96 .f32) (ix4 b i h j) = quer (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) b i (⟨h * 96 + j, by omega⟩ : Fin 768) := by
  unfold res_main_v43 res_main_v23
  pointwise [quer, along, rms, v19_at]

/-- a latent key or value, in the reference's terms -/
theorem v86_at (b : Fin 8) (i : Fin 4096) (h : Fin 8) (j : Fin 128) :
    (res_main_v86 V0 : FVec Ideal S8x4096x8x128 .f32) (ix4 b i h j) = keyv (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg7)) (V0 (Proc.devRef .tc main_arg8)) b i (⟨h * 128 + j, by omega⟩ : Fin 1024) := by
  unfold res_main_v86 res_main_v24
  pointwise [keyv, along, rms, v19_at]

/-- the reference's gates -/
def REF1 : FVec Ideal S32768x512 .bf16 := truncf .bf16 (shapeCast _ (extractStridedSlice S8x4096x512 ![0, 0, 0] (res_main_v19 V0) slices_S8x4096x3504_S8x4096x512_0_0_0) shapeCasts_S8x4096x512_S32768x512) bitsLt_bf16_f32

/-- the reference's state-space inputs -/
def REF2 : FVec Ideal S32768x1024 .bf16 := truncf .bf16 (shapeCast _ (extractStridedSlice S8x4096x1024 ![0, 0, 512] (res_main_v19 V0) slices_S8x4096x3504_S8x4096x1024_0_0_512) shapeCasts_S8x4096x1024_S32768x1024) bitsLt_bf16_f32

/-- the reference's steps and key rotation -/
def REF3 : FVec Ideal S32768x128 .f32 := shapeCast _ ((concatenate S8x4096x128 2 [⟨S8x4096x16, ((extractStridedSlice S8x4096x16 ![0, 0, 1536] (res_main_v19 V0) slices_S8x4096x3504_S8x4096x16_0_0_1536) : (⟨S8x4096x16, .f32⟩ : BufTy).Contents (Elt Ideal))⟩, ⟨S8x4096x48, ((broadcastInDim S8x4096x48 ![] bcast_S_S8x4096x48 (constant (F := Ideal) S_ .f32 0x00000000#32)) : (⟨S8x4096x48, .f32⟩ : BufTy).Contents (Elt Ideal))⟩, ⟨S8x4096x32, ((res_main_v25 V0) : (⟨S8x4096x32, .f32⟩ : BufTy).Contents (Elt Ideal))⟩, ⟨S8x4096x32, ((broadcastInDim S8x4096x32 ![] bcast_S_S8x4096x32 (constant (F := Ideal) S_ .f32 0x00000000#32)) : (⟨S8x4096x32, .f32⟩ : BufTy).Contents (Elt Ideal))⟩] concatenates_S8x4096x16_S8x4096x48_S8x4096x32_S8x4096x32_S8x4096x128_d2 : (⟨S8x4096x128, .f32⟩ : BufTy).Contents (Elt Ideal))) shapeCasts_S8x4096x128_S32768x128

/-- the reference's latent queries -/
def REF4 : FVec Ideal S32768x1024 .bf16 := truncf .bf16 (shapeCast _ (pad S8x4096x8x128 ![0, 0, 0, 0] ![0, 0, 0, 32] ![0, 0, 0, 0] (mulf (concatenate S8x4096x8x96 3 [⟨S8x4096x8x64, (extractStridedSlice S8x4096x8x64 ![0, 0, 0, 0] (res_main_v43 V0) slices_S8x4096x8x96_S8x4096x8x64_0_0_0_0)⟩, ⟨S8x4096x8x32, (shapeCast _ (concatenate S8x4096x8x2x2x8 4 [⟨S8x4096x8x2x1x8, (broadcastInDim S8x4096x8x2x1x8 ![0, 1, 2, 3, 5] bcast_S8x4096x8x2x8_S8x4096x8x2x1x8_0_1_2_3_5 (subf (mulf (res_main_v48 V0) (broadcastInDim S8x4096x8x2x8 ![0, 1, 2, 3, 4] bcast_S1x4096x1x2x8_S8x4096x8x2x8_0_1_2_3_4 (res_main_v52 V0))) (mulf (res_main_v50 V0) (broadcastInDim S8x4096x8x2x8 ![0, 1, 2, 3, 4] bcast_S1x4096x1x2x8_S8x4096x8x2x8_0_1_2_3_4 (res_main_v54 V0)))))⟩, ⟨S8x4096x8x2x1x8, (broadcastInDim S8x4096x8x2x1x8 ![0, 1, 2, 3, 5] bcast_S8x4096x8x2x8_S8x4096x8x2x1x8_0_1_2_3_5 (addf (mulf (res_main_v50 V0) (broadcastInDim S8x4096x8x2x8 ![0, 1, 2, 3, 4] bcast_S1x4096x1x2x8_S8x4096x8x2x8_0_1_2_3_4 (res_main_v52 V0))) (mulf (res_main_v48 V0) (broadcastInDim S8x4096x8x2x8 ![0, 1, 2, 3, 4] bcast_S1x4096x1x2x8_S8x4096x8x2x8_0_1_2_3_4 (res_main_v54 V0)))))⟩] concatenates_S8x4096x8x2x1x8_S8x4096x8x2x1x8_S8x4096x8x2x2x8_d4) shapeCasts_S8x4096x8x2x2x8_S8x4096x8x32)⟩] concatenates_S8x4096x8x64_S8x4096x8x32_S8x4096x8x96_d3) (broadcastInDim S8x4096x8x96 ![] bcast_S_S8x4096x8x96 (constant (F := Ideal) S_ .f32 0x3DD105EC#32))) (sitofp .f32 (constantI S_ 32 0#32)) pads_S8x4096x8x96_S8x4096x8x128_000_000_000_0320 h_S_) shapeCasts_S8x4096x8x128_S32768x1024) bitsLt_bf16_f32

/-- the reference's latent keys -/
def REF5 : FVec Ideal S32768x1024 .bf16 := truncf .bf16 (shapeCast _ (pad S8x4096x8x128 ![0, 0, 0, 0] ![0, 0, 0, 32] ![0, 0, 0, 0] (concatenate S8x4096x8x96 3 [⟨S8x4096x8x64, (extractStridedSlice S8x4096x8x64 ![0, 0, 0, 0] (res_main_v86 V0) slices_S8x4096x8x128_S8x4096x8x64_0_0_0_0)⟩, ⟨S8x4096x8x32, (broadcastInDim S8x4096x8x32 ![0, 1, 2, 3] bcast_S8x4096x1x32_S8x4096x8x32_0_1_2_3 (shapeCast _ (concatenate S8x4096x1x2x2x8 4 [⟨S8x4096x1x2x1x8, (broadcastInDim S8x4096x1x2x1x8 ![0, 1, 2, 3, 5] bcast_S8x4096x1x2x8_S8x4096x1x2x1x8_0_1_2_3_5 (subf (mulf (res_main_v92 V0) (broadcastInDim S8x4096x1x2x8 ![0, 1, 2, 3, 4] bcast_S1x4096x1x2x8_S8x4096x1x2x8_0_1_2_3_4 (res_main_v96 V0))) (mulf (res_main_v94 V0) (broadcastInDim S8x4096x1x2x8 ![0, 1, 2, 3, 4] bcast_S1x4096x1x2x8_S8x4096x1x2x8_0_1_2_3_4 (res_main_v98 V0)))))⟩, ⟨S8x4096x1x2x1x8, (broadcastInDim S8x4096x1x2x1x8 ![0, 1, 2, 3, 5] bcast_S8x4096x1x2x8_S8x4096x1x2x1x8_0_1_2_3_5 (addf (mulf (res_main_v94 V0) (broadcastInDim S8x4096x1x2x8 ![0, 1, 2, 3, 4] bcast_S1x4096x1x2x8_S8x4096x1x2x8_0_1_2_3_4 (res_main_v96 V0))) (mulf (res_main_v92 V0) (broadcastInDim S8x4096x1x2x8 ![0, 1, 2, 3, 4] bcast_S1x4096x1x2x8_S8x4096x1x2x8_0_1_2_3_4 (res_main_v98 V0)))))⟩] concatenates_S8x4096x1x2x1x8_S8x4096x1x2x1x8_S8x4096x1x2x2x8_d4) shapeCasts_S8x4096x1x2x2x8_S8x4096x1x32))⟩] concatenates_S8x4096x8x64_S8x4096x8x32_S8x4096x8x96_d3) (sitofp .f32 (constantI S_ 32 0#32)) pads_S8x4096x8x96_S8x4096x8x128_000_000_000_0320 h_S_) shapeCasts_S8x4096x8x128_S32768x1024) bitsLt_bf16_f32

/-- the reference's latent values -/
def REF6 : FVec Ideal S32768x1024 .bf16 := truncf .bf16 (shapeCast _ (concatenate S8x4096x8x128 3 [⟨S8x4096x8x64, (select (broadcastInDim S8x4096x8x64 ![0, 1, 2, 3] bcast_S1x1x8x1_S8x4096x8x64_0_1_2_3 (res_main_v170 V0)) (res_main_v88 V0) (res_main_v171 V0))⟩, ⟨S8x4096x8x64, (select (broadcastInDim S8x4096x8x64 ![0, 1, 2, 3] bcast_S1x1x8x1_S8x4096x8x64_0_1_2_3 (res_main_v170 V0)) (res_main_v171 V0) (res_main_v88 V0))⟩] concatenates_S8x4096x8x64_S8x4096x8x64_S8x4096x8x128_d3) shapeCasts_S8x4096x8x128_S32768x1024) bitsLt_bf16_f32

/-- the reference's differential queries -/
def REF7 : FVec Ideal S32768x512 .bf16 := truncf .bf16 (shapeCast _ (mulf (shapeCast _ (concatenate S8x4096x4x2x2x2x16 5 [⟨S8x4096x4x2x2x1x16, (broadcastInDim S8x4096x4x2x2x1x16 ![0, 1, 2, 3, 4, 6] bcast_S8x4096x4x2x2x16_S8x4096x4x2x2x1x16_0_1_2_3_4_6 (subf (mulf (res_main_v118 V0) (broadcastInDim S8x4096x4x2x2x16 ![0, 1, 2, 3, 4, 5] bcast_S1x4096x1x1x2x16_S8x4096x4x2x2x16_0_1_2_3_4_5 (res_main_v122 V0))) (mulf (res_main_v120 V0) (broadcastInDim S8x4096x4x2x2x16 ![0, 1, 2, 3, 4, 5] bcast_S1x4096x1x1x2x16_S8x4096x4x2x2x16_0_1_2_3_4_5 (res_main_v124 V0)))))⟩, ⟨S8x4096x4x2x2x1x16, (broadcastInDim S8x4096x4x2x2x1x16 ![0, 1, 2, 3, 4, 6] bcast_S8x4096x4x2x2x16_S8x4096x4x2x2x1x16_0_1_2_3_4_6 (addf (mulf (res_main_v120 V0) (broadcastInDim S8x4096x4x2x2x16 ![0, 1, 2, 3, 4, 5] bcast_S1x4096x1x1x2x16_S8x4096x4x2x2x16_0_1_2_3_4_5 (res_main_v122 V0))) (mulf (res_main_v118 V0) (broadcastInDim S8x4096x4x2x2x16 ![0, 1, 2, 3, 4, 5] bcast_S1x4096x1x1x2x16_S8x4096x4x2x2x16_0_1_2_3_4_5 (res_main_v124 V0)))))⟩] concatenates_S8x4096x4x2x2x1x16_S8x4096x4x2x2x1x16_S8x4096x4x2x2x2x16_d5) shapeCasts_S8x4096x4x2x2x2x16_S8x4096x4x2x64) (broadcastInDim S8x4096x4x2x64 ![] bcast_S_S8x4096x4x2x64 (constant (F := Ideal) S_ .f32 0x3E000000#32))) shapeCasts_S8x4096x4x2x64_S32768x512) bitsLt_bf16_f32

/-- the reference's differential keys -/
def REF8 : FVec Ideal S32768x512 .bf16 := truncf .bf16 (shapeCast _ (shapeCast _ (concatenate S8x4096x4x2x2x2x16 5 [⟨S8x4096x4x2x2x1x16, (broadcastInDim S8x4096x4x2x2x1x16 ![0, 1, 2, 3, 4, 6] bcast_S8x4096x4x2x2x16_S8x4096x4x2x2x1x16_0_1_2_3_4_6 (subf (mulf (res_main_v144 V0) (broadcastInDim S8x4096x4x2x2x16 ![0, 1, 2, 3, 4, 5] bcast_S1x4096x1x1x2x16_S8x4096x4x2x2x16_0_1_2_3_4_5 (res_main_v148 V0))) (mulf (res_main_v146 V0) (broadcastInDim S8x4096x4x2x2x16 ![0, 1, 2, 3, 4, 5] bcast_S1x4096x1x1x2x16_S8x4096x4x2x2x16_0_1_2_3_4_5 (res_main_v150 V0)))))⟩, ⟨S8x4096x4x2x2x1x16, (broadcastInDim S8x4096x4x2x2x1x16 ![0, 1, 2, 3, 4, 6] bcast_S8x4096x4x2x2x16_S8x4096x4x2x2x1x16_0_1_2_3_4_6 (addf (mulf (res_main_v146 V0) (broadcastInDim S8x4096x4x2x2x16 ![0, 1, 2, 3, 4, 5] bcast_S1x4096x1x1x2x16_S8x4096x4x2x2x16_0_1_2_3_4_5 (res_main_v148 V0))) (mulf (res_main_v144 V0) (broadcastInDim S8x4096x4x2x2x16 ![0, 1, 2, 3, 4, 5] bcast_S1x4096x1x1x2x16_S8x4096x4x2x2x16_0_1_2_3_4_5 (res_main_v150 V0)))))⟩] concatenates_S8x4096x4x2x2x1x16_S8x4096x4x2x2x1x16_S8x4096x4x2x2x2x16_d5) shapeCasts_S8x4096x4x2x2x2x16_S8x4096x4x2x64) shapeCasts_S8x4096x4x2x64_S32768x512) bitsLt_bf16_f32

/-- the reference's differential values -/
def REF9 : FVec Ideal S32768x512 .bf16 := truncf .bf16 (shapeCast _ (extractStridedSlice S8x4096x512 ![0, 0, 2992] (res_main_v19 V0) slices_S8x4096x3504_S8x4096x512_0_0_2992) shapeCasts_S8x4096x512_S32768x512) bitsLt_bf16_f32

/-- a number of the reference's gates -/
theorem REF1_at (b : Fin 8) (i : Fin 4096) (j : Fin 512) : (REF1 V0 : FVec Ideal S32768x512 .bf16) (ix2 (⟨4096 * b + i, by omega⟩ : Fin 32768) j) = col (V0 (Proc.devRef .tc main_arg0)) (V0 (Proc.devRef .tc main_arg1)) (V0 (Proc.devRef .tc main_arg2)) (V0 (Proc.devRef .tc main_arg3)) (V0 (Proc.devRef .tc main_arg4)) b i (⟨j, by omega⟩ : Fin 3504) := by
  unfold REF1
  pointwise [v19_at]

/-- a number of the reference's state-space inputs -/
theorem REF2_at (b : Fin 8) (i : Fin 4096) (j : Fin 1024) : (REF2 V0 : FVec Ideal S32768x1024 .bf16) (ix2 (⟨4096 * b + i, by omega⟩ : Fin 32768) j) = col (V0 (Proc.devRef .tc main_arg0)) (V0 (Proc.devRef .tc main_arg1)) (V0 (Proc.devRef .tc main_arg2)) (V0 (Proc.devRef .tc main_arg3)) (V0 (Proc.devRef .tc main_arg4)) b i (⟨512 + j, by omega⟩ : Fin 3504) := by
  unfold REF2
  pointwise [v19_at]

/-- a number of the reference's steps and key rotation -/
theorem REF3_at (b : Fin 8) (i : Fin 4096) (l : Fin 128) : (REF3 V0 : FVec Ideal S32768x128 .f32) (ix2 (⟨4096 * b + i, by omega⟩ : Fin 32768) l) = miscAt (V0 (Proc.devRef .tc main_arg0)) (V0 (Proc.devRef .tc main_arg1)) (V0 (Proc.devRef .tc main_arg2)) (V0 (Proc.devRef .tc main_arg3)) (V0 (Proc.devRef .tc main_arg4)) b i l := by
  generalize hR : miscAt (V0 (Proc.devRef .tc main_arg0)) (V0 (Proc.devRef .tc main_arg1)) (V0 (Proc.devRef .tc main_arg2)) (V0 (Proc.devRef .tc main_arg3)) (V0 (Proc.devRef .tc main_arg4)) b i l = R
  unfold REF3 res_main_v25
  pointwise [v19_at]
  subst hR
  unfold miscAt
  by_cases h0 : (l : ℕ) < 16
  · rw [dif_pos h0, dif_pos h0]
  · rw [dif_neg h0, dif_neg h0]
    by_cases h1 : (l : ℕ) < 64
    · rw [dif_pos h1, dif_pos (by omega : (l - 16 : ℕ) < 48)]
    · rw [dif_neg h1, dif_neg (by omega : ¬ (l - 16 : ℕ) < 48)]
      by_cases h2 : (l : ℕ) < 96
      · rw [dif_pos h2, dif_pos (by omega : (l - 16 - 48 : ℕ) < 32)]
        congr 2
        omega
      · rw [dif_neg h2, dif_neg (by omega : ¬ (l - 16 - 48 : ℕ) < 32)]

/-- a number of the reference's latent keys -/
theorem REF5_at (b : Fin 8) (i : Fin 4096) (h : Fin 8) (l : Fin 128) : (REF5 V0 : FVec Ideal S32768x1024 .bf16) (ix2 (⟨4096 * b + i, by omega⟩ : Fin 32768) (⟨128 * h + l, by omega⟩ : Fin 1024)) = kAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg7)) (V0 (Proc.devRef .tc main_arg8)) (V0 (Proc.devRef .tc main_arg9)) b i h l := by
  generalize hR : kAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg7)) (V0 (Proc.devRef .tc main_arg8)) (V0 (Proc.devRef .tc main_arg9)) b i h l = R
  unfold REF5 res_main_v92 res_main_v94 res_main_v96 res_main_v98 res_main_v90 res_main_v25
  pointwise [v86_at, v19_at]
  subst hR
  exact dite_congr rfl (fun h1 => spunK_eq (keyv (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg7)) (V0 (Proc.devRef .tc main_arg8)) b i) (col (V0 (Proc.devRef .tc main_arg0)) (V0 (Proc.devRef .tc main_arg1)) (V0 (Proc.devRef .tc main_arg2)) (V0 (Proc.devRef .tc main_arg3)) (V0 (Proc.devRef .tc main_arg4)) b i) (fun a f => Ideal.cos ((V0 (Proc.devRef .tc main_arg9)) (ix3 i a f))) (fun a f => Ideal.sin ((V0 (Proc.devRef .tc main_arg9)) (ix3 i a f))) h l h1) (fun _ => Rows.zero_word)

/-- a number of the reference's latent values -/
theorem REF6_at (b : Fin 8) (i : Fin 4096) (h : Fin 8) (l : Fin 128) : (REF6 V0 : FVec Ideal S32768x1024 .bf16) (ix2 (⟨4096 * b + i, by omega⟩ : Fin 32768) (⟨128 * h + l, by omega⟩ : Fin 1024)) = vAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg7)) (V0 (Proc.devRef .tc main_arg8)) b i h l := by
  unfold REF6 res_main_v88 res_main_v170 res_main_v171
  pointwise [v86_at, vAt]

/-- a number of the reference's differential keys -/
theorem REF8_at (b : Fin 8) (i : Fin 4096) (h : Fin 4) (l : Fin 128) : (REF8 V0 : FVec Ideal S32768x512 .bf16) (ix2 (⟨4096 * b + i, by omega⟩ : Fin 32768) (⟨128 * h + l, by omega⟩ : Fin 512)) = dAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg10)) 2480 (by decide) b i h l := by
  generalize hR : dAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg10)) 2480 (by decide) b i h l = R
  unfold REF8 res_main_v144 res_main_v146 res_main_v148 res_main_v150 res_main_v142
  pointwise [v19_at]
  subst hR
  exact spunD_eq' (col (V0 (Proc.devRef .tc main_arg0)) (V0 (Proc.devRef .tc main_arg1)) (V0 (Proc.devRef .tc main_arg2)) (V0 (Proc.devRef .tc main_arg3)) (V0 (Proc.devRef .tc main_arg4)) b i) (fun a f => Ideal.cos ((V0 (Proc.devRef .tc main_arg10)) (ix3 i a f))) (fun a f => Ideal.sin ((V0 (Proc.devRef .tc main_arg10)) (ix3 i a f))) 2480 (by decide) h l

/-- a number of the reference's differential values -/
theorem REF9_at (b : Fin 8) (i : Fin 4096) (j : Fin 512) : (REF9 V0 : FVec Ideal S32768x512 .bf16) (ix2 (⟨4096 * b + i, by omega⟩ : Fin 32768) j) = col (V0 (Proc.devRef .tc main_arg0)) (V0 (Proc.devRef .tc main_arg1)) (V0 (Proc.devRef .tc main_arg2)) (V0 (Proc.devRef .tc main_arg3)) (V0 (Proc.devRef .tc main_arg4)) b i (⟨2992 + j, by omega⟩ : Fin 3504) := by
  unfold REF9
  pointwise [v19_at]

end At

end Cert.Reference5Ideal.Inproj

end
-- ==== Proof.InprojMatch.lean ====
module

public import proofs.«01_k».proof.Proof.InprojBlock
public import proofs.«01_k».proof.Proof.InprojHost
public import proofs.«01_k».proof.Proof.InprojRef

@[expose] public section

set_option maxRecDepth 16384

/-!
Each number a grid point of the latent input projection leaves is the reference's number of its token.
-/

noncomputable section

namespace Cert.Kernel5Ideal.Inproj

open Cert.Kernel5Ideal Cert.Kernel5Ideal.Gen Idealize.ShloMosaic Idealize.ShloMosaic.TcCoe Idealize.SL.Sem Lanes
open Cert.Reference5Ideal.Inproj (nrow col quer keyv miscAt qAt kAt vAt dAt spunQ spunK spunD)

/-- the latent scale is a real number, not a negative one -/
theorem scale_word : ∃ x : ℝ, 0 ≤ x ∧ Ideal.ofBits .f32 0x3DD105EC#32 = x := by
  refine ⟨_, ?_, by simp [Ideal.ofBits, Ideal.ieee]; rfl⟩
  positivity

/-- the differential scale is a real number, not a negative one -/
theorem eighth_word : ∃ x : ℝ, 0 ≤ x ∧ Ideal.ofBits .f32 0x3E000000#32 = x := by
  refine ⟨_, ?_, by simp [Ideal.ofBits, Ideal.ieee]; rfl⟩
  positivity

/-- a scale before a rotation is the scale after it, lower lanes -/
theorem scaled_sub (a b u v k : EReal) (hk : ∃ x : ℝ, 0 ≤ x ∧ k = x) : a * k * u + b * k * -v = (a * u - b * v) * k := by
  obtain ⟨x, hx, rfl⟩ := hk
  rw [sub_eq_add_neg, EReal.right_distrib_of_nonneg_of_ne_top (EReal.coe_nonneg.mpr hx) (EReal.coe_ne_top x), mul_right_comm a, mul_right_comm b, mul_neg, neg_mul]

/-- a scale before a rotation is the scale after it, upper lanes -/
theorem scaled_add (a b u v k : EReal) (hk : ∃ x : ℝ, 0 ≤ x ∧ k = x) : a * k * u + b * k * v = (a * u + b * v) * k := by
  obtain ⟨x, hx, rfl⟩ := hk
  rw [EReal.right_distrib_of_nonneg_of_ne_top (EReal.coe_nonneg.mpr hx) (EReal.coe_ne_top x), mul_right_comm a, mul_right_comm b]

/-- a rotated lower lane without a scale -/
theorem plain_sub (a b u v : EReal) : a * u + b * -v = a * u - b * v := by
  rw [sub_eq_add_neg, mul_neg]

/-- a row times a column of zeros -/
theorem along_zero {n : ℕ} (h w : Fin n → EReal) (hw : ∀ d, w d = 0) : along h w = 0 := by
  unfold along
  simp only [hw, mul_zero, Finset.sum_const_zero]

/-- the lower lanes' partners -/
theorem turn_lo (h : ℕ) (x : Fin 128 → EReal) (l l' : Fin 128) (hl : (l : ℕ) % (2 * h) < h) (e : (l' : ℕ) = ((l : ℕ) + h) % 128) : turn h x l = x l' := by
  unfold turn
  rw [if_pos hl]
  exact congrArg x (Fin.ext e.symm)

/-- the upper lanes' partners -/
theorem turn_hi (h : ℕ) (x : Fin 128 → EReal) (l l' : Fin 128) (hl : ¬ (l : ℕ) % (2 * h) < h) (e : (l' : ℕ) = ((l : ℕ) + (128 - h)) % 128) : turn h x l = x l' := by
  unfold turn
  rw [if_neg hl]
  exact congrArg x (Fin.ext e.symm)

/-- a bit that is not one is zero -/
theorem zero_or {e : BitVec 1} (h : ¬ e = 1#1) : e = 0#1 :=
  (by decide : ∀ e : BitVec 1, ¬ e = 1#1 → e = 0#1) e h

section Weights

variable (W : FVec Ideal S1024x3504 .f32) (d : Fin 1024) (j : Fin 3584) (k : Fin 3504)

/-- the columns left in their place -/
theorem wideA_a (h : (j : ℕ) < 1552) (hk : (k : ℕ) = j) : wideA W (ix2 d j) = W (ix2 d k) := by
  rw [wideA_at, dif_pos h]
  exact congrArg (fun k => W (ix2 d k)) (Fin.ext (by dsimp only; omega))

/-- the columns of zeros -/
theorem wideA_z (h : (1552 ≤ (j : ℕ) ∧ (j : ℕ) < 1600) ∨ (1632 ≤ (j : ℕ) ∧ (j : ℕ) < 1664)) : wideA W (ix2 d j) = 0 := by
  rw [wideA_at, dif_neg (by omega : ¬ (j : ℕ) < 1552)]
  by_cases h1 : (j - 1552 : ℕ) < 48
  · rw [dif_pos h1]
  · rw [dif_neg h1, dif_neg (by omega : ¬ (j - 1552 - 48 : ℕ) < 32), dif_pos (by omega : (j - 1552 - 48 - 32 : ℕ) < 32)]

/-- the columns of the key rotation -/
theorem wideA_b (h : 1600 ≤ (j : ℕ) ∧ (j : ℕ) < 1632) (hk : (k : ℕ) = j + 336) : wideA W (ix2 d j) = W (ix2 d k) := by
  rw [wideA_at, dif_neg (by omega : ¬ (j : ℕ) < 1552), dif_neg (by omega : ¬ (j - 1552 : ℕ) < 48), dif_pos (by omega : (j - 1552 - 48 : ℕ) < 32)]
  exact congrArg (fun k => W (ix2 d k)) (Fin.ext (by dsimp only; omega))

/-- the columns of the latent rows -/
theorem wideA_c (h : 1664 ≤ (j : ℕ) ∧ (j : ℕ) < 2048) (hk : (k : ℕ) + 112 = j) : wideA W (ix2 d j) = W (ix2 d k) := by
  rw [wideA_at, dif_neg (by omega : ¬ (j : ℕ) < 1552), dif_neg (by omega : ¬ (j - 1552 : ℕ) < 48), dif_neg (by omega : ¬ (j - 1552 - 48 : ℕ) < 32),
    dif_neg (by omega : ¬ (j - 1552 - 48 - 32 : ℕ) < 32), dif_pos (by omega : (j - 1552 - 48 - 32 - 32 : ℕ) < 384)]
  exact congrArg (fun k => W (ix2 d k)) (Fin.ext (by dsimp only; omega))

/-- the columns of the differential rows -/
theorem wideA_d (h : 2048 ≤ (j : ℕ)) (hk : (k : ℕ) + 80 = j) : wideA W (ix2 d j) = W (ix2 d k) := by
  rw [wideA_at, dif_neg (by omega : ¬ (j : ℕ) < 1552), dif_neg (by omega : ¬ (j - 1552 : ℕ) < 48), dif_neg (by omega : ¬ (j - 1552 - 48 : ℕ) < 32),
    dif_neg (by omega : ¬ (j - 1552 - 48 - 32 : ℕ) < 32), dif_neg (by omega : ¬ (j - 1552 - 48 - 32 - 32 : ℕ) < 384)]
  exact congrArg (fun k => W (ix2 d k)) (Fin.ext (by dsimp only; omega))

end Weights

section Match

variable {X : FVec Ideal S8x4096x1024 .f32} {SC SH : FVec Ideal S8x1x1024 .f32} {G : FVec Ideal S1024 .f32} {W : FVec Ideal S1024x3504 .f32} {GQ : FVec Ideal S256 .f32} {WQ : FVec Ideal S256x768 .f32}
  {GK : FVec Ideal S128 .f32} {WK : FVec Ideal S128x1024 .f32} {AQ : FVec Ideal S4096x2x8 .f32} {AD : FVec Ideal S4096x2x16 .f32}
  {x0 : FVec Ideal S512x1024 .f32} {x1 x2 : FVec Ideal S1x1x1024 .f32} {x3 : FVec Ideal S1x1024 .f32} {x4 : FVec Ideal S1024x3584 .bf16} {x5 : FVec Ideal S1x256 .f32} {x6 : FVec Ideal S1x128 .f32}
  {x7 : FVec Ideal S256x1024 .bf16} {x8 x9 : FVec Ideal S128x1024 .bf16} {x10 x11 x12 x13 : FVec Ideal S512x128 .f32} {b : Fin 8} {tok : Fin 512 → Fin 4096}

/-- the blocks a point reads are those of sample `b`, row `r` holding token `tok r` -/
structure Reads (X : FVec Ideal S8x4096x1024 .f32) (SC SH : FVec Ideal S8x1x1024 .f32) (G : FVec Ideal S1024 .f32) (W : FVec Ideal S1024x3504 .f32) (GQ : FVec Ideal S256 .f32) (WQ : FVec Ideal S256x768 .f32)
    (GK : FVec Ideal S128 .f32) (WK : FVec Ideal S128x1024 .f32) (AQ : FVec Ideal S4096x2x8 .f32) (AD : FVec Ideal S4096x2x16 .f32)
    (x0 : FVec Ideal S512x1024 .f32) (x1 x2 : FVec Ideal S1x1x1024 .f32) (x3 : FVec Ideal S1x1024 .f32) (x4 : FVec Ideal S1024x3584 .bf16) (x5 : FVec Ideal S1x256 .f32) (x6 : FVec Ideal S1x128 .f32)
    (x7 : FVec Ideal S256x1024 .bf16) (x8 x9 : FVec Ideal S128x1024 .bf16) (x10 x11 x12 x13 : FVec Ideal S512x128 .f32) (b : Fin 8) (tok : Fin 512 → Fin 4096) : Prop where
  h0 : ∀ (r : Fin 512) (d : Fin 1024), x0 (ix2 r d) = X (ix3 b (tok r) d)
  h1 : ∀ d : Fin 1024, x1 (ix3 (0 : Fin 1) (0 : Fin 1) d) = SC (ix3 b (0 : Fin 1) d)
  h2 : ∀ d : Fin 1024, x2 (ix3 (0 : Fin 1) (0 : Fin 1) d) = SH (ix3 b (0 : Fin 1) d)
  h3 : ∀ d : Fin 1024, x3 (ix2 (0 : Fin 1) d) = G (ix1 d)
  h4 : ∀ (d : Fin 1024) (j : Fin 3584), x4 (ix2 d j) = wideA W (ix2 d j)
  h5 : ∀ k : Fin 256, x5 (ix2 (0 : Fin 1) k) = GQ (ix1 k)
  h6 : ∀ k : Fin 128, x6 (ix2 (0 : Fin 1) k) = GK (ix1 k)
  h7 : ∀ (k : Fin 256) (j : Fin 1024), x7 (ix2 k j) = queryA WQ (ix2 k j)
  h8 : ∀ (k : Fin 128) (j : Fin 1024), x8 (ix2 k j) = keyA WK (ix2 k j)
  h9 : ∀ (k : Fin 128) (j : Fin 1024), x9 (ix2 k j) = valueA WK (ix2 k j)
  h10 : ∀ (r : Fin 512) (l : Fin 128), x10 (ix2 r l) = cosA AQ (ix2 (tok r) l)
  h11 : ∀ (r : Fin 512) (l : Fin 128), x11 (ix2 r l) = sinA AQ (ix2 (tok r) l)
  h12 : ∀ (r : Fin 512) (l : Fin 128), x12 (ix2 r l) = dcosA AD (ix2 (tok r) l)
  h13 : ∀ (r : Fin 512) (l : Fin 128), x13 (ix2 r l) = dsinA AD (ix2 (tok r) l)

variable (H : Reads X SC SH G W GQ WQ GK WK AQ AD x0 x1 x2 x3 x4 x5 x6 x7 x8 x9 x10 x11 x12 x13 b tok)

include H

/-- a normed row of a block is the reference's -/
theorem hrow_ref (r : Fin 512) : hrow x0 x1 x2 x3 r = nrow X SC SH G b (tok r) := by
  funext d
  unfold hrow nrow
  simp only [H.h0, H.h1, H.h2, H.h3]

/-- a column of a block's projection is a column of the reference's -/
theorem proj_of (r : Fin 512) (j : Fin 3584) (k : Fin 3504) (hk : ∀ d, wideA W (ix2 d j) = W (ix2 d k)) : proj x0 x1 x2 x3 x4 r j = col X SC SH G W b (tok r) k := by
  unfold proj col
  rw [hrow_ref H]
  exact congrArg (along _) (funext fun d => (H.h4 d j).trans (hk d))

/-- the columns left in their place -/
theorem proj_a (r : Fin 512) (j : Fin 3584) (k : Fin 3504) (h : (j : ℕ) < 1552) (hk : (k : ℕ) = j) : proj x0 x1 x2 x3 x4 r j = col X SC SH G W b (tok r) k :=
  proj_of H r j k fun d => wideA_a W d j k h hk

/-- the columns of the key rotation -/
theorem proj_b (r : Fin 512) (j : Fin 3584) (k : Fin 3504) (h : 1600 ≤ (j : ℕ) ∧ (j : ℕ) < 1632) (hk : (k : ℕ) = j + 336) : proj x0 x1 x2 x3 x4 r j = col X SC SH G W b (tok r) k :=
  proj_of H r j k fun d => wideA_b W d j k h hk

/-- the columns of the latent rows -/
theorem proj_c (r : Fin 512) (j : Fin 3584) (k : Fin 3504) (h : 1664 ≤ (j : ℕ) ∧ (j : ℕ) < 2048) (hk : (k : ℕ) + 112 = j) : proj x0 x1 x2 x3 x4 r j = col X SC SH G W b (tok r) k :=
  proj_of H r j k fun d => wideA_c W d j k h hk

/-- the columns of the differential rows -/
theorem proj_d (r : Fin 512) (j : Fin 3584) (k : Fin 3504) (h : 2048 ≤ (j : ℕ)) (hk : (k : ℕ) + 80 = j) : proj x0 x1 x2 x3 x4 r j = col X SC SH G W b (tok r) k :=
  proj_of H r j k fun d => wideA_d W d j k h hk

/-- the columns of zeros -/
theorem proj_z (r : Fin 512) (j : Fin 3584) (h : (1552 ≤ (j : ℕ) ∧ (j : ℕ) < 1600) ∨ (1632 ≤ (j : ℕ) ∧ (j : ℕ) < 1664)) : proj x0 x1 x2 x3 x4 r j = 0 := by
  unfold proj
  exact along_zero _ _ fun d => (H.h4 d j).trans (wideA_z W d j h)

/-- the gates -/
theorem out14_ref (r : Fin 512) (j : Fin 512) : out0_14 (F := Ideal) x0 x1 x2 x3 x4 x5 x6 x7 x8 x9 x10 x11 x12 x13 (ix2 r j) = col X SC SH G W b (tok r) (⟨j, by omega⟩ : Fin 3504) := by
  refine (out14_at x0 x1 x2 x3 x4 x5 x6 x7 x8 x9 x10 x11 x12 x13 r j).trans (proj_a H r _ _ ?_ ?_) <;> dsimp only <;> omega

/-- the state-space inputs -/
theorem out15_ref (r : Fin 512) (j : Fin 1024) : out0_15 (F := Ideal) x0 x1 x2 x3 x4 x5 x6 x7 x8 x9 x10 x11 x12 x13 (ix2 r j) = col X SC SH G W b (tok r) (⟨512 + j, by omega⟩ : Fin 3504) := by
  refine (out15_at x0 x1 x2 x3 x4 x5 x6 x7 x8 x9 x10 x11 x12 x13 r j).trans (proj_a H r _ _ ?_ ?_) <;> dsimp only <;> omega

/-- the steps and the key rotation's columns -/
theorem out16_ref (r : Fin 512) (l : Fin 128) : out0_16 (F := Ideal) x0 x1 x2 x3 x4 x5 x6 x7 x8 x9 x10 x11 x12 x13 (ix2 r l) = miscAt X SC SH G W b (tok r) l := by
  refine (out16_at x0 x1 x2 x3 x4 x5 x6 x7 x8 x9 x10 x11 x12 x13 r l).trans ?_
  unfold miscAt
  by_cases h0 : (l : ℕ) < 16
  · rw [dif_pos h0]
    refine proj_a H r _ _ ?_ ?_ <;> dsimp only <;> omega
  · rw [dif_neg h0]
    by_cases h1 : (l : ℕ) < 64
    · rw [dif_pos h1]
      refine proj_z H r _ (Or.inl ⟨?_, ?_⟩) <;> dsimp only <;> omega
    · rw [dif_neg h1]
      by_cases h2 : (l : ℕ) < 96
      · rw [dif_pos h2]
        refine proj_b H r _ _ ⟨?_, ?_⟩ ?_ <;> dsimp only <;> omega
      · rw [dif_neg h2]
        refine proj_z H r _ (Or.inr ⟨?_, ?_⟩) <;> dsimp only <;> omega

/-- a scaled query's lane before its rotation -/
theorem query_lo (r : Fin 512) (h : Fin 8) (l : Fin 128) (k : Fin 768) (hl : (l : ℕ) < 96) (hk : (k : ℕ) = h * 96 + l) :
    query x0 x1 x2 x3 x4 x5 x7 r (⟨128 * h + l, by omega⟩ : Fin 1024) = quer X SC SH G W GQ WQ b (tok r) k * Ideal.ofBits .f32 0x3DD105EC#32 := by
  unfold query quer
  have e1 : (fun k : Fin 256 => proj x0 x1 x2 x3 x4 r (⟨1664 + k, by omega⟩ : Fin 3584)) = fun k : Fin 256 => col X SC SH G W b (tok r) (⟨1552 + k, by omega⟩ : Fin 3504) := by
    funext k
    refine proj_c H r _ _ ⟨?_, ?_⟩ ?_ <;> dsimp only <;> omega
  have e2 : (fun k : Fin 256 => x5 (ix2 (0 : Fin 1) k)) = fun k => GQ (ix1 k) := funext H.h5
  have e3 : (fun i : Fin 256 => x7 (ix2 i (⟨128 * h + l, by omega⟩ : Fin 1024))) = fun i => WQ (ix2 i k) := by
    funext i
    rw [H.h7, queryA_at, dif_pos hl]
    exact congrArg (fun k => WQ (ix2 i k)) (Fin.ext hk.symm)
  rw [e1, e2, e3]

/-- the lanes of zeros after a query -/
theorem query_hi (r : Fin 512) (h : Fin 8) (l : Fin 128) (hl : ¬ (l : ℕ) < 96) : query x0 x1 x2 x3 x4 x5 x7 r (⟨128 * h + l, by omega⟩ : Fin 1024) = 0 := by
  unfold query
  rw [along_zero _ _ fun k => by rw [H.h7, queryA_at, dif_neg hl], zero_mul]

/-- the latent queries -/
theorem out17_ref (r : Fin 512) (h : Fin 8) (l : Fin 128) : out0_17 (F := Ideal) x0 x1 x2 x3 x4 x5 x6 x7 x8 x9 x10 x11 x12 x13 (ix2 r (⟨128 * h + l, by omega⟩ : Fin 1024)) = qAt X SC SH G W GQ WQ AQ b (tok r) h l := by
  refine (out17_at x0 x1 x2 x3 x4 x5 x6 x7 x8 x9 x10 x11 x12 x13 r h l).trans ?_
  unfold roped qAt
  dsimp only
  rw [H.h10, H.h11]
  by_cases h1 : (l : ℕ) < 96
  · rw [dif_pos h1, query_lo H r h l (⟨h * 96 + l, by omega⟩ : Fin 768) h1 rfl]
    unfold spunQ
    by_cases h2 : (l : ℕ) < 64
    · rw [dif_pos h2, cosA_out _ _ _ (by omega), sinA_out _ _ _ (by omega), mul_one, mul_zero, add_zero]
    · rw [dif_neg h2, cosA_in _ _ _ ⟨by omega, h1⟩]
      by_cases h3 : (l : ℕ) % 16 < 8
      · rw [dif_pos h3, sinA_lo _ _ _ ⟨by omega, h1⟩ h3, turn_lo 8 _ l (⟨l + 8, by omega⟩ : Fin 128) h3 (by dsimp only; omega)]
        refine Eq.trans (congrArg₂ (HAdd.hAdd : EReal → EReal → EReal) rfl (congrArg (fun z : EReal => z * _) (query_lo H r h (⟨l + 8, by omega⟩ : Fin 128) (⟨h * 96 + (l + 8), by omega⟩ : Fin 768) (by dsimp only; omega) rfl))) ?_
        exact scaled_sub _ _ _ _ _ scale_word
      · rw [dif_neg h3, sinA_hi _ _ _ ⟨by omega, h1⟩ h3, turn_hi 8 _ l (⟨l - 8, by omega⟩ : Fin 128) h3 (by dsimp only; omega)]
        refine Eq.trans (congrArg₂ (HAdd.hAdd : EReal → EReal → EReal) rfl (congrArg (fun z : EReal => z * _) (query_lo H r h (⟨l - 8, by omega⟩ : Fin 128) (⟨h * 96 + (l - 8), by omega⟩ : Fin 768) (by dsimp only; omega) rfl))) ?_
        exact scaled_add _ _ _ _ _ scale_word
  · rw [dif_neg h1, query_hi H r h l h1, sinA_out _ _ _ (by omega), mul_zero, zero_mul, add_zero]

/-- the latent row's norm -/
theorem latent_rms (r : Fin 512) : rms (Ideal.ofBits .f32 0x43000000#32) (fun k : Fin 128 => proj x0 x1 x2 x3 x4 r (⟨1920 + k, by omega⟩ : Fin 3584)) (fun k => x6 (ix2 (0 : Fin 1) k))
    = rms (Ideal.ofBits .f32 0x43000000#32) (fun k : Fin 128 => col X SC SH G W b (tok r) (⟨1808 + k, by omega⟩ : Fin 3504)) (fun k => GK (ix1 k)) := by
  have e1 : (fun k : Fin 128 => proj x0 x1 x2 x3 x4 r (⟨1920 + k, by omega⟩ : Fin 3584)) = fun k : Fin 128 => col X SC SH G W b (tok r) (⟨1808 + k, by omega⟩ : Fin 3504) := by
    funext k
    refine proj_c H r _ _ ⟨?_, ?_⟩ ?_ <;> dsimp only <;> omega
  have e2 : (fun k : Fin 128 => x6 (ix2 (0 : Fin 1) k)) = fun k => GK (ix1 k) := funext H.h6
  rw [e1, e2]

/-- a latent number by a column of the reference's weights -/
theorem latent_of (w : FVec Ideal S128x1024 .bf16) (r : Fin 512) (j k : Fin 1024) (hw : ∀ i, w (ix2 i j) = WK (ix2 i k)) : latent x0 x1 x2 x3 x4 x6 w r j = keyv X SC SH G W GK WK b (tok r) k := by
  unfold latent keyv
  rw [latent_rms H]
  exact congrArg (along _) (funext hw)

/-- a lane of the rotated key -/
theorem key_lane (r : Fin 512) (l : Fin 128) (k : Fin 3504) (hl : 64 ≤ (l : ℕ) ∧ (l : ℕ) < 96) (hk : (k : ℕ) = 1872 + l) :
    proj x0 x1 x2 x3 x4 r (⟨1536 + l, by omega⟩ : Fin 3584) = col X SC SH G W b (tok r) k := by
  refine proj_b H r _ _ ⟨?_, ?_⟩ ?_ <;> dsimp only <;> omega

/-- the latent keys -/
theorem out18_ref (r : Fin 512) (h : Fin 8) (l : Fin 128) : out0_18 (F := Ideal) x0 x1 x2 x3 x4 x5 x6 x7 x8 x9 x10 x11 x12 x13 (ix2 r (⟨128 * h + l, by omega⟩ : Fin 1024)) = kAt X SC SH G W GK WK AQ b (tok r) h l := by
  refine (out18_at x0 x1 x2 x3 x4 x5 x6 x7 x8 x9 x10 x11 x12 x13 r h l).trans ?_
  unfold turned kAt
  have hz : ¬ (l : ℕ) < 64 → latent x0 x1 x2 x3 x4 x6 x8 r (⟨128 * h + l, by omega⟩ : Fin 1024) = 0 := fun h2 => by
    unfold latent
    exact along_zero _ _ fun k => by rw [H.h8, keyA_at, dif_neg h2]
  by_cases h1 : (l : ℕ) < 96
  · rw [dif_pos h1]
    unfold spunK
    by_cases h2 : (l : ℕ) < 64
    · rw [dif_pos h2, if_neg (by omega : ¬ (64 ≤ (l : ℕ) ∧ (l : ℕ) < 96)), add_zero]
      exact latent_of H x8 r _ _ fun i => by rw [H.h8, keyA_at, dif_pos h2]
    · have h4 : 64 ≤ (l : ℕ) ∧ (l : ℕ) < 96 := ⟨by omega, h1⟩
      rw [dif_neg h2, if_pos h4, hz h2, zero_add]
      unfold roped
      dsimp only
      rw [H.h10, H.h11, cosA_in _ _ _ h4, key_lane H r l (⟨1872 + l, by omega⟩ : Fin 3504) h4 rfl]
      by_cases h3 : (l : ℕ) % 16 < 8
      · rw [dif_pos h3, sinA_lo _ _ _ h4 h3, turn_lo 8 _ l (⟨l + 8, by omega⟩ : Fin 128) h3 (by dsimp only; omega)]
        refine Eq.trans (congrArg₂ (HAdd.hAdd : EReal → EReal → EReal) rfl (congrArg (fun z : EReal => z * _) (key_lane H r (⟨l + 8, by omega⟩ : Fin 128) (⟨1872 + (l + 8), by omega⟩ : Fin 3504) ⟨by dsimp only; omega, by dsimp only; omega⟩ rfl))) ?_
        exact plain_sub _ _ _ _
      · rw [dif_neg h3, sinA_hi _ _ _ h4 h3, turn_hi 8 _ l (⟨l - 8, by omega⟩ : Fin 128) h3 (by dsimp only; omega)]
        exact congrArg₂ (HAdd.hAdd : EReal → EReal → EReal) rfl (congrArg (fun z : EReal => z * _) (key_lane H r (⟨l - 8, by omega⟩ : Fin 128) (⟨1872 + (l - 8), by omega⟩ : Fin 3504) ⟨by dsimp only; omega, by dsimp only; omega⟩ rfl))
  · rw [dif_neg h1, if_neg (by omega : ¬ (64 ≤ (l : ℕ) ∧ (l : ℕ) < 96)), add_zero]
    exact hz (by omega)

/-- the latent values -/
theorem out19_ref (r : Fin 512) (h : Fin 8) (l : Fin 128) : out0_19 (F := Ideal) x0 x1 x2 x3 x4 x5 x6 x7 x8 x9 x10 x11 x12 x13 (ix2 r (⟨128 * h + l, by omega⟩ : Fin 1024)) = vAt X SC SH G W GK WK b (tok r) h l := by
  refine (out19_at x0 x1 x2 x3 x4 x5 x6 x7 x8 x9 x10 x11 x12 x13 r _).trans ?_
  have hw := fun k : Fin 128 => (H.h9 k (⟨128 * h + l, by omega⟩ : Fin 1024)).trans (valueA_at WK k h l)
  unfold vAt
  generalize IntOp.cmpi .eq (IntOp.andi (BitVec.ofNat 32 (h : ℕ)) 1#32) 0#32 = e at hw ⊢
  by_cases h2 : (l : ℕ) < 64
  · simp only [dif_pos h2] at hw ⊢
    by_cases he : e = 1#1
    · subst he
      exact latent_of H x9 r _ _ hw
    · have he0 : e = 0#1 := zero_or he
      subst he0
      unfold latent
      exact along_zero _ _ hw
  · simp only [dif_neg h2] at hw ⊢
    by_cases he : e = 1#1
    · subst he
      unfold latent
      exact along_zero _ _ hw
    · have he0 : e = 0#1 := zero_or he
      subst he0
      exact latent_of H x9 r _ _ hw

/-- a differential lane -/
theorem diff_lane (r : Fin 512) (o : ℕ) (ho : o + 80 + 512 ≤ 3584) (h2 : 2048 ≤ o + 80) (h : Fin 4) (l : Fin 128) (j : Fin 3584) (k : Fin 3504) (hj : (j : ℕ) = o + 80 + (128 * h + l)) (hk : (k : ℕ) = o + (128 * h + l)) :
    proj x0 x1 x2 x3 x4 r j = col X SC SH G W b (tok r) k := by
  refine proj_d H r _ _ ?_ ?_ <;> omega

/-- the differential queries -/
theorem out20_ref (r : Fin 512) (h : Fin 4) (l : Fin 128) : out0_20 (F := Ideal) x0 x1 x2 x3 x4 x5 x6 x7 x8 x9 x10 x11 x12 x13 (ix2 r (⟨128 * h + l, by omega⟩ : Fin 512))
    = dAt X SC SH G W AD 1968 (by decide) b (tok r) h l * Ideal.ofBits .f32 0x3E000000#32 := by
  refine (out20_at x0 x1 x2 x3 x4 x5 x6 x7 x8 x9 x10 x11 x12 x13 r h l).trans ?_
  have lane : ∀ (l : Fin 128) (k : Fin 3504) (hk : (k : ℕ) = 1968 + (128 * h + l)), proj x0 x1 x2 x3 x4 r (⟨2048 + (128 * h + l), by omega⟩ : Fin 3584) * Ideal.ofBits .f32 0x3E000000#32
      = col X SC SH G W b (tok r) k * Ideal.ofBits .f32 0x3E000000#32 := fun l k hk =>
    congrArg (fun z : EReal => z * _) (diff_lane H r 1968 (by decide) (by decide) h l _ k rfl hk)
  unfold roped dAt spunD
  dsimp only
  rw [H.h12, H.h13, dcosA_at, lane l (⟨1968 + (128 * h + l), by omega⟩ : Fin 3504) rfl]
  by_cases h3 : (l : ℕ) % 32 < 16
  · rw [dif_pos h3, dsinA_lo _ _ _ h3, turn_lo 16 _ l (⟨l + 16, by omega⟩ : Fin 128) h3 (by dsimp only; omega)]
    refine Eq.trans (congrArg₂ (HAdd.hAdd : EReal → EReal → EReal) rfl (congrArg (fun z : EReal => z * _) (lane (⟨l + 16, by omega⟩ : Fin 128) (⟨1968 + (128 * h + (l + 16)), by omega⟩ : Fin 3504) rfl))) ?_
    exact scaled_sub _ _ _ _ _ eighth_word
  · rw [dif_neg h3, dsinA_hi _ _ _ h3, turn_hi 16 _ l (⟨l - 16, by omega⟩ : Fin 128) h3 (by dsimp only; omega)]
    refine Eq.trans (congrArg₂ (HAdd.hAdd : EReal → EReal → EReal) rfl (congrArg (fun z : EReal => z * _) (lane (⟨l - 16, by omega⟩ : Fin 128) (⟨1968 + (128 * h + (l - 16)), by omega⟩ : Fin 3504) rfl))) ?_
    exact scaled_add _ _ _ _ _ eighth_word

/-- the differential keys -/
theorem out21_ref (r : Fin 512) (h : Fin 4) (l : Fin 128) : out0_21 (F := Ideal) x0 x1 x2 x3 x4 x5 x6 x7 x8 x9 x10 x11 x12 x13 (ix2 r (⟨128 * h + l, by omega⟩ : Fin 512))
    = dAt X SC SH G W AD 2480 (by decide) b (tok r) h l := by
  refine (out21_at x0 x1 x2 x3 x4 x5 x6 x7 x8 x9 x10 x11 x12 x13 r h l).trans ?_
  have lane : ∀ (l : Fin 128) (k : Fin 3504) (hk : (k : ℕ) = 2480 + (128 * h + l)), proj x0 x1 x2 x3 x4 r (⟨2560 + (128 * h + l), by omega⟩ : Fin 3584)
      = col X SC SH G W b (tok r) k := fun l k hk => diff_lane H r 2480 (by decide) (by decide) h l _ k rfl hk
  unfold roped dAt spunD
  dsimp only
  rw [H.h12, H.h13, dcosA_at, lane l (⟨2480 + (128 * h + l), by omega⟩ : Fin 3504) rfl]
  by_cases h3 : (l : ℕ) % 32 < 16
  · rw [dif_pos h3, dsinA_lo _ _ _ h3, turn_lo 16 _ l (⟨l + 16, by omega⟩ : Fin 128) h3 (by dsimp only; omega)]
    refine Eq.trans (congrArg₂ (HAdd.hAdd : EReal → EReal → EReal) rfl (congrArg (fun z : EReal => z * _) (lane (⟨l + 16, by omega⟩ : Fin 128) (⟨2480 + (128 * h + (l + 16)), by omega⟩ : Fin 3504) rfl))) ?_
    exact plain_sub _ _ _ _
  · rw [dif_neg h3, dsinA_hi _ _ _ h3, turn_hi 16 _ l (⟨l - 16, by omega⟩ : Fin 128) h3 (by dsimp only; omega)]
    exact congrArg₂ (HAdd.hAdd : EReal → EReal → EReal) rfl (congrArg (fun z : EReal => z * _) (lane (⟨l - 16, by omega⟩ : Fin 128) (⟨2480 + (128 * h + (l - 16)), by omega⟩ : Fin 3504) rfl))

/-- the differential values -/
theorem out22_ref (r : Fin 512) (j : Fin 512) : out0_22 (F := Ideal) x0 x1 x2 x3 x4 x5 x6 x7 x8 x9 x10 x11 x12 x13 (ix2 r j) = col X SC SH G W b (tok r) (⟨2992 + j, by omega⟩ : Fin 3504) := by
  refine (out22_at x0 x1 x2 x3 x4 x5 x6 x7 x8 x9 x10 x11 x12 x13 r j).trans (proj_d H r _ _ ?_ ?_) <;> dsimp only <;> omega

end Match

end Cert.Kernel5Ideal.Inproj

end
-- ==== Proof.InprojValue.lean ====
module

public import proofs.«01_k».proof.Proof.InprojMatch

@[expose] public section

set_option maxRecDepth 16384

/-!
The nine arrays the latent input projection leaves, as numbers of the reference laid out flat.
-/

noncomputable section

namespace Cert.Kernel5Ideal.Inproj

open Cert.Kernel5Ideal Cert.Kernel5Ideal.Gen Idealize.ShloMosaic Idealize.ShloMosaic.TcCoe Idealize.SL.Sem Lanes
open Cert.Reference5Ideal.Inproj (col miscAt qAt kAt vAt dAt tall heads)

/-- a flat array read at a block's row -/
theorem tall_row (w : ℕ) (f : Fin 8 → Fin 4096 → Fin w → EReal) (n : ℕ) (hn : n < 64) (r : Fin 512) (j : Fin w) :
    tall w f (ix2 (⟨512 * n + r, by omega⟩ : Fin 32768) j) = f (⟨n / 8, by omega⟩ : Fin 8) (⟨512 * (n % 8) + r, by omega⟩ : Fin 4096) j := by
  have e1 : (⟨(512 * n + r) / 4096, by omega⟩ : Fin 8) = ⟨n / 8, by omega⟩ := Fin.ext (by dsimp only; omega)
  have e2 : (⟨(512 * n + r) % 4096, by omega⟩ : Fin 4096) = ⟨512 * (n % 8) + r, by omega⟩ := Fin.ext (by dsimp only; omega)
  exact congrArg₂ (fun b i => f b i j) e1 e2

/-- a column of eight heads side by side -/
theorem heads8 (f : Fin 8 → Fin 4096 → Fin 8 → Fin 128 → EReal) (b : Fin 8) (i : Fin 4096) (g : Fin 1024 → EReal)
    (h : ∀ (k : Fin 8) (l : Fin 128), g (⟨128 * k + l, by omega⟩ : Fin 1024) = f b i k l) (j : Fin 1024) : g j = heads 8 f b i j := by
  refine Eq.trans (congrArg g (Fin.ext (Nat.div_add_mod _ 128).symm)) (h (⟨(j : ℕ) / 128, by omega⟩ : Fin 8) (⟨(j : ℕ) % 128, Nat.mod_lt _ (by decide)⟩ : Fin 128))

/-- a column of four heads side by side -/
theorem heads4 (f : Fin 8 → Fin 4096 → Fin 4 → Fin 128 → EReal) (b : Fin 8) (i : Fin 4096) (g : Fin 512 → EReal)
    (h : ∀ (k : Fin 4) (l : Fin 128), g (⟨128 * k + l, by omega⟩ : Fin 512) = f b i k l) (j : Fin 512) : g j = heads 4 f b i j := by
  refine Eq.trans (congrArg g (Fin.ext (Nat.div_add_mod _ 128).symm)) (h (⟨(j : ℕ) / 128, by omega⟩ : Fin 4) (⟨(j : ℕ) % 128, Nat.mod_lt _ (by decide)⟩ : Fin 128))

variable (m : (ℓ : Loc nD τ sig) → Buf (Elt Ideal) ℓ) (c : Dev nD)

/-- the block each window takes at each point of the grid -/
theorem idx : ∀ t : Fin cfg0.N,
    win0_0.index t = ![t.val, 0] ∧ win0_1.index t = ![t.val / 8, 0, 0] ∧ win0_2.index t = ![t.val / 8, 0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![t.val % 8, 0] ∧ win0_11.index t = ![t.val % 8, 0] ∧ win0_12.index t = ![t.val % 8, 0] ∧ win0_13.index t = ![t.val % 8, 0]
    ∧ win0_14.index t = ![t.val, 0] ∧ win0_15.index t = ![t.val, 0] ∧ win0_16.index t = ![t.val, 0] ∧ win0_17.index t = ![t.val, 0] ∧ win0_18.index t = ![t.val, 0]
    ∧ win0_19.index t = ![t.val, 0] ∧ win0_20.index t = ![t.val, 0] ∧ win0_21.index t = ![t.val, 0] ∧ win0_22.index t = ![t.val, 0] :=
  (by decide +kernel : ∀ t : Fin grid0.N, _)

section Blocks

variable (t : Fin cfg0.N)

/-- the sample a point works on -/
def smp : Fin 8 := ⟨t.val / 8, by have : t.val < 64 := lt_of_lt_of_eq t.isLt N_0; omega⟩

/-- the token a point's row holds -/
def tok (r : Fin 512) : Fin 4096 := ⟨512 * (t.val % 8) + r, by omega⟩

/-- the tokens a point reads, in the flat array -/
theorem blk0' (r : Fin 512) (d : Fin 1024) : (iblk m c 0 t : FVec Ideal S512x1024 .f32) (ix2 r d)
    = (V m c main_v32 : FVec Ideal S32768x1024 .f32) (ix2 (⟨4096 * (t.val / 8) + (512 * (t.val % 8) + r), by have : t.val < 64 := lt_of_lt_of_eq t.isLt N_0; omega⟩ : Fin 32768) d) := by
  have hN : t.val < 64 := lt_of_lt_of_eq t.isLt N_0
  blk_simp [iblk]
  blk_ext [idx t]

/-- the tokens a point reads -/
theorem blk0 (r : Fin 512) (d : Fin 1024) : (iblk m c 0 t : FVec Ideal S512x1024 .f32) (ix2 r d)
    = (m ((c : Thread nD τ).loc main_arg0) : FVec Ideal S8x4096x1024 .f32) (ix3 (smp t) (tok t r) d) := by
  rw [blk0', V_v32]
  exact tokA_at _ (smp t) (tok t r) d

/-- the scales a point reads -/
theorem blk1 (d : Fin 1024) : (iblk m c 1 t : FVec Ideal S1x1x1024 .f32) (ix3 (0 : Fin 1) (0 : Fin 1) d)
    = (m ((c : Thread nD τ).loc main_arg1) : FVec Ideal S8x1x1024 .f32) (ix3 (smp t) (0 : Fin 1) d) := by
  have hN : t.val < 64 := lt_of_lt_of_eq t.isLt N_0
  blk_simp [iblk]
  rw [V_main_arg1]
  unfold smp
  blk_ext [idx t]

/-- the shifts a point reads -/
theorem blk2 (d : Fin 1024) : (iblk m c 2 t : FVec Ideal S1x1x1024 .f32) (ix3 (0 : Fin 1) (0 : Fin 1) d)
    = (m ((c : Thread nD τ).loc main_arg2) : FVec Ideal S8x1x1024 .f32) (ix3 (smp t) (0 : Fin 1) d) := by
  have hN : t.val < 64 := lt_of_lt_of_eq t.isLt N_0
  blk_simp [iblk]
  rw [V_main_arg2]
  unfold smp
  blk_ext [idx t]

/-- the gain a point reads -/
theorem blk3 (d : Fin 1024) : (iblk m c 3 t : FVec Ideal S1x1024 .f32) (ix2 (0 : Fin 1) d)
    = (m ((c : Thread nD τ).loc main_arg3) : FVec Ideal S1024 .f32) (ix1 d) := by
  have e : (iblk m c 3 t : FVec Ideal S1x1024 .f32) (ix2 (0 : Fin 1) d) = (V m c main_v33 : FVec Ideal S1x1024 .f32) (ix2 (0 : Fin 1) d) := by
    blk_simp [iblk]
    blk_ext [idx t]
  rw [e, V_v33]
  exact gainA_at _ d

/-- the queries' gain a point reads -/
theorem blk5 (d : Fin 256) : (iblk m c 5 t : FVec Ideal S1x256 .f32) (ix2 (0 : Fin 1) d)
    = (m ((c : Thread nD τ).loc main_arg5) : FVec Ideal S256 .f32) (ix1 d) := by
  have e : (iblk m c 5 t : FVec Ideal S1x256 .f32) (ix2 (0 : Fin 1) d) = (V m c main_v30 : FVec Ideal S1x256 .f32) (ix2 (0 : Fin 1) d) := by
    blk_simp [iblk]
    blk_ext [idx t]
  rw [e, V_v30]
  exact qgainA_at _ d

/-- the latent rows' gain a point reads -/
theorem blk6 (d : Fin 128) : (iblk m c 6 t : FVec Ideal S1x128 .f32) (ix2 (0 : Fin 1) d)
    = (m ((c : Thread nD τ).loc main_arg7) : FVec Ideal S128 .f32) (ix1 d) := by
  have e : (iblk m c 6 t : FVec Ideal S1x128 .f32) (ix2 (0 : Fin 1) d) = (V m c main_v31 : FVec Ideal S1x128 .f32) (ix2 (0 : Fin 1) d) := by
    blk_simp [iblk]
    blk_ext [idx t]
  rw [e, V_v31]
  exact kgainA_at _ d

/-- the wide matrix a point reads -/
theorem blk4 (k : Fin 1024) (j : Fin 3584) : (iblk m c 4 t : FVec Ideal S1024x3584 .bf16) (ix2 k j) = wideA (m ((c : Thread nD τ).loc main_arg4)) (ix2 k j) := by
  have e : (iblk m c 4 t : FVec Ideal S1024x3584 .bf16) (ix2 k j) = (V m c main_v7 : FVec Ideal S1024x3584 .bf16) (ix2 k j) := by
    blk_simp [iblk]
    blk_ext [idx t]
  rw [e, V_v7]

/-- the queries' matrix a point reads -/
theorem blk7 (k : Fin 256) (j : Fin 1024) : (iblk m c 7 t : FVec Ideal S256x1024 .bf16) (ix2 k j) = queryA (m ((c : Thread nD τ).loc main_arg6)) (ix2 k j) := by
  have e : (iblk m c 7 t : FVec Ideal S256x1024 .bf16) (ix2 k j) = (V m c main_v25 : FVec Ideal S256x1024 .bf16) (ix2 k j) := by
    blk_simp [iblk]
    blk_ext [idx t]
  rw [e, V_v25]

/-- the keys' matrix a point reads -/
theorem blk8 (k : Fin 128) (j : Fin 1024) : (iblk m c 8 t : FVec Ideal S128x1024 .bf16) (ix2 k j) = keyA (m ((c : Thread nD τ).loc main_arg8)) (ix2 k j) := by
  have e : (iblk m c 8 t : FVec Ideal S128x1024 .bf16) (ix2 k j) = (V m c main_v27 : FVec Ideal S128x1024 .bf16) (ix2 k j) := by
    blk_simp [iblk]
    blk_ext [idx t]
  rw [e, V_v27]

/-- the values' matrix a point reads -/
theorem blk9 (k : Fin 128) (j : Fin 1024) : (iblk m c 9 t : FVec Ideal S128x1024 .bf16) (ix2 k j) = valueA (m ((c : Thread nD τ).loc main_arg8)) (ix2 k j) := by
  have e : (iblk m c 9 t : FVec Ideal S128x1024 .bf16) (ix2 k j) = (V m c main_v29 : FVec Ideal S128x1024 .bf16) (ix2 k j) := by
    blk_simp [iblk]
    blk_ext [idx t]
  rw [e, V_v29]

/-- the cosines a point reads -/
theorem blk10 (r : Fin 512) (l : Fin 128) : (iblk m c 10 t : FVec Ideal S512x128 .f32) (ix2 r l) = cosA (m ((c : Thread nD τ).loc main_arg9)) (ix2 (tok t r) l) := by
  have e : (iblk m c 10 t : FVec Ideal S512x128 .f32) (ix2 r l) = (V m c main_v42 : FVec Ideal S4096x128 .f32) (ix2 (tok t r) l) := by
    unfold tok
    blk_simp [iblk]
    blk_ext [idx t]
  rw [e, V_v42]

/-- the sines a point reads -/
theorem blk11 (r : Fin 512) (l : Fin 128) : (iblk m c 11 t : FVec Ideal S512x128 .f32) (ix2 r l) = sinA (m ((c : Thread nD τ).loc main_arg9)) (ix2 (tok t r) l) := by
  have e : (iblk m c 11 t : FVec Ideal S512x128 .f32) (ix2 r l) = (V m c main_v48 : FVec Ideal S4096x128 .f32) (ix2 (tok t r) l) := by
    unfold tok
    blk_simp [iblk]
    blk_ext [idx t]
  rw [e, V_v48]

/-- the differential cosines a point reads -/
theorem blk12 (r : Fin 512) (l : Fin 128) : (iblk m c 12 t : FVec Ideal S512x128 .f32) (ix2 r l) = dcosA (m ((c : Thread nD τ).loc main_arg10)) (ix2 (tok t r) l) := by
  have e : (iblk m c 12 t : FVec Ideal S512x128 .f32) (ix2 r l) = (V m c main_v53 : FVec Ideal S4096x128 .f32) (ix2 (tok t r) l) := by
    unfold tok
    blk_simp [iblk]
    blk_ext [idx t]
  rw [e, V_v53]

/-- the differential sines a point reads -/
theorem blk13 (r : Fin 512) (l : Fin 128) : (iblk m c 13 t : FVec Ideal S512x128 .f32) (ix2 r l) = dsinA (m ((c : Thread nD τ).loc main_arg10)) (ix2 (tok t r) l) := by
  have e : (iblk m c 13 t : FVec Ideal S512x128 .f32) (ix2 r l) = (V m c main_v59 : FVec Ideal S4096x128 .f32) (ix2 (tok t r) l) := by
    unfold tok
    blk_simp [iblk]
    blk_ext [idx t]
  rw [e, V_v59]

/-- every point reads blocks of the arguments -/
theorem reads : Reads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (smp t) (tok t) :=
  ⟨blk0 m c t, blk1 m c t, blk2 m c t, blk3 m c t, blk4 m c t, blk5 m c t, blk6 m c t, blk7 m c t, blk8 m c t, blk9 m c t, blk10 m c t, blk11 m c t, blk12 m c t, blk13 m c t⟩

end Blocks

/-- the gates the kernel leaves -/
theorem final14 : (dats m 0 c).arrAt 14 cfg0.N = tall 512 (fun b i j => col (m ((c : Thread nD τ).loc main_arg0)) (m ((c : Thread nD τ).loc main_arg1)) (m ((c : Thread nD τ).loc main_arg2)) (m ((c : Thread nD τ).loc main_arg3)) (m ((c : Thread nD τ).loc main_arg4)) b i (⟨j, by omega⟩ : Fin 3504)) := by
  refine (dats m 0 c).arrAt_eq_of_covers 14 _ (by decide +kernel) fun t hf y => ?_
  have hN : t.val < 64 := lt_of_lt_of_eq t.isLt N_0
  blk_simp
  rw [after0_14]
  refine ((congrArg _ (idx_pair y)).trans (out14_ref (reads m c t) _ _)).trans ((tall_row 512 (fun b i j => col (m ((c : Thread nD τ).loc main_arg0)) (m ((c : Thread nD τ).loc main_arg1)) (m ((c : Thread nD τ).loc main_arg2)) (m ((c : Thread nD τ).loc main_arg3)) (m ((c : Thread nD τ).loc main_arg4)) b i (⟨j, by omega⟩ : Fin 3504)) t.val hN (⟨(y 0).val, (y 0).isLt⟩ : Fin 512) (⟨(y 1).val, (y 1).isLt⟩ : Fin 512)).symm.trans ?_)
  blk_ext [idx t]

/-- the state-space inputs the kernel leaves -/
theorem final15 : (dats m 0 c).arrAt 15 cfg0.N = tall 1024 (fun b i j => col (m ((c : Thread nD τ).loc main_arg0)) (m ((c : Thread nD τ).loc main_arg1)) (m ((c : Thread nD τ).loc main_arg2)) (m ((c : Thread nD τ).loc main_arg3)) (m ((c : Thread nD τ).loc main_arg4)) b i (⟨512 + j, by omega⟩ : Fin 3504)) := by
  refine (dats m 0 c).arrAt_eq_of_covers 15 _ (by decide +kernel) fun t hf y => ?_
  have hN : t.val < 64 := lt_of_lt_of_eq t.isLt N_0
  blk_simp
  rw [after0_15]
  refine ((congrArg _ (idx_pair y)).trans (out15_ref (reads m c t) _ _)).trans ((tall_row 1024 (fun b i j => col (m ((c : Thread nD τ).loc main_arg0)) (m ((c : Thread nD τ).loc main_arg1)) (m ((c : Thread nD τ).loc main_arg2)) (m ((c : Thread nD τ).loc main_arg3)) (m ((c : Thread nD τ).loc main_arg4)) b i (⟨512 + j, by omega⟩ : Fin 3504)) t.val hN (⟨(y 0).val, (y 0).isLt⟩ : Fin 512) (⟨(y 1).val, (y 1).isLt⟩ : Fin 1024)).symm.trans ?_)
  blk_ext [idx t]

/-- the steps and the key rotation's columns the kernel leaves -/
theorem final16 : (dats m 0 c).arrAt 16 cfg0.N = tall 128 (miscAt (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 16 _ (by decide +kernel) fun t hf y => ?_
  have hN : t.val < 64 := lt_of_lt_of_eq t.isLt N_0
  blk_simp
  rw [after0_16]
  refine ((congrArg _ (idx_pair y)).trans (out16_ref (reads m c t) _ _)).trans ((tall_row 128 (miscAt (m ((c : Thread nD τ).loc main_arg0)) (m ((c : Thread nD τ).loc main_arg1)) (m ((c : Thread nD τ).loc main_arg2)) (m ((c : Thread nD τ).loc main_arg3)) (m ((c : Thread nD τ).loc main_arg4))) t.val hN (⟨(y 0).val, (y 0).isLt⟩ : Fin 512) (⟨(y 1).val, (y 1).isLt⟩ : Fin 128)).symm.trans ?_)
  blk_ext [idx t]

/-- the latent queries the kernel leaves -/
theorem final17 : (dats m 0 c).arrAt 17 cfg0.N = tall 1024 (heads 8 (qAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)))) := by
  refine (dats m 0 c).arrAt_eq_of_covers 17 _ (by decide +kernel) fun t hf y => ?_
  have hN : t.val < 64 := lt_of_lt_of_eq t.isLt N_0
  blk_simp
  rw [after0_17]
  refine ((congrArg _ (idx_pair y)).trans (heads8 (qAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9))) (smp t) (tok t _) (fun j => out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 (⟨(y 0).val, (y 0).isLt⟩ : Fin 512) j)) (fun k l => out17_ref (reads m c t) _ k l) (⟨(y 1).val, (y 1).isLt⟩ : Fin 1024))).trans ((tall_row 1024 (heads 8 (qAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)))) t.val hN (⟨(y 0).val, (y 0).isLt⟩ : Fin 512) (⟨(y 1).val, (y 1).isLt⟩ : Fin 1024)).symm.trans ?_)
  blk_ext [idx t]

/-- the latent keys the kernel leaves -/
theorem final18 : (dats m 0 c).arrAt 18 cfg0.N = tall 1024 (heads 8 (kAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)))) := by
  refine (dats m 0 c).arrAt_eq_of_covers 18 _ (by decide +kernel) fun t hf y => ?_
  have hN : t.val < 64 := lt_of_lt_of_eq t.isLt N_0
  blk_simp
  rw [after0_18]
  refine ((congrArg _ (idx_pair y)).trans (heads8 (kAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9))) (smp t) (tok t _) (fun j => out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 (⟨(y 0).val, (y 0).isLt⟩ : Fin 512) j)) (fun k l => out18_ref (reads m c t) _ k l) (⟨(y 1).val, (y 1).isLt⟩ : Fin 1024))).trans ((tall_row 1024 (heads 8 (kAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)))) t.val hN (⟨(y 0).val, (y 0).isLt⟩ : Fin 512) (⟨(y 1).val, (y 1).isLt⟩ : Fin 1024)).symm.trans ?_)
  blk_ext [idx t]

/-- the latent values the kernel leaves -/
theorem final19 : (dats m 0 c).arrAt 19 cfg0.N = tall 1024 (heads 8 (vAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)))) := by
  refine (dats m 0 c).arrAt_eq_of_covers 19 _ (by decide +kernel) fun t hf y => ?_
  have hN : t.val < 64 := lt_of_lt_of_eq t.isLt N_0
  blk_simp
  rw [after0_19]
  refine ((congrArg _ (idx_pair y)).trans (heads8 (vAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) (smp t) (tok t _) (fun j => out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 (⟨(y 0).val, (y 0).isLt⟩ : Fin 512) j)) (fun k l => out19_ref (reads m c t) _ k l) (⟨(y 1).val, (y 1).isLt⟩ : Fin 1024))).trans ((tall_row 1024 (heads 8 (vAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)))) t.val hN (⟨(y 0).val, (y 0).isLt⟩ : Fin 512) (⟨(y 1).val, (y 1).isLt⟩ : Fin 1024)).symm.trans ?_)
  blk_ext [idx t]

/-- the differential queries the kernel leaves -/
theorem final20 : (dats m 0 c).arrAt 20 cfg0.N = tall 512 (heads 4 (fun b i h l => dAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg10)) 1968 (by decide) b i h l * Ideal.ofBits .f32 0x3E000000#32)) := by
  refine (dats m 0 c).arrAt_eq_of_covers 20 _ (by decide +kernel) fun t hf y => ?_
  have hN : t.val < 64 := lt_of_lt_of_eq t.isLt N_0
  blk_simp
  rw [after0_20]
  refine ((congrArg _ (idx_pair y)).trans (heads4 (fun b i h l => dAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg10)) 1968 (by decide) b i h l * Ideal.ofBits .f32 0x3E000000#32) (smp t) (tok t _) (fun j => out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 (⟨(y 0).val, (y 0).isLt⟩ : Fin 512) j)) (fun k l => out20_ref (reads m c t) _ k l) (⟨(y 1).val, (y 1).isLt⟩ : Fin 512))).trans ((tall_row 512 (heads 4 (fun b i h l => dAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg10)) 1968 (by decide) b i h l * Ideal.ofBits .f32 0x3E000000#32)) t.val hN (⟨(y 0).val, (y 0).isLt⟩ : Fin 512) (⟨(y 1).val, (y 1).isLt⟩ : Fin 512)).symm.trans ?_)
  blk_ext [idx t]

/-- the differential keys the kernel leaves -/
theorem final21 : (dats m 0 c).arrAt 21 cfg0.N = tall 512 (heads 4 (dAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg10)) 2480 (by decide))) := by
  refine (dats m 0 c).arrAt_eq_of_covers 21 _ (by decide +kernel) fun t hf y => ?_
  have hN : t.val < 64 := lt_of_lt_of_eq t.isLt N_0
  blk_simp
  rw [after0_21]
  refine ((congrArg _ (idx_pair y)).trans (heads4 (dAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg10)) 2480 (by decide)) (smp t) (tok t _) (fun j => out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 (⟨(y 0).val, (y 0).isLt⟩ : Fin 512) j)) (fun k l => out21_ref (reads m c t) _ k l) (⟨(y 1).val, (y 1).isLt⟩ : Fin 512))).trans ((tall_row 512 (heads 4 (dAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg10)) 2480 (by decide))) t.val hN (⟨(y 0).val, (y 0).isLt⟩ : Fin 512) (⟨(y 1).val, (y 1).isLt⟩ : Fin 512)).symm.trans ?_)
  blk_ext [idx t]

/-- the differential values the kernel leaves -/
theorem final22 : (dats m 0 c).arrAt 22 cfg0.N = tall 512 (fun b i j => col (m ((c : Thread nD τ).loc main_arg0)) (m ((c : Thread nD τ).loc main_arg1)) (m ((c : Thread nD τ).loc main_arg2)) (m ((c : Thread nD τ).loc main_arg3)) (m ((c : Thread nD τ).loc main_arg4)) b i (⟨2992 + j, by omega⟩ : Fin 3504)) := by
  refine (dats m 0 c).arrAt_eq_of_covers 22 _ (by decide +kernel) fun t hf y => ?_
  have hN : t.val < 64 := lt_of_lt_of_eq t.isLt N_0
  blk_simp
  rw [after0_22]
  refine ((congrArg _ (idx_pair y)).trans (out22_ref (reads m c t) _ _)).trans ((tall_row 512 (fun b i j => col (m ((c : Thread nD τ).loc main_arg0)) (m ((c : Thread nD τ).loc main_arg1)) (m ((c : Thread nD τ).loc main_arg2)) (m ((c : Thread nD τ).loc main_arg3)) (m ((c : Thread nD τ).loc main_arg4)) b i (⟨2992 + j, by omega⟩ : Fin 3504)) t.val hN (⟨(y 0).val, (y 0).isLt⟩ : Fin 512) (⟨(y 1).val, (y 1).isLt⟩ : Fin 512)).symm.trans ?_)
  blk_ext [idx t]

end Cert.Kernel5Ideal.Inproj

end
-- ==== Proof.InprojRefQ.lean ====
module

public import proofs.«01_k».proof.Proof.InprojRef

@[expose] public section

set_option maxRecDepth 16384

noncomputable section

namespace Cert.Reference5Ideal.Inproj

open Cert.Reference5Ideal Cert.Reference5Ideal.Gen Cert.Reference5Ideal.Facts Cert.Reference5Ideal.Value Idealize.ShloMosaic Lanes

variable (V0 : Valuation τ sig (Elt Ideal))

/-- a number of the reference's latent queries -/
theorem REF4_at (b : Fin 8) (i : Fin 4096) (h : Fin 8) (l : Fin 128) : (REF4 V0 : FVec Ideal S32768x1024 .bf16) (ix2 (⟨4096 * b + i, by omega⟩ : Fin 32768) (⟨128 * h + l, by omega⟩ : Fin 1024)) = qAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg9)) b i h l := by
  generalize hR : qAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg9)) b i h l = R
  unfold REF4 res_main_v48 res_main_v50 res_main_v52 res_main_v54 res_main_v46
  pointwise [v43_at]
  subst hR
  exact dite_congr rfl (fun h1 => congrArg₂ (HMul.hMul : EReal → EReal → EReal) (spunQ_eq (quer (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) b i) (fun a f => Ideal.cos ((V0 (Proc.devRef .tc main_arg9)) (ix3 i a f))) (fun a f => Ideal.sin ((V0 (Proc.devRef .tc main_arg9)) (ix3 i a f))) h l h1) rfl) (fun _ => Rows.zero_word)

end Cert.Reference5Ideal.Inproj

end
-- ==== Proof.InprojRefD.lean ====
module

public import proofs.«01_k».proof.Proof.InprojRef

@[expose] public section

set_option maxRecDepth 16384

noncomputable section

namespace Cert.Reference5Ideal.Inproj

open Cert.Reference5Ideal Cert.Reference5Ideal.Gen Cert.Reference5Ideal.Facts Cert.Reference5Ideal.Value Idealize.ShloMosaic Lanes

variable (V0 : Valuation τ sig (Elt Ideal))

/-- a number of the reference's differential queries -/
theorem REF7_at (b : Fin 8) (i : Fin 4096) (h : Fin 4) (l : Fin 128) : (REF7 V0 : FVec Ideal S32768x512 .bf16) (ix2 (⟨4096 * b + i, by omega⟩ : Fin 32768) (⟨128 * h + l, by omega⟩ : Fin 512)) = dAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg10)) 1968 (by decide) b i h l * Ideal.ofBits .f32 0x3E000000#32 := by
  generalize hR : dAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg10)) 1968 (by decide) b i h l * Ideal.ofBits .f32 0x3E000000#32 = R
  unfold REF7 res_main_v118 res_main_v120 res_main_v122 res_main_v124 res_main_v116
  pointwise [v19_at]
  subst hR
  exact congrArg (· * Ideal.ofBits .f32 0x3E000000#32) (spunD_eq (col (V0 (Proc.devRef .tc main_arg0)) (V0 (Proc.devRef .tc main_arg1)) (V0 (Proc.devRef .tc main_arg2)) (V0 (Proc.devRef .tc main_arg3)) (V0 (Proc.devRef .tc main_arg4)) b i) (fun a f => Ideal.cos ((V0 (Proc.devRef .tc main_arg10)) (ix3 i a f))) (fun a f => Ideal.sin ((V0 (Proc.devRef .tc main_arg10)) (ix3 i a f))) 1968 (by decide) h l)

end Cert.Reference5Ideal.Inproj

end
-- ==== Proof.InprojFinal.lean ====
module

public import proofs.«01_k».proof.Proof.Gen.Reference5Ideal.Run
public import proofs.«01_k».proof.Proof.InprojValue
public import proofs.«01_k».proof.Proof.InprojRefQ
public import proofs.«01_k».proof.Proof.InprojRefD

@[expose] public section

set_option maxRecDepth 16384

/-!
The nine arrays of the latent input projection as functions of its arguments; the reference leaves them
and so does the kernel.
-/

noncomputable section

namespace Cert.Reference5Ideal.Inproj

open Cert.Reference5Ideal Cert.Reference5Ideal.Gen Cert.Reference5Ideal.Value Idealize.ShloMosaic Idealize.ShloMosaic.TcCoe Idealize.SL.Sem Lanes

section Values

variable (X : FVec Ideal S8x4096x1024 .f32) (SC : FVec Ideal S8x1x1024 .f32) (SH : FVec Ideal S8x1x1024 .f32) (G : FVec Ideal S1024 .f32) (W : FVec Ideal S1024x3504 .f32)

/-- the gates -/
def arr1 : FVec Ideal S32768x512 .bf16 := tall 512 (fun b i j => col X SC SH G W b i (⟨j, by omega⟩ : Fin 3504))

/-- the state-space inputs -/
def arr2 : FVec Ideal S32768x1024 .bf16 := tall 1024 (fun b i j => col X SC SH G W b i (⟨512 + j, by omega⟩ : Fin 3504))

/-- the steps and the columns the keys rotate -/
def arr3 : FVec Ideal S32768x128 .f32 := tall 128 (miscAt X SC SH G W)

/-- the latent queries -/
def arr4 (GQ : FVec Ideal S256 .f32) (WQ : FVec Ideal S256x768 .f32) (AQ : FVec Ideal S4096x2x8 .f32) : FVec Ideal S32768x1024 .bf16 := tall 1024 (heads 8 (qAt X SC SH G W GQ WQ AQ))

/-- the latent keys -/
def arr5 (GK : FVec Ideal S128 .f32) (WK : FVec Ideal S128x1024 .f32) (AQ : FVec Ideal S4096x2x8 .f32) : FVec Ideal S32768x1024 .bf16 := tall 1024 (heads 8 (kAt X SC SH G W GK WK AQ))

/-- the latent values -/
def arr6 (GK : FVec Ideal S128 .f32) (WK : FVec Ideal S128x1024 .f32) : FVec Ideal S32768x1024 .bf16 := tall 1024 (heads 8 (vAt X SC SH G W GK WK))

/-- the differential queries -/
def arr7 (AD : FVec Ideal S4096x2x16 .f32) : FVec Ideal S32768x512 .bf16 := tall 512 (heads 4 (fun b i h l => dAt X SC SH G W AD 1968 (by decide) b i h l * Ideal.ofBits .f32 0x3E000000#32))

/-- the differential keys -/
def arr8 (AD : FVec Ideal S4096x2x16 .f32) : FVec Ideal S32768x512 .bf16 := tall 512 (heads 4 (dAt X SC SH G W AD 2480 (by decide)))

/-- the differential values -/
def arr9 : FVec Ideal S32768x512 .bf16 := tall 512 (fun b i j => col X SC SH G W b i (⟨2992 + j, by omega⟩ : Fin 3504))

end Values

section Arrays

variable (V0 : Valuation τ sig (Elt Ideal))

/-- what the buffer `b` holds at the start -/
abbrev given (b : Ref sig .tc) := V0 (Proc.devRef .tc b)

/-- the reference leaves the gates -/
theorem REF1_arr : REF1 V0 = arr1 (given V0 main_arg0) (given V0 main_arg1) (given V0 main_arg2) (given V0 main_arg3) (given V0 main_arg4) :=
  eq_tall 512 _ _ fun b i j => REF1_at V0 b i j

/-- the reference leaves the state-space inputs -/
theorem REF2_arr : REF2 V0 = arr2 (given V0 main_arg0) (given V0 main_arg1) (given V0 main_arg2) (given V0 main_arg3) (given V0 main_arg4) :=
  eq_tall 1024 _ _ fun b i j => REF2_at V0 b i j

/-- the reference leaves the steps and the columns the keys rotate -/
theorem REF3_arr : REF3 V0 = arr3 (given V0 main_arg0) (given V0 main_arg1) (given V0 main_arg2) (given V0 main_arg3) (given V0 main_arg4) :=
  eq_tall 128 _ _ fun b i j => REF3_at V0 b i j

/-- the reference leaves the latent queries -/
theorem REF4_arr : REF4 V0 = arr4 (given V0 main_arg0) (given V0 main_arg1) (given V0 main_arg2) (given V0 main_arg3) (given V0 main_arg4) (given V0 main_arg5) (given V0 main_arg6) (given V0 main_arg9) :=
  eq_tall 1024 _ _ fun b i j => congrFun (congrFun (congrFun (heads_of 8 _ (fun b i j => REF4 V0 (ix2 (⟨4096 * b + i, by omega⟩ : Fin 32768) (j : Fin 1024))) fun b i h l => REF4_at V0 b i h l) b) i) j

/-- the reference leaves the latent keys -/
theorem REF5_arr : REF5 V0 = arr5 (given V0 main_arg0) (given V0 main_arg1) (given V0 main_arg2) (given V0 main_arg3) (given V0 main_arg4) (given V0 main_arg7) (given V0 main_arg8) (given V0 main_arg9) :=
  eq_tall 1024 _ _ fun b i j => congrFun (congrFun (congrFun (heads_of 8 _ (fun b i j => REF5 V0 (ix2 (⟨4096 * b + i, by omega⟩ : Fin 32768) (j : Fin 1024))) fun b i h l => REF5_at V0 b i h l) b) i) j

/-- the reference leaves the latent values -/
theorem REF6_arr : REF6 V0 = arr6 (given V0 main_arg0) (given V0 main_arg1) (given V0 main_arg2) (given V0 main_arg3) (given V0 main_arg4) (given V0 main_arg7) (given V0 main_arg8) :=
  eq_tall 1024 _ _ fun b i j => congrFun (congrFun (congrFun (heads_of 8 _ (fun b i j => REF6 V0 (ix2 (⟨4096 * b + i, by omega⟩ : Fin 32768) (j : Fin 1024))) fun b i h l => REF6_at V0 b i h l) b) i) j

/-- the reference leaves the differential queries -/
theorem REF7_arr : REF7 V0 = arr7 (given V0 main_arg0) (given V0 main_arg1) (given V0 main_arg2) (given V0 main_arg3) (given V0 main_arg4) (given V0 main_arg10) :=
  eq_tall 512 _ _ fun b i j => congrFun (congrFun (congrFun (heads_of 4 _ (fun b i j => REF7 V0 (ix2 (⟨4096 * b + i, by omega⟩ : Fin 32768) (j : Fin 512))) fun b i h l => REF7_at V0 b i h l) b) i) j

/-- the reference leaves the differential keys -/
theorem REF8_arr : REF8 V0 = arr8 (given V0 main_arg0) (given V0 main_arg1) (given V0 main_arg2) (given V0 main_arg3) (given V0 main_arg4) (given V0 main_arg10) :=
  eq_tall 512 _ _ fun b i j => congrFun (congrFun (congrFun (heads_of 4 _ (fun b i j => REF8 V0 (ix2 (⟨4096 * b + i, by omega⟩ : Fin 32768) (j : Fin 512))) fun b i h l => REF8_at V0 b i h l) b) i) j

/-- the reference leaves the differential values -/
theorem REF9_arr : REF9 V0 = arr9 (given V0 main_arg0) (given V0 main_arg1) (given V0 main_arg2) (given V0 main_arg3) (given V0 main_arg4) :=
  eq_tall 512 _ _ fun b i j => REF9_at V0 b i j

end Arrays

/-- what the memory `m` of the device `c` holds in the buffer `b` -/
abbrev held (m : (ℓ : Loc nD τ sig) → Buf (Elt Ideal) ℓ) (c : Dev nD) (b : Ref sig .tc) := m ((c.tc : Thread nD τ).loc b)

set_option maxHeartbeats 4000000 in
/-- the reference's run leaves the nine arrays and its arguments unchanged -/
theorem run_arrays (m : (ℓ : Loc nD τ sig) → Buf (Elt Ideal) ℓ) (g : Dev nD → PrngReg) : θ_run defs (onTc (τ := τ) (main (F := Ideal))) ⟨m, fun _ => 0, g⟩ (fun r => ∀ c : Dev nD,
      held r.2.mem c main_v179 = arr1 (held m c main_arg0) (held m c main_arg1) (held m c main_arg2) (held m c main_arg3) (held m c main_arg4)
      ∧ held r.2.mem c main_v181 = arr2 (held m c main_arg0) (held m c main_arg1) (held m c main_arg2) (held m c main_arg3) (held m c main_arg4)
      ∧ held r.2.mem c main_v182 = arr3 (held m c main_arg0) (held m c main_arg1) (held m c main_arg2) (held m c main_arg3) (held m c main_arg4)
      ∧ held r.2.mem c main_v185 = arr4 (held m c main_arg0) (held m c main_arg1) (held m c main_arg2) (held m c main_arg3) (held m c main_arg4) (held m c main_arg5) (held m c main_arg6) (held m c main_arg9)
      ∧ held r.2.mem c main_v188 = arr5 (held m c main_arg0) (held m c main_arg1) (held m c main_arg2) (held m c main_arg3) (held m c main_arg4) (held m c main_arg7) (held m c main_arg8) (held m c main_arg9)
      ∧ held r.2.mem c main_v190 = arr6 (held m c main_arg0) (held m c main_arg1) (held m c main_arg2) (held m c main_arg3) (held m c main_arg4) (held m c main_arg7) (held m c main_arg8)
      ∧ held r.2.mem c main_v192 = arr7 (held m c main_arg0) (held m c main_arg1) (held m c main_arg2) (held m c main_arg3) (held m c main_arg4) (held m c main_arg10)
      ∧ held r.2.mem c main_v194 = arr8 (held m c main_arg0) (held m c main_arg1) (held m c main_arg2) (held m c main_arg3) (held m c main_arg4) (held m c main_arg10)
      ∧ held r.2.mem c main_v196 = arr9 (held m c main_arg0) (held m c main_arg1) (held m c main_arg2) (held m c main_arg3) (held m c main_arg4)
      ∧ held r.2.mem c main_arg0 = held m c main_arg0
      ∧ held r.2.mem c main_arg1 = held m c main_arg1
      ∧ held r.2.mem c main_arg2 = held m c main_arg2
      ∧ held r.2.mem c main_arg3 = held m c main_arg3
      ∧ held r.2.mem c main_arg4 = held m c main_arg4
      ∧ held r.2.mem c main_arg5 = held m c main_arg5
      ∧ held r.2.mem c main_arg6 = held m c main_arg6
      ∧ held r.2.mem c main_arg7 = held m c main_arg7
      ∧ held r.2.mem c main_arg8 = held m c main_arg8
      ∧ held r.2.mem c main_arg9 = held m c main_arg9
      ∧ held r.2.mem c main_arg10 = held m c main_arg10) :=
  (θ_run defs _ _).mono (fun r h c => ⟨(h c).1.trans (REF1_arr (StableHlo.launchContents m c)), (h c).2.1.trans (REF2_arr (StableHlo.launchContents m c)), (h c).2.2.1.trans (REF3_arr (StableHlo.launchContents m c)), (h c).2.2.2.1.trans (REF4_arr (StableHlo.launchContents m c)), (h c).2.2.2.2.1.trans (REF5_arr (StableHlo.launchContents m c)), (h c).2.2.2.2.2.1.trans (REF6_arr (StableHlo.launchContents m c)), (h c).2.2.2.2.2.2.1.trans (REF7_arr (StableHlo.launchContents m c)), (h c).2.2.2.2.2.2.2.1.trans (REF8_arr (StableHlo.launchContents m c)), (h c).2.2.2.2.2.2.2.2.1.trans (REF9_arr (StableHlo.launchContents m c)), (h c).2.2.2.2.2.2.2.2.2⟩)
    (Cert.Reference5Ideal.Value.run (F := Ideal) m g)

end Cert.Reference5Ideal.Inproj

namespace Cert.Kernel5Ideal.Inproj

open Cert.Kernel5Ideal Cert.Kernel5Ideal.Gen Idealize.ShloMosaic Idealize.ShloMosaic.TcCoe Idealize.SL.Sem Lanes
open Cert.Reference5Ideal.Inproj (arr1 arr2 arr3 arr4 arr5 arr6 arr7 arr8 arr9)

/-- what the memory `m` of the device `c` holds in the buffer `b` -/
abbrev held (m : (ℓ : Loc nD τ sig) → Buf (Elt Ideal) ℓ) (c : Dev nD) (b : Ref sig .tc) := m ((c.tc : Thread nD τ).loc b)

variable (m : (ℓ : Loc nD τ sig) → Buf (Elt Ideal) ℓ) (c : Dev nD)

/-- the kernel leaves the gates -/
theorem left1 : (dats m 0 c).arrAt 14 cfg0.N = arr1 (m ((c : Thread nD τ).loc main_arg0)) (m ((c : Thread nD τ).loc main_arg1)) (m ((c : Thread nD τ).loc main_arg2)) (m ((c : Thread nD τ).loc main_arg3)) (m ((c : Thread nD τ).loc main_arg4)) := final14 m c

/-- the kernel leaves the state-space inputs -/
theorem left2 : (dats m 0 c).arrAt 15 cfg0.N = arr2 (m ((c : Thread nD τ).loc main_arg0)) (m ((c : Thread nD τ).loc main_arg1)) (m ((c : Thread nD τ).loc main_arg2)) (m ((c : Thread nD τ).loc main_arg3)) (m ((c : Thread nD τ).loc main_arg4)) := final15 m c

/-- the kernel leaves the steps and the columns the keys rotate -/
theorem left3 : (dats m 0 c).arrAt 16 cfg0.N = arr3 (m ((c : Thread nD τ).loc main_arg0)) (m ((c : Thread nD τ).loc main_arg1)) (m ((c : Thread nD τ).loc main_arg2)) (m ((c : Thread nD τ).loc main_arg3)) (m ((c : Thread nD τ).loc main_arg4)) := final16 m c

/-- the kernel leaves the latent queries -/
theorem left4 : (dats m 0 c).arrAt 17 cfg0.N = arr4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) := final17 m c

/-- the kernel leaves the latent keys -/
theorem left5 : (dats m 0 c).arrAt 18 cfg0.N = arr5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) := final18 m c

/-- the kernel leaves the latent values -/
theorem left6 : (dats m 0 c).arrAt 19 cfg0.N = arr6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := final19 m c

/-- the kernel leaves the differential queries -/
theorem left7 : (dats m 0 c).arrAt 20 cfg0.N = arr7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg10)) := final20 m c

/-- the kernel leaves the differential keys -/
theorem left8 : (dats m 0 c).arrAt 21 cfg0.N = arr8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg10)) := final21 m c

/-- the kernel leaves the differential values -/
theorem left9 : (dats m 0 c).arrAt 22 cfg0.N = arr9 (m ((c : Thread nD τ).loc main_arg0)) (m ((c : Thread nD τ).loc main_arg1)) (m ((c : Thread nD τ).loc main_arg2)) (m ((c : Thread nD τ).loc main_arg3)) (m ((c : Thread nD τ).loc main_arg4)) := final22 m c

set_option maxHeartbeats 4000000 in
/-- the kernel's run leaves the nine arrays and its arguments unchanged -/
theorem run_arrays (g : Dev nD → PrngReg) : θ_run defs (onTc (τ := τ) (main (F := Ideal))) ⟨m, fun _ => 0, g⟩ (fun r => ∀ c : Dev nD,
      held r.2.mem c main_v60_0 = arr1 (held m c main_arg0) (held m c main_arg1) (held m c main_arg2) (held m c main_arg3) (held m c main_arg4)
      ∧ held r.2.mem c main_v60_1 = arr2 (held m c main_arg0) (held m c main_arg1) (held m c main_arg2) (held m c main_arg3) (held m c main_arg4)
      ∧ held r.2.mem c main_v60_2 = arr3 (held m c main_arg0) (held m c main_arg1) (held m c main_arg2) (held m c main_arg3) (held m c main_arg4)
      ∧ held r.2.mem c main_v60_3 = arr4 (held m c main_arg0) (held m c main_arg1) (held m c main_arg2) (held m c main_arg3) (held m c main_arg4) (held m c main_arg5) (held m c main_arg6) (held m c main_arg9)
      ∧ held r.2.mem c main_v60_4 = arr5 (held m c main_arg0) (held m c main_arg1) (held m c main_arg2) (held m c main_arg3) (held m c main_arg4) (held m c main_arg7) (held m c main_arg8) (held m c main_arg9)
      ∧ held r.2.mem c main_v60_5 = arr6 (held m c main_arg0) (held m c main_arg1) (held m c main_arg2) (held m c main_arg3) (held m c main_arg4) (held m c main_arg7) (held m c main_arg8)
      ∧ held r.2.mem c main_v60_6 = arr7 (held m c main_arg0) (held m c main_arg1) (held m c main_arg2) (held m c main_arg3) (held m c main_arg4) (held m c main_arg10)
      ∧ held r.2.mem c main_v60_7 = arr8 (held m c main_arg0) (held m c main_arg1) (held m c main_arg2) (held m c main_arg3) (held m c main_arg4) (held m c main_arg10)
      ∧ held r.2.mem c main_v60_8 = arr9 (held m c main_arg0) (held m c main_arg1) (held m c main_arg2) (held m c main_arg3) (held m c main_arg4)
      ∧ held r.2.mem c main_arg0 = held m c main_arg0
      ∧ held r.2.mem c main_arg1 = held m c main_arg1
      ∧ held r.2.mem c main_arg2 = held m c main_arg2
      ∧ held r.2.mem c main_arg3 = held m c main_arg3
      ∧ held r.2.mem c main_arg4 = held m c main_arg4
      ∧ held r.2.mem c main_arg5 = held m c main_arg5
      ∧ held r.2.mem c main_arg6 = held m c main_arg6
      ∧ held r.2.mem c main_arg7 = held m c main_arg7
      ∧ held r.2.mem c main_arg8 = held m c main_arg8
      ∧ held r.2.mem c main_arg9 = held m c main_arg9
      ∧ held r.2.mem c main_arg10 = held m c main_arg10) :=
  (θ_run defs _ _).mono (fun r h c => ⟨((h.1 c).1 14).trans (left1 m c), ((h.1 c).1 15).trans (left2 m c), ((h.1 c).1 16).trans (left3 m c), ((h.1 c).1 17).trans (left4 m c), ((h.1 c).1 18).trans (left5 m c), ((h.1 c).1 19).trans (left6 m c), ((h.1 c).1 20).trans (left7 m c), ((h.1 c).1 21).trans (left8 m c), ((h.1 c).1 22).trans (left9 m c), h.2 c⟩)
    (θ_run_and (run_main m g) (unchanged m g))

end Cert.Kernel5Ideal.Inproj

end
-- ==== Proof.lean ====
module

public import proofs.«01_k».proof.Defs
public import proofs.«01_k».proof.Proof.Gen.Kernel.Frame
public import proofs.«01_k».proof.Proof.Final
public import proofs.«01_k».proof.Proof.Finite
public import proofs.«01_k».proof.Proof.ExpertsValue
public import proofs.«01_k».proof.Proof.Gen.Kernel3.Frame
public import proofs.«01_k».proof.Proof.OutprojValue
public import proofs.«01_k».proof.Proof.Gen.Reference3Ideal.Run
public import proofs.«01_k».proof.Proof.Gen.Kernel4.Frame
public import proofs.«01_k».proof.Proof.DiffFinal
public import proofs.«01_k».proof.Proof.DiffFinite
public import proofs.«01_k».proof.Proof.InprojRun
public import proofs.«01_k».proof.Proof.InprojFinal
public import proofs.«01_k».proof.Proof.Gen.Reference5Ideal.Run
public import Idealize.ShloMosaic.Adequacy
public import Idealize.ShloMosaic.Init
public import Idealize.ShloMosaic.Lib.Quiescent
public import Idealize.ShloMosaic.Lib.Claim
public import Idealize.ShloMosaic.Lib.Tactic.ValueTie

@[expose] public section

noncomputable section

namespace Cert.Proof

open Idealize.ShloMosaic Idealize.SL.Sem

/-- the reference ends with its arguments unchanged and no semaphore counted -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- the same under the precondition -/
theorem quiescent_ReferenceIdeal_pre_finite_scores : quiescent_ReferenceIdeal_pre_finite_scores := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- the attention kernel's result is the reference's, for real queries and keys -/
theorem algebraic_attention : algebraic_KernelIdeal_ReferenceIdeal_pre_finite_scores := by
  intro m g m' g' hpre hagree
  have hfin := fun c => Cert.Finite.decode _ _ _ _ _ _ (congrFun (hpre c) fun x => x.elim0)
  refine ⟨fun c => Cert.ReferenceIdeal.Attn.REF (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)), ?_, ?_⟩
  · exact (θ_run Cert.KernelIdeal.defs _ _).mono (fun r h c => ⟨((h.1 c).1 5).trans (Cert.KernelIdeal.Attn.final m c (hfin c).1 (hfin c).2.1 (hfin c).2.2), h.2 c⟩)
      (θ_run_and (Cert.KernelIdeal.Gen.run_main m g) (Cert.KernelIdeal.Gen.unchanged m g))
  · refine (θ_run Cert.ReferenceIdeal.defs _ _).mono (fun r h c => ⟨(h c).1.trans ?_, (h c).2⟩) (Cert.ReferenceIdeal.Value.run (F := Ideal) m' g')
    obtain ⟨a0, a1, a2, a3, a4⟩ := hagree c
    rw [a0, a1, a2, a3, a4]
    rfl

/-- the experts' reference ends with its arguments unchanged and no semaphore counted -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- the same under the precondition -/
theorem quiescent_Reference2Ideal_pre_experts_exist : quiescent_Reference2Ideal_pre_experts_exist := fun m ρ _ =>
  (θ_run Cert.Reference2Ideal.defs _ _).mono (fun r h => ⟨fun c => (h c).2, sem_eq_zero_of_no_sems (by decide) r.2⟩)
    (Cert.Reference2Ideal.Value.run (F := Ideal) m ρ)

/-- the experts' kernel ends with its arguments unchanged and no semaphore counted, where the experts exist -/
theorem quiescent_Kernel2 : quiescent_Kernel2 := fun m ρ h => Cert.Kernel2.Experts.frame m ρ (Cert.Kernel2.Experts.ok_of_pre m h)

/-- the same over the ideal numbers -/
theorem quiescent_Kernel2Ideal : quiescent_Kernel2Ideal := fun m ρ h => Cert.Kernel2Ideal.Experts.frame m ρ (Cert.Kernel2Ideal.Experts.ok_of_pre m h)

/-- the experts' kernel's result is the reference's, where the experts exist -/
theorem algebraic_experts : algebraic_Kernel2Ideal_Reference2Ideal := by
  intro m g m' g' hpre hagree
  have hO := Cert.Kernel2Ideal.Experts.ok_of_pre m hpre
  have hd := fun t : Fin 1088 => Cert.Tables.decode _ _ _ _ _ _ _ (congrFun (hpre 0) fun x => x.elim0) (ix1 t)
  refine ⟨fun c => Cert.Reference2Ideal.Experts.REF (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)), ?_, ?_⟩
  · exact (θ_run Cert.Kernel2Ideal.defs _ _).mono (fun r h c => ⟨((h.1 c).1 4).trans (Cert.Kernel2Ideal.Experts.final m hO c hd), h.2 c⟩)
      (θ_run_and (Cert.Kernel2Ideal.Experts.run_main m g hO) (Cert.Kernel2Ideal.Experts.unchanged m g hO))
  · refine (θ_run Cert.Reference2Ideal.defs _ _).mono (fun r h c => ⟨(h c).1.trans ?_, (h c).2⟩) (Cert.Reference2Ideal.Value.run (F := Ideal) m' g')
    obtain ⟨a0, a1, a2, a3, a4, a5⟩ := hagree c
    rw [a0, a1, a2, a3, a4, a5]
    rfl

/-- the output projection's reference ends with its arguments unchanged and no semaphore counted -/
theorem quiescent_Reference3Ideal : quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- the output projection's three results are the reference's -/
theorem algebraic_outproj : algebraic_Kernel3Ideal_Reference3Ideal := by
  intro m g m' g' hpre hagree
  refine ⟨fun c => Cert.Reference3Ideal.Outproj.REF1 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)),
    fun c => Cert.Reference3Ideal.Outproj.REF2 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)),
    fun c => Cert.Reference3Ideal.Outproj.REF3 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)), ?_, ?_⟩
  · exact (θ_run Cert.Kernel3Ideal.defs _ _).mono (fun r h c => ⟨(h c).1.trans (Cert.Kernel3Ideal.Outproj.final10 m c), (h c).2.1.trans (Cert.Kernel3Ideal.Outproj.final11 m c), (h c).2.2.1.trans (Cert.Kernel3Ideal.Outproj.final12 m c), (h c).2.2.2⟩)
      (Cert.Kernel3Ideal.Value.run_blocks m g)
  · refine (θ_run Cert.Reference3Ideal.defs _ _).mono (fun r h c => ⟨(h c).1.trans ?_, (h c).2.1.trans ?_, (h c).2.2.1.trans ?_, (h c).2.2.2⟩) (Cert.Reference3Ideal.Value.run (F := Ideal) m' g')
    all_goals
      obtain ⟨a0, a1, a2, a3, a4, a5, a6, a7, a8, a9⟩ := hagree c
      rw [a0, a1, a2, a3, a4, a5]
      try rw [a6, a7, a8]
      try rw [a9]
      rfl

/-- the differential attention's reference ends with its arguments unchanged and no semaphore counted -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- the same under the precondition -/
theorem quiescent_Reference4Ideal_pre_finite_pairs : quiescent_Reference4Ideal_pre_finite_pairs := fun m ρ _ =>
  (θ_run Cert.Reference4Ideal.defs _ _).mono (fun r h => ⟨fun c => (h c).2, sem_eq_zero_of_no_sems (by decide) r.2⟩)
    (Cert.Reference4Ideal.Value.run (F := Ideal) m ρ)

/-- the differential attention's result is the reference's, for real queries, keys, values and vectors -/
theorem algebraic_diff : algebraic_Kernel4Ideal_Reference4Ideal_pre_finite_pairs := by
  intro m g m' g' hpre hagree
  have hfin := fun c => Cert.FinitePairs.decode _ _ _ _ _ _ _ _ _ _ _ (congrFun (hpre c) fun x => x.elim0)
  refine ⟨fun c => Cert.Reference4Ideal.Diff.REF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)), ?_, ?_⟩
  · exact (θ_run Cert.Kernel4Ideal.defs _ _).mono (fun r h c => ⟨((h.1 c).1 7).trans (Cert.Kernel4Ideal.Diff.final m c (hfin c).1.1 (hfin c).1.2.1 (hfin c).1.2.2
      (hfin c).2.1.1 (hfin c).2.1.2 (hfin c).2.2.1 (hfin c).2.2.2.1 (hfin c).2.2.2.2.1 (hfin c).2.2.2.2.2), h.2 c⟩)
      (θ_run_and (Cert.Kernel4Ideal.Gen.run_main m g) (Cert.Kernel4Ideal.Gen.unchanged m g))
  · refine (θ_run Cert.Reference4Ideal.defs _ _).mono (fun r h c => ⟨(h c).1.trans ?_, (h c).2⟩) (Cert.Reference4Ideal.Value.run (F := Ideal) m' g')
    obtain ⟨a0, a1, a2, a3, a4, a5, a6, a7, a8, a9⟩ := hagree c
    rw [Cert.Reference4Ideal.Diff.res_REF, a0, a1, a2, a3, a4, a5, a6, a7, a8, a9]

/-- the latent input projection's reference ends with its arguments unchanged and no semaphore counted -/
theorem quiescent_Reference5Ideal : quiescent_Reference5Ideal := fun m ρ _ =>
  (θ_run Cert.Reference5Ideal.defs _ _).mono (fun r h => ⟨fun c => (h c).2.2.2.2.2.2.2.2.2, sem_eq_zero_of_no_sems (by decide) r.2⟩)
    (Cert.Reference5Ideal.Value.run (F := Ideal) m ρ)

set_option maxHeartbeats 4000000 in
/-- the latent input projection's nine results are the reference's -/
theorem algebraic_inproj : algebraic_Kernel5Ideal_Reference5Ideal := by
  intro m g m' g' hpre hagree
  have e1 : ∀ c : Dev Cert.Kernel5Ideal.nD, Cert.Reference5Ideal.Inproj.arr1 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))
      = Cert.Reference5Ideal.Inproj.arr1 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) := fun c => by
    obtain ⟨a0, a1, a2, a3, a4, a5, a6, a7, a8, a9, a10⟩ := hagree c
    rw [a0, a1, a2, a3, a4]
  have e2 : ∀ c : Dev Cert.Kernel5Ideal.nD, Cert.Reference5Ideal.Inproj.arr2 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))
      = Cert.Reference5Ideal.Inproj.arr2 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) := fun c => by
    obtain ⟨a0, a1, a2, a3, a4, a5, a6, a7, a8, a9, a10⟩ := hagree c
    rw [a0, a1, a2, a3, a4]
  have e3 : ∀ c : Dev Cert.Kernel5Ideal.nD, Cert.Reference5Ideal.Inproj.arr3 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))
      = Cert.Reference5Ideal.Inproj.arr3 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) := fun c => by
    obtain ⟨a0, a1, a2, a3, a4, a5, a6, a7, a8, a9, a10⟩ := hagree c
    rw [a0, a1, a2, a3, a4]
  have e4 : ∀ c : Dev Cert.Kernel5Ideal.nD, Cert.Reference5Ideal.Inproj.arr4 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg9))
      = Cert.Reference5Ideal.Inproj.arr4 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg9)) := fun c => by
    obtain ⟨a0, a1, a2, a3, a4, a5, a6, a7, a8, a9, a10⟩ := hagree c
    rw [a0, a1, a2, a3, a4, a5, a6, a9]
  have e5 : ∀ c : Dev Cert.Kernel5Ideal.nD, Cert.Reference5Ideal.Inproj.arr5 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9))
      = Cert.Reference5Ideal.Inproj.arr5 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) := fun c => by
    obtain ⟨a0, a1, a2, a3, a4, a5, a6, a7, a8, a9, a10⟩ := hagree c
    rw [a0, a1, a2, a3, a4, a7, a8, a9]
  have e6 : ∀ c : Dev Cert.Kernel5Ideal.nD, Cert.Reference5Ideal.Inproj.arr6 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8))
      = Cert.Reference5Ideal.Inproj.arr6 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) := fun c => by
    obtain ⟨a0, a1, a2, a3, a4, a5, a6, a7, a8, a9, a10⟩ := hagree c
    rw [a0, a1, a2, a3, a4, a7, a8]
  have e7 : ∀ c : Dev Cert.Kernel5Ideal.nD, Cert.Reference5Ideal.Inproj.arr7 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg10))
      = Cert.Reference5Ideal.Inproj.arr7 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg10)) := fun c => by
    obtain ⟨a0, a1, a2, a3, a4, a5, a6, a7, a8, a9, a10⟩ := hagree c
    rw [a0, a1, a2, a3, a4, a10]
  have e8 : ∀ c : Dev Cert.Kernel5Ideal.nD, Cert.Reference5Ideal.Inproj.arr8 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg10))
      = Cert.Reference5Ideal.Inproj.arr8 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg10)) := fun c => by
    obtain ⟨a0, a1, a2, a3, a4, a5, a6, a7, a8, a9, a10⟩ := hagree c
    rw [a0, a1, a2, a3, a4, a10]
  have e9 : ∀ c : Dev Cert.Kernel5Ideal.nD, Cert.Reference5Ideal.Inproj.arr9 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))
      = Cert.Reference5Ideal.Inproj.arr9 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) := fun c => by
    obtain ⟨a0, a1, a2, a3, a4, a5, a6, a7, a8, a9, a10⟩ := hagree c
    rw [a0, a1, a2, a3, a4]
  refine ⟨fun c => Cert.Reference5Ideal.Inproj.arr1 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)),
    fun c => Cert.Reference5Ideal.Inproj.arr2 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)),
    fun c => Cert.Reference5Ideal.Inproj.arr3 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)),
    fun c => Cert.Reference5Ideal.Inproj.arr4 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg9)),
    fun c => Cert.Reference5Ideal.Inproj.arr5 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)),
    fun c => Cert.Reference5Ideal.Inproj.arr6 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)),
    fun c => Cert.Reference5Ideal.Inproj.arr7 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg10)),
    fun c => Cert.Reference5Ideal.Inproj.arr8 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg10)),
    fun c => Cert.Reference5Ideal.Inproj.arr9 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)), ?_, ?_⟩
  · exact Cert.Kernel5Ideal.Inproj.run_arrays m g
  · exact (θ_run Cert.Reference5Ideal.defs _ _).mono (fun r h c => ⟨(h c).1.trans (e1 c), (h c).2.1.trans (e2 c), (h c).2.2.1.trans (e3 c), (h c).2.2.2.1.trans (e4 c), (h c).2.2.2.2.1.trans (e5 c), (h c).2.2.2.2.2.1.trans (e6 c), (h c).2.2.2.2.2.2.1.trans (e7 c), (h c).2.2.2.2.2.2.2.1.trans (e8 c), (h c).2.2.2.2.2.2.2.2.1.trans (e9 c),
      (h c).2.2.2.2.2.2.2.2.2⟩) (Cert.Reference5Ideal.Inproj.run_arrays m' g')

/-- everything the certificate claims -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite_scores.Gen.facts, Cert.Pre_experts_exist.Gen.facts, Cert.Pre_finite_pairs.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_finite_scores,
  quiescent_Kernel2, quiescent_Kernel2Ideal, quiescent_Reference2Ideal, quiescent_Reference2Ideal_pre_experts_exist,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, fun m ρ _ => Cert.Kernel4Ideal.Gen.frame m ρ,
  quiescent_Reference4Ideal, quiescent_Reference4Ideal_pre_finite_pairs,
  fun m ρ _ => Cert.Kernel5.Inproj.frame m ρ, fun m ρ _ => Cert.Kernel5Ideal.Inproj.frame m ρ, quiescent_Reference5Ideal,
  (trivial : preserves_Kernel_KernelIdeal), algebraic_attention, (trivial : preserves_Kernel2_Kernel2Ideal), algebraic_experts,
  (trivial : preserves_Kernel3_Kernel3Ideal), algebraic_outproj,
  (trivial : preserves_Kernel4_Kernel4Ideal), algebraic_diff,
  (trivial : preserves_Kernel5_Kernel5Ideal), algebraic_inproj⟩

end Cert.Proof

end
